-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v13) = v2 c
          ∧ r.2.mem ((c.tc : Thread Cert.Reference8Ideal.nD Cert.Reference8Ideal.τ).loc Cert.Reference8Ideal.main_v19) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v32) = v1 c
          ∧ r.2.mem ((c.tc : Thread Cert.Reference9Ideal.nD Cert.Reference9Ideal.τ).loc Cert.Reference9Ideal.main_v13) = v2 c
          ∧ r.2.mem ((c.tc : Thread Cert.Reference9Ideal.nD Cert.Reference9Ideal.τ).loc Cert.Reference9Ideal.main_v19) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v16) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v50) = v0 c
          ∧ r.2.mem ((c.tc : Thread Cert.Reference11Ideal.nD Cert.Reference11Ideal.τ).loc Cert.Reference11Ideal.main_v51) = v1 c
          ∧ r.2.mem ((c.tc : Thread Cert.Reference11Ideal.nD Cert.Reference11Ideal.τ).loc Cert.Reference11Ideal.main_v52) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg0) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S8192x2048 : Shape := ⟨2, ![8192, 2048]⟩
abbrev S2048 : Shape := ⟨1, ![2048]⟩
abbrev S2048x7184 : Shape := ⟨2, ![2048, 7184]⟩
abbrev S8192x7184 : Shape := ⟨2, ![8192, 7184]⟩
abbrev S_ : Shape := ⟨0, ![]⟩
abbrev S1x2048 : Shape := ⟨2, ![1, 2048]⟩
abbrev S2048x1024 : Shape := ⟨2, ![2048, 1024]⟩
abbrev S2048x3072 : Shape := ⟨2, ![2048, 3072]⟩
abbrev S2048x7168 : Shape := ⟨2, ![2048, 7168]⟩
abbrev S2048x16 : Shape := ⟨2, ![2048, 16]⟩
abbrev S2048x112 : Shape := ⟨2, ![2048, 112]⟩
abbrev S2048x128 : Shape := ⟨2, ![2048, 128]⟩
abbrev S8192x1024 : Shape := ⟨2, ![8192, 1024]⟩
abbrev S8192x3072 : Shape := ⟨2, ![8192, 3072]⟩
abbrev S8192x4096 : Shape := ⟨2, ![8192, 4096]⟩
abbrev S8192x16 : Shape := ⟨2, ![8192, 16]⟩
abbrev S8192x112 : Shape := ⟨2, ![8192, 112]⟩
abbrev S8192x128 : Shape := ⟨2, ![8192, 128]⟩
abbrev S512x1024 : Shape := ⟨2, ![512, 1024]⟩
abbrev S512x128 : Shape := ⟨2, ![512, 128]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 34
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x7184, .f32⟩
  | .hbm, ⟨4, _⟩ => ⟨S8192x7184, .f32⟩
  | .hbm, ⟨5, _⟩ => ⟨S8192x2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2048x7184, .bf16⟩
  | .hbm, ⟨11, _⟩ => ⟨S2048x1024, .bf16⟩
  | .hbm, ⟨12, _⟩ => ⟨S2048x3072, .bf16⟩
  | .hbm, ⟨13, _⟩ => ⟨S2048x3072, .bf16⟩
  | .hbm, ⟨14, _⟩ => ⟨S2048x7168, .bf16⟩
  | .hbm, ⟨15, _⟩ => ⟨S2048x16, .bf16⟩
  | .hbm, ⟨16, _⟩ => ⟨S_, .bf16⟩
  | .hbm, ⟨17, _⟩ => ⟨S2048x112, .bf16⟩
  | .hbm, ⟨18, _⟩ => ⟨S2048x128, .bf16⟩
  | .hbm, ⟨19, _⟩ => ⟨S8192x1024, .f32⟩
  | .hbm, ⟨20, _⟩ => ⟨S8192x3072, .f32⟩
  | .hbm, ⟨21, _⟩ => ⟨S8192x4096, .f32⟩
  | .hbm, ⟨22, _⟩ => ⟨S8192x4096, .bf16⟩
  | .hbm, ⟨23, _⟩ => ⟨S8192x3072, .f32⟩
  | .hbm, ⟨24, _⟩ => ⟨S8192x3072, .bf16⟩
  | .hbm, ⟨25, _⟩ => ⟨S8192x16, .f32⟩
  | .hbm, ⟨26, _⟩ => ⟨S_, .f32⟩
  | .hbm, ⟨27, _⟩ => ⟨S8192x112, .f32⟩
  | .hbm, ⟨28, _⟩ => ⟨S8192x128, .f32⟩
  | .hbm, ⟨29, _⟩ => ⟨S1x2048, .f32⟩
  | .hbm, ⟨30, _⟩ => ⟨S8192x2048, .f32⟩
  | .hbm, ⟨31, _⟩ => ⟨S1x2048, .f32⟩
  | .hbm, ⟨32, _⟩ => ⟨S1x2048, .f32⟩
  | .hbm, ⟨33, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S2048x1024, .bf16⟩
  | .local _ .vmem, ⟨7, _⟩ => ⟨S2048x1024, .bf16⟩
  | .local _ .vmem, ⟨8, _⟩ => ⟨S2048x128, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![16, 7], ![false, false]⟩

def k0_cond5 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_7 : BitVec 32 := 0#32
  let v16 : BitVec 1 := Scalar.cmpi .ne v15 c0_i32_7
  v16

@[reducible] def k0_t1_loop : Scf.Loop 32 :=
  let c0_i32_8 : BitVec 32 := 0#32
  let c4_i32_9 : BitVec 32 := 4#32
  let v17 : BitVec 32 := Scalar.addi c0_i32_8 c4_i32_9
  let c1_i32 : BitVec 32 := 1#32
  ⟨c0_i32_8, v17, c1_i32⟩
def k0_mult1 (k0_t1 : Fin k0_t1_loop.trips) : BitVec 32 :=
  let c0_i32_8 : BitVec 32 := 0#32
  let c1_i32 : BitVec 32 := 1#32
  let arg16 : BitVec 32 := Scf.iv c0_i32_8 c1_i32 k0_t1
  let c128_i32 : BitVec 32 := 128#32
  let v18 : BitVec 32 := Scalar.muli arg16 c128_i32
  v18
def k0_off1 (k0_t1 : Fin k0_t1_loop.trips) : Fin 2 → Nat :=
  let c0_i32_8 : BitVec 32 := 0#32
  let c1_i32 : BitVec 32 := 1#32
  let arg16 : BitVec 32 := Scf.iv c0_i32_8 c1_i32 k0_t1
  let c128_i32 : BitVec 32 := 128#32
  let v18 : BitVec 32 := Scalar.muli arg16 c128_i32
  let v19 : BitVec 32 := v18
  let v20 : Index := Scalar.indexCast v19
  let c0 : Index := 0#32
  ![v20.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S8192x2048 : Shape := ⟨2, ![8192, 2048]⟩
abbrev S2048 : Shape := ⟨1, ![2048]⟩
abbrev S2048x7184 : Shape := ⟨2, ![2048, 7184]⟩
abbrev S8192x7184 : Shape := ⟨2, ![8192, 7184]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x7184, .f32⟩
  | .hbm, ⟨4, _⟩ => ⟨S8192x7184, .f32⟩
  | .hbm, ⟨5, _⟩ => ⟨S8192x2048, .f32⟩
  | .hbm, ⟨6, _⟩ => ⟨S_, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x7184, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S_, .f32⟩
  | .hbm, ⟨43, _⟩ => ⟨S2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S1x2048, .f32⟩
  | .hbm, ⟨79, _⟩ => ⟨S1x2048, .f32⟩
  | .hbm, ⟨80, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S8192x7184 : Shape := ⟨2, ![8192, 7184]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x1024 : Shape := ⟨2, ![8192, 1024]⟩
abbrev S8192x3072 : Shape := ⟨2, ![8192, 3072]⟩
abbrev S8192x4096 : Shape := ⟨2, ![8192, 4096]⟩
abbrev S2048x4096 : Shape := ⟨2, ![2048, 4096]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 36
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S8192x7184, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | .hbm, ⟨31, _⟩ => ⟨S8192x1024, .f32⟩
  | .hbm, ⟨32, _⟩ => ⟨S8192x3072, .f32⟩
  | .hbm, ⟨33, _⟩ => ⟨S8192x4096, .f32⟩
  | .hbm, ⟨34, _⟩ => ⟨S8192x4096, .bf16⟩
  | .hbm, ⟨35, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x2048 : Shape := ⟨2, ![8192, 2048]⟩
abbrev S2048 : Shape := ⟨1, ![2048]⟩
abbrev S8192x7184 : Shape := ⟨2, ![8192, 7184]⟩
abbrev S_ : Shape := ⟨0, ![]⟩
abbrev S2048x7184 : Shape := ⟨2, ![2048, 7184]⟩
abbrev S8192 : Shape := ⟨1, ![8192]⟩
abbrev S8192x1 : Shape := ⟨2, ![8192, 1]⟩
abbrev S1x2048 : Shape := ⟨2, ![1, 2048]⟩
abbrev S7184x2048 : Shape := ⟨2, ![7184, 2048]⟩
abbrev S2048x1024 : Shape := ⟨2, ![2048, 1024]⟩
abbrev S2048x3072 : Shape := ⟨2, ![2048, 3072]⟩
abbrev S2048x4096 : Shape := ⟨2, ![2048, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S8192x7184, .f32⟩
  | .hbm, ⟨5, _⟩ => ⟨S_, .f32⟩
  | .hbm, ⟨6, _⟩ => ⟨S2048x7184, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x7184, .f32⟩
  | .hbm, ⟨33, _⟩ => ⟨S7184x2048, .f32⟩
  | .hbm, ⟨34, _⟩ => ⟨S2048x7184, .f32⟩
  | .hbm, ⟨35, _⟩ => ⟨S2048x1024, .f32⟩
  | .hbm, ⟨36, _⟩ => ⟨S2048x3072, .f32⟩
  | .hbm, ⟨37, _⟩ => ⟨S2048x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S8192x7184 : Shape := ⟨2, ![8192, 7184]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16 : Shape := ⟨2, ![8192, 16]⟩
abbrev S8192x112 : Shape := ⟨2, ![8192, 112]⟩
abbrev S8192x128 : Shape := ⟨2, ![8192, 128]⟩
abbrev S8192x3072 : Shape := ⟨2, ![8192, 3072]⟩
abbrev S2048x3072 : Shape := ⟨2, ![2048, 3072]⟩
abbrev S2048x128 : Shape := ⟨2, ![2048, 128]⟩
abbrev S1024x2048 : Shape := ⟨2, ![1024, 2048]⟩
abbrev S1024x1024 : Shape := ⟨2, ![1024, 1024]⟩
abbrev S1024x128 : Shape := ⟨2, ![1024, 128]⟩
abbrev S2048x1024 : Shape := ⟨2, ![2048, 1024]⟩

abbrev nBuf : Space → Nat
  | .hbm => 39
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S8192x7184, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | .hbm, ⟨31, _⟩ => ⟨S8192x16, .f32⟩
  | .hbm, ⟨32, _⟩ => ⟨S_, .f32⟩
  | .hbm, ⟨33, _⟩ => ⟨S8192x112, .f32⟩
  | .hbm, ⟨34, _⟩ => ⟨S8192x128, .f32⟩
  | .hbm, ⟨35, _⟩ => ⟨S8192x3072, .f32⟩
  | .hbm, ⟨36, _⟩ => ⟨S8192x3072, .bf16⟩
  | .hbm, ⟨37, _⟩ => ⟨S2048x3072, .f32⟩
  | .hbm, ⟨38, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S2048x1024, .f32⟩
  | .local _ .vmem, ⟨7, _⟩ => ⟨S2048x1024, .f32⟩
  | .local _ .vmem, ⟨8, _⟩ => ⟨S2048x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg0 : BitVec 32 := BitVec.ofNat 32 (i 0).val
  let c0_i32_8 : BitVec 32 := 0#32
  let v12 : BitVec 1 := Scalar.cmpi .eq arg0 c0_i32_8
  let arg1 : BitVec 32 := BitVec.ofNat 32 (i 1).val
  let c0_i32_9 : BitVec 32 := 0#32
  let v13 : BitVec 1 := Scalar.cmpi .eq arg1 c0_i32_9
  let v14 : BitVec 1 := Scalar.andi v12 v13
  let v15 : BitVec 32 := Scalar.extui v14
  let c0_i32_10 : BitVec 32 := 0#32
  let v16 : BitVec 1 := Scalar.cmpi .ne v15 c0_i32_10
  v16

def k0_cond3 (i : grid0.Coords) : BitVec 1 :=
  let arg0 : BitVec 32 := BitVec.ofNat 32 (i 0).val
  let c0_i32_11 : BitVec 32 := 0#32
  let v17 : BitVec 1 := Scalar.cmpi .eq arg0 c0_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference3Ideal.lean ====
abbrev S8192x2048 : Shape := ⟨2, ![8192, 2048]⟩
abbrev S2048 : Shape := ⟨1, ![2048]⟩
abbrev S8192x7184 : Shape := ⟨2, ![8192, 7184]⟩
abbrev S_ : Shape := ⟨0, ![]⟩
abbrev S2048x7184 : Shape := ⟨2, ![2048, 7184]⟩
abbrev S8192 : Shape := ⟨1, ![8192]⟩
abbrev S8192x1 : Shape := ⟨2, ![8192, 1]⟩
abbrev S1x2048 : Shape := ⟨2, ![1, 2048]⟩
abbrev S7184x2048 : Shape := ⟨2, ![7184, 2048]⟩
abbrev S2048x3072 : Shape := ⟨2, ![2048, 3072]⟩
abbrev S2048x16 : Shape := ⟨2, ![2048, 16]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S8192x7184, .f32⟩
  | .hbm, ⟨5, _⟩ => ⟨S_, .f32⟩
  | .hbm, ⟨6, _⟩ => ⟨S2048x7184, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x7184, .f32⟩
  | .hbm, ⟨33, _⟩ => ⟨S7184x2048, .f32⟩
  | .hbm, ⟨34, _⟩ => ⟨S2048x7184, .f32⟩
  | .hbm, ⟨35, _⟩ => ⟨S2048x3072, .f32⟩
  | .hbm, ⟨36, _⟩ => ⟨S2048x16, .f32⟩
  | .hbm, ⟨37, _⟩ => ⟨S_, .i32⟩
  | .hbm, ⟨38, _⟩ => ⟨S_, .f32⟩
  | .hbm, ⟨39, _⟩ => ⟨S2048x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x7184 : Shape := ⟨2, ![2048, 7184]⟩
abbrev S2048x1024 : Shape := ⟨2, ![2048, 1024]⟩
abbrev S2048x3072 : Shape := ⟨2, ![2048, 3072]⟩
abbrev S2048x7168 : Shape := ⟨2, ![2048, 7168]⟩
abbrev S2048x16 : Shape := ⟨2, ![2048, 16]⟩
abbrev S_ : Shape := ⟨0, ![]⟩
abbrev S2048x112 : Shape := ⟨2, ![2048, 112]⟩
abbrev S2048x128 : Shape := ⟨2, ![2048, 128]⟩
abbrev S1x2048 : Shape := ⟨2, ![1, 2048]⟩
abbrev S8192x7168 : Shape := ⟨2, ![8192, 7168]⟩
abbrev S8192x128 : Shape := ⟨2, ![8192, 128]⟩
abbrev S1024x2048 : Shape := ⟨2, ![1024, 2048]⟩
abbrev S1024x1024 : Shape := ⟨2, ![1024, 1024]⟩
abbrev S1024x128 : Shape := ⟨2, ![1024, 128]⟩
abbrev S128x2048 : Shape := ⟨2, ![128, 2048]⟩
abbrev S128 : Shape := ⟨1, ![128]⟩
abbrev S128x1 : Shape := ⟨2, ![128, 1]⟩

abbrev nBuf : Space → Nat
  | .hbm => 23
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048x7184, .f32⟩
  | .hbm, ⟨5, _⟩ => ⟨S2048x7184, .bf16⟩
  | .hbm, ⟨6, _⟩ => ⟨S2048x1024, .bf16⟩
  | .hbm, ⟨7, _⟩ => ⟨S2048x3072, .bf16⟩
  | .hbm, ⟨8, _⟩ => ⟨S2048x3072, .bf16⟩
  | .hbm, ⟨9, _⟩ => ⟨S2048x7168, .bf16⟩
  | .hbm, ⟨10, _⟩ => ⟨S2048x16, .bf16⟩
  | .hbm, ⟨11, _⟩ => ⟨S_, .bf16⟩
  | .hbm, ⟨12, _⟩ => ⟨S2048x112, .bf16⟩
  | .hbm, ⟨13, _⟩ => ⟨S2048x128, .bf16⟩
  | .hbm, ⟨14, _⟩ => ⟨S1x2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S8192x7168, .bf16⟩
  | .hbm, ⟨21, _⟩ => ⟨S8192x128, .f32⟩
  | .hbm, ⟨22, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c128_i32 : BitVec 32 := 128#32
  let v15 : BitVec 32 := Scalar.muli arg12 c128_i32
  v15
def k0_off1 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c128_i32 : BitVec 32 := 128#32
  let v15 : BitVec 32 := Scalar.muli arg12 c128_i32
  let v16 : BitVec 32 := v15
  let v17 : Index := Scalar.indexCast v16
  let c0_15 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S8192x2048 : Shape := ⟨2, ![8192, 2048]⟩
abbrev S2048 : Shape := ⟨1, ![2048]⟩
abbrev S2048x7184 : Shape := ⟨2, ![2048, 7184]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x7184 : Shape := ⟨2, ![8192, 7184]⟩
abbrev S8192x1024 : Shape := ⟨2, ![8192, 1024]⟩
abbrev S8192x3072 : Shape := ⟨2, ![8192, 3072]⟩
abbrev S8192x7168 : Shape := ⟨2, ![8192, 7168]⟩
abbrev S8192x16 : Shape := ⟨2, ![8192, 16]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048x7184, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x7184, .f32⟩
  | .hbm, ⟨31, _⟩ => ⟨S8192x1024, .f32⟩
  | .hbm, ⟨32, _⟩ => ⟨S8192x3072, .f32⟩
  | .hbm, ⟨33, _⟩ => ⟨S8192x3072, .f32⟩
  | .hbm, ⟨34, _⟩ => ⟨S8192x7168, .f32⟩
  | .hbm, ⟨35, _⟩ => ⟨S8192x7168, .bf16⟩
  | .hbm, ⟨36, _⟩ => ⟨S8192x16, .f32⟩
  | .hbm, ⟨37, _⟩ => ⟨S_, .i32⟩
  | .hbm, ⟨38, _⟩ => ⟨S_, .f32⟩
  | .hbm, ⟨39, _⟩ => ⟨S8192x128, .f32⟩
  | .hbm, ⟨40, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .bf16⟩
  | .hbm, ⟨5, _⟩ => ⟨S2048x2048, .bf16⟩
  | .hbm, ⟨6, _⟩ => ⟨S1x2048, .f32⟩
  | .hbm, ⟨7, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8x2048x898 : Shape := ⟨3, ![8, 2048, 898]⟩
abbrev S4x2048x898 : Shape := ⟨3, ![4, 2048, 898]⟩
abbrev S8x128x898 : Shape := ⟨3, ![8, 128, 898]⟩
abbrev S1x128x898 : Shape := ⟨3, ![1, 128, 898]⟩
abbrev S128x898 : Shape := ⟨2, ![128, 898]⟩

abbrev nBuf : Space → Nat
  | .hbm => 15
  | .vmem => 22
  | .smem => 0
  | _ => 0

abbrev bufTy : (tb : Table) → Fin (tcTables nBuf tb) → BufTy
  | .hbm, ⟨0, _⟩ => ⟨S8x2048x898, .f32⟩
  | .hbm, ⟨1, _⟩ => ⟨S8x2048x898, .f32⟩
  | .hbm, ⟨2, _⟩ => ⟨S8x2048x898, .f32⟩
  | .hbm, ⟨3, _⟩ => ⟨S8x2048x898, .f32⟩
  | .hbm, ⟨4, _⟩ => ⟨S4x2048x898, .f32⟩
  | .hbm, ⟨5, _⟩ => ⟨S4x2048x898, .f32⟩
  | .hbm, ⟨6, _⟩ => ⟨S4x2048x898, .f32⟩
  | .hbm, ⟨7, _⟩ => ⟨S8x2048x898, .bf16⟩
  | .hbm, ⟨8, _⟩ => ⟨S8x2048x898, .bf16⟩
  | .hbm, ⟨9, _⟩ => ⟨S8x2048x898, .bf16⟩
  | .hbm, ⟨10, _⟩ => ⟨S8x2048x898, .bf16⟩
  | .hbm, ⟨11, _⟩ => ⟨S4x2048x898, .f32⟩
  | .hbm, ⟨12, _⟩ => ⟨S4x2048x898, .f32⟩
  | .hbm, ⟨13, _⟩ => ⟨S4x2048x898, .f32⟩
  | .hbm, ⟨14, _⟩ => ⟨S4x2048x898, .f32⟩
  | .local _ .vmem, ⟨0, _⟩ => ⟨S8x128x898, .bf16⟩
  | .local _ .vmem, ⟨1, _⟩ => ⟨S8x128x898, .bf16⟩
  | .local _ .vmem, ⟨2, _⟩ => ⟨S8x128x898, .bf16⟩
  | .local _ .vmem, ⟨3, _⟩ => ⟨S8x128x898, .bf16⟩
  | .local _ .vmem, ⟨4, _⟩ => ⟨S8x128x898, .bf16⟩
  | .local _ .vmem, ⟨5, _⟩ => ⟨S8x128x898, .bf16⟩
  | .local _ .vmem, ⟨6, _⟩ => ⟨S8x128x898, .bf16⟩
  | .local _ .vmem, ⟨7, _⟩ => ⟨S8x128x898, .bf16⟩
  | .local _ .vmem, ⟨8, _⟩ => ⟨S1x128x898, .f32⟩
  | .local _ .vmem, ⟨9, _⟩ => ⟨S1x128x898, .f32⟩
  | .local _ .vmem, ⟨10, _⟩ => ⟨S1x128x898, .f32⟩
  | .local _ .vmem, ⟨11, _⟩ => ⟨S1x128x898, .f32⟩
  | .local _ .vmem, ⟨12, _⟩ => ⟨S1x128x898, .f32⟩
  | .local _ .vmem, ⟨13, _⟩ => ⟨S1x128x898, .f32⟩
  | .local _ .vmem, ⟨14, _⟩ => ⟨S1x128x898, .f32⟩
  | .local _ .vmem, ⟨15, _⟩ => ⟨S1x128x898, .f32⟩
  | .local _ .vmem, ⟨16, _⟩ => ⟨S1x128x898, .f32⟩
  | .local _ .vmem, ⟨17, _⟩ => ⟨S1x128x898, .f32⟩
  | .local _ .vmem, ⟨18, _⟩ => ⟨S1x128x898, .f32⟩
  | .local _ .vmem, ⟨19, _⟩ => ⟨S1x128x898, .f32⟩
  | .local _ .vmem, ⟨20, _⟩ => ⟨S1x128x898, .f32⟩
  | .local _ .vmem, ⟨21, _⟩ => ⟨S1x128x898, .f32⟩
  | _, _ => ⟨S8x2048x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x898 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x898 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x898 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x898 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x898 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x898 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x898 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S8x2048x898 : Shape := ⟨3, ![8, 2048, 898]⟩
abbrev S4x2048x898 : Shape := ⟨3, ![4, 2048, 898]⟩
abbrev S_ : Shape := ⟨0, ![]⟩
abbrev S2048x898 : Shape := ⟨2, ![2048, 898]⟩
abbrev S1x2048x898 : Shape := ⟨3, ![1, 2048, 898]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x898, .f32⟩
  | .hbm, ⟨1, _⟩ => ⟨S8x2048x898, .f32⟩
  | .hbm, ⟨2, _⟩ => ⟨S8x2048x898, .f32⟩
  | .hbm, ⟨3, _⟩ => ⟨S8x2048x898, .f32⟩
  | .hbm, ⟨4, _⟩ => ⟨S4x2048x898, .f32⟩
  | .hbm, ⟨5, _⟩ => ⟨S4x2048x898, .f32⟩
  | .hbm, ⟨6, _⟩ => ⟨S4x2048x898, .f32⟩
  | .hbm, ⟨7, _⟩ => ⟨S_, .f32⟩
  | .hbm, ⟨8, _⟩ => ⟨S2048x898, .f32⟩
  | .hbm, ⟨9, _⟩ => ⟨S_, .f32⟩
  | .hbm, ⟨10, _⟩ => ⟨S2048x898, .f32⟩
  | .hbm, ⟨11, _⟩ => ⟨S_, .f32⟩
  | .hbm, ⟨12, _⟩ => ⟨S2048x898, .f32⟩
  | .hbm, ⟨13, _⟩ => ⟨S_, .f32⟩
  | .hbm, ⟨14, _⟩ => ⟨S2048x898, .f32⟩
  | .hbm, ⟨15, _⟩ => ⟨S1x2048x898, .f32⟩
  | .hbm, ⟨16, _⟩ => ⟨S1x2048x898, .f32⟩
  | .hbm, ⟨17, _⟩ => ⟨S1x2048x898, .f32⟩
  | .hbm, ⟨18, _⟩ => ⟨S1x2048x898, .f32⟩
  | .hbm, ⟨19, _⟩ => ⟨S4x2048x898, .f32⟩
  | .hbm, ⟨20, _⟩ => ⟨S_, .f32⟩
  | .hbm, ⟨21, _⟩ => ⟨S4x2048x898, .f32⟩
  | .hbm, ⟨22, _⟩ => ⟨S4x2048x898, .f32⟩
  | .hbm, ⟨23, _⟩ => ⟨S_, .f32⟩
  | .hbm, ⟨24, _⟩ => ⟨S4x2048x898, .f32⟩
  | .hbm, ⟨25, _⟩ => ⟨S4x2048x898, .f32⟩
  | .hbm, ⟨26, _⟩ => ⟨S4x2048x898, .f32⟩
  | .hbm, ⟨27, _⟩ => ⟨S_, .f32⟩
  | .hbm, ⟨28, _⟩ => ⟨S4x2048x898, .f32⟩
  | .hbm, ⟨29, _⟩ => ⟨S4x2048x898, .f32⟩
  | .hbm, ⟨30, _⟩ => ⟨S4x2048x898, .f32⟩
  | .hbm, ⟨31, _⟩ => ⟨S_, .f32⟩
  | .hbm, ⟨32, _⟩ => ⟨S4x2048x898, .f32⟩
  | .hbm, ⟨33, _⟩ => ⟨S4x2048x898, .f32⟩
  | .hbm, ⟨34, _⟩ => ⟨S4x2048x898, .f32⟩
  | .hbm, ⟨35, _⟩ => ⟨S_, .f32⟩
  | .hbm, ⟨36, _⟩ => ⟨S4x2048x898, .f32⟩
  | .hbm, ⟨37, _⟩ => ⟨S4x2048x898, .f32⟩
  | .hbm, ⟨38, _⟩ => ⟨S_, .f32⟩
  | .hbm, ⟨39, _⟩ => ⟨S4x2048x898, .f32⟩
  | .hbm, ⟨40, _⟩ => ⟨S4x2048x898, .f32⟩
  | .hbm, ⟨41, _⟩ => ⟨S4x2048x898, .f32⟩
  | .hbm, ⟨42, _⟩ => ⟨S_, .f32⟩
  | .hbm, ⟨43, _⟩ => ⟨S4x2048x898, .f32⟩
  | .hbm, ⟨44, _⟩ => ⟨S4x2048x898, .f32⟩
  | .hbm, ⟨45, _⟩ => ⟨S4x2048x898, .f32⟩
  | .hbm, ⟨46, _⟩ => ⟨S_, .f32⟩
  | .hbm, ⟨47, _⟩ => ⟨S4x2048x898, .f32⟩
  | .hbm, ⟨48, _⟩ => ⟨S4x2048x898, .f32⟩
  | .hbm, ⟨49, _⟩ => ⟨S4x2048x898, .f32⟩
  | .hbm, ⟨50, _⟩ => ⟨S_, .f32⟩
  | .hbm, ⟨51, _⟩ => ⟨S4x2048x898, .f32⟩
  | .hbm, ⟨52, _⟩ => ⟨S4x2048x898, .f32⟩
  | _, _ => ⟨S8x2048x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel9.lean ====
abbrev S8x256x2048 : Shape := ⟨3, ![8, 256, 2048]⟩
abbrev S4x256x2048 : Shape := ⟨3, ![4, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 15
  | .vmem => 22
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x256x2048, .f32⟩
  | .hbm, ⟨3, _⟩ => ⟨S8x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S8x256x2048, .bf16⟩
  | .hbm, ⟨8, _⟩ => ⟨S8x256x2048, .bf16⟩
  | .hbm, ⟨9, _⟩ => ⟨S8x256x2048, .bf16⟩
  | .hbm, ⟨10, _⟩ => ⟨S8x256x2048, .bf16⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S8x256x2048 : Shape := ⟨3, ![8, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S8x256x2048, .f32⟩
  | .hbm, ⟨3, _⟩ => ⟨S8x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S_, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S1x256x2048, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S4x256x2048, .f32⟩
  | .hbm, ⟨20, _⟩ => ⟨S_, .f32⟩
  | .hbm, ⟨21, _⟩ => ⟨S4x256x2048, .f32⟩
  | .hbm, ⟨22, _⟩ => ⟨S4x256x2048, .f32⟩
  | .hbm, ⟨23, _⟩ => ⟨S_, .f32⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S4x256x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S4x256x2048, .f32⟩
  | .hbm, ⟨33, _⟩ => ⟨S4x256x2048, .f32⟩
  | .hbm, ⟨34, _⟩ => ⟨S4x256x2048, .f32⟩
  | .hbm, ⟨35, _⟩ => ⟨S_, .f32⟩
  | .hbm, ⟨36, _⟩ => ⟨S4x256x2048, .f32⟩
  | .hbm, ⟨37, _⟩ => ⟨S4x256x2048, .f32⟩
  | .hbm, ⟨38, _⟩ => ⟨S_, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S_, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S_, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S_, .f32⟩
  | .hbm, ⟨51, _⟩ => ⟨S4x256x2048, .f32⟩
  | .hbm, ⟨52, _⟩ => ⟨S4x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel10.lean ====
abbrev S8x2048 : Shape := ⟨2, ![8, 2048]⟩
abbrev S4x8x768 : Shape := ⟨3, ![4, 8, 768]⟩
abbrev S4x2048x768 : Shape := ⟨3, ![4, 2048, 768]⟩
abbrev S8x512 : Shape := ⟨2, ![8, 512]⟩
abbrev S1x8x768 : Shape := ⟨3, ![1, 8, 768]⟩
abbrev S1x512x768 : Shape := ⟨3, ![1, 512, 768]⟩
abbrev S8x768 : Shape := ⟨2, ![8, 768]⟩
abbrev S512x768 : Shape := ⟨2, ![512, 768]⟩

abbrev nBuf : Space → Nat
  | .hbm => 9
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S4x8x768, .f32⟩
  | .hbm, ⟨2, _⟩ => ⟨S4x2048x768, .f32⟩
  | .hbm, ⟨3, _⟩ => ⟨S4x2048x768, .f32⟩
  | .hbm, ⟨4, _⟩ => ⟨S4x2048x768, .f32⟩
  | .hbm, ⟨5, _⟩ => ⟨S4x2048x768, .f32⟩
  | .hbm, ⟨6, _⟩ => ⟨S4x2048x768, .f32⟩
  | .hbm, ⟨7, _⟩ => ⟨S4x2048x768, .f32⟩
  | .hbm, ⟨8, _⟩ => ⟨S4x2048x768, .f32⟩
  | .local _ .vmem, ⟨0, _⟩ => ⟨S8x512, .f32⟩
  | .local _ .vmem, ⟨1, _⟩ => ⟨S8x512, .f32⟩
  | .local _ .vmem, ⟨2, _⟩ => ⟨S1x8x768, .f32⟩
  | .local _ .vmem, ⟨3, _⟩ => ⟨S1x8x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S8x2048 : Shape := ⟨2, ![8, 2048]⟩
abbrev S4x8x768 : Shape := ⟨3, ![4, 8, 768]⟩
abbrev S4x2048x768 : Shape := ⟨3, ![4, 2048, 768]⟩
abbrev S_ : Shape := ⟨0, ![]⟩
abbrev S4x768x8 : Shape := ⟨3, ![4, 768, 8]⟩
abbrev S4x768x2048 : Shape := ⟨3, ![4, 768, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x8x768, .f32⟩
  | .hbm, ⟨2, _⟩ => ⟨S4x2048x768, .f32⟩
  | .hbm, ⟨3, _⟩ => ⟨S4x2048x768, .f32⟩
  | .hbm, ⟨4, _⟩ => ⟨S4x2048x768, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S4x768x8, .f32⟩
  | .hbm, ⟨15, _⟩ => ⟨S4x8x768, .f32⟩
  | .hbm, ⟨16, _⟩ => ⟨S4x768x8, .f32⟩
  | .hbm, ⟨17, _⟩ => ⟨S4x768x2048, .f32⟩
  | .hbm, ⟨18, _⟩ => ⟨S4x2048x768, .f32⟩
  | .hbm, ⟨19, _⟩ => ⟨S_, .f32⟩
  | .hbm, ⟨20, _⟩ => ⟨S4x2048x768, .f32⟩
  | .hbm, ⟨21, _⟩ => ⟨S4x2048x768, .f32⟩
  | .hbm, ⟨22, _⟩ => ⟨S_, .f32⟩
  | .hbm, ⟨23, _⟩ => ⟨S4x2048x768, .f32⟩
  | .hbm, ⟨24, _⟩ => ⟨S4x2048x768, .f32⟩
  | .hbm, ⟨25, _⟩ => ⟨S4x2048x768, .f32⟩
  | .hbm, ⟨26, _⟩ => ⟨S_, .f32⟩
  | .hbm, ⟨27, _⟩ => ⟨S4x2048x768, .f32⟩
  | .hbm, ⟨28, _⟩ => ⟨S4x2048x768, .f32⟩
  | .hbm, ⟨29, _⟩ => ⟨S4x2048x768, .f32⟩
  | .hbm, ⟨30, _⟩ => ⟨S_, .f32⟩
  | .hbm, ⟨31, _⟩ => ⟨S4x2048x768, .f32⟩
  | .hbm, ⟨32, _⟩ => ⟨S4x2048x768, .f32⟩
  | .hbm, ⟨33, _⟩ => ⟨S4x2048x768, .f32⟩
  | .hbm, ⟨34, _⟩ => ⟨S_, .f32⟩
  | .hbm, ⟨35, _⟩ => ⟨S4x2048x768, .f32⟩
  | .hbm, ⟨36, _⟩ => ⟨S4x2048x768, .f32⟩
  | .hbm, ⟨37, _⟩ => ⟨S_, .f32⟩
  | .hbm, ⟨38, _⟩ => ⟨S4x2048x768, .f32⟩
  | .hbm, ⟨39, _⟩ => ⟨S4x2048x768, .f32⟩
  | .hbm, ⟨40, _⟩ => ⟨S4x2048x768, .f32⟩
  | .hbm, ⟨41, _⟩ => ⟨S_, .f32⟩
  | .hbm, ⟨42, _⟩ => ⟨S4x2048x768, .f32⟩
  | .hbm, ⟨43, _⟩ => ⟨S4x2048x768, .f32⟩
  | .hbm, ⟨44, _⟩ => ⟨S4x2048x768, .f32⟩
  | .hbm, ⟨45, _⟩ => ⟨S_, .f32⟩
  | .hbm, ⟨46, _⟩ => ⟨S4x2048x768, .f32⟩
  | .hbm, ⟨47, _⟩ => ⟨S4x2048x768, .f32⟩
  | .hbm, ⟨48, _⟩ => ⟨S4x2048x768, .f32⟩
  | .hbm, ⟨49, _⟩ => ⟨S_, .f32⟩
  | .hbm, ⟨50, _⟩ => ⟨S4x2048x768, .f32⟩
  | .hbm, ⟨51, _⟩ => ⟨S4x2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel11.lean ====
abbrev S8192x2048 : Shape := ⟨2, ![8192, 2048]⟩
abbrev S2048 : Shape := ⟨1, ![2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x1, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x1, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x1, .f32⟩
  | .hbm, ⟨72, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel12.lean ====
abbrev S3072x128 : Shape := ⟨2, ![3072, 128]⟩
abbrev S1x3072x128 : Shape := ⟨3, ![1, 3072, 128]⟩
abbrev S1x1024x128 : Shape := ⟨3, ![1, 1024, 128]⟩
abbrev S1024x128 : Shape := ⟨2, ![1024, 128]⟩

abbrev nBuf : Space → Nat
  | .hbm => 9
  | .vmem => 16
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S1x3072x128, .f32⟩
  | .hbm, ⟨5, _⟩ => ⟨S3072x128, .f32⟩
  | .hbm, ⟨6, _⟩ => ⟨S3072x128, .f32⟩
  | .hbm, ⟨7, _⟩ => ⟨S3072x128, .f32⟩
  | .hbm, ⟨8, _⟩ => ⟨S3072x128, .f32⟩
  | .local _ .vmem, ⟨0, _⟩ => ⟨S1x1024x128, .f32⟩
  | .local _ .vmem, ⟨1, _⟩ => ⟨S1x1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S3072x128 : Shape := ⟨2, ![3072, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S_, .f32⟩
  | .hbm, ⟨5, _⟩ => ⟨S3072x128, .f32⟩
  | .hbm, ⟨6, _⟩ => ⟨S3072x128, .f32⟩
  | .hbm, ⟨7, _⟩ => ⟨S_, .f32⟩
  | .hbm, ⟨8, _⟩ => ⟨S3072x128, .f32⟩
  | .hbm, ⟨9, _⟩ => ⟨S3072x128, .f32⟩
  | .hbm, ⟨10, _⟩ => ⟨S3072x128, .f32⟩
  | .hbm, ⟨11, _⟩ => ⟨S_, .f32⟩
  | .hbm, ⟨12, _⟩ => ⟨S3072x128, .f32⟩
  | .hbm, ⟨13, _⟩ => ⟨S3072x128, .f32⟩
  | .hbm, ⟨14, _⟩ => ⟨S3072x128, .f32⟩
  | .hbm, ⟨15, _⟩ => ⟨S_, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S_, .f32⟩
  | .hbm, ⟨20, _⟩ => ⟨S3072x128, .f32⟩
  | .hbm, ⟨21, _⟩ => ⟨S3072x128, .f32⟩
  | .hbm, ⟨22, _⟩ => ⟨S_, .f32⟩
  | .hbm, ⟨23, _⟩ => ⟨S3072x128, .f32⟩
  | .hbm, ⟨24, _⟩ => ⟨S3072x128, .f32⟩
  | .hbm, ⟨25, _⟩ => ⟨S3072x128, .f32⟩
  | .hbm, ⟨26, _⟩ => ⟨S_, .f32⟩
  | .hbm, ⟨27, _⟩ => ⟨S3072x128, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S3072x128, .f32⟩
  | .hbm, ⟨32, _⟩ => ⟨S3072x128, .f32⟩
  | .hbm, ⟨33, _⟩ => ⟨S3072x128, .f32⟩
  | .hbm, ⟨34, _⟩ => ⟨S_, .f32⟩
  | .hbm, ⟨35, _⟩ => ⟨S3072x128, .f32⟩
  | .hbm, ⟨36, _⟩ => ⟨S3072x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S8x4096x128 : Shape := ⟨3, ![8, 4096, 128]⟩
abbrev S4096x128 : Shape := ⟨2, ![4096, 128]⟩
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x4096x128, .f32⟩
  | .hbm, ⟨1, _⟩ => ⟨S4096x128, .f32⟩
  | .local _ .vmem, ⟨0, _⟩ => ⟨S8x1024x128, .f32⟩
  | .local _ .vmem, ⟨1, _⟩ => ⟨S8x1024x128, .f32⟩
  | .local _ .vmem, ⟨2, _⟩ => ⟨S1024x128, .f32⟩
  | .local _ .vmem, ⟨3, _⟩ => ⟨S1024x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S8x4096x128 : Shape := ⟨3, ![8, 4096, 128]⟩
abbrev S_ : Shape := ⟨0, ![]⟩
abbrev S4096x128 : Shape := ⟨2, ![4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S_, .f32⟩
  | .hbm, ⟨2, _⟩ => ⟨S4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S8x48x128 : Shape := ⟨3, ![8, 48, 128]⟩
abbrev S48x128 : Shape := ⟨2, ![48, 128]⟩
abbrev S1x48x128 : Shape := ⟨3, ![1, 48, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x48x128, .f32⟩
  | .hbm, ⟨1, _⟩ => ⟨S48x128, .f32⟩
  | .local _ .vmem, ⟨0, _⟩ => ⟨S8x48x128, .f32⟩
  | .local _ .vmem, ⟨1, _⟩ => ⟨S48x128, .f32⟩
  | _, _ => ⟨S8x48x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference14Ideal.lean ====
abbrev S8x48x128 : Shape := ⟨3, ![8, 48, 128]⟩
abbrev S_ : Shape := ⟨0, ![]⟩
abbrev S48x128 : Shape := ⟨2, ![48, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x48x128, .f32⟩
  | .hbm, ⟨1, _⟩ => ⟨S_, .f32⟩
  | .hbm, ⟨2, _⟩ => ⟨S48x128, .f32⟩
  | _, _ => ⟨S8x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8x2048 : Shape := ⟨2, ![8, 2048]⟩
abbrev S4x2048x768 : Shape := ⟨3, ![4, 2048, 768]⟩
abbrev S4x768 : Shape := ⟨2, ![4, 768]⟩
abbrev S4x1x768 : Shape := ⟨3, ![4, 1, 768]⟩
abbrev S4x8x768 : Shape := ⟨3, ![4, 8, 768]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x768, .f32⟩
  | .hbm, ⟨2, _⟩ => ⟨S4x768, .f32⟩
  | .hbm, ⟨3, _⟩ => ⟨S4x1x768, .f32⟩
  | .hbm, ⟨4, _⟩ => ⟨S4x8x768, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S8x2048 : Shape := ⟨2, ![8, 2048]⟩
abbrev S4x2048x768 : Shape := ⟨3, ![4, 2048, 768]⟩
abbrev S4x768 : Shape := ⟨2, ![4, 768]⟩
abbrev S_ : Shape := ⟨0, ![]⟩
abbrev S4x768x8 : Shape := ⟨3, ![4, 768, 8]⟩
abbrev S4x8x768 : Shape := ⟨3, ![4, 8, 768]⟩
abbrev S4x1x768 : Shape := ⟨3, ![4, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x768, .f32⟩
  | .hbm, ⟨2, _⟩ => ⟨S4x768, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x768x8, .f32⟩
  | .hbm, ⟨13, _⟩ => ⟨S4x8x768, .f32⟩
  | .hbm, ⟨14, _⟩ => ⟨S4x1x768, .f32⟩
  | .hbm, ⟨15, _⟩ => ⟨S4x8x768, .f32⟩
  | .hbm, ⟨16, _⟩ => ⟨S4x8x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.IbLoop.lean ====
/-
  The loop over four groups of 128 rows that closes a row block: what its trips write, as pieces, and what
  the three running sums hold after each trip.
-/
module

public import proofs.«01_k».proof.Proof.Gen.KernelIdeal.Loops
public import Idealize.ShloMosaic.Lib.Pipeline.ValueKit

@[expose] public section

set_option maxRecDepth 16384

noncomputable section

namespace Cert.KernelIdeal.Tie

open Cert.KernelIdeal Cert.KernelIdeal.Gen
open Idealize.ShloMosaic Idealize.ShloMosaic.TcCoe

variable {F : FTy → Type} [FloatOps F]

theorem hz : (![0, 0] : Fin 2 → Nat) = fun _ => 0 := funext fun a => by fin_cases a <;> rfl

theorem trips4 : k0_t1_loop.trips = 4 := by decide

theorem off_eq : ∀ k : Fin k0_t1_loop.trips, k0_off1 k = ![k.val * 128, 0] := by decide

theorem inbk (k : Fin k0_t1_loop.trips) (a : Fin 2) : k0_off1 k a + S128x2048.size a ≤ S512x2048.size a := by
  have hk : k.val < 4 := by have h := k.isLt; have e := trips4; omega
  rw [off_eq]
  match a with
  | ⟨0, _⟩ => show k.val * 128 + 128 ≤ 512; omega
  | ⟨1, _⟩ => show 0 + 2048 ≤ 2048; omega

/-- The rows of group `k` of a block. -/
def grp (inb : ∀ k a, k0_off1 k a + S128x2048.size a ≤ S512x2048.size a) (x : Vec F S512x2048 .f32) (k : Fin k0_t1_loop.trips) : Vec F S128x2048 .f32 :=
  View.ld x (Rect.unit (s := S512x2048) (k0_off1 k) S128x2048.size (inb k))

variable (inb : ∀ k a, k0_off1 k a + S128x2048.size a ≤ S512x2048.size a)

/-- The rows of the gradient of `x` that trip `k` writes. -/
def dxRow (x5 : Vec F S512x2048 .f32) (x6 x7 : Vec F S1x2048 .f32) (x8 xs : Vec F S512x2048 .f32) (k : Fin k0_t1_loop.trips) : Vec F S128x2048 .f32 :=
  k0_pay8 (grp inb xs k) (k0_pay9 (grp inb x5 k)) (k0_pay10 (grp inb x5 k)) x6 x7 (grp inb x8 k)

/-- The three running sums after `n` trips. -/
def accSh (xs : Vec F S512x2048 .f32) (g : Vec F S1x2048 .f32) : ℕ → Vec F S1x2048 .f32
  | 0 => g
  | n + 1 => if h : n < k0_t1_loop.trips then k0_pay11 (grp inb xs ⟨n, h⟩) (accSh xs g n) else accSh xs g n

def accSc (x5 : Vec F S512x2048 .f32) (x6 : Vec F S1x2048 .f32) (xs : Vec F S512x2048 .f32) (g : Vec F S1x2048 .f32) : ℕ → Vec F S1x2048 .f32
  | 0 => g
  | n + 1 => if h : n < k0_t1_loop.trips then k0_pay12 (grp inb x5 ⟨n, h⟩) (grp inb xs ⟨n, h⟩) (accSc x5 x6 xs g n) x6 else accSc x5 x6 xs g n

def accNg (x5 : Vec F S512x2048 .f32) (x7 : Vec F S1x2048 .f32) (xs : Vec F S512x2048 .f32) (g : Vec F S1x2048 .f32) : ℕ → Vec F S1x2048 .f32
  | 0 => g
  | n + 1 => if h : n < k0_t1_loop.trips then k0_pay7 (grp inb xs ⟨n, h⟩) (k0_pay10 (grp inb x5 ⟨n, h⟩)) (k0_pay13 (accNg x5 x7 xs g n)) x7 else accNg x5 x7 xs g n

theorem tripL_eq (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (h5 : k0_cond5 i = 1#1)
  (x5 : Vec F S512x2048 .f32) (x6 x7 : Vec F S1x2048 .f32) (x8 xs : Vec F S512x2048 .f32) (k : Fin k0_t1_loop.trips)
  (f11 : BufTy.Contents (Elt F) arg11.view.ty) (f12 : BufTy.Contents (Elt F) arg12.view.ty) (f13 : BufTy.Contents (Elt F) arg13.view.ty) (f14 : BufTy.Contents (Elt F) arg14.view.ty) :
  tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) k f11 f12 f13 f14
    = ([⟨Rect.unit (k0_off1 k) S128x2048.size (inb k), dxRow inb x5 x6 x7 x8 xs k⟩],
       [⟨Rect.unit ![0, 0] S1x2048.size inb_S1x2048_S1x2048_0_0, k0_pay11 (grp inb xs k) (arg12.view.read (Elt F) f12)⟩],
       [⟨Rect.unit ![0, 0] S1x2048.size inb_S1x2048_S1x2048_0_0, k0_pay12 (grp inb x5 k) (grp inb xs k) (arg13.view.read (Elt F) f13) x6⟩],
       [⟨Rect.unit ![0, 0] S1x2048.size inb_S1x2048_S1x2048_0_0, k0_pay7 (grp inb xs k) (k0_pay10 (grp inb x5 k)) (k0_pay13 (arg14.view.read (Elt F) f14)) x7⟩]) := by
  unfold tripL_k0_t1 trip_k0_t1 dxRow grp
  dsimp only
  sl_unfold_words
  simp only [View.readAt_eq_ld, harg7.read_unread, harg8.read_unread, harg9.read_unread, harg10.read_unread, harg15.read_unread]
  rw [View.ld_unit_zero (S := S1x2048) hz, View.ld_unit_zero (S := S1x2048) hz, View.ld_unit_zero (S := S1x2048) hz, View.ld_unit_zero (S := S1x2048) hz, View.ld_unit_zero (S := S1x2048) hz]

theorem read_cons {sp : Space} (v : View sig .tc sp S1x2048 .f32) (f : v.ty.Contents (Elt F)) (w : Vec F S1x2048 .f32) (L : List (View.Piece (Elt F) S1x2048 .f32)) :
    v.read (Elt F) (v.writes (Elt F) f (⟨Rect.unit ![0, 0] S1x2048.size inb_S1x2048_S1x2048_0_0, w⟩ :: L)) = w := by
  rw [View.read_writes_eq_canon v f _ (fun y => ⟨_, List.mem_cons_self, by
    rw [Rect.mem_set_unit]; intro a; have := (y a).isLt; rw [hz]; simp only [Nat.zero_add]; exact ⟨Nat.zero_le _, this⟩⟩)]
  exact View.canon_cons_unit_zero (S := S1x2048) hz _ _ _

theorem read_cons_big {sp : Space} (v : View sig .tc sp S512x2048 .f32) (f : v.ty.Contents (Elt F)) (w : Vec F S512x2048 .f32) (L : List (View.Piece (Elt F) S512x2048 .f32)) :
    v.read (Elt F) (v.writes (Elt F) f (⟨Rect.unit ![0, 0] S512x2048.size inb_S512x2048_S512x2048_0_0, w⟩ :: L)) = w := by
  rw [View.read_writes_eq_canon v f _ (fun y => ⟨_, List.mem_cons_self, by
    rw [Rect.mem_set_unit]; intro a; have := (y a).isLt; rw [hz]; simp only [Nat.zero_add]; exact ⟨Nat.zero_le _, this⟩⟩)]
  exact View.canon_cons_unit_zero (S := S512x2048) hz _ _ _

theorem pb_step (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (h5 : k0_cond5 i = 1#1)
  (x5 : Vec F S512x2048 .f32) (x6 x7 : Vec F S1x2048 .f32) (x8 xs : Vec F S512x2048 .f32) (g11 : BufTy.Contents (Elt F) arg11.view.ty) (g12 g13 g14 : Vec F S1x2048 .f32) (k : Fin k0_t1_loop.trips) :
  pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) (k.val + 1) =
    (⟨Rect.unit (k0_off1 k) S128x2048.size (inb k), dxRow inb x5 x6 x7 x8 xs k⟩ :: (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) k.val).1,
     ⟨Rect.unit ![0, 0] S1x2048.size inb_S1x2048_S1x2048_0_0, k0_pay11 (grp inb xs k) (arg12.view.read (Elt F) (arg12.view.writes (Elt F) (harg12.unread g12) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) k.val).2.1))⟩ :: (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) k.val).2.1,
     ⟨Rect.unit ![0, 0] S1x2048.size inb_S1x2048_S1x2048_0_0, k0_pay12 (grp inb x5 k) (grp inb xs k) (arg13.view.read (Elt F) (arg13.view.writes (Elt F) (harg13.unread g13) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) k.val).2.2.1)) x6⟩ :: (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) k.val).2.2.1,
     ⟨Rect.unit ![0, 0] S1x2048.size inb_S1x2048_S1x2048_0_0, k0_pay7 (grp inb xs k) (k0_pay10 (grp inb x5 k)) (k0_pay13 (arg14.view.read (Elt F) (arg14.view.writes (Elt F) (harg14.unread g14) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) k.val).2.2.2))) x7⟩ :: (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) k.val).2.2.2) := by
  rw [pb_k0_t1_succ, tripL_eq (inb := inb)]
  rfl

theorem pb_read (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (h5 : k0_cond5 i = 1#1)
  (x5 : Vec F S512x2048 .f32) (x6 x7 : Vec F S1x2048 .f32) (x8 xs : Vec F S512x2048 .f32) (g11 : BufTy.Contents (Elt F) arg11.view.ty) (g12 g13 g14 : Vec F S1x2048 .f32) (n : ℕ) (hn : n ≤ k0_t1_loop.trips) :
   arg12.view.read (Elt F) (arg12.view.writes (Elt F) (harg12.unread g12) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) n).2.1) = accSh inb xs g12 n
   ∧ arg13.view.read (Elt F) (arg13.view.writes (Elt F) (harg13.unread g13) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) n).2.2.1) = accSc inb x5 x6 xs g13 n
   ∧ arg14.view.read (Elt F) (arg14.view.writes (Elt F) (harg14.unread g14) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) n).2.2.2) = accNg inb x5 x7 xs g14 n := by
  induction n with
  | zero => exact ⟨harg12.read_unread _, harg13.read_unread _, harg14.read_unread _⟩
  | succ n ih =>
    have h : n < k0_t1_loop.trips := hn
    obtain ⟨i1, i2, i3⟩ := ih (Nat.le_of_succ_le hn)
    have e := pb_step inb 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 x5 x6 x7 x8 xs g11 g12 g13 g14 ⟨n, h⟩
    dsimp only at e
    rw [e, accSh, accSc, accNg, dif_pos h, dif_pos h, dif_pos h]
    dsimp only
    rw [read_cons, read_cons, read_cons, i1, i2, i3]
    exact ⟨rfl, rfl, rfl⟩

theorem rowPc_congr (o o' : Fin 2 → ℕ) (e : o = o') (h h') (w : Vec F S128x2048 .f32) :
    (⟨Rect.unit o S128x2048.size h, w⟩ : View.Piece (Elt F) S512x2048 .f32) = ⟨Rect.unit o' S128x2048.size h', w⟩ := by
  subst e; rfl

theorem inb128 (k : ℕ) (hk : k < 4) (a : Fin 2) : (![k * 128, 0] : Fin 2 → ℕ) a + S128x2048.size a ≤ S512x2048.size a := by
  match a with
  | ⟨0, _⟩ => show k * 128 + 128 ≤ 512; omega
  | ⟨1, _⟩ => show 0 + 2048 ≤ 2048; omega

/-- The four row pieces of a block, the last first. -/
def rowPcs (x5 : Vec F S512x2048 .f32) (x6 x7 : Vec F S1x2048 .f32) (x8 xs : Vec F S512x2048 .f32) : List (View.Piece (Elt F) S512x2048 .f32) :=
  [⟨Rect.unit ![3 * 128, 0] S128x2048.size (inb128 3 (by omega)), dxRow inbk x5 x6 x7 x8 xs ⟨3, by rw [trips4]; omega⟩⟩,
   ⟨Rect.unit ![2 * 128, 0] S128x2048.size (inb128 2 (by omega)), dxRow inbk x5 x6 x7 x8 xs ⟨2, by rw [trips4]; omega⟩⟩,
   ⟨Rect.unit ![1 * 128, 0] S128x2048.size (inb128 1 (by omega)), dxRow inbk x5 x6 x7 x8 xs ⟨1, by rw [trips4]; omega⟩⟩,
   ⟨Rect.unit ![0 * 128, 0] S128x2048.size (inb128 0 (by omega)), dxRow inbk x5 x6 x7 x8 xs ⟨0, by rw [trips4]; omega⟩⟩]

theorem pb_rows4 (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (h5 : k0_cond5 i = 1#1)
  (x5 : Vec F S512x2048 .f32) (x6 x7 : Vec F S1x2048 .f32) (x8 xs : Vec F S512x2048 .f32) (g11 : BufTy.Contents (Elt F) arg11.view.ty) (g12 g13 g14 : Vec F S1x2048 .f32) :
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 (harg7.unread x5) (harg8.unread x6) (harg9.unread x7) (harg10.unread x8) (harg15.unread xs) g11 (harg12.unread g12) (harg13.unread g13) (harg14.unread g14) 4).1 = rowPcs x5 x6 x7 x8 xs := by
  have t : ∀ n, n < 4 → n < k0_t1_loop.trips := fun n h => by rw [trips4]; exact h
  have e := fun n h => pb_step inbk 𝒱 c bd i arg2 harg2 arg3 harg3 arg4 harg4 arg5 harg5 arg6 harg6 arg7 harg7 arg8 harg8 arg9 harg9 arg10 harg10 arg11 harg11 arg12 harg12 arg13 harg13 arg14 harg14 arg15 harg15 h5 x5 x6 x7 x8 xs g11 g12 g13 g14 ⟨n, h⟩
  have e3 := congrArg (fun q => q.1) (e 3 (t 3 (by omega)))
  have e2 := congrArg (fun q => q.1) (e 2 (t 2 (by omega)))
  have e1 := congrArg (fun q => q.1) (e 1 (t 1 (by omega)))
  have e0 := congrArg (fun q => q.1) (e 0 (t 0 (by omega)))
  dsimp only at e3 e2 e1 e0
  refine e3.trans ?_
  unfold rowPcs
  refine congrArg₂ List.cons (rowPc_congr _ _ (off_eq _) _ _ _) (e2.trans ?_)
  refine congrArg₂ List.cons (rowPc_congr _ _ (off_eq _) _ _ _) (e1.trans ?_)
  refine congrArg₂ List.cons (rowPc_congr _ _ (off_eq _) _ _ _) (e0.trans ?_)
  exact congrArg₂ List.cons (rowPc_congr _ _ (off_eq _) _ _ _) rfl

end Cert.KernelIdeal.Tie

end
-- ==== Proof.RunD.lean ====
/-
  The run of the body at the points that end a row block (6, 13, …, 111): the last block product, then the loop over
  four groups of rows. What it leaves is written out: four row pieces, three running sums, the scratch.
-/
module

public import proofs.«01_k».proof.Proof.Gen.KernelIdeal.Frame.RunC
public import proofs.«01_k».proof.Proof.IbLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Tie
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem kernelRun0_D_spec  (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo10 : Vec F S1x2048 .f32) (xo11 : Vec F S1x2048 .f32) (xo12 : Vec F S1x2048 .f32) (xs0 : Vec F S512x2048 .f32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10 ∗ owns (c : Thread nD τ) arg13 fullShare xo11 ∗ owns (c : Thread nD τ) arg14 fullShare xo12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f ((rowPcs x5 x6 x7 x8 (k0_pay6 xs0 x1 x3)) : List (View.Piece (Elt F) S512x2048 .f32))) ∗ (∃ f, arg12.view.loc (c : Thread nD τ) ↦[arg12.view.set]{fullShare} arg12.view.writes (Elt F) f ([⟨Rect.unit ![0, 0] S1x2048.size inb_S1x2048_S1x2048_0_0, accSh inbk (k0_pay6 xs0 x1 x3) xo10 4⟩] : List (View.Piece (Elt F) S1x2048 .f32))) ∗ (∃ f, arg13.view.loc (c : Thread nD τ) ↦[arg13.view.set]{fullShare} arg13.view.writes (Elt F) f ([⟨Rect.unit ![0, 0] S1x2048.size inb_S1x2048_S1x2048_0_0, accSc inbk x5 x6 (k0_pay6 xs0 x1 x3) xo11 4⟩] : List (View.Piece (Elt F) S1x2048 .f32))) ∗ (∃ f, arg14.view.loc (c : Thread nD τ) ↦[arg14.view.set]{fullShare} arg14.view.writes (Elt F) f ([⟨Rect.unit ![0, 0] S1x2048.size inb_S1x2048_S1x2048_0_0, accNg inbk x5 x7 (k0_pay6 xs0 x1 x3) xo12 4⟩] : List (View.Piece (Elt F) S1x2048 .f32))) ∗ (∃ f, arg15.view.loc (c : Thread nD τ) ↦[arg15.view.set]{fullShare} arg15.view.writes (Elt F) f ([⟨Rect.unit ![0, 0] S512x2048.size inb_S512x2048_S512x2048_0_0, (k0_pay6 xs0 x1 x3)⟩] : List (View.Piece (Elt F) S512x2048 .f32)))) -∗ K ⟨⟩))
          ⊢ wp frame (wpE (defs₀ (F := F)) Variants.none c none) E (cc0_inproj_bwd i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_inproj_bwd_eq_skeleton]; unfold cc0_inproj_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12; obtain rfl := harg15.eq_unread hfs0
  sl_exec (disch := first | sl_exact hc0 | sl_exact hc1 | sl_exact hc2 | sl_exact hc3 | sl_exact hc4)
  sl_step
  sl_unfold_words
  simp only [View.readAt_eq_ld, harg15.read_unread, harg3.read_unread, harg5.read_unread, View.ld_unit_zero (S := S512x2048) hz, View.ld_unit_zero (S := S512x1024) hz, View.ld_unit_zero (S := S2048x1024) hz]
  have hN : Scf.trips k0_t1_loop.lb k0_t1_loop.ub k0_t1_loop.st = 4 := trips4
  have hS := harg15.eq_unread (read_cons_big arg15.view arg15.view.junk (k0_pay6 xs0 x1 x3) [])
  rw [hS, hN]
  obtain ⟨r1, r2, r3⟩ := pb_read inbk Variants.none c none i arg2 harg2 arg3 harg3 arg4 harg4 arg5 harg5 arg6 harg6 arg7 harg7 arg8 harg8 arg9 harg9 arg10 harg10 arg11 harg11 arg12 harg12 arg13 harg13 arg14 harg14 arg15 harg15 hc4 x5 x6 x7 x8 (k0_pay6 xs0 x1 x3) f9 xo10 xo11 xo12 4 trips4.ge
  rw [harg12.eq_unread r1, harg13.eq_unread r2, harg14.eq_unread r3, pb_rows4 Variants.none c none i arg2 harg2 arg3 harg3 arg4 harg4 arg5 harg5 arg6 harg6 arg7 harg7 arg8 harg8 arg9 harg9 arg10 harg10 arg11 harg11 arg12 harg12 arg13 harg13 arg14 harg14 arg15 harg15 hc4 x5 x6 x7 x8 (k0_pay6 xs0 x1 x3) f9 xo10 xo11 xo12]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]; · iexists _; iexact H9
  isplitl [H10]; · iexists (harg12.unread xo10); rw [harg12.eq_unread (read_cons arg12.view (harg12.unread xo10) (accSh inbk (k0_pay6 xs0 x1 x3) xo10 4) [])]; iexact H10
  isplitl [H11]; · iexists (harg13.unread xo11); rw [harg13.eq_unread (read_cons arg13.view (harg13.unread xo11) (accSc inbk x5 x6 (k0_pay6 xs0 x1 x3) xo11 4) [])]; iexact H11
  isplitl [H12]; · iexists (harg14.unread xo12); rw [harg14.eq_unread (read_cons arg14.view (harg14.unread xo12) (accNg inbk x5 x7 (k0_pay6 xs0 x1 x3) xo12 4) [])]; iexact H12
  iexists arg15.view.junk; rw [hS]; iexact HS0

/-- The pieces that each output and the scratch end with at such a point, with the run. -/
noncomputable def kernelRun0_D (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo10 : Vec F S1x2048 .f32) (xo11 : Vec F S1x2048 .f32) (xo12 : Vec F S1x2048 .f32) (xs0 : Vec F S512x2048 .f32) :
    Σ' (L9 : List (View.Piece (Elt F) S512x2048 .f32)), Σ' (L10 : List (View.Piece (Elt F) S1x2048 .f32)), Σ' (L11 : List (View.Piece (Elt F) S1x2048 .f32)), Σ' (L12 : List (View.Piece (Elt F) S1x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10 ∗ owns (c : Thread nD τ) arg13 fullShare xo11 ∗ owns (c : Thread nD τ) arg14 fullShare xo12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0_inproj_bwd i arg2 harg2 arg3 harg3 arg4 harg4 arg5 harg5 arg6 harg6 arg7 harg7 arg8 harg8 arg9 harg9 arg10 harg10 arg11 harg11 arg12 harg12 arg13 harg13 arg14 harg14 arg15 harg15) K } :=
  ⟨(rowPcs x5 x6 x7 x8 (k0_pay6 xs0 x1 x3)), [⟨Rect.unit ![0, 0] S1x2048.size inb_S1x2048_S1x2048_0_0, accSh inbk (k0_pay6 xs0 x1 x3) xo10 4⟩], [⟨Rect.unit ![0, 0] S1x2048.size inb_S1x2048_S1x2048_0_0, accSc inbk x5 x6 (k0_pay6 xs0 x1 x3) xo11 4⟩], [⟨Rect.unit ![0, 0] S1x2048.size inb_S1x2048_S1x2048_0_0, accNg inbk x5 x7 (k0_pay6 xs0 x1 x3) xo12 4⟩], [⟨Rect.unit ![0, 0] S512x2048.size inb_S512x2048_S512x2048_0_0, (k0_pay6 xs0 x1 x3)⟩],
    kernelRun0_D_spec c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo10 xo11 xo12 xs0⟩

end Cert.KernelIdeal.Gen

end
-- ==== Proof.RunE.lean ====
/-
  The run of the body at the points that begin a row block, the first excepted.
-/
module

public import proofs.«01_k».proof.Proof.RunD

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_E (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) :
    Σ' (L9 : List (View.Piece (Elt F) S512x2048 .f32)), Σ' (L10 : List (View.Piece (Elt F) S1x2048 .f32)), Σ' (L11 : List (View.Piece (Elt F) S1x2048 .f32)), Σ' (L12 : List (View.Piece (Elt F) S1x2048 .f32)), { LS0 : List (View.Piece (Elt F) S512x2048 .f32) //
      ∀ (xi9 : Vec F S512x2048 .f32) (xi10 : Vec F S1x2048 .f32) (xi11 : Vec F S1x2048 .f32) (xi12 : Vec F S1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ owns (c : Thread nD τ) arg13 fullShare xi11 ∗ owns (c : Thread nD τ) arg14 fullShare xi12 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xi10 ∗ owns (c : Thread nD τ) arg13 fullShare xi11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc0_inproj_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], [], [], ?_, fun xi9 xi10 xi11 xi12 E K => ?run⟩
  case run =>
    simp only [cc0_inproj_bwd_eq_skeleton]; unfold cc0_inproj_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.KernelIdeal.Gen

end
-- ==== Proof.IbFrameA.lean ====
/-
  What the outputs and the carried scratch hold point by point, case by case.
-/
module

public import proofs.«01_k».proof.Proof.RunE
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : cond0_0 i) (hc1 : cond0_1 i) (hc2 : cond0_2 i) (hc3 : ¬cond0_3 i) (hc4 : ¬cond0_4 i)
  (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32)

def out0_A_9 : Vec F S512x2048 .f32 :=
  VO0_9.read (Elt F) (VO0_9.writes (Elt F) VO0_9.junk (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).1)

theorem cover0_A_10 (y : S1x2048.Idx) :
    ∃ pc ∈ (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.1, y ∈ pc.1.set :=
  View.cover_of_tiledL (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.1 S1x2048.size (by sl_kernel_rfl) y

/-- What case A leaves in output 10's staging buffer: its pieces read back over junk. -/
def out0_A_10 : Vec F S1x2048 .f32 :=
  VO0_10.read (Elt F) (VO0_10.writes (Elt F) VO0_10.junk (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.1)

theorem cover0_A_11 (y : S1x2048.Idx) :
    ∃ pc ∈ (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.1, y ∈ pc.1.set :=
  View.cover_of_tiledL (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.1 S1x2048.size (by sl_kernel_rfl) y

/-- What case A leaves in output 11's staging buffer: its pieces read back over junk. -/
def out0_A_11 : Vec F S1x2048 .f32 :=
  VO0_11.read (Elt F) (VO0_11.writes (Elt F) VO0_11.junk (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.1)

theorem cover0_A_12 (y : S1x2048.Idx) :
    ∃ pc ∈ (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.1, y ∈ pc.1.set :=
  View.cover_of_tiledL (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.1 S1x2048.size (by sl_kernel_rfl) y

/-- What case A leaves in output 12's staging buffer: its pieces read back over junk. -/
def out0_A_12 : Vec F S1x2048 .f32 :=
  VO0_12.read (Elt F) (VO0_12.writes (Elt F) VO0_12.junk (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.1)

theorem scover0_A_0 (y : S512x2048.Idx) :
    ∃ pc ∈ (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.2.1, y ∈ pc.1.set :=
  View.cover_of_tiledL (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.2.1 S512x2048.size (by sl_kernel_rfl) y

/-- What case A leaves in scratch `u15`: its pieces read back over junk. -/
def sout0_A_0 : Vec F S512x2048 .f32 :=
  VS0_0.read (Elt F) (VS0_0.writes (Elt F) VS0_0.junk (kernelRun0_A c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.2.1)

end

section
variable (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : cond0_2 i) (hc3 : ¬cond0_3 i) (hc4 : ¬cond0_4 i)
  (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32)

def out0_B_9 : Vec F S512x2048 .f32 :=
  VO0_9.read (Elt F) (VO0_9.writes (Elt F) VO0_9.junk (kernelRun0_B c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xs0).1)

def out0_B_10 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32) (xo10 : Vec F S1x2048 .f32) : Vec F S1x2048 .f32 := xo10

def out0_B_11 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32) (xo11 : Vec F S1x2048 .f32) : Vec F S1x2048 .f32 := xo11

def out0_B_12 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32) (xo12 : Vec F S1x2048 .f32) : Vec F S1x2048 .f32 := xo12

theorem scover0_B_0 (y : S512x2048.Idx) :
    ∃ pc ∈ (kernelRun0_B c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xs0).2.2.2.2.1, y ∈ pc.1.set :=
  View.cover_of_tiledL (kernelRun0_B c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xs0).2.2.2.2.1 S512x2048.size (by sl_kernel_rfl) y

/-- What case B leaves in scratch `u15`: its pieces read back over junk. -/
def sout0_B_0 : Vec F S512x2048 .f32 :=
  VS0_0.read (Elt F) (VS0_0.writes (Elt F) VS0_0.junk (kernelRun0_B c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xs0).2.2.2.2.1)

end

section
variable (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : ¬cond0_2 i) (hc3 : cond0_3 i) (hc4 : ¬cond0_4 i)
  (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32)

def out0_C_9 : Vec F S512x2048 .f32 :=
  VO0_9.read (Elt F) (VO0_9.writes (Elt F) VO0_9.junk (kernelRun0_C c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xs0).1)

def out0_C_10 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : ¬cond0_2 i) (hc3 : cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32) (xo10 : Vec F S1x2048 .f32) : Vec F S1x2048 .f32 := xo10

def out0_C_11 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : ¬cond0_2 i) (hc3 : cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32) (xo11 : Vec F S1x2048 .f32) : Vec F S1x2048 .f32 := xo11

def out0_C_12 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : ¬cond0_2 i) (hc3 : cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32) (xo12 : Vec F S1x2048 .f32) : Vec F S1x2048 .f32 := xo12

theorem scover0_C_0 (y : S512x2048.Idx) :
    ∃ pc ∈ (kernelRun0_C c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xs0).2.2.2.2.1, y ∈ pc.1.set :=
  View.cover_of_tiledL (kernelRun0_C c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xs0).2.2.2.2.1 S512x2048.size (by sl_kernel_rfl) y

/-- What case C leaves in scratch `u15`: its pieces read back over junk. -/
def sout0_C_0 : Vec F S512x2048 .f32 :=
  VS0_0.read (Elt F) (VS0_0.writes (Elt F) VS0_0.junk (kernelRun0_C c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xs0).2.2.2.2.1)

end

section
variable (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : ¬cond0_1 i) (hc2 : ¬cond0_2 i) (hc3 : cond0_3 i) (hc4 : cond0_4 i)
  (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo10 : Vec F S1x2048 .f32) (xo11 : Vec F S1x2048 .f32) (xo12 : Vec F S1x2048 .f32) (xs0 : Vec F S512x2048 .f32)

theorem cover0_D_9 (y : S512x2048.Idx) :
    ∃ pc ∈ (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).1, y ∈ pc.1.set :=
  View.cover_of_tiledL (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).1 S128x2048.size (by sl_kernel_rfl) y

/-- What case D leaves in output 9's staging buffer: its pieces read back over junk. -/
def out0_D_9 : Vec F S512x2048 .f32 :=
  VO0_9.read (Elt F) (VO0_9.writes (Elt F) VO0_9.junk (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).1)

theorem cover0_D_10 (y : S1x2048.Idx) :
    ∃ pc ∈ (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.1, y ∈ pc.1.set :=
  View.cover_of_tiledL (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.1 S1x2048.size (by sl_kernel_rfl) y

/-- What case D leaves in output 10's staging buffer: its pieces read back over junk. -/
def out0_D_10 : Vec F S1x2048 .f32 :=
  VO0_10.read (Elt F) (VO0_10.writes (Elt F) VO0_10.junk (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.1)

theorem cover0_D_11 (y : S1x2048.Idx) :
    ∃ pc ∈ (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.1, y ∈ pc.1.set :=
  View.cover_of_tiledL (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.1 S1x2048.size (by sl_kernel_rfl) y

/-- What case D leaves in output 11's staging buffer: its pieces read back over junk. -/
def out0_D_11 : Vec F S1x2048 .f32 :=
  VO0_11.read (Elt F) (VO0_11.writes (Elt F) VO0_11.junk (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.1)

theorem cover0_D_12 (y : S1x2048.Idx) :
    ∃ pc ∈ (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.2.1, y ∈ pc.1.set :=
  View.cover_of_tiledL (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.2.1 S1x2048.size (by sl_kernel_rfl) y

/-- What case D leaves in output 12's staging buffer: its pieces read back over junk. -/
def out0_D_12 : Vec F S1x2048 .f32 :=
  VO0_12.read (Elt F) (VO0_12.writes (Elt F) VO0_12.junk (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.2.1)

theorem scover0_D_0 (y : S512x2048.Idx) :
    ∃ pc ∈ (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.2.2.1, y ∈ pc.1.set :=
  View.cover_of_tiledL (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.2.2.1 S512x2048.size (by sl_kernel_rfl) y

/-- What case D leaves in scratch `u15`: its pieces read back over junk. -/
def sout0_D_0 : Vec F S512x2048 .f32 :=
  VS0_0.read (Elt F) (VS0_0.writes (Elt F) VS0_0.junk (kernelRun0_D c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8 xo10 xo11 xo12 xs0).2.2.2.2.1)

end

section
variable (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : cond0_1 i) (hc2 : cond0_2 i) (hc3 : ¬cond0_3 i) (hc4 : ¬cond0_4 i)
  (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32)

def out0_E_9 : Vec F S512x2048 .f32 :=
  VO0_9.read (Elt F) (VO0_9.writes (Elt F) VO0_9.junk (kernelRun0_E c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).1)

def out0_E_10 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo10 : Vec F S1x2048 .f32) : Vec F S1x2048 .f32 := xo10

def out0_E_11 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo11 : Vec F S1x2048 .f32) : Vec F S1x2048 .f32 := xo11

def out0_E_12 (c : Dev nD) (i : grid0.Coords) (u2 : Memref sig .tc .vmem S512x1024 .bf16) (w2 : u2.IsWhole) (u3 : Memref sig .tc .vmem S512x1024 .bf16) (w3 : u3.IsWhole) (u4 : Memref sig .tc .vmem S512x128 .f32) (w4 : u4.IsWhole) (u5 : Memref sig .tc .vmem S2048x1024 .bf16) (w5 : u5.IsWhole) (u6 : Memref sig .tc .vmem S2048x128 .bf16) (w6 : u6.IsWhole) (u7 : Memref sig .tc .vmem S512x2048 .f32) (w7 : u7.IsWhole) (u8 : Memref sig .tc .vmem S1x2048 .f32) (w8 : u8.IsWhole) (u9 : Memref sig .tc .vmem S1x2048 .f32) (w9 : u9.IsWhole) (u10 : Memref sig .tc .vmem S512x2048 .f32) (w10 : u10.IsWhole) (u11 : Memref sig .tc .vmem S512x2048 .f32) (w11 : u11.IsWhole) (u12 : Memref sig .tc .vmem S1x2048 .f32) (w12 : u12.IsWhole) (u13 : Memref sig .tc .vmem S1x2048 .f32) (w13 : u13.IsWhole) (u14 : Memref sig .tc .vmem S1x2048 .f32) (w14 : u14.IsWhole) (u15 : Memref sig .tc .vmem S512x2048 .f32) (w15 : u15.IsWhole) (hc0 : ¬cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo12 : Vec F S1x2048 .f32) : Vec F S1x2048 .f32 := xo12

theorem scover0_E_0 (y : S512x2048.Idx) :
    ∃ pc ∈ (kernelRun0_E c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.2.1, y ∈ pc.1.set :=
  View.cover_of_tiledL (kernelRun0_E c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.2.1 S512x2048.size (by sl_kernel_rfl) y

/-- What case E leaves in scratch `u15`: its pieces read back over junk. -/
def sout0_E_0 : Vec F S512x2048 .f32 :=
  VS0_0.read (Elt F) (VS0_0.writes (Elt F) VS0_0.junk (kernelRun0_E c i u2 w2 u3 w3 u4 w4 u5 w5 u6 w6 u7 w7 u8 w8 u9 w9 u10 w10 u11 w11 u12 w12 u13 w13 u14 w14 u15 w15 hc0 hc1 hc2 hc3 hc4 x0 x1 x2 x3 x4 x5 x6 x7 x8).2.2.2.2.1)

end

def junk0 : Vec F S512x2048 .f32 × Vec F S1x2048 .f32 × Vec F S1x2048 .f32 × Vec F S1x2048 .f32 × Vec F S512x2048 .f32 :=
  ((VO0_9.read (Elt F) VO0_9.junk, VO0_10.read (Elt F) VO0_10.junk, VO0_11.read (Elt F) VO0_11.junk, VO0_12.read (Elt F) VO0_12.junk, VS0_0.read (Elt F) VS0_0.junk) : Vec F S512x2048 .f32 × Vec F S1x2048 .f32 × Vec F S1x2048 .f32 × Vec F S1x2048 .f32 × Vec F S512x2048 .f32)

/-- What a point leaves in the results' blocks and the scratch, over what the point before left. -/
def stOf (c : Dev nD) (t : Fin cfg0.N) (acc : Vec F S512x2048 .f32 × Vec F S1x2048 .f32 × Vec F S1x2048 .f32 × Vec F S1x2048 .f32 × Vec F S512x2048 .f32) : Vec F S512x2048 .f32 × Vec F S1x2048 .f32 × Vec F S1x2048 .f32 × Vec F S1x2048 .f32 × Vec F S512x2048 .f32 :=
  if h0 : t.val % 112 = 0 then
    if h1 : t.val % 7 = 0 then
      if h2 : t.val % 7 ≤ 3 then
        if h3 : 4 ≤ t.val % 7 then
          False.elim (by have hN : t.val < 112 := lt_of_lt_of_eq t.isLt (show cfg0.N = 112 from N_0); omega)
        else
          if h4 : t.val % 7 = 6 then
            False.elim (by have hN : t.val < 112 := lt_of_lt_of_eq t.isLt (show cfg0.N = 112 from N_0); omega)
          else
            (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t))
      else
        False.elim (by have hN : t.val < 112 := lt_of_lt_of_eq t.isLt (show cfg0.N = 112 from N_0); omega)
    else
      False.elim (by have hN : t.val < 112 := lt_of_lt_of_eq t.isLt (show cfg0.N = 112 from N_0); omega)
  else
    if h1 : t.val % 7 = 0 then
      if h2 : t.val % 7 ≤ 3 then
        if h3 : 4 ≤ t.val % 7 then
          False.elim (by have hN : t.val < 112 := lt_of_lt_of_eq t.isLt (show cfg0.N = 112 from N_0); omega)
        else
          if h4 : t.val % 7 = 6 then
            False.elim (by have hN : t.val < 112 := lt_of_lt_of_eq t.isLt (show cfg0.N = 112 from N_0); omega)
          else
            (out0_E_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_E_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.1, out0_E_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.1, out0_E_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.1, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t))
      else
        False.elim (by have hN : t.val < 112 := lt_of_lt_of_eq t.isLt (show cfg0.N = 112 from N_0); omega)
    else
      if h2 : t.val % 7 ≤ 3 then
        if h3 : 4 ≤ t.val % 7 then
          False.elim (by have hN : t.val < 112 := lt_of_lt_of_eq t.isLt (show cfg0.N = 112 from N_0); omega)
        else
          if h4 : t.val % 7 = 6 then
            False.elim (by have hN : t.val < 112 := lt_of_lt_of_eq t.isLt (show cfg0.N = 112 from N_0); omega)
          else
            (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2 acc.2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2 acc.2.2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2 acc.2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2)
      else
        if h3 : 4 ≤ t.val % 7 then
          if h4 : t.val % 7 = 6 then
            (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) acc.2.1 acc.2.2.1 acc.2.2.2.1 acc.2.2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) acc.2.1 acc.2.2.1 acc.2.2.2.1 acc.2.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) acc.2.1 acc.2.2.1 acc.2.2.2.1 acc.2.2.2.2, out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) acc.2.1 acc.2.2.1 acc.2.2.2.1 acc.2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) acc.2.1 acc.2.2.1 acc.2.2.2.1 acc.2.2.2.2)
          else
            (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2 acc.2.1, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2 acc.2.2.1, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2 acc.2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) acc.2.2.2.2)
        else
          False.elim (by have hN : t.val < 112 := lt_of_lt_of_eq t.isLt (show cfg0.N = 112 from N_0); omega)

/-- The same at the point of a number. -/
def stAt0 (c : Dev nD) (n : ℕ) (hb : n < cfg0.N) (acc : Vec F S512x2048 .f32 × Vec F S1x2048 .f32 × Vec F S1x2048 .f32 × Vec F S1x2048 .f32 × Vec F S512x2048 .f32) : Vec F S512x2048 .f32 × Vec F S1x2048 .f32 × Vec F S1x2048 .f32 × Vec F S1x2048 .f32 × Vec F S512x2048 .f32 := stOf m c ⟨n, hb⟩ acc

/-- `stAt0` at a point of case A: that case's contents. -/
theorem stAt0_A (c : Dev nD) (t : Fin cfg0.N) (acc : Vec F S512x2048 .f32 × Vec F S1x2048 .f32 × Vec F S1x2048 .f32 × Vec F S1x2048 .f32 × Vec F S512x2048 .f32) (h0 : t.val % 112 = 0) (h1 : t.val % 7 = 0) (h2 : t.val % 7 ≤ 3) (h3 : ¬4 ≤ t.val % 7) (h4 : ¬t.val % 7 = 6) :
    stAt0 m c t.val t.isLt acc = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t)) :=
  (dif_pos h0).trans ((dif_pos h1).trans ((dif_pos h2).trans ((dif_neg h3).trans ((dif_neg h4).trans rfl))))

def outsAt0 (c : Dev nD) : (n : ℕ) → n < cfg0.N → Vec F S512x2048 .f32 × Vec F S1x2048 .f32 × Vec F S1x2048 .f32 × Vec F S1x2048 .f32 × Vec F S512x2048 .f32
  | 0, hn => stAt0 m c 0 hn junk0
  | n + 1, hn => stAt0 m c (n + 1) hn (outsAt0 c n (Nat.lt_of_succ_lt hn))

/-- `outsAt0` at a point of case A: that case's contents. -/
theorem outsAt0_A (c : Dev nD) (t : Fin cfg0.N) (h0 : t.val % 112 = 0) (h1 : t.val % 7 = 0) (h2 : t.val % 7 ≤ 3) (h3 : ¬4 ≤ t.val % 7) (h4 : ¬t.val % 7 = 6) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact stAt0_A m c ⟨0, hn⟩ _ h0 h1 h2 h3 h4
  | succ n => exact (dif_pos h0).trans ((dif_pos h1).trans ((dif_pos h2).trans ((dif_neg h3).trans ((dif_neg h4).trans rfl))))

/-- `outsAt0` at a point of case B: that case's contents, over what the point before left. -/
theorem outsAt0_B (c : Dev nD) (t : Fin cfg0.N) (h0 : ¬t.val % 112 = 0) (h1 : ¬t.val % 7 = 0) (h2 : t.val % 7 ≤ 3) (h3 : ¬4 ≤ t.val % 7) (h4 : ¬t.val % 7 = 6) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2 (outsAt0 m c (t.val - 1) (Nat.lt_of_le_of_lt (Nat.sub_le _ _) t.isLt)).2.1, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2 (outsAt0 m c (t.val - 1) (Nat.lt_of_le_of_lt (Nat.sub_le _ _) t.isLt)).2.2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2 (outsAt0 m c (t.val - 1) (Nat.lt_of_le_of_lt (Nat.sub_le _ _) t.isLt)).2.2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case C: that case's contents, over what the point before left. -/
theorem outsAt0_C (c : Dev nD) (t : Fin cfg0.N) (h0 : ¬t.val % 112 = 0) (h1 : ¬t.val % 7 = 0) (h2 : ¬t.val % 7 ≤ 3) (h3 : 4 ≤ t.val % 7) (h4 : ¬t.val % 7 = 6) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2 (outsAt0 m c (t.val - 1) (Nat.lt_of_le_of_lt (Nat.sub_le _ _) t.isLt)).2.1, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2 (outsAt0 m c (t.val - 1) (Nat.lt_of_le_of_lt (Nat.sub_le _ _) t.isLt)).2.2.1, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2 (outsAt0 m c (t.val - 1) (Nat.lt_of_le_of_lt (Nat.sub_le _ _) t.isLt)).2.2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of case D: that case's contents, over what the point before left. -/
theorem outsAt0_D (c : Dev nD) (t : Fin cfg0.N) (h0 : ¬t.val % 112 = 0) (h1 : ¬t.val % 7 = 0) (h2 : ¬t.val % 7 ≤ 3) (h3 : 4 ≤ t.val % 7) (h4 : t.val % 7 = 6) :
    outsAt0 m c t.val t.isLt = (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_pos h4).trans rfl))))

/-- `outsAt0` at a point of case E: that case's contents, over what the point before left. -/
theorem outsAt0_E (c : Dev nD) (t : Fin cfg0.N) (h0 : ¬t.val % 112 = 0) (h1 : t.val % 7 = 0) (h2 : t.val % 7 ≤ 3) (h3 : ¬4 ≤ t.val % 7) (h4 : ¬t.val % 7 = 6) :
    outsAt0 m c t.val t.isLt = (out0_E_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t), out0_E_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1, out0_E_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1, out0_E_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact (by exfalso; (try dsimp only at h0); exact absurd (Nat.zero_mod _) h0)
  | succ n => exact (dif_neg h0).trans ((dif_pos h1).trans ((dif_pos h2).trans ((dif_neg h3).trans ((dif_neg h4).trans rfl))))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 112 := lt_of_lt_of_eq t.isLt (show cfg0.N = 112 from N_0)
  rw [after0_10, after0_10]
  by_cases h0 : t.val % 112 = 0
  · by_cases h1 : t.val % 7 = 0
    · by_cases h2 : t.val % 7 ≤ 3
      · by_cases h3 : 4 ≤ t.val % 7
        · exfalso; omega
        · by_cases h4 : t.val % 7 = 6
          · exfalso; omega
          · rw [liveAt0_10_A t ((hcond0_0 t).mpr h0) ((hcond0_1 t).mpr h1) ((hcond0_2 t).mpr h2) (fun h => h3 ((hcond0_3 t).mp h)) (fun h => h4 ((hcond0_4 t).mp h))] at hi
            exact absurd hi Bool.false_ne_true
      · exfalso; omega
    · exfalso; omega
  · by_cases h1 : t.val % 7 = 0
    · by_cases h2 : t.val % 7 ≤ 3
      · by_cases h3 : 4 ≤ t.val % 7
        · exfalso; omega
        · by_cases h4 : t.val % 7 = 6
          · exfalso; omega
          · rw [outsAt0_E m c t h0 h1 h2 h3 h4]
            dsimp only
            unfold out0_E_10
            rfl
      · exfalso; omega
    · by_cases h2 : t.val % 7 ≤ 3
      · by_cases h3 : 4 ≤ t.val % 7
        · exfalso; omega
        · by_cases h4 : t.val % 7 = 6
          · exfalso; omega
          · rw [outsAt0_B m c t h0 h1 h2 h3 h4]
            dsimp only
            unfold out0_B_10
            rfl
      · by_cases h3 : 4 ≤ t.val % 7
        · by_cases h4 : t.val % 7 = 6
          · rw [liveAt0_10_D t (fun h => h0 ((hcond0_0 t).mp h)) (fun h => h1 ((hcond0_1 t).mp h)) (fun h => h2 ((hcond0_2 t).mp h)) ((hcond0_3 t).mpr h3) ((hcond0_4 t).mpr h4)] at hi
            exact absurd hi Bool.false_ne_true
          · rw [outsAt0_C m c t h0 h1 h2 h3 h4]
            dsimp only
            unfold out0_C_10
            rfl
        · exfalso; omega

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 112 := lt_of_lt_of_eq t.isLt (show cfg0.N = 112 from N_0)
  rw [after0_11, after0_11]
  by_cases h0 : t.val % 112 = 0
  · by_cases h1 : t.val % 7 = 0
    · by_cases h2 : t.val % 7 ≤ 3
      · by_cases h3 : 4 ≤ t.val % 7
        · exfalso; omega
        · by_cases h4 : t.val % 7 = 6
          · exfalso; omega
          · rw [liveAt0_11_A t ((hcond0_0 t).mpr h0) ((hcond0_1 t).mpr h1) ((hcond0_2 t).mpr h2) (fun h => h3 ((hcond0_3 t).mp h)) (fun h => h4 ((hcond0_4 t).mp h))] at hi
            exact absurd hi Bool.false_ne_true
      · exfalso; omega
    · exfalso; omega
  · by_cases h1 : t.val % 7 = 0
    · by_cases h2 : t.val % 7 ≤ 3
      · by_cases h3 : 4 ≤ t.val % 7
        · exfalso; omega
        · by_cases h4 : t.val % 7 = 6
          · exfalso; omega
          · rw [outsAt0_E m c t h0 h1 h2 h3 h4]
            dsimp only
            unfold out0_E_11
            rfl
      · exfalso; omega
    · by_cases h2 : t.val % 7 ≤ 3
      · by_cases h3 : 4 ≤ t.val % 7
        · exfalso; omega
        · by_cases h4 : t.val % 7 = 6
          · exfalso; omega
          · rw [outsAt0_B m c t h0 h1 h2 h3 h4]
            dsimp only
            unfold out0_B_11
            rfl
      · by_cases h3 : 4 ≤ t.val % 7
        · by_cases h4 : t.val % 7 = 6
          · rw [liveAt0_11_D t (fun h => h0 ((hcond0_0 t).mp h)) (fun h => h1 ((hcond0_1 t).mp h)) (fun h => h2 ((hcond0_2 t).mp h)) ((hcond0_3 t).mpr h3) ((hcond0_4 t).mpr h4)] at hi
            exact absurd hi Bool.false_ne_true
          · rw [outsAt0_C m c t h0 h1 h2 h3 h4]
            dsimp only
            unfold out0_C_11
            rfl
        · exfalso; omega

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 112 := lt_of_lt_of_eq t.isLt (show cfg0.N = 112 from N_0)
  rw [after0_12, after0_12]
  by_cases h0 : t.val % 112 = 0
  · by_cases h1 : t.val % 7 = 0
    · by_cases h2 : t.val % 7 ≤ 3
      · by_cases h3 : 4 ≤ t.val % 7
        · exfalso; omega
        · by_cases h4 : t.val % 7 = 6
          · exfalso; omega
          · rw [liveAt0_12_A t ((hcond0_0 t).mpr h0) ((hcond0_1 t).mpr h1) ((hcond0_2 t).mpr h2) (fun h => h3 ((hcond0_3 t).mp h)) (fun h => h4 ((hcond0_4 t).mp h))] at hi
            exact absurd hi Bool.false_ne_true
      · exfalso; omega
    · exfalso; omega
  · by_cases h1 : t.val % 7 = 0
    · by_cases h2 : t.val % 7 ≤ 3
      · by_cases h3 : 4 ≤ t.val % 7
        · exfalso; omega
        · by_cases h4 : t.val % 7 = 6
          · exfalso; omega
          · rw [outsAt0_E m c t h0 h1 h2 h3 h4]
            dsimp only
            unfold out0_E_12
            rfl
      · exfalso; omega
    · by_cases h2 : t.val % 7 ≤ 3
      · by_cases h3 : 4 ≤ t.val % 7
        · exfalso; omega
        · by_cases h4 : t.val % 7 = 6
          · exfalso; omega
          · rw [outsAt0_B m c t h0 h1 h2 h3 h4]
            dsimp only
            unfold out0_B_12
            rfl
      · by_cases h3 : 4 ≤ t.val % 7
        · by_cases h4 : t.val % 7 = 6
          · rw [liveAt0_12_D t (fun h => h0 ((hcond0_0 t).mp h)) (fun h => h1 ((hcond0_1 t).mp h)) (fun h => h2 ((hcond0_2 t).mp h)) ((hcond0_3 t).mpr h3) ((hcond0_4 t).mpr h4)] at hi
            exact absurd hi Bool.false_ne_true
          · rw [outsAt0_C m c t h0 h1 h2 h3 h4]
            dsimp only
            unfold out0_C_12
            rfl
        · exfalso; omega
theorem before0_10_D (c : Dev nD) (t : Fin cfg0.N) (h0 : ¬t.val % 112 = 0) (h1 : ¬t.val % 7 = 0) (h2 : ¬t.val % 7 ≤ 3) (h3 : 4 ≤ t.val % 7) (h4 : t.val % 7 = 6) (d) :
    (dats m 0 c).before 10 t d = (outsAt0 m c (t.val - 1) (Nat.lt_of_le_of_lt (Nat.sub_le _ _) t.isLt)).2.1 := by
  rw [Dat.before_out_traj _ 10 rfl (fun _ _ => rfl) (hcarry0_10 m c) t.val t rfl d,
    if_neg (by rw [notFresh0_10_D t (fun h => h0 ((hcond0_0 t).mp h)) (fun h => h1 ((hcond0_1 t).mp h)) (fun h => h2 ((hcond0_2 t).mp h)) ((hcond0_3 t).mpr h3) ((hcond0_4 t).mpr h4)]; exact Bool.false_ne_true)]
  dsimp only [dats]
theorem before0_11_D (c : Dev nD) (t : Fin cfg0.N) (h0 : ¬t.val % 112 = 0) (h1 : ¬t.val % 7 = 0) (h2 : ¬t.val % 7 ≤ 3) (h3 : 4 ≤ t.val % 7) (h4 : t.val % 7 = 6) (d) :
    (dats m 0 c).before 11 t d = (outsAt0 m c (t.val - 1) (Nat.lt_of_le_of_lt (Nat.sub_le _ _) t.isLt)).2.2.1 := by
  rw [Dat.before_out_traj _ 11 rfl (fun _ _ => rfl) (hcarry0_11 m c) t.val t rfl d,
    if_neg (by rw [notFresh0_11_D t (fun h => h0 ((hcond0_0 t).mp h)) (fun h => h1 ((hcond0_1 t).mp h)) (fun h => h2 ((hcond0_2 t).mp h)) ((hcond0_3 t).mpr h3) ((hcond0_4 t).mpr h4)]; exact Bool.false_ne_true)]
  dsimp only [dats]
theorem before0_12_D (c : Dev nD) (t : Fin cfg0.N) (h0 : ¬t.val % 112 = 0) (h1 : ¬t.val % 7 = 0) (h2 : ¬t.val % 7 ≤ 3) (h3 : 4 ≤ t.val % 7) (h4 : t.val % 7 = 6) (d) :
    (dats m 0 c).before 12 t d = (outsAt0 m c (t.val - 1) (Nat.lt_of_le_of_lt (Nat.sub_le _ _) t.isLt)).2.2.2.1 := by
  rw [Dat.before_out_traj _ 12 rfl (fun _ _ => rfl) (hcarry0_12 m c) t.val t rfl d,
    if_neg (by rw [notFresh0_12_D t (fun h => h0 ((hcond0_0 t).mp h)) (fun h => h1 ((hcond0_1 t).mp h)) (fun h => h2 ((hcond0_2 t).mp h)) ((hcond0_3 t).mpr h3) ((hcond0_4 t).mpr h4)]; exact Bool.false_ne_true)]
  dsimp only [dats]

end Cert.KernelIdeal.Gen

end
-- ==== Proof.IbFrame.lean ====
/-
  The body's obligation at every point, the run, and the frame.
-/
module

public import proofs.«01_k».proof.Proof.IbFrameA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 24000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 112 := lt_of_lt_of_eq t.isLt (show cfg0.N = 112 from N_0)
  by_cases h0 : t.val % 112 = 0
  · by_cases h1 : t.val % 7 = 0
    · by_cases h2 : t.val % 7 ≤ 3
      · by_cases h3 : 4 ≤ t.val % 7
        · exfalso; omega
        · by_cases h4 : t.val % 7 = 6
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [Dat.leavesExact_idle (dats m 0 c) 9 t (idleAt0_9_A t ((hcond0_0 t).mpr h0) ((hcond0_1 t).mpr h1) ((hcond0_2 t).mpr h2) (fun h => h3 ((hcond0_3 t).mp h)) (fun h => h4 ((hcond0_4 t).mp h))) (noFlush0_9_A t ((hcond0_0 t).mpr h0) ((hcond0_1 t).mpr h1) ((hcond0_2 t).mpr h2) (fun h => h3 ((hcond0_3 t).mp h)) (fun h => h4 ((hcond0_4 t).mp h)))]
            rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) ((hcond0_2 t).mpr h2) (fun h => h3 ((hcond0_3 t).mp h)) (fun h => h4 ((hcond0_4 t).mp h))], after0_10]
            rw [show (dats m 0 c).leavesExact 11 t = owns (c : Thread nD τ) (ms0_11 t) fullShare ((dats m 0 c).after 11 t) from by
      unfold Dat.leavesExact; rw [liveAt0_11_A t ((hcond0_0 t).mpr h0) ((hcond0_1 t).mpr h1) ((hcond0_2 t).mpr h2) (fun h => h3 ((hcond0_3 t).mp h)) (fun h => h4 ((hcond0_4 t).mp h))], after0_11]
            rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1) ((hcond0_2 t).mpr h2) (fun h => h3 ((hcond0_3 t).mp h)) (fun h => h4 ((hcond0_4 t).mp h))], after0_12]
            by_cases hz : t.val = 0
            · rw [PhiS_castSucc m c t, PhiS_zero m c _ _ hz, PhiA0_eq]
              rw [outsAt0_A m c t h0 h1 h2 h3 h4]
              unfold out0_A_10 out0_A_11 out0_A_12 sout0_A_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
              iapply ((kernelRun0_A c (grid0.coords t) _ _ _ _ _ _ _ _ _ _ _ _ _ _ _ _ _ _ _ _ _ _ _ _ _ _ _ _ ((hcond0_0 t).mpr h0) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t)).2.2.2.2.2 _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexists _; iexact H10
              isplitl [H11]; · iexists _; iexact H11
              isplitl [H12]; · iexists _; iexact H12
              isplitl [HS0]; · iexact HS0
              iintro ⟨H0, H1, H2, H3, H4, H5, H6, H7, H8, H9, ⟨%e10, H10⟩, ⟨%e11, H11⟩, ⟨%e12, H12⟩, ⟨%es0, HS0⟩⟩
              isplitl [HS0 Hg]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexists _; iexact H9
              isplitl [H10]
              · unfold owns; iexists _; isplitr
                swap; · iexact H10
                ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
              isplitl [H11]
              · unfold owns; iexists _; isplitr
                swap; · iexact H11
                ipureintro; exact View.read_writes_of_cover _ _ _ _ _ (cover0_A_11 c _ _ _ _ _ _ _ _ _ _ _ _ _ _ _ _ _ _ _ _ _ _ _ _ _ _ _ _ _ _ _ _ _ _ _ _ _ _ _ _ _ _ _)
              unfold owns; iexists _; isplitr
              swap; · iexact H12
              ipureintro; exact View.read_writes_of_cover _ _ _ _ _ (cover0_A_12 c _ _ _ _ _ _ _ _ _ _ _ _ _ _ _ _ _ _ _ _ _ _ _ _ _ _ _ _ _ _ _ _ _ _ _ _ _ _ _ _ _ _ _)
            · exfalso; have hN : t.val < 112 := lt_of_lt_of_eq t.isLt (show cfg0.N = 112 from N_0); omega
      · exfalso; omega
    · exfalso; omega
  · by_cases h1 : t.val % 7 = 0
    · by_cases h2 : t.val % 7 ≤ 3
      · by_cases h3 : 4 ≤ t.val % 7
        · exfalso; omega
        · by_cases h4 : t.val % 7 = 6
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [Dat.leavesExact_idle (dats m 0 c) 9 t (idleAt0_9_E t (fun h => h0 ((hcond0_0 t).mp h)) ((hcond0_1 t).mpr h1) ((hcond0_2 t).mpr h2) (fun h => h3 ((hcond0_3 t).mp h)) (fun h => h4 ((hcond0_4 t).mp h))) (noFlush0_9_E t (fun h => h0 ((hcond0_0 t).mp h)) ((hcond0_1 t).mpr h1) ((hcond0_2 t).mpr h2) (fun h => h3 ((hcond0_3 t).mp h)) (fun h => h4 ((hcond0_4 t).mp h)))]
            rw [Dat.leavesExact_idle (dats m 0 c) 10 t (idleAt0_10_E t (fun h => h0 ((hcond0_0 t).mp h)) ((hcond0_1 t).mpr h1) ((hcond0_2 t).mpr h2) (fun h => h3 ((hcond0_3 t).mp h)) (fun h => h4 ((hcond0_4 t).mp h))) (noFlush0_10_E t (fun h => h0 ((hcond0_0 t).mp h)) ((hcond0_1 t).mpr h1) ((hcond0_2 t).mpr h2) (fun h => h3 ((hcond0_3 t).mp h)) (fun h => h4 ((hcond0_4 t).mp h)))]
            rw [Dat.leavesExact_idle (dats m 0 c) 11 t (idleAt0_11_E t (fun h => h0 ((hcond0_0 t).mp h)) ((hcond0_1 t).mpr h1) ((hcond0_2 t).mpr h2) (fun h => h3 ((hcond0_3 t).mp h)) (fun h => h4 ((hcond0_4 t).mp h))) (noFlush0_11_E t (fun h => h0 ((hcond0_0 t).mp h)) ((hcond0_1 t).mpr h1) ((hcond0_2 t).mpr h2) (fun h => h3 ((hcond0_3 t).mp h)) (fun h => h4 ((hcond0_4 t).mp h)))]
            rw [Dat.leavesExact_idle (dats m 0 c) 12 t (idleAt0_12_E t (fun h => h0 ((hcond0_0 t).mp h)) ((hcond0_1 t).mpr h1) ((hcond0_2 t).mpr h2) (fun h => h3 ((hcond0_3 t).mp h)) (fun h => h4 ((hcond0_4 t).mp h))) (noFlush0_12_E t (fun h => h0 ((hcond0_0 t).mp h)) ((hcond0_1 t).mpr h1) ((hcond0_2 t).mpr h2) (fun h => h3 ((hcond0_3 t).mp h)) (fun h => h4 ((hcond0_4 t).mp h)))]
            by_cases hz : t.val = 0
            · exfalso; have hN : t.val < 112 := lt_of_lt_of_eq t.isLt (show cfg0.N = 112 from N_0); omega
            · rw [PhiS_castSucc m c t, PhiS_pos m c _ _ hz]
              rw [outsAt0_E m c t h0 h1 h2 h3 h4]
              unfold sout0_E_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
              iapply ((kernelRun0_E c (grid0.coords t) _ _ _ _ _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t)).2.2.2.2.2 _ _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [HS0]; · iexists _; iexact HS0
              iintro ⟨H0, H1, H2, H3, H4, H5, H6, H7, H8, H9, H10, H11, H12, ⟨%es0, HS0⟩⟩
              isplitl [HS0 Hg]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexists _; iexact H9
              isplitl [H10]; · iexists _; iexact H10
              isplitl [H11]; · iexists _; iexact H11
              iexists _; iexact H12
      · exfalso; omega
    · by_cases h2 : t.val % 7 ≤ 3
      · by_cases h3 : 4 ≤ t.val % 7
        · exfalso; omega
        · by_cases h4 : t.val % 7 = 6
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [Dat.leavesExact_idle (dats m 0 c) 9 t (idleAt0_9_B t (fun h => h0 ((hcond0_0 t).mp h)) (fun h => h1 ((hcond0_1 t).mp h)) ((hcond0_2 t).mpr h2) (fun h => h3 ((hcond0_3 t).mp h)) (fun h => h4 ((hcond0_4 t).mp h))) (noFlush0_9_B t (fun h => h0 ((hcond0_0 t).mp h)) (fun h => h1 ((hcond0_1 t).mp h)) ((hcond0_2 t).mpr h2) (fun h => h3 ((hcond0_3 t).mp h)) (fun h => h4 ((hcond0_4 t).mp h)))]
            rw [Dat.leavesExact_idle (dats m 0 c) 10 t (idleAt0_10_B t (fun h => h0 ((hcond0_0 t).mp h)) (fun h => h1 ((hcond0_1 t).mp h)) ((hcond0_2 t).mpr h2) (fun h => h3 ((hcond0_3 t).mp h)) (fun h => h4 ((hcond0_4 t).mp h))) (noFlush0_10_B t (fun h => h0 ((hcond0_0 t).mp h)) (fun h => h1 ((hcond0_1 t).mp h)) ((hcond0_2 t).mpr h2) (fun h => h3 ((hcond0_3 t).mp h)) (fun h => h4 ((hcond0_4 t).mp h)))]
            rw [Dat.leavesExact_idle (dats m 0 c) 11 t (idleAt0_11_B t (fun h => h0 ((hcond0_0 t).mp h)) (fun h => h1 ((hcond0_1 t).mp h)) ((hcond0_2 t).mpr h2) (fun h => h3 ((hcond0_3 t).mp h)) (fun h => h4 ((hcond0_4 t).mp h))) (noFlush0_11_B t (fun h => h0 ((hcond0_0 t).mp h)) (fun h => h1 ((hcond0_1 t).mp h)) ((hcond0_2 t).mpr h2) (fun h => h3 ((hcond0_3 t).mp h)) (fun h => h4 ((hcond0_4 t).mp h)))]
            rw [Dat.leavesExact_idle (dats m 0 c) 12 t (idleAt0_12_B t (fun h => h0 ((hcond0_0 t).mp h)) (fun h => h1 ((hcond0_1 t).mp h)) ((hcond0_2 t).mpr h2) (fun h => h3 ((hcond0_3 t).mp h)) (fun h => h4 ((hcond0_4 t).mp h))) (noFlush0_12_B t (fun h => h0 ((hcond0_0 t).mp h)) (fun h => h1 ((hcond0_1 t).mp h)) ((hcond0_2 t).mpr h2) (fun h => h3 ((hcond0_3 t).mp h)) (fun h => h4 ((hcond0_4 t).mp h)))]
            by_cases hz : t.val = 0
            · exfalso; have hN : t.val < 112 := lt_of_lt_of_eq t.isLt (show cfg0.N = 112 from N_0); omega
            · rw [PhiS_castSucc m c t, PhiS_pos m c _ _ hz]
              rw [outsAt0_B m c t h0 h1 h2 h3 h4]
              unfold sout0_B_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
              iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) _).2.2.2.2.2 _ _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [HS0]; · iexact HS0
              iintro ⟨H0, H1, H2, H3, H4, H5, H6, H7, H8, H9, H10, H11, H12, ⟨%es0, HS0⟩⟩
              isplitl [HS0 Hg]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexists _; iexact H9
              isplitl [H10]; · iexists _; iexact H10
              isplitl [H11]; · iexists _; iexact H11
              iexists _; iexact H12
      · by_cases h3 : 4 ≤ t.val % 7
        · by_cases h4 : t.val % 7 = 6
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9_D t (fun h => h0 ((hcond0_0 t).mp h)) (fun h => h1 ((hcond0_1 t).mp h)) (fun h => h2 ((hcond0_2 t).mp h)) ((hcond0_3 t).mpr h3) ((hcond0_4 t).mpr h4)], after0_9]
            rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) (fun h => h2 ((hcond0_2 t).mp h)) ((hcond0_3 t).mpr h3) ((hcond0_4 t).mpr h4)], after0_10]
            rw [show (dats m 0 c).leavesExact 11 t = owns (c : Thread nD τ) (ms0_11 t) fullShare ((dats m 0 c).after 11 t) from by
      unfold Dat.leavesExact; rw [liveAt0_11_D t (fun h => h0 ((hcond0_0 t).mp h)) (fun h => h1 ((hcond0_1 t).mp h)) (fun h => h2 ((hcond0_2 t).mp h)) ((hcond0_3 t).mpr h3) ((hcond0_4 t).mpr h4)], after0_11]
            rw [show (dats m 0 c).leavesExact 12 t = owns (c : Thread nD τ) (ms0_12 t) fullShare ((dats m 0 c).after 12 t) from by
      unfold Dat.leavesExact; rw [liveAt0_12_D t (fun h => h0 ((hcond0_0 t).mp h)) (fun h => h1 ((hcond0_1 t).mp h)) (fun h => h2 ((hcond0_2 t).mp h)) ((hcond0_3 t).mpr h3) ((hcond0_4 t).mpr h4)], after0_12]
            by_cases hz : t.val = 0
            · exfalso; have hN : t.val < 112 := lt_of_lt_of_eq t.isLt (show cfg0.N = 112 from N_0); omega
            · rw [PhiS_castSucc m c t, PhiS_pos m c _ _ hz]
              rw [outsAt0_D m c t h0 h1 h2 h3 h4]
              simp only [before0_10_D m c t h0 h1 h2 h3 h4, before0_11_D m c t h0 h1 h2 h3 h4, before0_12_D m c t h0 h1 h2 h3 h4]
              unfold out0_D_9 out0_D_10 out0_D_11 out0_D_12 sout0_D_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
              iapply ((kernelRun0_D c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (iblk m c 5 t) (iblk m c 6 t) (iblk m c 7 t) (iblk m c 8 t) _ _ _ _).2.2.2.2.2 Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexists _; iexact H9
              isplitl [H10]; · iexact H10
              isplitl [H11]; · iexact H11
              isplitl [H12]; · iexact H12
              isplitl [HS0]; · iexact HS0
              iintro ⟨H0, H1, H2, H3, H4, H5, H6, H7, H8, ⟨%e9, H9⟩, ⟨%e10, H10⟩, ⟨%e11, H11⟩, ⟨%e12, H12⟩, ⟨%es0, HS0⟩⟩
              isplitl [HS0 Hg]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]
              · unfold owns; iexists _; isplitr
                swap; · iexact H9
                ipureintro; exact View.read_writes_of_cover _ _ _ _ _ (cover0_D_9 c _ _ _ _ _ _ _ _ _ _ _ _ _ _ _ _ _ _ _ _ _ _ _ _ _ _ _ _ _ _ _ _ _ _ _ _ _ _ _ _ _ _ _ _ _ _ _)
              isplitl [H10]
              · unfold owns; iexists _; isplitr
                swap; · iexact H10
                ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _)
              isplitl [H11]
              · unfold owns; iexists _; isplitr
                swap; · iexact H11
                ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _)
              unfold owns; iexists _; isplitr
              swap; · iexact H12
              ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [Dat.leavesExact_idle (dats m 0 c) 9 t (idleAt0_9_C t (fun h => h0 ((hcond0_0 t).mp h)) (fun h => h1 ((hcond0_1 t).mp h)) (fun h => h2 ((hcond0_2 t).mp h)) ((hcond0_3 t).mpr h3) (fun h => h4 ((hcond0_4 t).mp h))) (noFlush0_9_C t (fun h => h0 ((hcond0_0 t).mp h)) (fun h => h1 ((hcond0_1 t).mp h)) (fun h => h2 ((hcond0_2 t).mp h)) ((hcond0_3 t).mpr h3) (fun h => h4 ((hcond0_4 t).mp h)))]
            rw [Dat.leavesExact_idle (dats m 0 c) 10 t (idleAt0_10_C t (fun h => h0 ((hcond0_0 t).mp h)) (fun h => h1 ((hcond0_1 t).mp h)) (fun h => h2 ((hcond0_2 t).mp h)) ((hcond0_3 t).mpr h3) (fun h => h4 ((hcond0_4 t).mp h))) (noFlush0_10_C t (fun h => h0 ((hcond0_0 t).mp h)) (fun h => h1 ((hcond0_1 t).mp h)) (fun h => h2 ((hcond0_2 t).mp h)) ((hcond0_3 t).mpr h3) (fun h => h4 ((hcond0_4 t).mp h)))]
            rw [Dat.leavesExact_idle (dats m 0 c) 11 t (idleAt0_11_C t (fun h => h0 ((hcond0_0 t).mp h)) (fun h => h1 ((hcond0_1 t).mp h)) (fun h => h2 ((hcond0_2 t).mp h)) ((hcond0_3 t).mpr h3) (fun h => h4 ((hcond0_4 t).mp h))) (noFlush0_11_C t (fun h => h0 ((hcond0_0 t).mp h)) (fun h => h1 ((hcond0_1 t).mp h)) (fun h => h2 ((hcond0_2 t).mp h)) ((hcond0_3 t).mpr h3) (fun h => h4 ((hcond0_4 t).mp h)))]
            rw [Dat.leavesExact_idle (dats m 0 c) 12 t (idleAt0_12_C t (fun h => h0 ((hcond0_0 t).mp h)) (fun h => h1 ((hcond0_1 t).mp h)) (fun h => h2 ((hcond0_2 t).mp h)) ((hcond0_3 t).mpr h3) (fun h => h4 ((hcond0_4 t).mp h))) (noFlush0_12_C t (fun h => h0 ((hcond0_0 t).mp h)) (fun h => h1 ((hcond0_1 t).mp h)) (fun h => h2 ((hcond0_2 t).mp h)) ((hcond0_3 t).mpr h3) (fun h => h4 ((hcond0_4 t).mp h)))]
            by_cases hz : t.val = 0
            · exfalso; have hN : t.val < 112 := lt_of_lt_of_eq t.isLt (show cfg0.N = 112 from N_0); omega
            · rw [PhiS_castSucc m c t, PhiS_pos m c _ _ hz]
              rw [outsAt0_C m c t h0 h1 h2 h3 h4]
              unfold sout0_C_0; (try dsimp only)
              iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
              iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (iblk m c 5 t) (iblk m c 6 t) (iblk m c 7 t) (iblk m c 8 t) _).2.2.2.2.2 _ _ _ _ Set.univ _)
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexact H9
              isplitl [H10]; · iexact H10
              isplitl [H11]; · iexact H11
              isplitl [H12]; · iexact H12
              isplitl [HS0]; · iexact HS0
              iintro ⟨H0, H1, H2, H3, H4, H5, H6, H7, H8, H9, H10, H11, H12, ⟨%es0, HS0⟩⟩
              isplitl [HS0 Hg]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _)
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              isplitl [H8]; · iexact H8
              isplitl [H9]; · iexists _; iexact H9
              isplitl [H10]; · iexists _; iexact H10
              isplitl [H11]; · iexists _; iexact H11
              iexists _; iexact H12
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 112 := N_0; omega)

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.IbRun.lean ====
/-
  The arrays after the run, as the fold over the points read where each block is written back.
-/
module

public import proofs.«01_k».proof.Proof.IbFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v21_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v21_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v21_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v21_3) = (dats m 0 c).arrAt 12 cfg0.N :=
  (h c).1 12

/-- After the frame run, argument `main_arg0` is as launched: input window 5 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 5).trans (((dats m 0 c).arrAt_in 5 rfl _).trans ((A_eq m c 5).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 8 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 8).trans (((dats m 0 c).arrAt_in 8 rfl _).trans ((A_eq m c 8).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v21_0) = (dats m 0 c).arrAt 9 cfg0.N
      ∧ r.2.mem ((c : Thread nD τ).loc main_v21_1) = (dats m 0 c).arrAt 10 cfg0.N
      ∧ r.2.mem ((c : Thread nD τ).loc main_v21_2) = (dats m 0 c).arrAt 11 cfg0.N
      ∧ r.2.mem ((c : Thread nD τ).loc main_v21_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c⟩)
    (run_main m ρ)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (Nat.zero_mod _) (by (try dsimp only) <;> omega) (fun h => by (try dsimp only at h); omega) (fun h => by (try dsimp only at h); omega)]
  rfl

theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 112 from N_0)
  have e := Pipeline.eq_accAt_of_mod (fun n h => outsAt0 m c n h) 112 (fun n h => stAt0 m c n h junk0) (stAt0 m c)
    (fun n h _ => by
      have hN := lt_of_lt_of_eq h (show cfg0.N = 112 from N_0)
      obtain rfl : n = 0 := by omega
      exact outsAt0_zero m c h)
    (fun n h _ => outsAt0_succ m c n h)
    (by decide) n hn (by have := Nat.div_add_mod n 112; omega)
  have hd : n / 112 = 0 := Nat.div_eq_of_lt hN
  have hm : n % 112 = n := Nat.mod_eq_of_lt hN
  simpa only [hd, hm, Nat.mul_zero] using e

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

abbrev run9Of (i : S8192x2048.Idx) : ℕ := 1 * ((i 0).val / 512 - 0) + 1 * ((i 1).val / 2048 - 0)
set_option backward.proofsInPublic true in
abbrev loc9Of (i : S8192x2048.Idx) : S512x2048.Idx := fun a => match a with
  | ⟨0, _⟩ => ⟨(i 0).val % 512, Nat.mod_lt _ (by decide)⟩
  | ⟨1, _⟩ => ⟨(i 1).val % 2048, Nat.mod_lt _ (by decide)⟩
abbrev pt9Of (i : S8192x2048.Idx) : ℕ := 7 * run9Of i + 6

def G9 (c : Dev nD) : Buf (Elt F) ((c : Thread nD τ).loc main_v21_0) := fun i =>
  if h : pt9Of i < cfg0.N then
    (Pipeline.accAt (fun n h => stAt0 m c n h junk0) (stAt0 m c) 0 (pt9Of i) (by omega)).1 (loc9Of i)
  else V m c (Pipeline.arrRef spec0 9) i

theorem idx_facts9 : ∀ t : Fin cfg0.N, 0 ≤ win0_9.index t (0 : Fin 2) ∧ win0_9.index t (0 : Fin 2) ≤ 15
    ∧ 0 ≤ win0_9.index t (1 : Fin 2) ∧ win0_9.index t (1 : Fin 2) ≤ 0
    ∧ 1 * (win0_9.index t (0 : Fin 2) - 0) + 1 * (win0_9.index t (1 : Fin 2) - 0) = t.val / 7 :=
  (by decide +kernel : ∀ t : Fin grid0.N, _)

/-- Every block of the box is SOME flushing point's: `onto9Pt`, the point that writes back the block at place `q` of the box (the last point of its run). -/
abbrev onto9Pt (q0 : Fin 16) (q1 : Fin 1) : Fin grid0.N :=
  ⟨7 * (1 * q0.val + 1 * q1.val) + 6, lt_of_lt_of_eq (by omega) N_0.symm⟩
theorem idx_onto9 : ∀ (q0 : Fin 16) (q1 : Fin 1), ∃ t : Fin cfg0.N, (cfg0.win 9).flush t = true ∧ win0_9.index t = ![q0.val + 0, q1.val + 0] :=
  fun q0 q1 => ⟨onto9Pt q0 q1, (by decide +kernel : ∀ (q0 : Fin 16) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  have hm : t.val % 7 = 6 := (flush0_9 t).mp hf
  obtain ⟨e0, e1, e2⟩ := idx_facts9 t
  funext y
  have hy0 : (y 0).val < 512 := (y 0).isLt
  have hy1 : (y 1).val < 2048 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 2048 + 1 * (y 1).val := rfl
  have hr : run9Of (((cfg0.win 9).blk t).view.emb y) = t.val / 7 := by
    show 1 * ((((cfg0.win 9).blk t).view.emb y 0).val / 512 - 0) + 1 * ((((cfg0.win 9).blk t).view.emb y 1).val / 2048 - 0) = _
    rw [hb0, hb1]
    rw [show (win0_9.index t (0 : Fin 2) * 512 + 1 * (y 0).val) / 512 = win0_9.index t (0 : Fin 2) from by omega]; rw [show (win0_9.index t (1 : Fin 2) * 2048 + 1 * (y 1).val) / 2048 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 512 = (y 0).val; rw [hb0]; omega
    | ⟨1, _⟩ => show (((cfg0.win 9).blk t).view.emb y 1).val % 2048 = (y 1).val; rw [hb1]; omega
  have hp : pt9Of (((cfg0.win 9).blk t).view.emb y) = t.val := by
    show 7 * run9Of (((cfg0.win 9).blk t).view.emb y) + 6 = _
    rw [hr]; have := Nat.div_add_mod t.val 7; omega
  show (Pipeline.accAt (fun n h => stAt0 m c n h junk0) (stAt0 m c) 0 t.val _).1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S8192x2048.Idx) :
    i ∈ ((cfg0.win 9).blk t).view.set ↔ ∀ a : Fin 2, win0_9.index t a * S512x2048.size a ≤ (i a).val ∧ (i a).val < win0_9.index t a * S512x2048.size a + S512x2048.size a := by
  show i ∈ ((View.whole main_v21_0).slice (win0_9.rect t)).set ↔ _
  rw [View.set_slice_whole, Rect.mem_set_unit]
  exact Iff.rfl

/-- THE COVERED INDICES: in some flushing point's block iff inside the box those blocks fill. -/
theorem covered_iff9 (i : S8192x2048.Idx) :
    (∃ t : Fin cfg0.N, (cfg0.win 9).flush t = true ∧ i ∈ ((cfg0.win 9).blk t).view.set) ↔ 0 ≤ (i 0).val ∧ (i 0).val < 8192 ∧ 0 ≤ (i 1).val ∧ (i 1).val < 2048 := by
  constructor
  · rintro ⟨t, -, hi⟩
    rw [mem_blk9] at hi
    have b0 : win0_9.index t (0 : Fin 2) * 512 ≤ (i 0).val ∧ (i 0).val < win0_9.index t (0 : Fin 2) * 512 + 512 := hi 0
    have b1 : win0_9.index t (1 : Fin 2) * 2048 ≤ (i 1).val ∧ (i 1).val < win0_9.index t (1 : Fin 2) * 2048 + 2048 := hi 1
    obtain ⟨e0, e1, e2⟩ := idx_facts9 t
    omega
  · intro h
    have hi0 : (i 0).val < 8192 := (i 0).isLt
    have hi1 : (i 1).val < 2048 := (i 1).isLt
    obtain ⟨t, hft, ht⟩ := idx_onto9 ⟨(i 0).val / 512 - 0, by omega⟩ ⟨(i 1).val / 2048 - 0, by omega⟩
    have q0 : win0_9.index t (0 : Fin 2) = (i 0).val / 512 - 0 + 0 := congrFun ht 0
    have q1 : win0_9.index t (1 : Fin 2) = (i 1).val / 2048 - 0 + 0 := congrFun ht 1
    refine ⟨t, hft, ?_⟩
    rw [mem_blk9]
    intro a
    match a with
    | ⟨0, _⟩ => show win0_9.index t (0 : Fin 2) * 512 ≤ (i 0).val ∧ (i 0).val < win0_9.index t (0 : Fin 2) * 512 + 512; omega
    | ⟨1, _⟩ => show win0_9.index t (1 : Fin 2) * 2048 ≤ (i 1).val ∧ (i 1).val < win0_9.index t (1 : Fin 2) * 2048 + 2048; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 8192 := (i 0).isLt; have h1 : (i 1).val < 2048 := (i 1).isLt; omega))

abbrev run10Of (i : S1x2048.Idx) : ℕ := 1 * ((i 0).val / 1 - 0) + 1 * ((i 1).val / 2048 - 0)
set_option backward.proofsInPublic true in
abbrev loc10Of (i : S1x2048.Idx) : S1x2048.Idx := fun a => match a with
  | ⟨0, _⟩ => ⟨(i 0).val % 1, Nat.mod_lt _ (by decide)⟩
  | ⟨1, _⟩ => ⟨(i 1).val % 2048, Nat.mod_lt _ (by decide)⟩
abbrev pt10Of (i : S1x2048.Idx) : ℕ := 112 * run10Of i + 111

def G10 (c : Dev nD) : Buf (Elt F) ((c : Thread nD τ).loc main_v21_1) := fun i =>
  if h : pt10Of i < cfg0.N then
    (Pipeline.accAt (fun n h => stAt0 m c n h junk0) (stAt0 m c) 0 (pt10Of i) (by omega)).2.1 (loc10Of i)
  else V m c (Pipeline.arrRef spec0 10) i

theorem idx_facts10 : ∀ t : Fin cfg0.N, 0 ≤ win0_10.index t (0 : Fin 2) ∧ win0_10.index t (0 : Fin 2) ≤ 0
    ∧ 0 ≤ win0_10.index t (1 : Fin 2) ∧ win0_10.index t (1 : Fin 2) ≤ 0
    ∧ 1 * (win0_10.index t (0 : Fin 2) - 0) + 1 * (win0_10.index t (1 : Fin 2) - 0) = t.val / 112 :=
  (by decide +kernel : ∀ t : Fin grid0.N, _)

/-- Every block of the box is SOME flushing point's: `onto10Pt`, the point that writes back the block at place `q` of the box (the last point of its run). -/
abbrev onto10Pt (q0 : Fin 1) (q1 : Fin 1) : Fin grid0.N :=
  ⟨112 * (1 * q0.val + 1 * q1.val) + 111, lt_of_lt_of_eq (by omega) N_0.symm⟩
theorem idx_onto10 : ∀ (q0 : Fin 1) (q1 : Fin 1), ∃ t : Fin cfg0.N, (cfg0.win 10).flush t = true ∧ win0_10.index t = ![q0.val + 0, q1.val + 0] :=
  fun q0 q1 => ⟨onto10Pt q0 q1, (by decide +kernel : ∀ (q0 : Fin 1) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  have hm : t.val % 112 = 111 := (flush0_10 t).mp hf
  obtain ⟨e0, e1, e2⟩ := idx_facts10 t
  funext y
  have hy0 : (y 0).val < 1 := (y 0).isLt
  have hy1 : (y 1).val < 2048 := (y 1).isLt
  have hb0 : (((cfg0.win 10).blk t).view.emb y 0).val = win0_10.index t (0 : Fin 2) * 1 + 1 * (y 0).val := rfl
  have hb1 : (((cfg0.win 10).blk t).view.emb y 1).val = win0_10.index t (1 : Fin 2) * 2048 + 1 * (y 1).val := rfl
  have hr : run10Of (((cfg0.win 10).blk t).view.emb y) = t.val / 112 := by
    show 1 * ((((cfg0.win 10).blk t).view.emb y 0).val / 1 - 0) + 1 * ((((cfg0.win 10).blk t).view.emb y 1).val / 2048 - 0) = _
    rw [hb0, hb1]
    rw [show (win0_10.index t (0 : Fin 2) * 1 + 1 * (y 0).val) / 1 = win0_10.index t (0 : Fin 2) from by omega]; rw [show (win0_10.index t (1 : Fin 2) * 2048 + 1 * (y 1).val) / 2048 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 1 = (y 0).val; rw [hb0]; omega
    | ⟨1, _⟩ => show (((cfg0.win 10).blk t).view.emb y 1).val % 2048 = (y 1).val; rw [hb1]; omega
  have hp : pt10Of (((cfg0.win 10).blk t).view.emb y) = t.val := by
    show 112 * run10Of (((cfg0.win 10).blk t).view.emb y) + 111 = _
    rw [hr]; have := Nat.div_add_mod t.val 112; omega
  show (Pipeline.accAt (fun n h => stAt0 m c n h junk0) (stAt0 m c) 0 t.val _).2.1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S1x2048.Idx) :
    i ∈ ((cfg0.win 10).blk t).view.set ↔ ∀ a : Fin 2, win0_10.index t a * S1x2048.size a ≤ (i a).val ∧ (i a).val < win0_10.index t a * S1x2048.size a + S1x2048.size a := by
  show i ∈ ((View.whole main_v21_1).slice (win0_10.rect t)).set ↔ _
  rw [View.set_slice_whole, Rect.mem_set_unit]
  exact Iff.rfl

/-- THE COVERED INDICES: in some flushing point's block iff inside the box those blocks fill. -/
theorem covered_iff10 (i : S1x2048.Idx) :
    (∃ t : Fin cfg0.N, (cfg0.win 10).flush t = true ∧ i ∈ ((cfg0.win 10).blk t).view.set) ↔ 0 ≤ (i 0).val ∧ (i 0).val < 1 ∧ 0 ≤ (i 1).val ∧ (i 1).val < 2048 := by
  constructor
  · rintro ⟨t, -, hi⟩
    rw [mem_blk10] at hi
    have b0 : win0_10.index t (0 : Fin 2) * 1 ≤ (i 0).val ∧ (i 0).val < win0_10.index t (0 : Fin 2) * 1 + 1 := hi 0
    have b1 : win0_10.index t (1 : Fin 2) * 2048 ≤ (i 1).val ∧ (i 1).val < win0_10.index t (1 : Fin 2) * 2048 + 2048 := hi 1
    obtain ⟨e0, e1, e2⟩ := idx_facts10 t
    omega
  · intro h
    have hi0 : (i 0).val < 1 := (i 0).isLt
    have hi1 : (i 1).val < 2048 := (i 1).isLt
    obtain ⟨t, hft, ht⟩ := idx_onto10 ⟨(i 0).val / 1 - 0, by omega⟩ ⟨(i 1).val / 2048 - 0, by omega⟩
    have q0 : win0_10.index t (0 : Fin 2) = (i 0).val / 1 - 0 + 0 := congrFun ht 0
    have q1 : win0_10.index t (1 : Fin 2) = (i 1).val / 2048 - 0 + 0 := congrFun ht 1
    refine ⟨t, hft, ?_⟩
    rw [mem_blk10]
    intro a
    match a with
    | ⟨0, _⟩ => show win0_10.index t (0 : Fin 2) * 1 ≤ (i 0).val ∧ (i 0).val < win0_10.index t (0 : Fin 2) * 1 + 1; omega
    | ⟨1, _⟩ => show win0_10.index t (1 : Fin 2) * 2048 ≤ (i 1).val ∧ (i 1).val < win0_10.index t (1 : Fin 2) * 2048 + 2048; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 1 := (i 0).isLt; have h1 : (i 1).val < 2048 := (i 1).isLt; omega))

theorem G10_last (c : Dev nD) :
    G10 m c = (Pipeline.accAt (fun n h => stAt0 m c n h junk0) (stAt0 m c) 0 111 (lt_of_lt_of_eq (by decide) N_0.symm)).2.1 := by
  funext i
  have hi0 : (i 0).val < 1 := (i 0).isLt
  have hi1 : (i 1).val < 2048 := (i 1).isLt
  have hp : pt10Of i = 111 := by
    show 112 * (1 * ((i 0).val / 1 - 0) + 1 * ((i 1).val / 2048 - 0)) + 111 = _
    omega
  have hl : loc10Of i = i := by
    funext a; apply Fin.ext
    match a with
    | ⟨0, _⟩ => show (i 0).val % 1 = (i 0).val; omega
    | ⟨1, _⟩ => show (i 1).val % 2048 = (i 1).val; omega
  unfold G10
  rw [dif_pos (by rw [hp]; exact lt_of_lt_of_eq (by decide) N_0.symm), hl, fold0_congr m c _ _ _ _ hp]

abbrev run11Of (i : S1x2048.Idx) : ℕ := 1 * ((i 0).val / 1 - 0) + 1 * ((i 1).val / 2048 - 0)
set_option backward.proofsInPublic true in
abbrev loc11Of (i : S1x2048.Idx) : S1x2048.Idx := fun a => match a with
  | ⟨0, _⟩ => ⟨(i 0).val % 1, Nat.mod_lt _ (by decide)⟩
  | ⟨1, _⟩ => ⟨(i 1).val % 2048, Nat.mod_lt _ (by decide)⟩
abbrev pt11Of (i : S1x2048.Idx) : ℕ := 112 * run11Of i + 111

def G11 (c : Dev nD) : Buf (Elt F) ((c : Thread nD τ).loc main_v21_2) := fun i =>
  if h : pt11Of i < cfg0.N then
    (Pipeline.accAt (fun n h => stAt0 m c n h junk0) (stAt0 m c) 0 (pt11Of i) (by omega)).2.2.1 (loc11Of i)
  else V m c (Pipeline.arrRef spec0 11) i

theorem idx_facts11 : ∀ t : Fin cfg0.N, 0 ≤ win0_11.index t (0 : Fin 2) ∧ win0_11.index t (0 : Fin 2) ≤ 0
    ∧ 0 ≤ win0_11.index t (1 : Fin 2) ∧ win0_11.index t (1 : Fin 2) ≤ 0
    ∧ 1 * (win0_11.index t (0 : Fin 2) - 0) + 1 * (win0_11.index t (1 : Fin 2) - 0) = t.val / 112 :=
  (by decide +kernel : ∀ t : Fin grid0.N, _)

/-- Every block of the box is SOME flushing point's: `onto11Pt`, the point that writes back the block at place `q` of the box (the last point of its run). -/
abbrev onto11Pt (q0 : Fin 1) (q1 : Fin 1) : Fin grid0.N :=
  ⟨112 * (1 * q0.val + 1 * q1.val) + 111, lt_of_lt_of_eq (by omega) N_0.symm⟩
theorem idx_onto11 : ∀ (q0 : Fin 1) (q1 : Fin 1), ∃ t : Fin cfg0.N, (cfg0.win 11).flush t = true ∧ win0_11.index t = ![q0.val + 0, q1.val + 0] :=
  fun q0 q1 => ⟨onto11Pt q0 q1, (by decide +kernel : ∀ (q0 : Fin 1) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  have hm : t.val % 112 = 111 := (flush0_11 t).mp hf
  obtain ⟨e0, e1, e2⟩ := idx_facts11 t
  funext y
  have hy0 : (y 0).val < 1 := (y 0).isLt
  have hy1 : (y 1).val < 2048 := (y 1).isLt
  have hb0 : (((cfg0.win 11).blk t).view.emb y 0).val = win0_11.index t (0 : Fin 2) * 1 + 1 * (y 0).val := rfl
  have hb1 : (((cfg0.win 11).blk t).view.emb y 1).val = win0_11.index t (1 : Fin 2) * 2048 + 1 * (y 1).val := rfl
  have hr : run11Of (((cfg0.win 11).blk t).view.emb y) = t.val / 112 := by
    show 1 * ((((cfg0.win 11).blk t).view.emb y 0).val / 1 - 0) + 1 * ((((cfg0.win 11).blk t).view.emb y 1).val / 2048 - 0) = _
    rw [hb0, hb1]
    rw [show (win0_11.index t (0 : Fin 2) * 1 + 1 * (y 0).val) / 1 = win0_11.index t (0 : Fin 2) from by omega]; rw [show (win0_11.index t (1 : Fin 2) * 2048 + 1 * (y 1).val) / 2048 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 1 = (y 0).val; rw [hb0]; omega
    | ⟨1, _⟩ => show (((cfg0.win 11).blk t).view.emb y 1).val % 2048 = (y 1).val; rw [hb1]; omega
  have hp : pt11Of (((cfg0.win 11).blk t).view.emb y) = t.val := by
    show 112 * run11Of (((cfg0.win 11).blk t).view.emb y) + 111 = _
    rw [hr]; have := Nat.div_add_mod t.val 112; omega
  show (Pipeline.accAt (fun n h => stAt0 m c n h junk0) (stAt0 m c) 0 t.val _).2.2.1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S1x2048.Idx) :
    i ∈ ((cfg0.win 11).blk t).view.set ↔ ∀ a : Fin 2, win0_11.index t a * S1x2048.size a ≤ (i a).val ∧ (i a).val < win0_11.index t a * S1x2048.size a + S1x2048.size a := by
  show i ∈ ((View.whole main_v21_2).slice (win0_11.rect t)).set ↔ _
  rw [View.set_slice_whole, Rect.mem_set_unit]
  exact Iff.rfl

/-- THE COVERED INDICES: in some flushing point's block iff inside the box those blocks fill. -/
theorem covered_iff11 (i : S1x2048.Idx) :
    (∃ t : Fin cfg0.N, (cfg0.win 11).flush t = true ∧ i ∈ ((cfg0.win 11).blk t).view.set) ↔ 0 ≤ (i 0).val ∧ (i 0).val < 1 ∧ 0 ≤ (i 1).val ∧ (i 1).val < 2048 := by
  constructor
  · rintro ⟨t, -, hi⟩
    rw [mem_blk11] at hi
    have b0 : win0_11.index t (0 : Fin 2) * 1 ≤ (i 0).val ∧ (i 0).val < win0_11.index t (0 : Fin 2) * 1 + 1 := hi 0
    have b1 : win0_11.index t (1 : Fin 2) * 2048 ≤ (i 1).val ∧ (i 1).val < win0_11.index t (1 : Fin 2) * 2048 + 2048 := hi 1
    obtain ⟨e0, e1, e2⟩ := idx_facts11 t
    omega
  · intro h
    have hi0 : (i 0).val < 1 := (i 0).isLt
    have hi1 : (i 1).val < 2048 := (i 1).isLt
    obtain ⟨t, hft, ht⟩ := idx_onto11 ⟨(i 0).val / 1 - 0, by omega⟩ ⟨(i 1).val / 2048 - 0, by omega⟩
    have q0 : win0_11.index t (0 : Fin 2) = (i 0).val / 1 - 0 + 0 := congrFun ht 0
    have q1 : win0_11.index t (1 : Fin 2) = (i 1).val / 2048 - 0 + 0 := congrFun ht 1
    refine ⟨t, hft, ?_⟩
    rw [mem_blk11]
    intro a
    match a with
    | ⟨0, _⟩ => show win0_11.index t (0 : Fin 2) * 1 ≤ (i 0).val ∧ (i 0).val < win0_11.index t (0 : Fin 2) * 1 + 1; omega
    | ⟨1, _⟩ => show win0_11.index t (1 : Fin 2) * 2048 ≤ (i 1).val ∧ (i 1).val < win0_11.index t (1 : Fin 2) * 2048 + 2048; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 1 := (i 0).isLt; have h1 : (i 1).val < 2048 := (i 1).isLt; omega))

theorem G11_last (c : Dev nD) :
    G11 m c = (Pipeline.accAt (fun n h => stAt0 m c n h junk0) (stAt0 m c) 0 111 (lt_of_lt_of_eq (by decide) N_0.symm)).2.2.1 := by
  funext i
  have hi0 : (i 0).val < 1 := (i 0).isLt
  have hi1 : (i 1).val < 2048 := (i 1).isLt
  have hp : pt11Of i = 111 := by
    show 112 * (1 * ((i 0).val / 1 - 0) + 1 * ((i 1).val / 2048 - 0)) + 111 = _
    omega
  have hl : loc11Of i = i := by
    funext a; apply Fin.ext
    match a with
    | ⟨0, _⟩ => show (i 0).val % 1 = (i 0).val; omega
    | ⟨1, _⟩ => show (i 1).val % 2048 = (i 1).val; omega
  unfold G11
  rw [dif_pos (by rw [hp]; exact lt_of_lt_of_eq (by decide) N_0.symm), hl, fold0_congr m c _ _ _ _ hp]

abbrev run12Of (i : S1x2048.Idx) : ℕ := 1 * ((i 0).val / 1 - 0) + 1 * ((i 1).val / 2048 - 0)
set_option backward.proofsInPublic true in
abbrev loc12Of (i : S1x2048.Idx) : S1x2048.Idx := fun a => match a with
  | ⟨0, _⟩ => ⟨(i 0).val % 1, Nat.mod_lt _ (by decide)⟩
  | ⟨1, _⟩ => ⟨(i 1).val % 2048, Nat.mod_lt _ (by decide)⟩
abbrev pt12Of (i : S1x2048.Idx) : ℕ := 112 * run12Of i + 111

def G12 (c : Dev nD) : Buf (Elt F) ((c : Thread nD τ).loc main_v21_3) := fun i =>
  if h : pt12Of i < cfg0.N then
    (Pipeline.accAt (fun n h => stAt0 m c n h junk0) (stAt0 m c) 0 (pt12Of i) (by omega)).2.2.2.1 (loc12Of i)
  else V m c (Pipeline.arrRef spec0 12) i

theorem idx_facts12 : ∀ t : Fin cfg0.N, 0 ≤ win0_12.index t (0 : Fin 2) ∧ win0_12.index t (0 : Fin 2) ≤ 0
    ∧ 0 ≤ win0_12.index t (1 : Fin 2) ∧ win0_12.index t (1 : Fin 2) ≤ 0
    ∧ 1 * (win0_12.index t (0 : Fin 2) - 0) + 1 * (win0_12.index t (1 : Fin 2) - 0) = t.val / 112 :=
  (by decide +kernel : ∀ t : Fin grid0.N, _)

/-- Every block of the box is SOME flushing point's: `onto12Pt`, the point that writes back the block at place `q` of the box (the last point of its run). -/
abbrev onto12Pt (q0 : Fin 1) (q1 : Fin 1) : Fin grid0.N :=
  ⟨112 * (1 * q0.val + 1 * q1.val) + 111, lt_of_lt_of_eq (by omega) N_0.symm⟩
theorem idx_onto12 : ∀ (q0 : Fin 1) (q1 : Fin 1), ∃ t : Fin cfg0.N, (cfg0.win 12).flush t = true ∧ win0_12.index t = ![q0.val + 0, q1.val + 0] :=
  fun q0 q1 => ⟨onto12Pt q0 q1, (by decide +kernel : ∀ (q0 : Fin 1) (q1 : Fin 1), win0_12.flush (onto12Pt q0 q1) = true ∧ win0_12.index (onto12Pt q0 q1) = ![q0.val + 0, q1.val + 0]) q0 q1⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12, outsAt0_sweep]
  have hm : t.val % 112 = 111 := (flush0_12 t).mp hf
  obtain ⟨e0, e1, e2⟩ := idx_facts12 t
  funext y
  have hy0 : (y 0).val < 1 := (y 0).isLt
  have hy1 : (y 1).val < 2048 := (y 1).isLt
  have hb0 : (((cfg0.win 12).blk t).view.emb y 0).val = win0_12.index t (0 : Fin 2) * 1 + 1 * (y 0).val := rfl
  have hb1 : (((cfg0.win 12).blk t).view.emb y 1).val = win0_12.index t (1 : Fin 2) * 2048 + 1 * (y 1).val := rfl
  have hr : run12Of (((cfg0.win 12).blk t).view.emb y) = t.val / 112 := by
    show 1 * ((((cfg0.win 12).blk t).view.emb y 0).val / 1 - 0) + 1 * ((((cfg0.win 12).blk t).view.emb y 1).val / 2048 - 0) = _
    rw [hb0, hb1]
    rw [show (win0_12.index t (0 : Fin 2) * 1 + 1 * (y 0).val) / 1 = win0_12.index t (0 : Fin 2) from by omega]; rw [show (win0_12.index t (1 : Fin 2) * 2048 + 1 * (y 1).val) / 2048 = win0_12.index t (1 : Fin 2) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 1 = (y 0).val; rw [hb0]; omega
    | ⟨1, _⟩ => show (((cfg0.win 12).blk t).view.emb y 1).val % 2048 = (y 1).val; rw [hb1]; omega
  have hp : pt12Of (((cfg0.win 12).blk t).view.emb y) = t.val := by
    show 112 * run12Of (((cfg0.win 12).blk t).view.emb y) + 111 = _
    rw [hr]; have := Nat.div_add_mod t.val 112; omega
  show (Pipeline.accAt (fun n h => stAt0 m c n h junk0) (stAt0 m c) 0 t.val _).2.2.2.1 ((cfg0.win 12).xinj (grid0.coords t) y) = G12 m c (((cfg0.win 12).blk t).view.emb y)
  unfold G12
  rw [dif_pos (by rw [hp]; exact t.isLt), hl, fold0_congr m c _ _ _ _ hp.symm]

/-- An index of the array is in point `t`'s block iff each coordinate is in the block's range on its axis. -/
theorem mem_blk12 (t : Fin cfg0.N) (i : S1x2048.Idx) :
    i ∈ ((cfg0.win 12).blk t).view.set ↔ ∀ a : Fin 2, win0_12.index t a * S1x2048.size a ≤ (i a).val ∧ (i a).val < win0_12.index t a * S1x2048.size a + S1x2048.size a := by
  show i ∈ ((View.whole main_v21_3).slice (win0_12.rect t)).set ↔ _
  rw [View.set_slice_whole, Rect.mem_set_unit]
  exact Iff.rfl

/-- THE COVERED INDICES: in some flushing point's block iff inside the box those blocks fill. -/
theorem covered_iff12 (i : S1x2048.Idx) :
    (∃ t : Fin cfg0.N, (cfg0.win 12).flush t = true ∧ i ∈ ((cfg0.win 12).blk t).view.set) ↔ 0 ≤ (i 0).val ∧ (i 0).val < 1 ∧ 0 ≤ (i 1).val ∧ (i 1).val < 2048 := by
  constructor
  · rintro ⟨t, -, hi⟩
    rw [mem_blk12] at hi
    have b0 : win0_12.index t (0 : Fin 2) * 1 ≤ (i 0).val ∧ (i 0).val < win0_12.index t (0 : Fin 2) * 1 + 1 := hi 0
    have b1 : win0_12.index t (1 : Fin 2) * 2048 ≤ (i 1).val ∧ (i 1).val < win0_12.index t (1 : Fin 2) * 2048 + 2048 := hi 1
    obtain ⟨e0, e1, e2⟩ := idx_facts12 t
    omega
  · intro h
    have hi0 : (i 0).val < 1 := (i 0).isLt
    have hi1 : (i 1).val < 2048 := (i 1).isLt
    obtain ⟨t, hft, ht⟩ := idx_onto12 ⟨(i 0).val / 1 - 0, by omega⟩ ⟨(i 1).val / 2048 - 0, by omega⟩
    have q0 : win0_12.index t (0 : Fin 2) = (i 0).val / 1 - 0 + 0 := congrFun ht 0
    have q1 : win0_12.index t (1 : Fin 2) = (i 1).val / 2048 - 0 + 0 := congrFun ht 1
    refine ⟨t, hft, ?_⟩
    rw [mem_blk12]
    intro a
    match a with
    | ⟨0, _⟩ => show win0_12.index t (0 : Fin 2) * 1 ≤ (i 0).val ∧ (i 0).val < win0_12.index t (0 : Fin 2) * 1 + 1; omega
    | ⟨1, _⟩ => show win0_12.index t (1 : Fin 2) * 2048 ≤ (i 1).val ∧ (i 1).val < win0_12.index t (1 : Fin 2) * 2048 + 2048; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 1 := (i 0).isLt; have h1 : (i 1).val < 2048 := (i 1).isLt; omega))

theorem G12_last (c : Dev nD) :
    G12 m c = (Pipeline.accAt (fun n h => stAt0 m c n h junk0) (stAt0 m c) 0 111 (lt_of_lt_of_eq (by decide) N_0.symm)).2.2.2.1 := by
  funext i
  have hi0 : (i 0).val < 1 := (i 0).isLt
  have hi1 : (i 1).val < 2048 := (i 1).isLt
  have hp : pt12Of i = 111 := by
    show 112 * (1 * ((i 0).val / 1 - 0) + 1 * ((i 1).val / 2048 - 0)) + 111 = _
    omega
  have hl : loc12Of i = i := by
    funext a; apply Fin.ext
    match a with
    | ⟨0, _⟩ => show (i 0).val % 1 = (i 0).val; omega
    | ⟨1, _⟩ => show (i 1).val % 2048 = (i 1).val; omega
  unfold G12
  rw [dif_pos (by rw [hp]; exact lt_of_lt_of_eq (by decide) N_0.symm), hl, fold0_congr m c _ _ _ _ hp]

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v21_0) = G9 m c
      ∧ r.2.mem ((c : Thread nD τ).loc main_v21_1) = G10 m c
      ∧ r.2.mem ((c : Thread nD τ).loc main_v21_2) = G11 m c
      ∧ r.2.mem ((c : Thread nD τ).loc main_v21_3) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post9 m r h c).trans (final9 m c),
      (post10 m r h c).trans (final10 m c),
      (post11 m r h c).trans (final11 m c),
      (post12 m r h c).trans (final12 m c),
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.RowMath.lean ====
/-
  The algebra of one row of the RMSNorm gradient over the extended reals: the kernel's form
  `r * (E - x r * mean (E x r)) + d` is the differentiated form `d + E r + x T + T x`,
  `T = mean' (x E) * (-1/2) * (r / u)`, where `u` is the mean square plus a positive constant and `r = 1 / sqrt u`.
-/
module

public import Idealize.ShloMosaic.PureOps.Ideal.Laws

@[expose] public section

namespace Cert.RowMath

open Idealize.ShloMosaic

/-- A finite factor that is not negative distributes over a sum. -/
theorem coe_mul_add {ρ : ℝ} (h : 0 ≤ ρ) (a b : EReal) : (ρ : EReal) * (a + b) = ρ * a + ρ * b :=
  EReal.left_distrib_of_nonneg_of_ne_top (by exact_mod_cast h) (EReal.coe_ne_top _) a b

/-- A finite factor that is not negative goes into a finite sum. -/
theorem mul_sum {ι : Type} (s : Finset ι) {ρ : ℝ} (h : 0 ≤ ρ) (f : ι → EReal) :
    ∑ i ∈ s, f i * (ρ : EReal) = (∑ i ∈ s, f i) * (ρ : EReal) := by
  classical
  induction s using Finset.induction_on with
  | empty => simp
  | insert a s ha ih =>
    rw [Finset.sum_insert ha, Finset.sum_insert ha, ih, mul_comm, mul_comm _ (ρ : EReal), mul_comm _ (ρ : EReal),
      coe_mul_add h]

theorem mul_self_nonneg (x : EReal) : 0 ≤ x * x := by
  rcases le_total 0 x with h | h
  · exact mul_nonneg h h
  · rw [← neg_mul_neg]
    exact mul_nonneg (EReal.neg_nonneg.mpr h) (EReal.neg_nonneg.mpr h)

/-- A positive value, infinite or finite: its reciprocal root is finite and not negative, and the root over the value is
    the root's cube. -/
theorem rsqrt_facts {u : EReal} (hu : 0 < u) :
    ∃ ρ : ℝ, 0 ≤ ρ ∧ Ideal.rsqrt u = (ρ : EReal) ∧ Ideal.div (Ideal.rsqrt u) u = ((ρ * ρ * ρ : ℝ) : EReal) := by
  induction u using EReal.rec with
  | bot => simp at hu
  | top => exact ⟨0, le_rfl, by simp, by simp [Ideal.div]⟩
  | coe a =>
    have ha : 0 < a := by exact_mod_cast hu
    have hs : 0 < Real.sqrt a := Real.sqrt_pos.mpr ha
    have e : Ideal.rsqrt (a : EReal) = (((Real.sqrt a)⁻¹ : ℝ) : EReal) := by
      rw [Ideal.rsqrt_coe, if_neg (not_lt.mpr ha.le), if_neg ha.ne']
    refine ⟨(Real.sqrt a)⁻¹, inv_nonneg.mpr hs.le, e, ?_⟩
    rw [e, Ideal.div_coe ha.ne', ← EReal.coe_mul]
    congr 1
    have h2 : 1 / a = (Real.sqrt a)⁻¹ * (Real.sqrt a)⁻¹ := by
      rw [← mul_inv, Real.mul_self_sqrt ha.le, one_div]
    rw [h2, mul_assoc]

/-- One row's entry: the kernel's form and the differentiated form. `κ` is the reciprocal of the row's length. -/
theorem row_grad {u : EReal} (hu : 0 < u) (S x E d κ : EReal) :
    Ideal.rsqrt u * (E - x * Ideal.rsqrt u * ((S * Ideal.rsqrt u) * κ)) + d
      = d + E * Ideal.rsqrt u
        + x * (S * (((-(1/2) : ℝ) : EReal) * Ideal.div (Ideal.rsqrt u) u) * κ)
        + (S * (((-(1/2) : ℝ) : EReal) * Ideal.div (Ideal.rsqrt u) u) * κ) * x := by
  obtain ⟨ρ, h0, hr, hd⟩ := rsqrt_facts hu
  rw [hd, hr]
  have h3 : ((-(1/2) : ℝ) : EReal) * ((ρ * ρ * ρ : ℝ) : EReal) = -(((1/2) * (ρ * ρ * ρ) : ℝ) : EReal) := by
    rw [← EReal.coe_mul, ← EReal.coe_neg]; congr 1; ring
  rw [h3]
  set A : EReal := x * S * κ with hA
  have eT : x * (S * -(((1/2) * (ρ * ρ * ρ) : ℝ) : EReal) * κ) = -((((1/2) * (ρ * ρ * ρ) : ℝ) : EReal) * A) := by
    rw [mul_neg, neg_mul, mul_neg, hA]; congr 1
    generalize (((1/2) * (ρ * ρ * ρ) : ℝ) : EReal) = q
    rw [mul_comm S q, mul_assoc q S κ, mul_left_comm, mul_assoc x S κ]
  have eT' : (S * -(((1/2) * (ρ * ρ * ρ) : ℝ) : EReal) * κ) * x = -((((1/2) * (ρ * ρ * ρ) : ℝ) : EReal) * A) := by
    rw [mul_comm, eT]
  rw [eT, eT', add_assoc (d + E * ρ)]
  have hq : 0 ≤ (1/2) * (ρ * ρ * ρ) := by positivity
  have hsum : -((((1/2) * (ρ * ρ * ρ) : ℝ) : EReal) * A) + -((((1/2) * (ρ * ρ * ρ) : ℝ) : EReal) * A)
      = -(((ρ * ρ * ρ : ℝ) : EReal) * A) := by
    rw [← mul_neg, ← EReal.right_distrib_of_nonneg (by exact_mod_cast hq) (by exact_mod_cast hq), ← EReal.coe_add, mul_neg]
    congr 3; ring
  rw [hsum]
  have eL : x * (ρ : EReal) * ((S * (ρ : EReal)) * κ) = (ρ : EReal) * ((ρ : EReal) * A) := by
    rw [hA]
    generalize (ρ : EReal) = q
    rw [mul_comm x q, mul_assoc q x, mul_comm S q, mul_assoc q S κ, mul_left_comm x q, mul_assoc x S κ]
  rw [eL, sub_eq_add_neg, coe_mul_add h0, mul_neg, mul_comm E, EReal.coe_mul, EReal.coe_mul, mul_assoc, mul_assoc,
    add_comm _ d, ← add_assoc]

end Cert.RowMath

end
-- ==== Proof.IbSpec.lean ====
/-
  What the gradient of the adaLN RMSNorm followed by the input projection computes, as functions of plain indices over
  the extended reals. `dh` is the projection's gradient, `uu` the mean square plus the constant under the root.
-/
module

public import proofs.«01_k».proof.Proof.RowMath

@[expose] public section

namespace Cert.IbSpec

open Idealize.ShloMosaic

noncomputable section

abbrev c2048 : EReal := Ideal.ofBits .f32 0x45000000#32
abbrev eps : EReal := Ideal.ofBits .f32 0x358637BD#32

theorem c2048_eq : c2048 = ((2048 : ℝ) : EReal) := by
  simp [c2048, Ideal.ofBits, Ideal.ieee, -EReal.coe_mul]; norm_num

theorem eps_pos : 0 < eps := by
  have : ∃ e : ℝ, 0 < e ∧ eps = (e : EReal) := by
    refine ⟨_, ?_, by simp [eps, Ideal.ofBits, Ideal.ieee, -EReal.coe_mul]; rfl⟩
    positivity
  obtain ⟨e, h, h'⟩ := this
  rw [h']; exact_mod_cast h

theorem half_eq : Ideal.ofBits .f32 0xBF000000#32 = ((-(1/2) : ℝ) : EReal) := by
  simp [Ideal.ofBits, Ideal.ieee, -EReal.coe_mul]; norm_num

variable (x : Fin 8192 → Fin 2048 → EReal) (g s : Fin 2048 → EReal) (w : Fin 2048 → Fin 7184 → EReal)
  (dp : Fin 8192 → Fin 7184 → EReal) (dxo : Fin 8192 → Fin 2048 → EReal)

/-- The projection's gradient at its input. -/
def dh (i : Fin 8192) (j : Fin 2048) : EReal := ∑ k : Fin 7184, dp i k * w j k

/-- The mean square of row `i` plus the constant. -/
def uu (i : Fin 8192) : EReal := Ideal.div (∑ k : Fin 2048, x i k * x i k) c2048 + eps

/-- The normalised entry. -/
def xn (i : Fin 8192) (j : Fin 2048) : EReal := x i j * Ideal.rsqrt (uu x i)

/-- The gradient at the normalised entry. -/
def dxn (i : Fin 8192) (j : Fin 2048) : EReal := dh w dp i j * (g j * (1 + s j))

/-- The four results, in the kernel's form. -/
def rdx (i : Fin 8192) (j : Fin 2048) : EReal :=
  Ideal.rsqrt (uu x i) * (dxn g s w dp i j - xn x i j * Ideal.div (∑ k : Fin 2048, dxn g s w dp i k * xn x i k) c2048)
    + dxo i j
def rsh (j : Fin 2048) : EReal := ∑ i : Fin 8192, dh w dp i j
def rsc (j : Fin 2048) : EReal := ∑ i : Fin 8192, dh w dp i j * (xn x i j * g j)
def rng (j : Fin 2048) : EReal := ∑ i : Fin 8192, dh w dp i j * (1 + s j) * xn x i j

theorem uu_pos (i : Fin 8192) : 0 < uu x i := by
  have h : 0 ≤ Ideal.div (∑ k : Fin 2048, x i k * x i k) c2048 := by
    rw [c2048_eq, Ideal.div_coe (by norm_num)]
    exact mul_nonneg (Finset.sum_nonneg fun k _ => RowMath.mul_self_nonneg _) (by exact_mod_cast (by norm_num : (0:ℝ) ≤ 1 / 2048))
  exact lt_of_lt_of_le eps_pos (le_add_of_nonneg_left h)

/-- The differentiated form of the first result. -/
theorem rdx_eq (i : Fin 8192) (j : Fin 2048) :
    let E := fun k => dh w dp i k * (1 + s k) * g k
    let T := Ideal.div ((∑ k : Fin 2048, x i k * E k)
      * (Ideal.ofBits .f32 0xBF000000#32 * Ideal.div (Ideal.rsqrt (uu x i)) (uu x i))) c2048
    rdx x g s w dp dxo i j = dxo i j + E j * Ideal.rsqrt (uu x i) + x i j * T + T * x i j := by
  intro E T
  have hE : ∀ k, dxn g s w dp i k = E k := fun k => by
    show dh w dp i k * (g k * (1 + s k)) = dh w dp i k * (1 + s k) * g k
    rw [mul_comm (g k), mul_assoc]
  obtain ⟨ρ, h0, hr, -⟩ := RowMath.rsqrt_facts (uu_pos x i)
  have hS : ∑ k : Fin 2048, dxn g s w dp i k * xn x i k = (∑ k : Fin 2048, x i k * E k) * Ideal.rsqrt (uu x i) := by
    rw [hr, ← RowMath.mul_sum _ h0]
    refine Finset.sum_congr rfl fun k _ => ?_
    rw [hE, xn, hr, ← mul_assoc, mul_comm (E k)]
  have := RowMath.row_grad (uu_pos x i) (∑ k : Fin 2048, x i k * E k) (x i j) (E j) (dxo i j) ((1 / 2048 : ℝ) : EReal)
  unfold rdx
  rw [hS, hE, c2048_eq, Ideal.div_coe (by norm_num)]
  show Ideal.rsqrt (uu x i) * (E j - x i j * Ideal.rsqrt (uu x i) * _) + _ = _
  rw [this]
  show _ = _ + x i j * Ideal.div _ c2048 + Ideal.div _ c2048 * x i j
  rw [c2048_eq, Ideal.div_coe (by norm_num), half_eq]

end

end Cert.IbSpec
-- ==== Proof.IbVec.lean ====
/-
  The values the body computes, read at an index: block products, row means and column sums.
-/
module

public import proofs.«01_k».proof.Proof.IbLoop
public import proofs.«01_k».proof.Proof.IbSpec
public import Idealize.ShloMosaic.Lib.Pointwise.Tactic

@[expose] public section

set_option maxRecDepth 16384

noncomputable section

namespace Cert.KernelIdeal.Tie

open Cert.KernelIdeal Cert.KernelIdeal.Gen Cert.IbSpec
open Idealize.ShloMosaic Idealize.ShloMosaic.TcCoe

theorem pay1_at (i : S1x2048.Idx) : k0_pay1 (F := Ideal) i = 0 := by pointwise [k0_pay1]
theorem pay2_at (i : S1x2048.Idx) : k0_pay2 (F := Ideal) i = 0 := by pointwise [k0_pay2]
theorem pay3_at (i : S1x2048.Idx) : k0_pay3 (F := Ideal) i = 0 := by pointwise [k0_pay3]

theorem pay4_at (a : Vec Ideal S512x128 .f32) (b : Vec Ideal S2048x128 .bf16) (i : Fin 512) (j : Fin 2048) :
    k0_pay4 (F := Ideal) a b (ix2 i j) = ∑ k : Fin 128, a (ix2 i k) * b (ix2 j k) := by
  pointwise [k0_pay4]

theorem pay5_at (s : Vec Ideal S512x2048 .f32) (a : Vec Ideal S512x1024 .bf16) (b : Vec Ideal S2048x1024 .bf16) (i : Fin 512) (j : Fin 2048) :
    k0_pay5 (F := Ideal) s a b (ix2 i j) = s (ix2 i j) + ∑ k : Fin 1024, a (ix2 i k) * b (ix2 j k) := by
  pointwise [k0_pay5]

theorem pay6_at (s : Vec Ideal S512x2048 .f32) (a : Vec Ideal S512x1024 .bf16) (b : Vec Ideal S2048x1024 .bf16) (i : Fin 512) (j : Fin 2048) :
    k0_pay6 (F := Ideal) s a b (ix2 i j) = s (ix2 i j) + ∑ k : Fin 1024, a (ix2 i k) * b (ix2 j k) := by
  pointwise [k0_pay6]

theorem pay11_at (h : Vec Ideal S128x2048 .f32) (g : Vec Ideal S1x2048 .f32) (j : Fin 2048) :
    k0_pay11 (F := Ideal) h g (ix2 0 j) = g (ix2 0 j) + ∑ r : Fin 128, h (ix2 r j) := by
  pointwise [k0_pay11]

theorem pay9_at (x : Vec Ideal S128x2048 .f32) (r : Fin 128) :
    k0_pay9 (F := Ideal) x (ix2 r 0) = Ideal.rsqrt (Ideal.div (∑ k : Fin 2048, x (ix2 r k) * x (ix2 r k)) c2048 + eps) := by
  pointwise [k0_pay9]

theorem pay10_at (x : Vec Ideal S128x2048 .f32) (r : Fin 128) (j : Fin 2048) :
    k0_pay10 (F := Ideal) x (ix2 r j) = x (ix2 r j) * k0_pay9 (F := Ideal) x (ix2 r 0) := by
  pointwise [k0_pay10]

theorem pay12_at (x h : Vec Ideal S128x2048 .f32) (g n : Vec Ideal S1x2048 .f32) (j : Fin 2048) :
    k0_pay12 (F := Ideal) x h g n (ix2 0 j) = g (ix2 0 j) + ∑ r : Fin 128, h (ix2 r j) * (k0_pay10 (F := Ideal) x (ix2 r j) * n (ix2 0 j)) := by
  pointwise [k0_pay12]

theorem pay13_at (g : Vec Ideal S1x2048 .f32) : k0_pay13 (F := Ideal) g = g := by
  funext i
  pointwise [k0_pay13]

theorem pay7_at (h xn : Vec Ideal S128x2048 .f32) (g s : Vec Ideal S1x2048 .f32) (j : Fin 2048) :
    k0_pay7 (F := Ideal) h xn g s (ix2 0 j) = g (ix2 0 j) + ∑ r : Fin 128, h (ix2 r j) * s (ix2 0 j) * xn (ix2 r j) := by
  pointwise [k0_pay7]

theorem pay8_at (h : Vec Ideal S128x2048 .f32) (q : Vec Ideal S128x1 .f32) (xn : Vec Ideal S128x2048 .f32) (n s : Vec Ideal S1x2048 .f32)
    (o : Vec Ideal S128x2048 .f32) (r : Fin 128) (j : Fin 2048) :
    k0_pay8 (F := Ideal) h q xn n s o (ix2 r j)
      = q (ix2 r 0) * (h (ix2 r j) * (n (ix2 0 j) * s (ix2 0 j))
          - xn (ix2 r j) * Ideal.div (∑ k : Fin 2048, h (ix2 r k) * (n (ix2 0 k) * s (ix2 0 k)) * xn (ix2 r k)) c2048) + o (ix2 r j) := by
  pointwise [k0_pay8]

theorem grp_at {F : FTy → Type} [FloatOps F] (x : Vec F S512x2048 .f32) (k : Fin k0_t1_loop.trips) (r : Fin 128) (j : Fin 2048) (h : k.val * 128 + r.val < 512) :
    grp inbk x k (ix2 r j) = x (ix2 ⟨k.val * 128 + r.val, h⟩ j) := by
  unfold grp
  show x _ = x _
  congr 1
  funext a
  apply Fin.ext
  show k0_off1 k a + 1 * ((ix2 r j : S128x2048.Idx) a).val = _
  rw [off_eq, Nat.one_mul]
  match a with
  | ⟨0, _⟩ => rfl
  | ⟨1, _⟩ => exact Nat.zero_add _

/-- A sum over the rows of a block, by groups of 128. -/
theorem sum_rows (f : Fin 512 → EReal) :
    ∑ r : Fin 512, f r = (∑ r : Fin 128, f ⟨0 * 128 + r.val, by omega⟩) + (∑ r : Fin 128, f ⟨1 * 128 + r.val, by omega⟩)
      + (∑ r : Fin 128, f ⟨2 * 128 + r.val, by omega⟩) + ∑ r : Fin 128, f ⟨3 * 128 + r.val, by omega⟩ := by
  rw [← Fin.sum_mul_add_fin 4 128 f rfl, Fin.sum_univ_four]; rfl

/-- The row's normalised entry. -/
def xnb (x : Vec Ideal S512x2048 .f32) (r : Fin 512) (j : Fin 2048) : EReal :=
  x (ix2 r j) * Ideal.rsqrt (Ideal.div (∑ k : Fin 2048, x (ix2 r k) * x (ix2 r k)) c2048 + eps)

theorem accSh_at (xs : Vec Ideal S512x2048 .f32) (g : Vec Ideal S1x2048 .f32) (j : Fin 2048) :
    accSh (F := Ideal) inbk xs g 4 (ix2 0 j) = g (ix2 0 j) + ∑ r : Fin 512, xs (ix2 r j) := by
  have t : ∀ n, n < 4 → n < k0_t1_loop.trips := fun n h => by rw [trips4]; exact h
  rw [accSh, accSh, accSh, accSh, accSh, dif_pos (t 3 (by omega)), dif_pos (t 2 (by omega)), dif_pos (t 1 (by omega)), dif_pos (t 0 (by omega))]
  rw [pay11_at, pay11_at, pay11_at, pay11_at, sum_rows]
  simp only [← add_assoc]
  congr 1
  · congr 1
    · congr 1
      · congr 1
        exact Finset.sum_congr rfl fun r _ => grp_at _ _ _ _ _
      · exact Finset.sum_congr rfl fun r _ => grp_at _ _ _ _ _
    · exact Finset.sum_congr rfl fun r _ => grp_at _ _ _ _ _
  · exact Finset.sum_congr rfl fun r _ => grp_at _ _ _ _ _

theorem pay10_grp (x : Vec Ideal S512x2048 .f32) (k : Fin k0_t1_loop.trips) (r : Fin 128) (j : Fin 2048) (h : k.val * 128 + r.val < 512) :
    k0_pay10 (F := Ideal) (grp inbk x k) (ix2 r j) = xnb x ⟨k.val * 128 + r.val, h⟩ j := by
  rw [pay10_at, pay9_at, grp_at _ _ _ _ h]
  unfold xnb
  congr 4
  exact Finset.sum_congr rfl fun l _ => by rw [grp_at _ _ _ _ h]

theorem accSc_at (x5 : Vec Ideal S512x2048 .f32) (x6 : Vec Ideal S1x2048 .f32) (xs : Vec Ideal S512x2048 .f32) (g : Vec Ideal S1x2048 .f32) (j : Fin 2048) :
    accSc (F := Ideal) inbk x5 x6 xs g 4 (ix2 0 j) = g (ix2 0 j) + ∑ r : Fin 512, xs (ix2 r j) * (xnb x5 r j * x6 (ix2 0 j)) := by
  have t : ∀ n, n < 4 → n < k0_t1_loop.trips := fun n h => by rw [trips4]; exact h
  have e : ∀ k : Fin k0_t1_loop.trips, ∀ (r : Fin 128) (h : k.val * 128 + r.val < 512), grp inbk xs k (ix2 r j) * (k0_pay10 (F := Ideal) (grp inbk x5 k) (ix2 r j) * x6 (ix2 0 j))
      = xs (ix2 ⟨k.val * 128 + r.val, h⟩ j) * (xnb x5 ⟨k.val * 128 + r.val, h⟩ j * x6 (ix2 0 j)) :=
    fun k r h => by rw [grp_at _ _ _ _ h, pay10_grp _ _ _ _ h]
  rw [accSc, accSc, accSc, accSc, accSc, dif_pos (t 3 (by omega)), dif_pos (t 2 (by omega)), dif_pos (t 1 (by omega)), dif_pos (t 0 (by omega))]
  rw [pay12_at, pay12_at, pay12_at, pay12_at, sum_rows]
  simp only [← add_assoc]
  congr 1
  · congr 1
    · congr 1
      · congr 1
        exact Finset.sum_congr rfl fun r _ => e _ _ _
      · exact Finset.sum_congr rfl fun r _ => e _ _ _
    · exact Finset.sum_congr rfl fun r _ => e _ _ _
  · exact Finset.sum_congr rfl fun r _ => e _ _ _

theorem accNg_at (x5 : Vec Ideal S512x2048 .f32) (x7 : Vec Ideal S1x2048 .f32) (xs : Vec Ideal S512x2048 .f32) (g : Vec Ideal S1x2048 .f32) (j : Fin 2048) :
    accNg (F := Ideal) inbk x5 x7 xs g 4 (ix2 0 j) = g (ix2 0 j) + ∑ r : Fin 512, xs (ix2 r j) * x7 (ix2 0 j) * xnb x5 r j := by
  have t : ∀ n, n < 4 → n < k0_t1_loop.trips := fun n h => by rw [trips4]; exact h
  have e : ∀ k : Fin k0_t1_loop.trips, ∀ (r : Fin 128) (h : k.val * 128 + r.val < 512), grp inbk xs k (ix2 r j) * x7 (ix2 0 j) * k0_pay10 (F := Ideal) (grp inbk x5 k) (ix2 r j)
      = xs (ix2 ⟨k.val * 128 + r.val, h⟩ j) * x7 (ix2 0 j) * xnb x5 ⟨k.val * 128 + r.val, h⟩ j :=
    fun k r h => by rw [grp_at _ _ _ _ h, pay10_grp _ _ _ _ h]
  rw [accNg, accNg, accNg, accNg, accNg, dif_pos (t 3 (by omega)), dif_pos (t 2 (by omega)), dif_pos (t 1 (by omega)), dif_pos (t 0 (by omega))]
  simp only [pay13_at]
  rw [pay7_at, pay7_at, pay7_at, pay7_at, sum_rows]
  simp only [← add_assoc]
  congr 1
  · congr 1
    · congr 1
      · congr 1
        exact Finset.sum_congr rfl fun r _ => e _ _ _
      · exact Finset.sum_congr rfl fun r _ => e _ _ _
    · exact Finset.sum_congr rfl fun r _ => e _ _ _
  · exact Finset.sum_congr rfl fun r _ => e _ _ _

/-- The gradient row that a block writes. -/
def dxb (x5 : Vec Ideal S512x2048 .f32) (x6 x7 : Vec Ideal S1x2048 .f32) (x8 xs : Vec Ideal S512x2048 .f32) : Vec Ideal S512x2048 .f32 := fun i =>
  let r : Fin 512 := i 0
  let j : Fin 2048 := i 1
  Ideal.rsqrt (Ideal.div (∑ k : Fin 2048, x5 (ix2 r k) * x5 (ix2 r k)) c2048 + eps)
    * (xs (ix2 r j) * (x6 (ix2 0 j) * x7 (ix2 0 j))
        - xnb x5 r j * Ideal.div (∑ k : Fin 2048, xs (ix2 r k) * (x6 (ix2 0 k) * x7 (ix2 0 k)) * xnb x5 r k) c2048) + x8 (ix2 r j)

theorem dxRow_at (x5 : Vec Ideal S512x2048 .f32) (x6 x7 : Vec Ideal S1x2048 .f32) (x8 xs : Vec Ideal S512x2048 .f32) (k : Fin k0_t1_loop.trips) (r : Fin 128) (j : Fin 2048) (h : k.val * 128 + r.val < 512) :
    dxRow (F := Ideal) inbk x5 x6 x7 x8 xs k (ix2 r j) = dxb x5 x6 x7 x8 xs (ix2 ⟨k.val * 128 + r.val, h⟩ j) := by
  unfold dxRow
  rw [pay8_at, pay9_at, pay10_grp _ _ _ _ h, grp_at _ _ _ _ h, grp_at _ _ _ _ h]
  simp only [pay10_grp _ _ _ _ h, grp_at _ _ _ _ h]
  rfl

end Cert.KernelIdeal.Tie

end
-- ==== Proof.IbBlk.lean ====
/-
  The arrays that the host code hands the call, and the blocks of them that a point reads, as entries of the arguments.
-/
module

public import proofs.«01_k».proof.Proof.Gen.KernelIdeal.Frame.Runs
public import proofs.«01_k».proof.Proof.IbSpec
public import Idealize.ShloMosaic.Lib.Pointwise
public import Idealize.ShloMosaic.Lib.Claim
public import Idealize.ShloMosaic.Lib.Pipeline.ValueKit.Acc
public import Idealize.ShloMosaic.Lib.StableHlo.Run
public import Idealize.ShloMosaic.Lib.StableHlo.RunRead

@[expose] public section

set_option maxRecDepth 16384

noncomputable section

namespace Cert.KernelIdeal.Tie

open Cert.KernelIdeal Cert.KernelIdeal.Gen Cert.IbSpec
open Idealize.ShloMosaic Idealize.ShloMosaic.TcCoe Idealize.ShloMosaic.StableHlo

variable (m : (ℓ : Loc nD τ sig) → Buf (Elt Ideal) ℓ) (c : Dev nD)

/-- The arguments as functions of indices. -/
abbrev aX (i : Fin 8192) (j : Fin 2048) : EReal := m ((c : Thread nD τ).loc main_arg0) (ix2 i j)
abbrev aG (j : Fin 2048) : EReal := m ((c : Thread nD τ).loc main_arg1) (ix1 j)
abbrev aS (j : Fin 2048) : EReal := m ((c : Thread nD τ).loc main_arg2) (ix1 j)
abbrev aW (j : Fin 2048) (k : Fin 7184) : EReal := m ((c : Thread nD τ).loc main_arg3) (ix2 j k)
abbrev aP (i : Fin 8192) (k : Fin 7184) : EReal := m ((c : Thread nD τ).loc main_arg4) (ix2 i k)
abbrev aO (i : Fin 8192) (j : Fin 2048) : EReal := m ((c : Thread nD τ).loc main_arg5) (ix2 i j)

/-- The column of the unpacked arrays that a packed column holds. -/
def colN (p : ℕ) : ℕ := if p < 1024 then 3072 + p else if p < 4096 then 3088 + p else p - 4096

def dpN (i : Fin 8192) (q : ℕ) : EReal := if h : q < 7184 then aP m c i ⟨q, h⟩ else 0
def wN (j : Fin 2048) (q : ℕ) : EReal := if h : q < 7184 then aW m c j ⟨q, h⟩ else 0

theorem dpN_eq (i : Fin 8192) (q : ℕ) (k : Fin 7184) (h : k.val = q) : aP m c i k = dpN m c i q := by
  subst h; unfold dpN; rw [dif_pos k.isLt]
theorem wN_eq (j : Fin 2048) (q : ℕ) (k : Fin 7184) (h : k.val = q) : aW m c j k = wN m c j q := by
  subst h; unfold wN; rw [dif_pos k.isLt]

theorem V_v14 (i : Fin 8192) (p : Fin 4096) : @Eq EReal (V m c main_v14 (ix2 i p)) (dpN m c i (colN p.val)) := by
  unfold_abbrev_sides
  after_results
  pointwise
  split
  · rename_i h
    exact dpN_eq m c i _ _ (by unfold colN; rw [if_pos h])
  · rename_i h
    exact dpN_eq m c i _ _ (by unfold colN; rw [if_neg h, if_pos p.isLt]; show 4112 + (p.val - 1024) = 3088 + p.val; omega)

theorem V_v16 (i : Fin 8192) (p : Fin 3072) : @Eq EReal (V m c main_v16 (ix2 i p)) (dpN m c i (colN (4096 + p.val))) := by
  unfold_abbrev_sides
  after_results
  pointwise
  exact dpN_eq m c i _ _ (by unfold colN; rw [if_neg (by omega), if_neg (by omega)]; show p.val = _; omega)

theorem V_v19 (i : Fin 8192) (l : Fin 128) : @Eq EReal (V m c main_v19 (ix2 i l)) (if l.val < 16 then dpN m c i (4096 + l.val) else 0) := by
  unfold_abbrev_sides
  after_results
  pointwise
  split
  · rename_i h
    exact dpN_eq m c i _ _ (by show 4096 + l.val = _; rfl)
  · rename_i h
    rfl

theorem V_v4 (j : Fin 2048) (p : Fin 1024) : @Eq EReal (V m c main_v4 (ix2 j p)) (aW m c j ⟨3072 + p.val, by omega⟩) := by
  unfold_abbrev_sides
  after_results
  pointwise
theorem V_v5 (j : Fin 2048) (p : Fin 3072) : @Eq EReal (V m c main_v5 (ix2 j p)) (aW m c j ⟨4112 + p.val, by omega⟩) := by
  unfold_abbrev_sides
  after_results
  pointwise
theorem V_v6 (j : Fin 2048) (p : Fin 3072) : @Eq EReal (V m c main_v6 (ix2 j p)) (aW m c j ⟨p.val, by omega⟩) := by
  unfold_abbrev_sides
  after_results
  pointwise

theorem V_v7 (j : Fin 2048) (p : Fin 7168) : @Eq EReal (V m c main_v7 (ix2 j p)) (wN m c j (colN p.val)) := by
  unfold_abbrev_sides
  after_results
  pointwise
  split
  · rename_i h
    exact (V_v4 m c j ⟨p.val, h⟩).trans (wN_eq m c j (colN p.val) ⟨3072 + p.val, by omega⟩ (by show 3072 + p.val = colN p.val; unfold colN; rw [if_pos h]))
  · rename_i h
    split
    · rename_i h2
      exact (V_v5 m c j ⟨p.val - 1024, h2⟩).trans (wN_eq m c j (colN p.val) ⟨4112 + (p.val - 1024), by omega⟩
        (by show 4112 + (p.val - 1024) = colN p.val; unfold colN; rw [if_neg h, if_pos (by omega)]; omega))
    · rename_i h2
      exact (V_v6 m c j ⟨p.val - 1024 - 3072, by omega⟩).trans (wN_eq m c j (colN p.val) ⟨p.val - 1024 - 3072, by omega⟩
        (by show p.val - 1024 - 3072 = colN p.val; unfold colN; rw [if_neg h, if_neg (by omega)]; omega))

theorem V_v10 (j : Fin 2048) (l : Fin 128) : @Eq EReal (V m c main_v10 (ix2 j l)) (if l.val < 16 then wN m c j (4096 + l.val) else 0) := by
  unfold_abbrev_sides
  after_results
  pointwise
  split
  · rename_i h
    exact wN_eq m c j _ _ (by show 4096 + l.val = _; rfl)
  · rename_i h
    rfl

theorem V_v20 (j : Fin 2048) : @Eq EReal (V m c main_v20 (ix2 0 j)) (aG m c j) := by
  unfold_abbrev_sides
  after_results
  pointwise

theorem V_v2 (j : Fin 2048) : @Eq EReal (V m c main_v2 (ix2 0 j)) (1 + aS m c j) := by
  unfold_abbrev_sides
  after_results
  pointwise
  rfl

theorem V_arg0 (i : Fin 8192) (j : Fin 2048) : @Eq EReal (V m c main_arg0 (ix2 i j)) (aX m c i j) := by
  unfold_abbrev_sides
  after_results
  try rfl
theorem V_arg5 (i : Fin 8192) (j : Fin 2048) : @Eq EReal (V m c main_arg5 (ix2 i j)) (aO m c i j) := by
  unfold_abbrev_sides
  after_results
  try rfl

theorem pts : cfg0.N = 112 := N_0

theorem idx0 : ∀ t : Fin cfg0.N, win0_0.index t (0 : Fin 2) = t.val / 7 ∧ win0_0.index t (1 : Fin 2) = min (t.val % 7) 3 :=
  (by decide +kernel : ∀ t : Fin grid0.N, win0_0.index t (0 : Fin 2) = t.val / 7 ∧ win0_0.index t (1 : Fin 2) = min (t.val % 7) 3)

theorem blk0_at (t : Fin cfg0.N) (p : Fin 512) (q : Fin 1024) (p' : Fin 8192) (q' : Fin 4096) (hp : p'.val = (t.val / 7) * 512 + p.val) (hq : q'.val = (min (t.val % 7) 3) * 1024 + q.val) :
    @Eq EReal (iblk m c 0 t (ix2 p q)) (V m c main_v14 (ix2 p' q')) := by
  obtain ⟨e0, e1⟩ := idx0 t
  unfold iblk
  rw [View.read_apply]
  show V m c main_v14 _ = V m c main_v14 _
  congr 1
  funext a; apply Fin.ext
  match a with
  | ⟨0, _⟩ => show win0_0.index t (0 : Fin 2) * 512 + 1 * p.val = p'.val; rw [e0]; omega
  | ⟨1, _⟩ => show win0_0.index t (1 : Fin 2) * 1024 + 1 * q.val = q'.val; rw [e1]; omega

theorem idx1 : ∀ t : Fin cfg0.N, win0_1.index t (0 : Fin 2) = t.val / 7 ∧ win0_1.index t (1 : Fin 2) = min (t.val % 7 - 4) 2 :=
  (by decide +kernel : ∀ t : Fin grid0.N, win0_1.index t (0 : Fin 2) = t.val / 7 ∧ win0_1.index t (1 : Fin 2) = min (t.val % 7 - 4) 2)

theorem blk1_at (t : Fin cfg0.N) (p : Fin 512) (q : Fin 1024) (p' : Fin 8192) (q' : Fin 3072) (hp : p'.val = (t.val / 7) * 512 + p.val) (hq : q'.val = (min (t.val % 7 - 4) 2) * 1024 + q.val) :
    @Eq EReal (iblk m c 1 t (ix2 p q)) (V m c main_v16 (ix2 p' q')) := by
  obtain ⟨e0, e1⟩ := idx1 t
  unfold iblk
  rw [View.read_apply]
  show V m c main_v16 _ = V m c main_v16 _
  congr 1
  funext a; apply Fin.ext
  match a with
  | ⟨0, _⟩ => show win0_1.index t (0 : Fin 2) * 512 + 1 * p.val = p'.val; rw [e0]; omega
  | ⟨1, _⟩ => show win0_1.index t (1 : Fin 2) * 1024 + 1 * q.val = q'.val; rw [e1]; omega

theorem idx2 : ∀ t : Fin cfg0.N, win0_2.index t (0 : Fin 2) = t.val / 7 ∧ win0_2.index t (1 : Fin 2) = 0 :=
  (by decide +kernel : ∀ t : Fin grid0.N, win0_2.index t (0 : Fin 2) = t.val / 7 ∧ win0_2.index t (1 : Fin 2) = 0)

theorem blk2_at (t : Fin cfg0.N) (p : Fin 512) (q : Fin 128) (p' : Fin 8192) (q' : Fin 128) (hp : p'.val = (t.val / 7) * 512 + p.val) (hq : q'.val = (0) * 128 + q.val) :
    @Eq EReal (iblk m c 2 t (ix2 p q)) (V m c main_v19 (ix2 p' q')) := by
  obtain ⟨e0, e1⟩ := idx2 t
  unfold iblk
  rw [View.read_apply]
  show V m c main_v19 _ = V m c main_v19 _
  congr 1
  funext a; apply Fin.ext
  match a with
  | ⟨0, _⟩ => show win0_2.index t (0 : Fin 2) * 512 + 1 * p.val = p'.val; rw [e0]; omega
  | ⟨1, _⟩ => show win0_2.index t (1 : Fin 2) * 128 + 1 * q.val = q'.val; rw [e1]; omega

theorem idx3 : ∀ t : Fin cfg0.N, win0_3.index t (0 : Fin 2) = 0 ∧ win0_3.index t (1 : Fin 2) = t.val % 7 :=
  (by decide +kernel : ∀ t : Fin grid0.N, win0_3.index t (0 : Fin 2) = 0 ∧ win0_3.index t (1 : Fin 2) = t.val % 7)

theorem blk3_at (t : Fin cfg0.N) (p : Fin 2048) (q : Fin 1024) (p' : Fin 2048) (q' : Fin 7168) (hp : p'.val = (0) * 2048 + p.val) (hq : q'.val = (t.val % 7) * 1024 + q.val) :
    @Eq EReal (iblk m c 3 t (ix2 p q)) (V m c main_v7 (ix2 p' q')) := by
  obtain ⟨e0, e1⟩ := idx3 t
  unfold iblk
  rw [View.read_apply]
  show V m c main_v7 _ = V m c main_v7 _
  congr 1
  funext a; apply Fin.ext
  match a with
  | ⟨0, _⟩ => show win0_3.index t (0 : Fin 2) * 2048 + 1 * p.val = p'.val; rw [e0]; omega
  | ⟨1, _⟩ => show win0_3.index t (1 : Fin 2) * 1024 + 1 * q.val = q'.val; rw [e1]; omega

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem blk4_at (t : Fin cfg0.N) (p : Fin 2048) (q : Fin 128) (p' : Fin 2048) (q' : Fin 128) (hp : p'.val = (0) * 2048 + p.val) (hq : q'.val = (0) * 128 + q.val) :
    @Eq EReal (iblk m c 4 t (ix2 p q)) (V m c main_v10 (ix2 p' q')) := by
  obtain ⟨e0, e1⟩ := idx4 t
  unfold iblk
  rw [View.read_apply]
  show V m c main_v10 _ = V m c main_v10 _
  congr 1
  funext a; apply Fin.ext
  match a with
  | ⟨0, _⟩ => show win0_4.index t (0 : Fin 2) * 2048 + 1 * p.val = p'.val; rw [e0]; omega
  | ⟨1, _⟩ => show win0_4.index t (1 : Fin 2) * 128 + 1 * q.val = q'.val; rw [e1]; omega

theorem idx5 : ∀ t : Fin cfg0.N, win0_5.index t (0 : Fin 2) = t.val / 7 ∧ win0_5.index t (1 : Fin 2) = 0 :=
  (by decide +kernel : ∀ t : Fin grid0.N, win0_5.index t (0 : Fin 2) = t.val / 7 ∧ win0_5.index t (1 : Fin 2) = 0)

theorem blk5_at (t : Fin cfg0.N) (p : Fin 512) (q : Fin 2048) (p' : Fin 8192) (q' : Fin 2048) (hp : p'.val = (t.val / 7) * 512 + p.val) (hq : q'.val = (0) * 2048 + q.val) :
    @Eq EReal (iblk m c 5 t (ix2 p q)) (V m c main_arg0 (ix2 p' q')) := by
  obtain ⟨e0, e1⟩ := idx5 t
  unfold iblk
  rw [View.read_apply]
  show V m c main_arg0 _ = V m c main_arg0 _
  congr 1
  funext a; apply Fin.ext
  match a with
  | ⟨0, _⟩ => show win0_5.index t (0 : Fin 2) * 512 + 1 * p.val = p'.val; rw [e0]; omega
  | ⟨1, _⟩ => show win0_5.index t (1 : Fin 2) * 2048 + 1 * q.val = q'.val; rw [e1]; omega

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem blk6_at (t : Fin cfg0.N) (p : Fin 1) (q : Fin 2048) (p' : Fin 1) (q' : Fin 2048) (hp : p'.val = (0) * 1 + p.val) (hq : q'.val = (0) * 2048 + q.val) :
    @Eq EReal (iblk m c 6 t (ix2 p q)) (V m c main_v20 (ix2 p' q')) := by
  obtain ⟨e0, e1⟩ := idx6 t
  unfold iblk
  rw [View.read_apply]
  show V m c main_v20 _ = V m c main_v20 _
  congr 1
  funext a; apply Fin.ext
  match a with
  | ⟨0, _⟩ => show win0_6.index t (0 : Fin 2) * 1 + 1 * p.val = p'.val; rw [e0]; omega
  | ⟨1, _⟩ => show win0_6.index t (1 : Fin 2) * 2048 + 1 * q.val = q'.val; rw [e1]; omega

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem blk7_at (t : Fin cfg0.N) (p : Fin 1) (q : Fin 2048) (p' : Fin 1) (q' : Fin 2048) (hp : p'.val = (0) * 1 + p.val) (hq : q'.val = (0) * 2048 + q.val) :
    @Eq EReal (iblk m c 7 t (ix2 p q)) (V m c main_v2 (ix2 p' q')) := by
  obtain ⟨e0, e1⟩ := idx7 t
  unfold iblk
  rw [View.read_apply]
  show V m c main_v2 _ = V m c main_v2 _
  congr 1
  funext a; apply Fin.ext
  match a with
  | ⟨0, _⟩ => show win0_7.index t (0 : Fin 2) * 1 + 1 * p.val = p'.val; rw [e0]; omega
  | ⟨1, _⟩ => show win0_7.index t (1 : Fin 2) * 2048 + 1 * q.val = q'.val; rw [e1]; omega

theorem idx8 : ∀ t : Fin cfg0.N, win0_8.index t (0 : Fin 2) = t.val / 7 ∧ win0_8.index t (1 : Fin 2) = 0 :=
  (by decide +kernel : ∀ t : Fin grid0.N, win0_8.index t (0 : Fin 2) = t.val / 7 ∧ win0_8.index t (1 : Fin 2) = 0)

theorem blk8_at (t : Fin cfg0.N) (p : Fin 512) (q : Fin 2048) (p' : Fin 8192) (q' : Fin 2048) (hp : p'.val = (t.val / 7) * 512 + p.val) (hq : q'.val = (0) * 2048 + q.val) :
    @Eq EReal (iblk m c 8 t (ix2 p q)) (V m c main_arg5 (ix2 p' q')) := by
  obtain ⟨e0, e1⟩ := idx8 t
  unfold iblk
  rw [View.read_apply]
  show V m c main_arg5 _ = V m c main_arg5 _
  congr 1
  funext a; apply Fin.ext
  match a with
  | ⟨0, _⟩ => show win0_8.index t (0 : Fin 2) * 512 + 1 * p.val = p'.val; rw [e0]; omega
  | ⟨1, _⟩ => show win0_8.index t (1 : Fin 2) * 2048 + 1 * q.val = q'.val; rw [e1]; omega

/-- Row `r` of row block `b`. -/
def row (b : ℕ) (h : b < 16) (r : Fin 512) : Fin 8192 := ⟨b * 512 + r.val, by omega⟩

theorem tb (t : Fin cfg0.N) : t.val / 7 < 16 := by have := t.isLt; have := pts; omega

/-- What block `k` of packed columns adds to an entry of the projection's gradient. -/
def addN (i : Fin 8192) (j : Fin 2048) (k : ℕ) : EReal := ∑ l : Fin 1024, dpN m c i (colN (k * 1024 + l.val)) * wN m c j (colN (k * 1024 + l.val))

/-- What the sixteen small columns add. -/
def small (i : Fin 8192) (j : Fin 2048) : EReal := ∑ l : Fin 128, (if l.val < 16 then dpN m c i (4096 + l.val) else 0) * (if l.val < 16 then wN m c j (4096 + l.val) else 0)

theorem sum_lo (t : Fin cfg0.N) (h : t.val % 7 ≤ 3) (r : Fin 512) (j : Fin 2048) (x0 : Vec Ideal S512x1024 .bf16) (x3 : Vec Ideal S2048x1024 .bf16)
    (e0 : x0 = iblk m c 0 t) (e3 : x3 = iblk m c 3 t) :
    (∑ l : Fin 1024, (x0 (ix2 r l) * x3 (ix2 j l) : EReal)) = addN m c (row _ (tb t) r) j (t.val % 7) := by
  subst e0; subst e3
  refine Finset.sum_congr rfl fun l _ => congrArg₂ (fun a b : EReal => a * b) ?_ ?_
  · exact (blk0_at m c t r l (row _ (tb t) r) ⟨t.val % 7 * 1024 + l.val, by omega⟩ rfl (by show _ = min (t.val % 7) 3 * 1024 + l.val; rw [Nat.min_eq_left h])).trans (V_v14 m c _ _)
  · exact (blk3_at m c t j l j ⟨t.val % 7 * 1024 + l.val, by omega⟩ (by omega) rfl).trans (V_v7 m c _ _)

theorem sum_hi (t : Fin cfg0.N) (h : 4 ≤ t.val % 7) (r : Fin 512) (j : Fin 2048) (x1 : Vec Ideal S512x1024 .bf16) (x3 : Vec Ideal S2048x1024 .bf16)
    (e1 : x1 = iblk m c 1 t) (e3 : x3 = iblk m c 3 t) :
    (∑ l : Fin 1024, (x1 (ix2 r l) * x3 (ix2 j l) : EReal)) = addN m c (row _ (tb t) r) j (t.val % 7) := by
  subst e1; subst e3
  refine Finset.sum_congr rfl fun l _ => congrArg₂ (fun a b : EReal => a * b) ?_ ?_
  · refine (blk1_at m c t r l (row _ (tb t) r) ⟨(t.val % 7 - 4) * 1024 + l.val, by omega⟩ rfl (by show _ = min (t.val % 7 - 4) 2 * 1024 + l.val; rw [Nat.min_eq_left (by omega)])).trans ((V_v16 m c _ _).trans ?_)
    congr 2; show 4096 + ((t.val % 7 - 4) * 1024 + l.val) = t.val % 7 * 1024 + l.val; omega
  · exact (blk3_at m c t j l j ⟨t.val % 7 * 1024 + l.val, by omega⟩ (by omega) rfl).trans (V_v7 m c _ _)

theorem sum_small (t : Fin cfg0.N) (r : Fin 512) (j : Fin 2048) (x2 : Vec Ideal S512x128 .f32) (x4 : Vec Ideal S2048x128 .bf16)
    (e2 : x2 = iblk m c 2 t) (e4 : x4 = iblk m c 4 t) :
    (∑ l : Fin 128, (x2 (ix2 r l) * x4 (ix2 j l) : EReal)) = small m c (row _ (tb t) r) j := by
  subst e2; subst e4
  refine Finset.sum_congr rfl fun l _ => congrArg₂ (fun a b : EReal => a * b) ?_ ?_
  · exact (blk2_at m c t r l (row _ (tb t) r) l rfl (by omega)).trans (V_v19 m c _ _)
  · exact (blk4_at m c t j l j l (by omega) (by omega)).trans (V_v10 m c _ _)

/-- The packed columns and the small ones are all the columns. -/
theorem cols (f : ℕ → EReal) : (∑ k ∈ Finset.range 7, ∑ l : Fin 1024, f (colN (k * 1024 + l.val)))
    + (∑ l : Fin 128, if l.val < 16 then f (4096 + l.val) else 0) = ∑ q : Fin 7184, f q.val := by
  have e1 : ∑ k ∈ Finset.range 7, ∑ l : Fin 1024, f (colN (k * 1024 + l.val)) = ∑ p ∈ Finset.range 7168, f (colN p) := by
    rw [← Fin.sum_univ_eq_sum_range (fun k => ∑ l : Fin 1024, f (colN (k * 1024 + l.val))) 7, ← Fin.sum_univ_eq_sum_range (fun p => f (colN p)) 7168]
    exact Fin.sum_mul_add_fin 7 1024 (fun p : Fin 7168 => f (colN p.val)) rfl
  have e2 : (∑ l : Fin 128, if l.val < 16 then f (4096 + l.val) else 0) = ∑ l ∈ Finset.range 16, f (4096 + l) := by
    rw [Fin.sum_univ_eq_sum_range (fun l => if l < 16 then f (4096 + l) else 0) 128, show 128 = 16 + 112 from rfl, Finset.sum_range_add,
      Finset.sum_congr rfl (fun x hx => if_pos (Finset.mem_range.mp hx)),
      Finset.sum_congr (s₁ := Finset.range 112) rfl (fun x _ => if_neg (by omega : ¬ 16 + x < 16)), Finset.sum_const_zero, add_zero]
  have e3 : ∑ p ∈ Finset.range 7168, f (colN p) = (∑ p ∈ Finset.range 1024, f (3072 + p)) + (∑ p ∈ Finset.range 3072, f (4112 + p)) + ∑ p ∈ Finset.range 3072, f p := by
    rw [show 7168 = 1024 + 3072 + 3072 from rfl, Finset.sum_range_add, Finset.sum_range_add]
    refine congrArg₂ (fun a b : EReal => a + b) (congrArg₂ (fun a b : EReal => a + b) ?_ ?_) ?_
    · refine Finset.sum_congr rfl fun x hx => ?_
      unfold colN; rw [if_pos (Finset.mem_range.mp hx)]
    · refine Finset.sum_congr rfl fun x hx => ?_
      have := Finset.mem_range.mp hx
      unfold colN; rw [if_neg (by omega), if_pos (by omega), show 3088 + (1024 + x) = 4112 + x by omega]
    · refine Finset.sum_congr rfl fun x hx => ?_
      unfold colN; rw [if_neg (by omega), if_neg (by omega), show 1024 + 3072 + x - 4096 = x by omega]
  have e4 : ∑ q : Fin 7184, f q.val = (∑ p ∈ Finset.range 3072, f p) + (∑ p ∈ Finset.range 1024, f (3072 + p)) + (∑ l ∈ Finset.range 16, f (4096 + l)) + ∑ p ∈ Finset.range 3072, f (4112 + p) := by
    rw [Fin.sum_univ_eq_sum_range f 7184, show 7184 = 3072 + 1024 + 16 + 3072 from rfl, Finset.sum_range_add, Finset.sum_range_add, Finset.sum_range_add]
  rw [e1, e2, e3, e4]
  abel

theorem full (i : Fin 8192) (j : Fin 2048) : small m c i j + ∑ k ∈ Finset.range 7, addN m c i j k = dh (aW m c) (aP m c) i j := by
  have h := cols (fun q => dpN m c i q * wN m c j q)
  have e : small m c i j = ∑ l : Fin 128, if l.val < 16 then dpN m c i (4096 + l.val) * wN m c j (4096 + l.val) else 0 := by
    refine Finset.sum_congr rfl fun l _ => ?_
    split
    · rfl
    · exact mul_zero _
  rw [e, add_comm]
  refine h.trans ?_
  exact Finset.sum_congr rfl fun q _ => congrArg₂ (fun a b : EReal => a * b) (dpN_eq m c i _ q rfl).symm (wN_eq m c j _ q rfl).symm

end Cert.KernelIdeal.Tie

end
-- ==== Proof.IbValA.lean ====
/-
  What the input projection's gradient kernel leaves after each grid point: the partial product in the scratch buffer, the
  rows of the gradient of `x`, and the three running column sums.
-/
module

public import proofs.«01_k».proof.Proof.IbRun
public import proofs.«01_k».proof.Proof.IbVec
public import proofs.«01_k».proof.Proof.IbBlk
public import Idealize.ShloMosaic.Lib.Pipeline.ValueKit

@[expose] public section

set_option maxRecDepth 16384

noncomputable section

namespace Cert.KernelIdeal.Tie

open Cert.KernelIdeal Cert.KernelIdeal.Gen Cert.KernelIdeal.Value Cert.IbSpec
open Idealize.ShloMosaic Idealize.ShloMosaic.TcCoe

section
variable {F : FTy → Type} [FloatOps F]

/-- Reading back a whole store of one row. -/
theorem read_one {sp : Space} (v : View sig .tc sp S1x2048 .f32) (f : v.ty.Contents (Elt F)) (w : Vec F S1x2048 .f32) (L : List (View.Piece (Elt F) S1x2048 .f32)) :
    v.read (Elt F) (v.writes (Elt F) f (⟨Rect.unit ![0, 0] S1x2048.size inb_S1x2048_S1x2048_0_0, w⟩ :: L)) = w := by
  rw [View.read_writes_eq_canon v f _ (fun y => ⟨_, List.mem_cons_self, by
    rw [Rect.mem_set_unit]; intro a; have := (y a).isLt; rw [hz]; simp only [Nat.zero_add]; exact ⟨Nat.zero_le _, this⟩⟩)]
  exact View.canon_cons_unit_zero (S := S1x2048) hz _ _ _

theorem sA (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = k0_pay5 (k0_pay4 x2 x4) x0 x3 := by
  unfold sout0_A_0 kernelRun0_A
  dsimp only
  sl_unfold_words
  rw [read_cons_big]
  simp only [View.readAt_eq_ld, harg2.read_unread, harg4.read_unread, harg6.read_unread, harg5.read_unread, View.readCov_unit_zero (S := S512x2048) _ hz, View.ld_unit_zero (S := S512x1024) hz, View.ld_unit_zero (S := S512x128) hz, View.ld_unit_zero (S := S2048x1024) hz, View.ld_unit_zero (S := S2048x128) hz, View.ld_unit_zero (S := S512x2048) hz]
theorem sE (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) : sout0_E_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = k0_pay5 (k0_pay4 x2 x4) x0 x3 := by
  unfold sout0_E_0 kernelRun0_E
  dsimp only
  sl_unfold_words
  rw [read_cons_big]
  simp only [View.readAt_eq_ld, harg2.read_unread, harg4.read_unread, harg6.read_unread, harg5.read_unread, View.readCov_unit_zero (S := S512x2048) _ hz, View.ld_unit_zero (S := S512x1024) hz, View.ld_unit_zero (S := S512x128) hz, View.ld_unit_zero (S := S2048x1024) hz, View.ld_unit_zero (S := S2048x128) hz, View.ld_unit_zero (S := S512x2048) hz]
theorem sB (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32) : sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xs0 = k0_pay5 xs0 x0 x3 := by
  unfold sout0_B_0 kernelRun0_B
  dsimp only
  sl_unfold_words
  rw [read_cons_big]
  simp only [View.readAt_eq_ld, harg2.read_unread, harg3.read_unread, harg5.read_unread, harg15.read_unread, View.ld_unit_zero (S := S512x1024) hz, View.ld_unit_zero (S := S2048x1024) hz, View.ld_unit_zero (S := S512x2048) hz]
theorem sC (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xs0 : Vec F S512x2048 .f32) : sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xs0 = k0_pay6 xs0 x1 x3 := by
  unfold sout0_C_0 kernelRun0_C
  dsimp only
  sl_unfold_words
  rw [read_cons_big]
  simp only [View.readAt_eq_ld, harg2.read_unread, harg3.read_unread, harg5.read_unread, harg15.read_unread, View.ld_unit_zero (S := S512x1024) hz, View.ld_unit_zero (S := S2048x1024) hz, View.ld_unit_zero (S := S512x2048) hz]
theorem sD (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo10 : Vec F S1x2048 .f32) (xo11 : Vec F S1x2048 .f32) (xo12 : Vec F S1x2048 .f32) (xs0 : Vec F S512x2048 .f32) : sout0_D_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo10 xo11 xo12 xs0 = k0_pay6 xs0 x1 x3 := by
  unfold sout0_D_0 kernelRun0_D
  dsimp only
  exact read_cons_big _ _ _ _
theorem oA10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = k0_pay1 := by
  unfold out0_A_10 kernelRun0_A
  dsimp only
  sl_unfold_words
  exact read_one _ _ _ _
theorem oA11 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = k0_pay2 := by
  unfold out0_A_11 kernelRun0_A
  dsimp only
  sl_unfold_words
  exact read_one _ _ _ _
theorem oA12 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : cond0_0 i) (hc1 : cond0_1 i) (hc2 : cond0_2 i) (hc3 : ¬cond0_3 i) (hc4 : ¬cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) : out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 = k0_pay3 := by
  unfold out0_A_12 kernelRun0_A
  dsimp only
  sl_unfold_words
  exact read_one _ _ _ _
theorem oD10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo10 : Vec F S1x2048 .f32) (xo11 : Vec F S1x2048 .f32) (xo12 : Vec F S1x2048 .f32) (xs0 : Vec F S512x2048 .f32) : out0_D_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo10 xo11 xo12 xs0 = accSh inbk (k0_pay6 xs0 x1 x3) xo10 4 := by
  unfold out0_D_10 kernelRun0_D
  dsimp only
  exact read_one _ _ _ _
theorem oD11 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo10 : Vec F S1x2048 .f32) (xo11 : Vec F S1x2048 .f32) (xo12 : Vec F S1x2048 .f32) (xs0 : Vec F S512x2048 .f32) : out0_D_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo10 xo11 xo12 xs0 = accSc inbk x5 x6 (k0_pay6 xs0 x1 x3) xo11 4 := by
  unfold out0_D_11 kernelRun0_D
  dsimp only
  exact read_one _ _ _ _
theorem oD12 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : cond0_4 i)
    (x0 : Vec F S512x1024 .bf16) (x1 : Vec F S512x1024 .bf16) (x2 : Vec F S512x128 .f32) (x3 : Vec F S2048x1024 .bf16) (x4 : Vec F S2048x128 .bf16) (x5 : Vec F S512x2048 .f32) (x6 : Vec F S1x2048 .f32) (x7 : Vec F S1x2048 .f32) (x8 : Vec F S512x2048 .f32) (xo10 : Vec F S1x2048 .f32) (xo11 : Vec F S1x2048 .f32) (xo12 : Vec F S1x2048 .f32) (xs0 : Vec F S512x2048 .f32) : out0_D_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo10 xo11 xo12 xs0 = accNg inbk x5 x7 (k0_pay6 xs0 x1 x3) xo12 4 := by
  unfold out0_D_12 kernelRun0_D
  dsimp only
  exact read_one _ _ _ _

end

/-- The four row pieces, read back, are the gradient's rows. -/
theorem rows_read {sp : Space} (v : View sig .tc sp S512x2048 .f32) (f : v.ty.Contents (Elt Ideal)) (x5 : Vec Ideal S512x2048 .f32) (x6 x7 : Vec Ideal S1x2048 .f32) (x8 xs : Vec Ideal S512x2048 .f32) :
    v.read (Elt Ideal) (v.writes (Elt Ideal) f (rowPcs x5 x6 x7 x8 xs)) = dxb x5 x6 x7 x8 xs := by
  refine (View.read_writes_eq_canon v f _ (View.cover_of_tiledL (rowPcs x5 x6 x7 x8 xs) S128x2048.size (by sl_kernel_rfl))).trans ?_
  funext y
  refine View.canon_eq_of_allAt _ _ _ (View.cover_of_tiledL (rowPcs x5 x6 x7 x8 xs) S128x2048.size (by sl_kernel_rfl) y) ?_
  have h : ∀ (k : ℕ) (hk : k < 4) (hk' : k < k0_t1_loop.trips),
      View.TileAt (Val := Elt Ideal) (e := .f32) (S := S512x2048) y ![k * 128, 0] S128x2048.size (dxRow (F := Ideal) inbk x5 x6 x7 x8 xs ⟨k, hk'⟩) (dxb x5 x6 x7 x8 xs y) := by
    intro k hk hk' x hx
    have h0 : (y 0).val = k * 128 + (x 0).val := hx 0
    have h1 : (y 1).val = 0 + (x 1).val := hx 1
    have b0 : (x 0).val < 128 := (x 0).isLt
    have b1 : (x 1).val < 2048 := (x 1).isLt
    have ex : x = ix2 (⟨(x 0).val, b0⟩ : Fin 128) (⟨(x 1).val, b1⟩ : Fin 2048) := by
      funext a
      match a with
      | ⟨0, _⟩ => rfl
      | ⟨1, _⟩ => rfl
    rw [ex]
    refine (dxRow_at x5 x6 x7 x8 xs ⟨k, hk'⟩ _ _ (by show k * 128 + (x 0).val < 512; omega)).trans ?_
    congr 1
    funext a
    apply Fin.ext
    match a with
    | ⟨0, _⟩ => exact h0.symm
    | ⟨1, _⟩ => show (x 1).val = (y 1).val; omega
  unfold rowPcs
  exact View.allAt_cons_unit _ _ _ _ _ (h 3 (by omega) _) (View.allAt_cons_unit _ _ _ _ _ (h 2 (by omega) _)
    (View.allAt_cons_unit _ _ _ _ _ (h 1 (by omega) _) (View.allAt_cons_unit _ _ _ _ _ (h 0 (by omega) _) (View.allAt_nil _ _))))

theorem oD9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x128 .f32) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S512x2048 .f32) (harg15 : arg15.IsWhole) (hc0 : ¬cond0_0 i) (hc1 : ¬cond0_1 i) (hc2 : ¬cond0_2 i) (hc3 : cond0_3 i) (hc4 : cond0_4 i)
    (x0 : Vec Ideal S512x1024 .bf16) (x1 : Vec Ideal S512x1024 .bf16) (x2 : Vec Ideal S512x128 .f32) (x3 : Vec Ideal S2048x1024 .bf16) (x4 : Vec Ideal S2048x128 .bf16) (x5 : Vec Ideal S512x2048 .f32) (x6 : Vec Ideal S1x2048 .f32) (x7 : Vec Ideal S1x2048 .f32) (x8 : Vec Ideal S512x2048 .f32) (xo10 : Vec Ideal S1x2048 .f32) (xo11 : Vec Ideal S1x2048 .f32) (xo12 : Vec Ideal S1x2048 .f32) (xs0 : Vec Ideal S512x2048 .f32) : out0_D_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 xo10 xo11 xo12 xs0 = dxb x5 x6 x7 x8 (k0_pay6 xs0 x1 x3) := by
  unfold out0_D_9 kernelRun0_D
  dsimp only
  exact rows_read _ _ _ _ _ _ _

end Cert.KernelIdeal.Tie

end
-- ==== Proof.IbVal.lean ====
/-
  The input projection's gradient kernel computes the four results: an induction over the grid points.
-/
module

public import proofs.«01_k».proof.Proof.IbValA

@[expose] public section

set_option maxRecDepth 16384

noncomputable section

namespace Cert.KernelIdeal.Tie

open Cert.KernelIdeal Cert.KernelIdeal.Gen Cert.KernelIdeal.Value Cert.IbSpec
open Idealize.ShloMosaic Idealize.ShloMosaic.TcCoe

variable (m : (ℓ : Loc nD τ sig) → Buf (Elt Ideal) ℓ) (c : Dev nD)

/-- The scratch buffer and the three running sums after point `n`. -/
abbrev scr (n : ℕ) (h : n < cfg0.N) : Vec Ideal S512x2048 .f32 := (outsAt0 m c n h).2.2.2.2
abbrev o10 (n : ℕ) (h : n < cfg0.N) : Vec Ideal S1x2048 .f32 := (outsAt0 m c n h).2.1
abbrev o11 (n : ℕ) (h : n < cfg0.N) : Vec Ideal S1x2048 .f32 := (outsAt0 m c n h).2.2.1
abbrev o12 (n : ℕ) (h : n < cfg0.N) : Vec Ideal S1x2048 .f32 := (outsAt0 m c n h).2.2.2.1

theorem pv (t : Fin cfg0.N) : t.val - 1 < cfg0.N := Nat.lt_of_le_of_lt (Nat.sub_le _ _) t.isLt

theorem scr_first (t : Fin cfg0.N) (h : t.val % 7 = 0) : scr m c t.val t.isLt = k0_pay5 (F := Ideal) (k0_pay4 (F := Ideal) (iblk m c 2 t) (iblk m c 4 t)) (iblk m c 0 t) (iblk m c 3 t) := by
  by_cases h0 : t.val % 112 = 0
  · refine (congrArg (fun q => q.2.2.2.2) (outsAt0_A m c t h0 h (by omega) (by omega) (by omega))).trans ?_
    dsimp only
    exact sA ..
  · refine (congrArg (fun q => q.2.2.2.2) (outsAt0_E m c t h0 h (by omega) (by omega) (by omega))).trans ?_
    dsimp only
    exact sE ..

theorem scr_lo (t : Fin cfg0.N) (h : ¬t.val % 7 = 0) (h' : t.val % 7 ≤ 3) : scr m c t.val t.isLt = k0_pay5 (F := Ideal) (scr m c (t.val - 1) (pv t)) (iblk m c 0 t) (iblk m c 3 t) := by
  refine (congrArg (fun q => q.2.2.2.2) (outsAt0_B m c t (by omega) h h' (by omega) (by omega))).trans ?_
  dsimp only
  exact sB ..

theorem scr_hi (t : Fin cfg0.N) (h : 4 ≤ t.val % 7) : scr m c t.val t.isLt = k0_pay6 (F := Ideal) (scr m c (t.val - 1) (pv t)) (iblk m c 1 t) (iblk m c 3 t) := by
  by_cases h6 : t.val % 7 = 6
  · refine (congrArg (fun q => q.2.2.2.2) (outsAt0_D m c t (by omega) (by omega) (by omega) h h6)).trans ?_
    dsimp only
    exact sD ..
  · refine (congrArg (fun q => q.2.2.2.2) (outsAt0_C m c t (by omega) (by omega) (by omega) h h6)).trans ?_
    dsimp only
    exact sC ..

/-- The partial product in the scratch buffer. -/
theorem scr_at : ∀ (n : ℕ) (h : n < cfg0.N) (r : Fin 512) (j : Fin 2048),
    @Eq EReal (scr m c n h (ix2 r j)) (small m c (row _ (tb ⟨n, h⟩) r) j + ∑ k ∈ Finset.range (n % 7 + 1), addN m c (row _ (tb ⟨n, h⟩) r) j k) := by
  intro n
  induction n with
  | zero =>
    intro h r j
    refine (congrFun (scr_first m c ⟨0, h⟩ (by rfl)) _).trans ?_
    rw [pay5_at, pay4_at, sum_lo m c ⟨0, h⟩ (by show 0 % 7 ≤ 3; omega) r j _ _ rfl rfl, sum_small m c ⟨0, h⟩ r j _ _ rfl rfl]
    show _ = _ + ∑ k ∈ Finset.range 1, _
    rw [Finset.sum_range_one]
    rfl
  | succ n ih =>
    intro h r j
    by_cases h7 : (n + 1) % 7 = 0
    · refine (congrFun (scr_first m c ⟨n + 1, h⟩ h7) _).trans ?_
      rw [pay5_at, pay4_at, sum_lo m c ⟨n + 1, h⟩ (by show (n + 1) % 7 ≤ 3; omega) r j _ _ rfl rfl, sum_small m c ⟨n + 1, h⟩ r j _ _ rfl rfl]
      rw [h7]
      show _ = _ + ∑ k ∈ Finset.range 1, _
      rw [Finset.sum_range_one]
    · have hr : row _ (tb ⟨n, by omega⟩) r = row _ (tb ⟨n + 1, h⟩) r := by
        apply Fin.ext
        show n / 7 * 512 + r.val = (n + 1) / 7 * 512 + r.val
        rw [show n / 7 = (n + 1) / 7 by omega]
      have hn : (n + 1) % 7 = n % 7 + 1 := by omega
      have e := ih (by omega) r j
      rw [hr] at e
      have step : @Eq EReal (scr m c (n + 1) h (ix2 r j)) (scr m c n (by omega) (ix2 r j) + addN m c (row _ (tb ⟨n + 1, h⟩) r) j ((n + 1) % 7)) := by
        by_cases h3 : (n + 1) % 7 ≤ 3
        · refine (congrFun (scr_lo m c ⟨n + 1, h⟩ h7 h3) _).trans ?_
          rw [pay5_at, sum_lo m c ⟨n + 1, h⟩ h3 r j _ _ rfl rfl]
          rfl
        · refine (congrFun (scr_hi m c ⟨n + 1, h⟩ (by show 4 ≤ (n + 1) % 7; omega)) _).trans ?_
          rw [pay6_at, sum_hi m c ⟨n + 1, h⟩ (by show 4 ≤ (n + 1) % 7; omega) r j _ _ rfl rfl]
          rfl
      refine step.trans ?_
      rw [e, add_assoc, hn, Finset.sum_range_succ _ (n % 7 + 1)]

theorem scr_last (t : Fin cfg0.N) (h : t.val % 7 = 6) (r : Fin 512) (j : Fin 2048) :
    @Eq EReal (k0_pay6 (F := Ideal) (scr m c (t.val - 1) (pv t)) (iblk m c 1 t) (iblk m c 3 t) (ix2 r j)) (dh (aW m c) (aP m c) (row _ (tb t) r) j) := by
  refine (congrFun (scr_hi m c t (by omega)) (ix2 r j)).symm.trans ((scr_at m c t.val t.isLt r j).trans ?_)
  rw [h]
  exact full m c _ j

theorem x5_at (t : Fin cfg0.N) (r : Fin 512) (j : Fin 2048) : @Eq EReal (iblk m c 5 t (ix2 r j)) (aX m c (row _ (tb t) r) j) :=
  (blk5_at m c t r j (row _ (tb t) r) j rfl (by omega)).trans (V_arg0 m c _ _)
theorem x8_at (t : Fin cfg0.N) (r : Fin 512) (j : Fin 2048) : @Eq EReal (iblk m c 8 t (ix2 r j)) (aO m c (row _ (tb t) r) j) :=
  (blk8_at m c t r j (row _ (tb t) r) j rfl (by omega)).trans (V_arg5 m c _ _)
theorem x6_at (t : Fin cfg0.N) (j : Fin 2048) : @Eq EReal (iblk m c 6 t (ix2 0 j)) (aG m c j) :=
  (blk6_at m c t 0 j 0 j rfl (by omega)).trans (V_v20 m c _)
theorem x7_at (t : Fin cfg0.N) (j : Fin 2048) : @Eq EReal (iblk m c 7 t (ix2 0 j)) (1 + aS m c j) :=
  (blk7_at m c t 0 j 0 j rfl (by omega)).trans (V_v2 m c _)

theorem uub (t : Fin cfg0.N) (r : Fin 512) (x5 : Vec Ideal S512x2048 .f32) (e5 : x5 = iblk m c 5 t) :
    (Ideal.div (∑ k : Fin 2048, (x5 (ix2 r k) * x5 (ix2 r k) : EReal)) c2048 + eps : EReal) = uu (aX m c) (row _ (tb t) r) := by
  subst e5
  refine congrArg (fun q : EReal => Ideal.div q c2048 + eps) (Finset.sum_congr rfl fun k _ => ?_)
  exact congrArg₂ (fun a b : EReal => a * b) (x5_at m c t r k) (x5_at m c t r k)

theorem xnb_eq (t : Fin cfg0.N) (r : Fin 512) (j : Fin 2048) : xnb (iblk m c 5 t) r j = xn (aX m c) (row _ (tb t) r) j :=
  congrArg₂ (fun a b : EReal => a * b) (x5_at m c t r j) (congrArg Ideal.rsqrt (uub m c t r _ rfl))

/-- What row block `b` adds to the three column sums. -/
def shN (b : ℕ) (j : Fin 2048) : EReal := if h : b < 16 then ∑ r : Fin 512, dh (aW m c) (aP m c) (row b h r) j else 0
def scN (b : ℕ) (j : Fin 2048) : EReal := if h : b < 16 then ∑ r : Fin 512, dh (aW m c) (aP m c) (row b h r) j * (xn (aX m c) (row b h r) j * aG m c j) else 0
def ngN (b : ℕ) (j : Fin 2048) : EReal := if h : b < 16 then ∑ r : Fin 512, dh (aW m c) (aP m c) (row b h r) j * (1 + aS m c j) * xn (aX m c) (row b h r) j else 0

theorem o_zero (h : 0 < cfg0.N) (j : Fin 2048) : @Eq EReal (o10 m c 0 h (ix2 0 j)) 0 ∧ @Eq EReal (o11 m c 0 h (ix2 0 j)) 0 ∧ @Eq EReal (o12 m c 0 h (ix2 0 j)) 0 := by
  have e := outsAt0_A m c ⟨0, h⟩ (by rfl) (by rfl) (by show 0 % 7 ≤ 3; omega) (by show ¬4 ≤ 0 % 7; omega) (by show ¬0 % 7 = 6; omega)
  have e10 := congrArg (fun q => q.2.1) e
  have e11 := congrArg (fun q => q.2.2.1) e
  have e12 := congrArg (fun q => q.2.2.2.1) e
  dsimp only at e10 e11 e12
  rw [oA10] at e10
  rw [oA11] at e11
  rw [oA12] at e12
  exact ⟨(congrFun e10 _).trans (pay1_at _), (congrFun e11 _).trans (pay2_at _), (congrFun e12 _).trans (pay3_at _)⟩

theorem o_keep (t : Fin cfg0.N) (h0 : ¬t.val % 112 = 0) (h6 : ¬t.val % 7 = 6) :
    o10 m c t.val t.isLt = o10 m c (t.val - 1) (pv t) ∧ o11 m c t.val t.isLt = o11 m c (t.val - 1) (pv t) ∧ o12 m c t.val t.isLt = o12 m c (t.val - 1) (pv t) := by
  by_cases h7 : t.val % 7 = 0
  · have e := outsAt0_E m c t h0 h7 (by omega) (by omega) h6
    exact ⟨congrArg (fun q => q.2.1) e, congrArg (fun q => q.2.2.1) e, congrArg (fun q => q.2.2.2.1) e⟩
  · by_cases h3 : t.val % 7 ≤ 3
    · have e := outsAt0_B m c t h0 h7 h3 (by omega) h6
      exact ⟨congrArg (fun q => q.2.1) e, congrArg (fun q => q.2.2.1) e, congrArg (fun q => q.2.2.2.1) e⟩
    · have e := outsAt0_C m c t h0 h7 h3 (by omega) h6
      exact ⟨congrArg (fun q => q.2.1) e, congrArg (fun q => q.2.2.1) e, congrArg (fun q => q.2.2.2.1) e⟩

theorem o_add (t : Fin cfg0.N) (h : t.val % 7 = 6) (j : Fin 2048) :
    @Eq EReal (o10 m c t.val t.isLt (ix2 0 j)) (o10 m c (t.val - 1) (pv t) (ix2 0 j) + shN m c (t.val / 7) j)
    ∧ @Eq EReal (o11 m c t.val t.isLt (ix2 0 j)) (o11 m c (t.val - 1) (pv t) (ix2 0 j) + scN m c (t.val / 7) j)
    ∧ @Eq EReal (o12 m c t.val t.isLt (ix2 0 j)) (o12 m c (t.val - 1) (pv t) (ix2 0 j) + ngN m c (t.val / 7) j) := by
  have e := outsAt0_D m c t (by omega) (by omega) (by omega) (by omega) h
  have e10 := congrArg (fun q => q.2.1) e
  have e11 := congrArg (fun q => q.2.2.1) e
  have e12 := congrArg (fun q => q.2.2.2.1) e
  dsimp only at e10 e11 e12
  rw [oD10] at e10
  rw [oD11] at e11
  rw [oD12] at e12
  refine ⟨(congrFun e10 _).trans ((accSh_at _ _ j).trans ?_), (congrFun e11 _).trans ((accSc_at _ _ _ _ j).trans ?_),
    (congrFun e12 _).trans ((accNg_at _ _ _ _ j).trans ?_)⟩
  · refine congrArg₂ (fun a b : EReal => a + b) rfl ?_
    unfold shN
    rw [dif_pos (tb t)]
    exact Finset.sum_congr rfl fun r _ => scr_last m c t h r j
  · refine congrArg₂ (fun a b : EReal => a + b) rfl ?_
    unfold scN
    rw [dif_pos (tb t)]
    exact Finset.sum_congr rfl fun r _ => congrArg₂ (fun a b : EReal => a * b) (scr_last m c t h r j)
      (congrArg₂ (fun a b : EReal => a * b) (xnb_eq m c t r j) (x6_at m c t j))
  · refine congrArg₂ (fun a b : EReal => a + b) rfl ?_
    unfold ngN
    rw [dif_pos (tb t)]
    exact Finset.sum_congr rfl fun r _ => congrArg₂ (fun a b : EReal => a * b) (congrArg₂ (fun a b : EReal => a * b) (scr_last m c t h r j) (x7_at m c t j))
      (xnb_eq m c t r j)

theorem o_at (j : Fin 2048) : ∀ (n : ℕ) (h : n < cfg0.N),
    @Eq EReal (o10 m c n h (ix2 0 j)) (∑ b ∈ Finset.range ((n + 1) / 7), shN m c b j)
    ∧ @Eq EReal (o11 m c n h (ix2 0 j)) (∑ b ∈ Finset.range ((n + 1) / 7), scN m c b j)
    ∧ @Eq EReal (o12 m c n h (ix2 0 j)) (∑ b ∈ Finset.range ((n + 1) / 7), ngN m c b j) := by
  intro n
  induction n with
  | zero => intro h; exact o_zero m c h j
  | succ n ih =>
    intro h
    have hN := pts
    obtain ⟨i0, i1, i2⟩ := ih (by omega)
    by_cases h6 : (n + 1) % 7 = 6
    · obtain ⟨a0, a1, a2⟩ := o_add m c ⟨n + 1, h⟩ h6 j
      have e : (n + 1 + 1) / 7 = (n + 1) / 7 + 1 := by omega
      rw [e, Finset.sum_range_succ, Finset.sum_range_succ, Finset.sum_range_succ, ← i0, ← i1, ← i2]
      exact ⟨a0, a1, a2⟩
    · obtain ⟨a0, a1, a2⟩ := o_keep m c ⟨n + 1, h⟩ (by show ¬(n + 1) % 112 = 0; omega) h6
      have e : (n + 1 + 1) / 7 = (n + 1) / 7 := by omega
      rw [e, ← i0, ← i1, ← i2]
      exact ⟨congrFun a0 _, congrFun a1 _, congrFun a2 _⟩

/-- A sum over the rows by blocks of 512. -/
theorem blocks (f : Fin 8192 → EReal) : (∑ b ∈ Finset.range 16, if h : b < 16 then ∑ r : Fin 512, f (row b h r) else 0) = ∑ i : Fin 8192, f i := by
  rw [← Fin.sum_univ_eq_sum_range (fun b => if h : b < 16 then ∑ r : Fin 512, f (row b h r) else 0) 16, ← Fin.sum_mul_add_fin 16 512 f rfl]
  refine Finset.sum_congr rfl fun b _ => ?_
  rw [dif_pos b.isLt]
  rfl

theorem g10 (j : Fin 2048) : @Eq EReal (G10 m c (ix2 0 j)) (rsh (aW m c) (aP m c) j) := by
  rw [G10_last, ← outsAt0_sweep m c 111 (lt_of_lt_of_eq (by decide) N_0.symm)]
  exact (o_at m c j 111 _).1.trans (blocks (fun i => dh (aW m c) (aP m c) i j))
theorem g11 (j : Fin 2048) : @Eq EReal (G11 m c (ix2 0 j)) (rsc (aX m c) (aG m c) (aW m c) (aP m c) j) := by
  rw [G11_last, ← outsAt0_sweep m c 111 (lt_of_lt_of_eq (by decide) N_0.symm)]
  exact (o_at m c j 111 _).2.1.trans (blocks (fun i => dh (aW m c) (aP m c) i j * (xn (aX m c) i j * aG m c j)))
theorem g12 (j : Fin 2048) : @Eq EReal (G12 m c (ix2 0 j)) (rng (aX m c) (aS m c) (aW m c) (aP m c) j) := by
  rw [G12_last, ← outsAt0_sweep m c 111 (lt_of_lt_of_eq (by decide) N_0.symm)]
  exact (o_at m c j 111 _).2.2.trans (blocks (fun i => dh (aW m c) (aP m c) i j * (1 + aS m c j) * xn (aX m c) i j))

theorem dxb_at (t : Fin cfg0.N) (h : t.val % 7 = 6) (r : Fin 512) (j : Fin 2048) :
    @Eq EReal ((outsAt0 m c t.val t.isLt).1 (ix2 r j)) (rdx (aX m c) (aG m c) (aS m c) (aW m c) (aP m c) (aO m c) (row _ (tb t) r) j) := by
  have e := outsAt0_D m c t (by omega) (by omega) (by omega) (by omega) h
  have e9 := congrArg (fun q => q.1) e
  dsimp only at e9
  rw [oD9] at e9
  refine (congrFun e9 (ix2 r j)).trans ?_
  have d : ∀ k : Fin 2048, @Eq EReal (@HMul.hMul EReal EReal EReal _ (k0_pay6 (F := Ideal) (scr m c (t.val - 1) (pv t)) (iblk m c 1 t) (iblk m c 3 t) (ix2 r k)) (@HMul.hMul EReal EReal EReal _ (iblk m c 6 t (ix2 0 k)) (iblk m c 7 t (ix2 0 k))))
      (dxn (aG m c) (aS m c) (aW m c) (aP m c) (row _ (tb t) r) k) := fun k =>
    congrArg₂ (fun a b : EReal => a * b) (scr_last m c t h r k) (congrArg₂ (fun a b : EReal => a * b) (x6_at m c t k) (x7_at m c t k))
  exact congrArg₂ (fun a b : EReal => a + b) (congrArg₂ (fun a b : EReal => a * b) (congrArg Ideal.rsqrt (uub m c t r _ rfl))
    (congrArg₂ (fun a b : EReal => a - b) (d j) (congrArg₂ (fun a b : EReal => a * b) (xnb_eq m c t r j)
      (congrArg (fun q : EReal => Ideal.div q c2048) (Finset.sum_congr rfl fun k _ => congrArg₂ (fun a b : EReal => a * b) (d k) (xnb_eq m c t r k)))))) (x8_at m c t r j)

theorem g9 (i : Fin 8192) (j : Fin 2048) : @Eq EReal (G9 m c (ix2 i j)) (rdx (aX m c) (aG m c) (aS m c) (aW m c) (aP m c) (aO m c) i j) := by
  have hp : pt9Of (ix2 i j) = 7 * (i.val / 512) + 6 := by
    show 7 * (1 * (i.val / 512 - 0) + 1 * (j.val / 2048 - 0)) + 6 = _
    omega
  have hN := pts
  have hlt : 7 * (i.val / 512) + 6 < cfg0.N := by omega
  unfold G9
  rw [dif_pos (by rw [hp]; exact hlt), fold0_congr m c _ _ _ (by omega) hp, ← outsAt0_sweep m c _ hlt]
  have hl : loc9Of (ix2 i j) = ix2 (⟨i.val % 512, by omega⟩ : Fin 512) j := by
    funext a; apply Fin.ext
    match a with
    | ⟨0, _⟩ => rfl
    | ⟨1, _⟩ => show j.val % 2048 = j.val; omega
  rw [hl]
  refine (dxb_at m c ⟨7 * (i.val / 512) + 6, hlt⟩ (by show (7 * (i.val / 512) + 6) % 7 = 6; omega) _ j).trans ?_
  congr 1
  apply Fin.ext
  show (7 * (i.val / 512) + 6) / 7 * 512 + i.val % 512 = i.val
  omega

end Cert.KernelIdeal.Tie

end
-- ==== Proof.IbRef.lean ====
/-
  The reference's four results, read at an index: the functions of `IbSpec`.
-/
module

public import proofs.«01_k».proof.Proof.IbSpec
public import Idealize.ShloMosaic.Lib.Pointwise.Tactic
public import proofs.«01_k».proof.Proof.Gen.ReferenceIdeal.Read

@[expose] public section

noncomputable section

namespace Cert.ReferenceIdeal.Tie

open Cert.ReferenceIdeal Cert.ReferenceIdeal.Gen Cert.ReferenceIdeal.Read Cert.IbSpec
open Idealize.ShloMosaic Idealize.ShloMosaic.TcCoe

variable (x0 : (⟨S8192x2048, .f32⟩ : BufTy).Contents (Elt Ideal)) (x1 x2 : (⟨S2048, .f32⟩ : BufTy).Contents (Elt Ideal))
  (x3 : (⟨S2048x7184, .f32⟩ : BufTy).Contents (Elt Ideal)) (x4 : (⟨S8192x7184, .f32⟩ : BufTy).Contents (Elt Ideal))
  (x5 : (⟨S8192x2048, .f32⟩ : BufTy).Contents (Elt Ideal))

abbrev fX (i : Fin 8192) (j : Fin 2048) : EReal := x0 (ix2 i j)
abbrev fV (j : Fin 2048) : EReal := x1 (ix1 j)
abbrev fW (j : Fin 2048) (k : Fin 7184) : EReal := x3 (ix2 j k)
abbrev fP (i : Fin 8192) (k : Fin 7184) : EReal := x4 (ix2 i k)

theorem v26 (i : Fin 8192) (j : Fin 2048) : val_main_v26 (F := Ideal) x3 x4 (ix2 i j) = dh (fW x3) (fP x4) i j := by
  rw [val_main_v26_apply]
  refine Finset.sum_congr rfl fun k _ => ?_
  congr 2
  · funext a; match a with | ⟨0, _⟩ => rfl | ⟨1, _⟩ => rfl
  · funext a; match a with | ⟨0, _⟩ => rfl | ⟨1, _⟩ => rfl

theorem v7 (i : Fin 8192) : val_main_v7 (F := Ideal) x0 (ix2 i 0) = uu (fX x0) i := by
  simp only [val_main_v7_apply, val_main_v5_apply, val_main_v3_apply, val_main_v2_apply, val_main_v1_apply,
    val_main_v4_apply, val_main_v6_apply, val_main_cst_0_apply, val_main_cst_1_apply, val_main_cst_2_apply,
    Ideal.ofBits_def, Ideal.addf_def, Ideal.mulf_def, Ideal.hostDivf_def, Ideal.ofBits_zero_f32, zero_add]
  unfold uu
  congr 2
  refine Finset.sum_congr rfl fun k _ => ?_
  have : idx_main_v2 (idx_main_v3 (ix2 i 0)) k = ix2 i k := by
    funext a; match a with | ⟨0, _⟩ => rfl | ⟨1, _⟩ => rfl
  rw [this]

theorem v8 (i : Fin 8192) : val_main_v8 (F := Ideal) x0 (ix2 i 0) = Ideal.rsqrt (uu (fX x0) i) := by
  rw [val_main_v8_apply, v7]; rfl

theorem col (f : (⟨S8192x1, .f32⟩ : BufTy).Contents (Elt Ideal)) (q : S8192x1.Idx) (i : Fin 8192) (h : (q 0).val = i.val) :
    f q = f (ix2 i 0) := by
  congr 1; funext a
  match a with
  | ⟨0, _⟩ => exact Fin.ext h
  | ⟨1, _⟩ => exact Fin.ext (by have : (q 1).val < 1 := (q 1).isLt; show (q 1).val = 0; omega)

theorem v13 (i : Fin 8192) (j : Fin 2048) : val_main_v13 (F := Ideal) x0 (ix2 i j) = xn (fX x0) i j := by
  rw [val_main_v13_apply, val_main_v12_apply, col (val_main_v8 (F := Ideal) x0) _ i rfl, v8]; rfl

theorem v16 (i : Fin 8192) (j : Fin 2048) : val_main_v16 (F := Ideal) x0 x1 (ix2 i j) = xn (fX x0) i j * fV x1 j := by
  rw [val_main_v16_apply, v13, val_main_v15_apply, val_main_v14_apply]
  rw [show idx_main_v14 (idx_main_v15 (ix2 i j)) = ix1 j from by funext a; match a with | ⟨0, _⟩ => rfl]; rfl

theorem v33 (i : Fin 8192) (j : Fin 2048) : val_main_v33 (F := Ideal) x2 (ix2 i j) = 1 + fV x2 j := by
  rw [val_main_v33_apply, val_main_v19_apply, val_main_v18_apply, val_main_v17_apply, val_main_cst_4_apply]
  rw [show idx_main_v17 (idx_main_v33 (ix2 i j)) = ix1 j from by funext a; match a with | ⟨0, _⟩ => rfl]
  show Ideal.ofBits .f32 0x3F800000#32 + _ = _
  rw [show Ideal.ofBits .f32 0x3F800000#32 = 1 by simp [Ideal.ofBits, Ideal.ieee, -EReal.coe_mul]; norm_num]

theorem v34 (i : Fin 8192) (j : Fin 2048) : val_main_v34 (F := Ideal) x2 x3 x4 (ix2 i j)
    = dh (fW x3) (fP x4) i j * (1 + fV x2 j) := by
  rw [val_main_v34_apply, v26, v33]; rfl

theorem v40 (i : Fin 8192) (j : Fin 2048) : val_main_v40 (F := Ideal) x1 x2 x3 x4 (ix2 i j)
    = dh (fW x3) (fP x4) i j * (1 + fV x2 j) * fV x1 j := by
  rw [val_main_v40_apply, v34, val_main_v39_apply, val_main_v14_apply]
  rw [show idx_main_v14 (idx_main_v39 (ix2 i j)) = ix1 j from by funext a; match a with | ⟨0, _⟩ => rfl]; rfl

theorem v43 (i : Fin 8192) : val_main_v43 (F := Ideal) x0 x1 x2 x3 x4 (ix1 i)
      = ∑ k : Fin 2048, fX x0 i k * (dh (fW x3) (fP x4) i k * (1 + fV x2 k) * fV x1 k) := by
  rw [val_main_v43_apply]
  show Ideal.ofBits .f32 0x00000000#32 + _ = _
  rw [Ideal.ofBits_zero_f32, zero_add]
  refine Finset.sum_congr rfl fun k _ => ?_
  rw [val_main_v42_apply]
  have : idx_main_v43 (ix1 i) k = ix2 i k := by
    funext a; match a with | ⟨0, _⟩ => rfl | ⟨1, _⟩ => rfl
  rw [this, v40]; rfl

theorem v11 (i : Fin 8192) : val_main_v11 (F := Ideal) x0 (ix2 i 0)
      = Ideal.ofBits .f32 0xBF000000#32 * Ideal.div (Ideal.rsqrt (uu (fX x0) i)) (uu (fX x0) i) := by
  rw [val_main_v11_apply, val_main_v9_apply, v8, v7, val_main_v10_apply, val_main_cst_3_apply]; rfl

theorem v52 (i : Fin 8192) (j : Fin 2048) : val_main_v52 (F := Ideal) x0 x1 x2 x3 x4 (ix2 i j)
      = Ideal.div ((∑ k : Fin 2048, fX x0 i k * (dh (fW x3) (fP x4) i k * (1 + fV x2 k) * fV x1 k))
          * (Ideal.ofBits .f32 0xBF000000#32 * Ideal.div (Ideal.rsqrt (uu (fX x0) i)) (uu (fX x0) i))) c2048 := by
  rw [val_main_v52_apply, val_main_v51_apply]
  show Ideal.ofBits .f32 0x00000000#32 + _ = _
  rw [Ideal.ofBits_zero_f32, zero_add, Fin.sum_univ_one]
  rw [col (val_main_v50 (F := Ideal) x0 x1 x2 x3 x4) _ i (by rfl), val_main_v50_apply, val_main_v48_apply, val_main_v44_apply,
      v11, val_main_v49_apply, val_main_cst_12_apply]
  rw [show idx_main_v44 (ix2 i 0) = ix1 i from by
    funext a; match a with | ⟨0, _⟩ => exact Fin.ext (by show i.val * 1 + 0 = i.val; omega), v43]
  rfl

theorem dx (i : Fin 8192) (j : Fin 2048) : val_main_v56 (F := Ideal) x0 x1 x2 x3 x4 x5 (ix2 i j)
    = rdx (fX x0) (fV x1) (fV x2) (fW x3) (fP x4) (fX x5) i j := by
  rw [rdx_eq]
  rw [val_main_v56_apply, val_main_v54_apply, val_main_v47_apply, val_main_v46_apply, val_main_v53_apply,
    val_main_v55_apply, v40, v52, val_main_v45_apply, col (val_main_v8 (F := Ideal) x0) _ i rfl, v8]
  rfl

theorem dsh (j : Fin 2048) : val_main_v57 (F := Ideal) x3 x4 (ix2 0 j) = rsh (fW x3) (fP x4) j := by
  rw [val_main_v57_apply, val_main_v29_apply]
  show Ideal.ofBits .f32 0x00000000#32 + _ = _
  rw [Ideal.ofBits_zero_f32, zero_add, Fin.sum_univ_one, val_main_v28_apply, val_main_v27_apply]
  show Ideal.ofBits .f32 0x00000000#32 + _ = _
  rw [Ideal.ofBits_zero_f32, zero_add]
  refine Finset.sum_congr rfl fun k _ => ?_
  have e : (idx_main_v27 (idx_main_v28 (idx_main_v29 (idx_main_v57 (ix2 0 j)) 0)) k) = ix2 k j := by
    funext a; match a with
    | ⟨0, _⟩ => rfl
    | ⟨1, _⟩ => exact Fin.ext (by show 0 * 2048 + (0 * 2048 + j.val) = j.val; omega)
  rw [e, v26]

theorem dsc (j : Fin 2048) : val_main_v58 (F := Ideal) x0 x1 x3 x4 (ix2 0 j)
    = rsc (fX x0) (fV x1) (fW x3) (fP x4) j := by
  rw [val_main_v58_apply, val_main_v35_apply]
  show Ideal.ofBits .f32 0x00000000#32 + _ = _
  rw [Ideal.ofBits_zero_f32, zero_add, Fin.sum_univ_one, val_main_v32_apply, val_main_v31_apply]
  show Ideal.ofBits .f32 0x00000000#32 + _ = _
  rw [Ideal.ofBits_zero_f32, zero_add]
  refine Finset.sum_congr rfl fun k _ => ?_
  have e : (idx_main_v31 (idx_main_v32 (idx_main_v35 (idx_main_v58 (ix2 0 j)) 0)) k) = ix2 k j := by
    funext a; match a with
    | ⟨0, _⟩ => rfl
    | ⟨1, _⟩ => exact Fin.ext (by show 0 * 2048 + (0 * 2048 + j.val) = j.val; omega)
  rw [e, val_main_v30_apply, v26, v16]
  exact mul_comm (_ : EReal) _

theorem dng (j : Fin 2048) : val_main_v59 (F := Ideal) x0 x2 x3 x4 (ix2 0 j)
    = rng (fX x0) (fV x2) (fW x3) (fP x4) j := by
  rw [val_main_v59_apply, val_main_v41_apply]
  show Ideal.ofBits .f32 0x00000000#32 + _ = _
  rw [Ideal.ofBits_zero_f32, zero_add, Fin.sum_univ_one, val_main_v38_apply, val_main_v37_apply]
  show Ideal.ofBits .f32 0x00000000#32 + _ = _
  rw [Ideal.ofBits_zero_f32, zero_add]
  refine Finset.sum_congr rfl fun k _ => ?_
  have e : (idx_main_v37 (idx_main_v38 (idx_main_v41 (idx_main_v59 (ix2 0 j)) 0)) k) = ix2 k j := by
    funext a; match a with
    | ⟨0, _⟩ => rfl
    | ⟨1, _⟩ => exact Fin.ext (by show 0 * 2048 + (0 * 2048 + j.val) = j.val; omega)
  rw [e, val_main_v36_apply, v13, v34]
  exact mul_comm (_ : EReal) _

end Cert.ReferenceIdeal.Tie

end
-- ==== Proof.IbTie.lean ====
/-
  The four results of the input projection's gradient kernel are the reference's terms of the arguments.
-/
module

public import proofs.«01_k».proof.Proof.IbVal
public import proofs.«01_k».proof.Proof.IbRef

@[expose] public section

noncomputable section

namespace Cert.KernelIdeal.Tie

open Cert.KernelIdeal Cert.KernelIdeal.Gen Cert.KernelIdeal.Value Cert.IbSpec
open Cert.ReferenceIdeal.Read
open Idealize.ShloMosaic Idealize.ShloMosaic.TcCoe

variable (m : (ℓ : Loc nD τ sig) → Buf (Elt Ideal) ℓ) (c : Dev nD)

theorem value9 : G9 m c = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext y
  have e : y = (ix2 (y 0) (y 1) : S8192x2048.Idx) := by funext a; match a with | ⟨0, _⟩ => rfl | ⟨1, _⟩ => rfl
  rw [e]
  exact (g9 m c (y 0) (y 1)).trans (Cert.ReferenceIdeal.Tie.dx _ _ _ _ _ _ (y 0) (y 1)).symm

theorem one_row (y : S1x2048.Idx) : y = (ix2 (0 : Fin 1) (y 1) : S1x2048.Idx) := by
  funext a
  match a with
  | ⟨0, _⟩ => exact Fin.ext (by have h : (y 0).val < 1 := (y 0).isLt; show (y 0).val = 0; omega)
  | ⟨1, _⟩ => rfl

theorem value10 : G10 m c = val_main_v57 (F := Ideal) (m ((c : Thread nD τ).loc main_arg3)) (m ((c : Thread nD τ).loc main_arg4)) := by
  funext y
  rw [one_row y]
  exact (g10 m c (y 1)).trans (Cert.ReferenceIdeal.Tie.dsh _ _ (y 1)).symm

theorem value11 : G11 m c = val_main_v58 (F := Ideal) (m ((c : Thread nD τ).loc main_arg0)) (m ((c : Thread nD τ).loc main_arg1)) (m ((c : Thread nD τ).loc main_arg3)) (m ((c : Thread nD τ).loc main_arg4)) := by
  funext y
  rw [one_row y]
  exact (g11 m c (y 1)).trans (Cert.ReferenceIdeal.Tie.dsc _ _ _ _ (y 1)).symm

theorem value12 : G12 m c = val_main_v59 (F := Ideal) (m ((c : Thread nD τ).loc main_arg0)) (m ((c : Thread nD τ).loc main_arg2)) (m ((c : Thread nD τ).loc main_arg3)) (m ((c : Thread nD τ).loc main_arg4)) := by
  funext y
  rw [one_row y]
  exact (g12 m c (y 1)).trans (Cert.ReferenceIdeal.Tie.dng _ _ _ _ (y 1)).symm

end Cert.KernelIdeal.Tie

end
-- ==== Proof.WinTnA.lean ====
/-
  What the call computes: each column block of the result accumulates, over the eight row blocks, the product of the
  first array's columns with the second's; an entry of the result is the sum over all 8192 rows.
-/
module

public import proofs.«01_k».proof.Proof.Gen.Kernel2Ideal.Value
public import Idealize.ShloMosaic.Lib.Pipeline.ValueKit.Acc
public import Idealize.ShloMosaic.Lib.Pointwise.Tactic
public import Idealize.ShloMosaic.Lib.Pointwise.Contract

@[expose] public section

set_option maxRecDepth 16384

noncomputable section

namespace Cert.Kernel2Ideal.Tie

open Cert.Kernel2Ideal Cert.Kernel2Ideal.Gen Cert.Kernel2Ideal.Value
open Idealize.ShloMosaic Idealize.ShloMosaic.TcCoe

theorem pay1_at (i : S2048x1024.Idx) : k0_pay1 (F := Ideal) i = 0 := by pointwise [k0_pay1]

theorem pay2_at (s : Vec Ideal S2048x1024 .f32) (a : Vec Ideal S1024x2048 .bf16) (b : Vec Ideal S1024x1024 .bf16) (i : Fin 2048) (j : Fin 1024) :
    k0_pay2 (F := Ideal) s a b (ix2 i j) = s (ix2 i j) + ∑ k : Fin 1024, a (ix2 k i) * b (ix2 k j) := by
  pointwise [k0_pay2]
  simp only [shapeCast_self]

theorem pay2_y (s : Vec Ideal S2048x1024 .f32) (a : Vec Ideal S1024x2048 .bf16) (b : Vec Ideal S1024x1024 .bf16) (y : S2048x1024.Idx) :
    @Eq EReal (k0_pay2 (F := Ideal) s a b y) (s y + ∑ k : Fin 1024, a (ix2 k (y 0)) * b (ix2 k (y 1))) := by
  have e : y = (ix2 (y 0) (y 1) : S2048x1024.Idx) := by funext a; match a with | ⟨0, _⟩ => rfl | ⟨1, _⟩ => rfl
  exact (congrArg (k0_pay2 (F := Ideal) s a b) e).trans ((pay2_at s a b (y 0) (y 1)).trans
    (congrArg (fun z => s z + ∑ k : Fin 1024, a (ix2 k (y 0)) * b (ix2 k (y 1))) e.symm))

variable (m : (ℓ : Loc nD τ sig) → Buf (Elt Ideal) ℓ) (c : Dev nD)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)

theorem idx1 : ∀ t : Fin cfg0.N, win0_1.index t (0 : Fin 2) = t.val % 8 ∧ win0_1.index t (1 : Fin 2) = t.val / 8 :=
  (by decide +kernel : ∀ t : Fin grid0.N, win0_1.index t (0 : Fin 2) = t.val % 8 ∧ win0_1.index t (1 : Fin 2) = t.val / 8)

theorem pts : cfg0.N = 32 := N_0

/-- The two arrays that the call multiplies. -/
abbrev arrA (k : Fin 8192) (i : Fin 2048) : EReal := V m c main_v21 (ix2 k i)
abbrev arrB (k : Fin 8192) (j : Fin 4096) : EReal := V m c main_v25 (ix2 k j)

theorem iblk0_at (t : Fin cfg0.N) (k : Fin 1024) (i : Fin 2048) :
    iblk m c 0 t (ix2 k i) = arrA m c ⟨t.val % 8 * 1024 + k.val, by omega⟩ i := by
  obtain ⟨e0, e1⟩ := idx0 t
  unfold iblk
  rw [View.read_apply]
  show V m c main_v21 _ = V m c main_v21 _
  congr 1
  funext a; apply Fin.ext
  match a with
  | ⟨0, _⟩ => show win0_0.index t (0 : Fin 2) * 1024 + 1 * k.val = t.val % 8 * 1024 + k.val; rw [e0]; omega
  | ⟨1, _⟩ => show win0_0.index t (1 : Fin 2) * 2048 + 1 * i.val = i.val; rw [e1]; omega

theorem iblk1_at (t : Fin cfg0.N) (k : Fin 1024) (j : Fin 1024) :
    iblk m c 1 t (ix2 k j) = arrB m c ⟨t.val % 8 * 1024 + k.val, by omega⟩
      ⟨t.val / 8 * 1024 + j.val, by have := t.isLt; have := pts; omega⟩ := by
  obtain ⟨e0, e1⟩ := idx1 t
  unfold iblk
  rw [View.read_apply]
  show V m c main_v25 _ = V m c main_v25 _
  congr 1
  funext a; apply Fin.ext
  match a with
  | ⟨0, _⟩ => show win0_1.index t (0 : Fin 2) * 1024 + 1 * k.val = t.val % 8 * 1024 + k.val; rw [e0]; omega
  | ⟨1, _⟩ => show win0_1.index t (1 : Fin 2) * 1024 + 1 * j.val = t.val / 8 * 1024 + j.val; rw [e1]; omega

/-- The blocks that a point reads. -/
abbrev blkA (t : Fin cfg0.N) (k : Fin 1024) (i : Fin 2048) : EReal := iblk m c 0 t (ix2 k i)
abbrev blkB (t : Fin cfg0.N) (k : Fin 1024) (j : Fin 1024) : EReal := iblk m c 1 t (ix2 k j)

/-- What point `n` adds to an entry. -/
def adds (n : ℕ) (y : S2048x1024.Idx) : EReal :=
  if h : n < cfg0.N then ∑ k : Fin 1024, blkA m c ⟨n, h⟩ k (y 0) * blkB m c ⟨n, h⟩ k (y 1) else 0

theorem fold_at (b : ℕ) (h : b + 7 < cfg0.N) (y : S2048x1024.Idx) :
    Pipeline.accAt (reset2 m c) (step2 m c) b 7 h y = ∑ s : Fin 8, adds m c (b + s.val) y := by
  have key := Pipeline.accAt_add_apply (reset2 m c) (step2 m c) (fun _ => (0 : EReal)) (adds m c) b 7
    (by
      intro h y
      refine (pay2_y _ _ _ y).trans ?_
      rw [pay1_at]
      unfold adds
      rw [dif_pos h])
    (by
      intro n h acc y _ _
      refine (pay2_y _ _ _ y).trans ?_
      unfold adds
      rw [dif_pos h])
    7 (le_refl 7) h y
  rw [key]
  show (0 : EReal) + _ = _
  rw [zero_add, ← Fin.sum_univ_eq_sum_range (fun s => adds m c (b + s) y) 8]

/-- An entry of the result: the sum over all rows. -/
theorem G2_at (i : Fin 2048) (j : Fin 4096) : @Eq EReal (G2 m c (ix2 i j)) (∑ k : Fin 8192, arrA m c k i * arrB m c k j) := by
  have hi := i.isLt
  have hj := j.isLt
  have hr : run2Of (ix2 i j) = j.val / 1024 := by
    show 4 * (i.val / 2048 - 0) + 1 * (j.val / 1024 - 0) = _
    omega
  unfold G2
  rw [dif_pos (by rw [hr]; have := pts; omega), fold_at]
  refine (Finset.sum_congr rfl fun s _ => ?_).trans
    (Fin.sum_mul_add_fin 8 1024 (fun k : Fin 8192 => arrA m c k i * arrB m c k j))
  have hs := s.isLt
  have hn : 8 * run2Of (ix2 i j) + s.val < cfg0.N := by rw [hr]; have := pts; omega
  unfold adds
  rw [dif_pos hn]
  refine Finset.sum_congr rfl fun k _ => ?_
  have hk := k.isLt
  refine (congrArg₂ (fun a b : EReal => a * b) (iblk0_at m c ⟨_, hn⟩ k _) (iblk1_at m c ⟨_, hn⟩ k _)).trans ?_
  refine congrArg₂ (fun a b : EReal => a * b) (congrArg₂ (arrA m c) (Fin.ext ?_) (Fin.ext ?_)) (congrArg₂ (arrB m c) (Fin.ext ?_) (Fin.ext ?_))
  · show (8 * run2Of (ix2 i j) + s.val) % 8 * 1024 + k.val = s.val * 1024 + k.val; omega
  · show i.val % 2048 = i.val; omega
  · show (8 * run2Of (ix2 i j) + s.val) % 8 * 1024 + k.val = s.val * 1024 + k.val; omega
  · show (8 * run2Of (ix2 i j) + s.val) / 8 * 1024 + j.val % 1024 = j.val; rw [hr]; omega

end Cert.Kernel2Ideal.Tie

end
-- ==== Proof.WinTnATie.lean ====
/-
  The call's result is the reference's: the arrays that the host code prepares are the arguments, and the two sums agree.
-/
module

public import proofs.«01_k».proof.Proof.WinTnA
public import proofs.«01_k».proof.Proof.Gen.Reference2Ideal.Read
public import proofs.«01_k».proof.Proof.Gen.Reference2Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel2Ideal.Tie

open Cert.Kernel2Ideal Cert.Kernel2Ideal.Gen Cert.Kernel2Ideal.Value Cert.Reference2Ideal.Read
open Idealize.ShloMosaic Idealize.ShloMosaic.TcCoe Idealize.ShloMosaic.StableHlo

/-- The column of the unpacked array that a packed column holds. -/
def col (j : Fin 4096) : Fin 7184 := if h : j.val < 1024 then ⟨3072 + j.val, by omega⟩ else ⟨3088 + j.val, by omega⟩

theorem ref24_at (x0 : (⟨S8192x2048, .f32⟩ : BufTy).Contents (Elt Ideal)) (x1 x2 x3 : (⟨S2048, .f32⟩ : BufTy).Contents (Elt Ideal)) (x4 : (⟨S8192x7184, .f32⟩ : BufTy).Contents (Elt Ideal)) (i : Fin 2048) (j : Fin 7184) :
    val_main_v24 (F := Ideal) x0 x1 x2 x3 x4 (ix2 i j) = ∑ k : Fin 8192, x4 (ix2 k j) * val_main_v21 (F := Ideal) x0 x1 x2 x3 (ix2 k i) := by
  rw [val_main_v24_apply, val_main_v23_apply]
  refine Finset.sum_congr rfl fun k _ => congrArg₂ (fun a b : EReal => a * b) (congrArg x4 ?_) (congrArg (val_main_v21 (F := Ideal) x0 x1 x2 x3) ?_)
  · funext a; match a with | ⟨0, _⟩ => rfl | ⟨1, _⟩ => rfl
  · funext a; match a with | ⟨0, _⟩ => rfl | ⟨1, _⟩ => rfl

theorem ref_at (x0 : (⟨S8192x2048, .f32⟩ : BufTy).Contents (Elt Ideal)) (x1 x2 x3 : (⟨S2048, .f32⟩ : BufTy).Contents (Elt Ideal)) (x4 : (⟨S8192x7184, .f32⟩ : BufTy).Contents (Elt Ideal)) (i : Fin 2048) (j : Fin 4096) :
    val_main_v27 (F := Ideal) x0 x1 x2 x3 x4 (ix2 i j) = val_main_v24 (F := Ideal) x0 x1 x2 x3 x4 (ix2 i (col j)) := by
  unfold val_main_v27 val_main_v26 val_main_v25
  generalize val_main_v24 (F := Ideal) x0 x1 x2 x3 x4 = z
  pointwise
  unfold col
  split
  · rfl
  · exact congrArg (fun q => z (ix2 i q)) (Fin.ext (by show 4112 + (j.val - 1024) = 3088 + j.val; omega))

variable (m : (ℓ : Loc nD τ sig) → Buf (Elt Ideal) ℓ) (c : Dev nD)

theorem V_v21 : V m c main_v21 = val_main_v21 (F := Ideal) (m ((c : Thread nD τ).loc main_arg0)) (m ((c : Thread nD τ).loc main_arg1)) (m ((c : Thread nD τ).loc main_arg2)) (m ((c : Thread nD τ).loc main_arg3)) := by
  unfold_abbrev_sides
  after_results
  try rfl

theorem V_v25 (k : Fin 8192) (j : Fin 4096) : V m c main_v25 (ix2 k j) = (m ((c : Thread nD τ).loc main_arg4)) (ix2 k (col j)) := by
  unfold_abbrev_sides
  after_results
  pointwise
  unfold col
  split
  · rfl
  · exact congrArg (fun q => (m ((c : Thread nD τ).loc main_arg4)) (ix2 k q)) (Fin.ext (by show 4112 + (j.val - 1024) = 3088 + j.val; omega))

theorem value : G2 m c = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  have e : y = (ix2 (y 0) (y 1) : S2048x4096.Idx) := by funext a; match a with | ⟨0, _⟩ => rfl | ⟨1, _⟩ => rfl
  rw [e]
  refine (G2_at m c (y 0) (y 1)).trans (Eq.trans ?_ ((ref_at _ _ _ _ _ (y 0) (y 1)).trans (ref24_at _ _ _ _ _ (y 0) (col (y 1)))).symm)
  refine Finset.sum_congr rfl fun k _ => ?_
  refine (congrArg₂ (fun a b : EReal => a * b) (congrFun (V_v21 m c) _) (V_v25 m c k (y 1))).trans ?_
  exact mul_comm _ _

end Cert.Kernel2Ideal.Tie

end
-- ==== Proof.WbFrame.lean ====
/-
  The call that adds the gradient's two products over the row blocks: what its body leaves, what the two results' blocks
  hold after every point, the run and the frame.
-/
module

public import proofs.«01_k».proof.Proof.Gen.Kernel3Ideal.Frame
public import proofs.«01_k».proof.Proof.Gen.Kernel3Ideal.Skeleton
public import Idealize.ShloMosaic.Lib.Pipeline.TableIdle
public import Idealize.ShloMosaic.Lib.Pipeline.ValueKit.Acc
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- Reading back a block that was last written whole. -/
theorem read_w {sp : Space} {S : Shape} {e : EltTy} (v : View sig .tc sp S e) (f : v.ty.Contents (Elt F)) (o : Fin S.rank → ℕ) (ho : o = fun _ => 0) (h) (w : Vec F S e) (L) :
    v.read (Elt F) (v.writes (Elt F) f (⟨Rect.unit o S.size h, w⟩ :: L)) = w := by
  rw [View.read_writes_eq_canon v f _ (fun y => ⟨_, List.mem_cons_self, by
    rw [Rect.mem_set_unit]; intro a; have := (y a).isLt; rw [ho]; simp only [Nat.zero_add]; exact ⟨Nat.zero_le _, this⟩⟩)]
  exact View.canon_cons_unit_zero ho _ _ _

/-- The first row block of a column block. -/
def c1 (i : grid0.Coords) : Prop := Scalar.cmpi .ne (Scalar.extui (Scalar.cmpi .eq (BitVec.ofNat 32 (i 1).val) 0#32) : BitVec 32) 0#32 = 1#1

instance (i : grid0.Coords) : Decidable (c1 i) := by unfold c1; infer_instance

/-- What a point leaves in the first result's block, -/
def newO (i : grid0.Coords) (a : Vec F S1024x2048 .bf16) (b : Vec F S1024x1024 .bf16) (o : Vec F S2048x1024 .f32) : Vec F S2048x1024 .f32 :=
  k0_pay2 (if c1 i then k0_pay1 else o) a b

/-- and in the second's. -/
def newS (i : grid0.Coords) (a : Vec F S1024x2048 .bf16) (s : Vec F S1024x128 .f32) (o : Vec F S2048x128 .f32) : Vec F S2048x128 .f32 :=
  if k0_cond3 i = 1#1 then k0_pay4 (if k0_cond2 i = 1#1 then k0_pay3 else o) a s else if k0_cond2 i = 1#1 then k0_pay3 else o

set_option maxHeartbeats 4000000 in
theorem run_body (c : Dev nD) (i : grid0.Coords) (arg2 : Memref sig .tc .vmem S1024x2048 .bf16) (w2 : arg2.IsWhole) (arg3 : Memref sig .tc .vmem S1024x1024 .bf16) (w3 : arg3.IsWhole) (arg4 : Memref sig .tc .vmem S1024x128 .f32) (w4 : arg4.IsWhole) (arg5 : Memref sig .tc .vmem S2048x1024 .f32) (w5 : arg5.IsWhole) (arg6 : Memref sig .tc .vmem S2048x128 .f32) (w6 : arg6.IsWhole)
    (a : Vec F S1024x2048 .bf16) (b : Vec F S1024x1024 .bf16) (s : Vec F S1024x128 .f32) (x : Vec F S2048x1024 .f32) (y : Vec F S2048x128 .f32) (K : PUnit → sProp 𝕄) :
    iprop(owns (c : Thread nD τ) arg2 fullShare a ∗ owns (c : Thread nD τ) arg3 fullShare b ∗ owns (c : Thread nD τ) arg4 fullShare s ∗ owns (c : Thread nD τ) arg5 fullShare x ∗ owns (c : Thread nD τ) arg6 fullShare y
        ∗ (iprop(owns (c : Thread nD τ) arg2 fullShare a ∗ owns (c : Thread nD τ) arg3 fullShare b ∗ owns (c : Thread nD τ) arg4 fullShare s ∗ owns (c : Thread nD τ) arg5 fullShare (newO i a b x) ∗ owns (c : Thread nD τ) arg6 fullShare (newS i a s y)) -∗ K ⟨⟩))
      ⊢ wp frame (wpE (defs₀ (F := F)) Variants.none c none) Set.univ (cc0_win_tn_b i arg2 w2 arg3 w3 arg4 w4 arg5 w5 arg6 w6) K := by
  simp only [cc0_win_tn_b_eq_skeleton]; unfold cc0_win_tn_b_skel
  by_cases h1 : c1 i <;> by_cases h2 : k0_cond2 i = 1#1 <;> by_cases h3 : k0_cond3 i = 1#1 <;> (
    unfold newO newS
    simp only [h1, h2, h3, if_true, if_false]
    unfold c1 at h1
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := w2.eq_unread hf0; obtain rfl := w3.eq_unread hf1; obtain rfl := w4.eq_unread hf2; obtain rfl := w5.eq_unread hf3; obtain rfl := w6.eq_unread hf4
    sl_exec (disch := first | sl_exact h1 | sl_exact h2 | sl_exact h3)
    sl_step
    sl_unfold_words
    simp only [View.readAt_eq_ld, w2.read_unread, w3.read_unread, w4.read_unread, w5.read_unread, w6.read_unread,
      View.readCov_unit_zero (S := S2048x1024) _ hz, View.readCov_unit_zero (S := S2048x128) _ hz,
      View.ld_unit_zero (S := S1024x2048) hz, View.ld_unit_zero (S := S1024x1024) hz, View.ld_unit_zero (S := S1024x128) hz, View.ld_unit_zero (S := S2048x1024) hz, View.ld_unit_zero (S := S2048x128) hz]
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr
      swap; · iexact H3
      ipureintro; exact read_w (S := S2048x1024) arg5.view _ _ hz _ _ _
    iexists _; isplitr
    swap; · iexact H4
    ipureintro; first | with_reducible exact w6.read_unread _ | exact read_w (S := S2048x128) arg6.view _ _ hz _ _ _)

variable (m : (ℓ : Loc nD τ sig) → Buf (Elt F) ℓ) (ρ : Dev nD → PrngReg)

theorem conds : ∀ t : Fin cfg0.N, (c1 (grid0.coords t) ↔ t.val % 8 = 0) ∧ (k0_cond2 (grid0.coords t) = 1#1 ↔ t.val = 0) ∧ (k0_cond3 (grid0.coords t) = 1#1 ↔ t.val < 8) :=
  (by decide +kernel : ∀ t : Fin grid0.N, (c1 (grid0.coords t) ↔ t.val % 8 = 0) ∧ (k0_cond2 (grid0.coords t) = 1#1 ↔ t.val = 0) ∧ (k0_cond3 (grid0.coords t) = 1#1 ↔ t.val < 8))

/-- The first result's block after a point, -/
def oAt (c : Dev nD) : (n : ℕ) → n < cfg0.N → Vec F S2048x1024 .f32
  | 0, h => newO (grid0.coords ⟨0, h⟩) (iblk m c 0 ⟨0, h⟩) (iblk m c 1 ⟨0, h⟩) k0_pay1
  | n + 1, h => newO (grid0.coords ⟨n + 1, h⟩) (iblk m c 0 ⟨n + 1, h⟩) (iblk m c 1 ⟨n + 1, h⟩) (oAt c n (Nat.lt_of_succ_lt h))

/-- and the second's. -/
def sAt (c : Dev nD) : (n : ℕ) → n < cfg0.N → Vec F S2048x128 .f32
  | 0, h => newS (grid0.coords ⟨0, h⟩) (iblk m c 0 ⟨0, h⟩) (iblk m c 2 ⟨0, h⟩) k0_pay3
  | n + 1, h => newS (grid0.coords ⟨n + 1, h⟩) (iblk m c 0 ⟨n + 1, h⟩) (iblk m c 2 ⟨n + 1, h⟩) (sAt c n (Nat.lt_of_succ_lt h))

theorem newO_first (t : Fin cfg0.N) (h : t.val % 8 = 0) (a b) (o o' : Vec F S2048x1024 .f32) : newO (grid0.coords t) a b o = newO (grid0.coords t) a b o' := by
  unfold newO; rw [if_pos ((conds t).1.mpr h), if_pos ((conds t).1.mpr h)]

theorem newS_first (t : Fin cfg0.N) (h : t.val = 0) (a b) (o o' : Vec F S2048x128 .f32) : newS (grid0.coords t) a b o = newS (grid0.coords t) a b o' := by
  unfold newS; simp only [if_pos ((conds t).2.1.mpr h)]

theorem newS_late (t : Fin cfg0.N) (h : ¬t.val < 8) (a b) (o : Vec F S2048x128 .f32) : newS (grid0.coords t) a b o = o := by
  unfold newS; rw [if_neg fun e => h ((conds t).2.2.mp e), if_neg fun e => h (by have := (conds t).2.1.mp e; omega)]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAt m c t.val t.isLt
    | ⟨4, _⟩ => sAt m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]

section
variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = oAt m c t.val t.isLt := by dsimp only [dats]
theorem after4 : (dats m 0 c).after 4 t = sAt m c t.val t.isLt := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d

theorem live (w : Fin cfg0.W) (h : cfg0.idle w (grid0.coords t) = false ∨ (cfg0.win w).flush t = true) (hl : cfg0.loose w = false) :
    (dats m 0 c).leavesExact w t = owns (c : Thread nD τ) ((cfg0.win w).stage (cfg0.slots t w)) fullShare ((dats m 0 c).after w t) := by
  unfold Dat.leavesExact
  cases hi : cfg0.idle w (cfg0.grid.coords t)
  · rfl
  · rw [h.resolve_left fun e => by rw [show cfg0.idle w (grid0.coords t) = true from hi] at e; cases e]

theorem idle4 : ∀ t : Fin cfg0.N, cfg0.idle 4 (grid0.coords t) = !decide (t.val < 8) := by decide +kernel
theorem fresh4 (h : t.val ≠ 0) : cfg0.fresh 4 t.val = false :=
  (Pipeline.Cfg.fresh_tab cfg0 4 (fun n => decide (n % 24 = 0)) rfl
    (by decide +kernel : ∀ t : Fin cfg0.N, decide ((t.val + 1) % 24 = 0) = ((cfg0.win 4).flush t || (cfg0.idle 4 (cfg0.grid.coords t) && decide (t.val % 24 = 0))))
    t.val (Nat.le_of_lt t.isLt)).trans (decide_eq_false (by have := lt_of_lt_of_eq t.isLt (show cfg0.N = 24 from N_0); omega))

/-- Where the second block is not added to, it is as it was. -/
theorem sAt_keep (h : ¬t.val < 8) : sAt m c t.val t.isLt = sAt m c (t.val - 1) (by omega) := by
  obtain ⟨n, hn⟩ := t
  cases n with
  | zero => exact absurd (Nat.zero_lt_succ 7) h
  | succ n => exact newS_late ⟨n + 1, hn⟩ h _ _ _

theorem before4 (h : t.val ≠ 0) (d) : (dats m 0 c).before 4 t d = sAt m c (t.val - 1) (by omega) := by
  rw [Dat.before_out_traj _ 4 rfl (fun _ _ => rfl) (fun t ht hi _ => by
    rw [after4, after4]
    refine sAt_keep m c t fun h => ?_
    rw [show cfg0.idle 4 (cfg0.grid.coords t) = false from (idle4 t).trans (by rw [decide_eq_true h]; rfl)] at hi
    cases hi) t.val t rfl d, if_neg (by rw [fresh4 t h]; exact Bool.false_ne_true), after4]

theorem step4 (d) : newS (grid0.coords t) (iblk m c 0 t) (iblk m c 2 t) ((dats m 0 c).before 4 t d) = sAt m c t.val t.isLt := by
  by_cases h : t.val = 0
  · refine (newS_first t h _ _ _ k0_pay3).trans ?_
    obtain ⟨n, hn⟩ := t
    obtain rfl : n = 0 := h
    rfl
  · rw [before4 m c t h]
    obtain ⟨n, hn⟩ := t
    cases n with
    | zero => exact absurd rfl h
    | succ n => rfl

theorem before3 (h : ¬t.val % 8 = 0) (d) : (dats m 0 c).before 3 t d = oAt m c (t.val - 1) (by omega) := by
  have hN : t.val < 24 := lt_of_lt_of_eq t.isLt (show cfg0.N = 24 from N_0)
  rw [Dat.before_out_kept _ 3 rfl t (by omega) (Bool.eq_false_iff.mpr fun h => by have := (flush0_3 _).mp h; dsimp only at this; omega)
      (fun _ => rfl) (fun _ _ => rfl), after3]

theorem step3 (d) : newO (grid0.coords t) (iblk m c 0 t) (iblk m c 1 t) ((dats m 0 c).before 3 t d) = oAt m c t.val t.isLt := by
  by_cases h : t.val % 8 = 0
  · refine (newO_first t h _ _ _ (match t.val, t.isLt with | 0, _ => k0_pay1 | n + 1, h => oAt m c n (Nat.lt_of_succ_lt h))).trans ?_
    obtain ⟨n, hn⟩ := t
    cases n <;> rfl
  · rw [before3 m c t h]
    obtain ⟨n, hn⟩ := t
    cases n with
    | zero => exact absurd rfl h
    | succ n => rfl

theorem leave4 : owns (c : Thread nD τ) (st0_4 t) fullShare (sAt m c t.val t.isLt) ⊢ (dats m 0 c).leavesExact 4 t := by
  have hN : t.val < 24 := lt_of_lt_of_eq t.isLt (show cfg0.N = 24 from N_0)
  by_cases h : t.val < 8 ∨ t.val = 23
  · rw [live m c t 4 (h.imp (fun h => (idle4 t).trans (by rw [decide_eq_true h]; rfl)) fun h => (flush0_4 t).mpr (by omega)) rfl, after4]
  · rw [Dat.leavesExact_idle (dats m 0 c) 4 t ((idle4 t).trans (by rw [decide_eq_false (by omega)]; rfl)) (Bool.eq_false_iff.mpr fun e => by have := (flush0_4 t).mp e; omega)]
    iintro H
    iexists k0_pay3
    rw [before4 m c t (by omega), ← sAt_keep m c t (by omega)]
    iexact H

/-- What the body takes at a point, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost : sProp 𝕄 :=
  iprop((dats m 0 c).Φ t.succ ∗ (dats m 0 c).owesAt () t.succ ∗ (dats m 0 c).leavesExact 0 t ∗ (dats m 0 c).leavesExact 1 t
    ∗ (dats m 0 c).leavesExact 2 t ∗ (dats m 0 c).leavesExact 3 t ∗ (dats m 0 c).leavesExact 4 t)

set_option maxHeartbeats 2000000 in
theorem sound_body : bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.succ = (dats m 0 c).Φ t.castSucc from rfl,
    live m c t 0 (Or.inl rfl) rfl, live m c t 1 (Or.inl rfl) rfl, live m c t 2 (Or.inl rfl) rfl, live m c t 3 (Or.inl rfl) rfl, after0, after1, after2, after3]
  iintro ⟨HΦ, Ho, ⟨%d0, H0⟩, ⟨%d1, H1⟩, ⟨%d2, H2⟩, ⟨%d3, H3⟩, ⟨%d4, H4⟩⟩
  iapply (run_body c (grid0.coords t) _ _ _ _ _ _ _ _ _ _ (iblk m c 0 t) (iblk m c 1 t) (iblk m c 2 t) ((dats m 0 c).before 3 t d3) ((dats m 0 c).before 4 t d4) _)
  isplitl [H0]; · iexact H0
  isplitl [H1]; · iexact H1
  isplitl [H2]; · iexact H2
  isplitl [H3]; · iexact H3
  isplitl [H4]; · iexact H4
  rw [step3, step4]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leave4 m c t)
  iexact H4

end

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel3Ideal.Gen

end
-- ==== Proof.WbTie.lean ====
/-
  What the call computes: an entry of either result is the sum over all rows of the products of the two arrays' entries in them.
  The arrays are those that the reference multiplies, so both results are the reference's.
-/
module

public import proofs.«01_k».proof.Proof.WbFrame
public import proofs.«01_k».proof.Proof.Gen.Reference3Ideal.Read
public import Idealize.ShloMosaic.Lib.Pointwise
public import Idealize.ShloMosaic.Lib.Pointwise.Contract
public import Idealize.ShloMosaic.Lib.StableHlo.RunRead

@[expose] public section

set_option maxRecDepth 16384

noncomputable section

namespace Cert.Kernel3Ideal.Tie

open Cert.Kernel3Ideal Cert.Kernel3Ideal.Gen Cert.Reference3Ideal.Read
open Idealize.ShloMosaic Idealize.ShloMosaic.TcCoe Idealize.ShloMosaic.StableHlo Idealize.SL.Sem

/-- The rows of one block, added. -/
def part (R : Fin 8192 → EReal) (s : Fin 8) : EReal := ∑ k : Fin 1024, R ⟨s.val * 1024 + k.val, by omega⟩

/-- What starts at the first block's sum and grows by the others' ends at the sum of all rows. -/
theorem fold (X : Fin 8 → EReal) (R : Fin 8192 → EReal) (h0 : X 0 = 0 + part R 0) (h : ∀ s : Fin 7, X s.succ = X s.castSucc + part R s.succ) :
    X 7 = ∑ k, R k := by
  refine Eq.trans ?_ (Fin.sum_mul_add_fin 8 1024 R)
  show X 7 = ∑ s, part R s
  rw [Fin.sum_univ_eight]
  have e (s : Fin 7) {p : EReal} (q : X s.castSucc = p) : X s.succ = p + part R s.succ := by rw [h, q]
  exact e 6 (e 5 (e 4 (e 3 (e 2 (e 1 (e 0 (h0.trans (zero_add _))))))))

theorem pay1_at (i : S2048x1024.Idx) : k0_pay1 (F := Ideal) i = 0 := by pointwise [k0_pay1]
theorem pay3_at (i : S2048x128.Idx) : k0_pay3 (F := Ideal) i = 0 := by pointwise [k0_pay3]

theorem pay2_at (s : Vec Ideal S2048x1024 .f32) (a : Vec Ideal S1024x2048 .bf16) (b : Vec Ideal S1024x1024 .bf16) (i : Fin 2048) (j : Fin 1024) :
    k0_pay2 (F := Ideal) s a b (ix2 i j) = s (ix2 i j) + ∑ k : Fin 1024, a (ix2 k i) * b (ix2 k j) := by
  pointwise [k0_pay2]

theorem pay4_at (s : Vec Ideal S2048x128 .f32) (a : Vec Ideal S1024x2048 .bf16) (b : Vec Ideal S1024x128 .f32) (i : Fin 2048) (j : Fin 128) :
    k0_pay4 (F := Ideal) s a b (ix2 i j) = s (ix2 i j) + ∑ k : Fin 1024, a (ix2 k i) * b (ix2 k j) := by
  pointwise [k0_pay4]

variable (m : (ℓ : Loc nD τ sig) → Buf (Elt Ideal) ℓ) (c : Dev nD)

theorem pts : cfg0.N = 24 := N_0

theorem at_idx : ∀ t : Fin cfg0.N, (win0_0.index t (0 : Fin 2) = t.val % 8 ∧ win0_0.index t (1 : Fin 2) = 0) ∧ (win0_1.index t (0 : Fin 2) = t.val % 8 ∧ win0_1.index t (1 : Fin 2) = t.val / 8)
    ∧ (win0_2.index t (0 : Fin 2) = t.val % 8 ∧ win0_2.index t (1 : Fin 2) = 0) ∧ (win0_3.index t (0 : Fin 2) = 0 ∧ win0_3.index t (1 : Fin 2) = t.val / 8) ∧ (win0_4.index t (0 : Fin 2) = 0 ∧ win0_4.index t (1 : Fin 2) = 0) :=
  (by decide +kernel : ∀ t : Fin grid0.N, (win0_0.index t (0 : Fin 2) = t.val % 8 ∧ win0_0.index t (1 : Fin 2) = 0) ∧ (win0_1.index t (0 : Fin 2) = t.val % 8 ∧ win0_1.index t (1 : Fin 2) = t.val / 8)
    ∧ (win0_2.index t (0 : Fin 2) = t.val % 8 ∧ win0_2.index t (1 : Fin 2) = 0) ∧ (win0_3.index t (0 : Fin 2) = 0 ∧ win0_3.index t (1 : Fin 2) = t.val / 8) ∧ (win0_4.index t (0 : Fin 2) = 0 ∧ win0_4.index t (1 : Fin 2) = 0))

/-- The arrays that the call multiplies. -/
abbrev arrA (k : Fin 8192) (i : Fin 2048) : EReal := V m c main_v21 (ix2 k i)
abbrev arrB (k : Fin 8192) (j : Fin 3072) : EReal := V m c main_v26 (ix2 k j)
abbrev arrS (k : Fin 8192) (j : Fin 128) : EReal := V m c main_v24 (ix2 k j)

section
variable (t : Fin cfg0.N) (k : Fin 1024)

/-- A point's row of blocks, -/
abbrev row : Fin 8192 := ⟨t.val % 8 * 1024 + k.val, by omega⟩
/-- and its column. -/
abbrev col (j : Fin 1024) : Fin 3072 := ⟨t.val / 8 * 1024 + j.val, by have := t.isLt; have := pts; omega⟩

theorem iblk0_at (i : Fin 2048) : iblk m c 0 t (ix2 k i) = arrA m c (row t k) i := by
  obtain ⟨⟨e0, e1⟩, -⟩ := at_idx t
  unfold iblk
  rw [View.read_apply]
  refine congrArg (V m c main_v21) (funext fun a => Fin.ext ?_)
  match a with
  | ⟨0, _⟩ => show win0_0.index t (0 : Fin 2) * 1024 + 1 * k.val = t.val % 8 * 1024 + k.val; rw [e0]; omega
  | ⟨1, _⟩ => show win0_0.index t (1 : Fin 2) * 2048 + 1 * i.val = i.val; rw [e1]; omega

theorem iblk1_at (j : Fin 1024) : iblk m c 1 t (ix2 k j) = arrB m c (row t k) (col t j) := by
  obtain ⟨-, ⟨e0, e1⟩, -⟩ := at_idx t
  unfold iblk
  rw [View.read_apply]
  refine congrArg (V m c main_v26) (funext fun a => Fin.ext ?_)
  match a with
  | ⟨0, _⟩ => show win0_1.index t (0 : Fin 2) * 1024 + 1 * k.val = t.val % 8 * 1024 + k.val; rw [e0]; omega
  | ⟨1, _⟩ => show win0_1.index t (1 : Fin 2) * 1024 + 1 * j.val = t.val / 8 * 1024 + j.val; rw [e1]; omega

theorem iblk2_at (j : Fin 128) : iblk m c 2 t (ix2 k j) = arrS m c (row t k) j := by
  obtain ⟨-, -, ⟨e0, e1⟩, -⟩ := at_idx t
  unfold iblk
  rw [View.read_apply]
  refine congrArg (V m c main_v24) (funext fun a => Fin.ext ?_)
  match a with
  | ⟨0, _⟩ => show win0_2.index t (0 : Fin 2) * 1024 + 1 * k.val = t.val % 8 * 1024 + k.val; rw [e0]; omega
  | ⟨1, _⟩ => show win0_2.index t (1 : Fin 2) * 128 + 1 * j.val = j.val; rw [e1]; omega

end

section
variable (t : Fin cfg0.N) (s : Fin 8) (h : t.val % 8 = s.val) (i : Fin 2048)
include h

/-- What a point adds to an entry: its rows of the sum. -/
theorem add3 (o : Vec Ideal S2048x1024 .f32) (j : Fin 1024) (l : Fin 3072) (hl : col t j = l) :
    k0_pay2 (F := Ideal) o (iblk m c 0 t) (iblk m c 1 t) (ix2 i j) = (o (ix2 i j) + part (fun k => arrA m c k i * arrB m c k l) s : EReal) := by
  subst hl
  rw [pay2_at]
  unfold part
  refine congrArg (fun q : EReal => o (ix2 i j) + q) (Finset.sum_congr rfl fun k _ => ?_)
  have e : row t k = ⟨s.val * 1024 + k.val, by omega⟩ := Fin.ext (by show t.val % 8 * 1024 + k.val = _; rw [h])
  exact congrArg₂ (fun a b : EReal => a * b) ((iblk0_at m c t k i).trans (by rw [e])) ((iblk1_at m c t k j).trans (by rw [e]))

theorem add4 (o : Vec Ideal S2048x128 .f32) (j : Fin 128) :
    k0_pay4 (F := Ideal) o (iblk m c 0 t) (iblk m c 2 t) (ix2 i j) = (o (ix2 i j) + part (fun k => arrA m c k i * arrS m c k j) s : EReal) := by
  rw [pay4_at]
  unfold part
  refine congrArg (fun q : EReal => o (ix2 i j) + q) (Finset.sum_congr rfl fun k _ => ?_)
  have e : row t k = ⟨s.val * 1024 + k.val, by omega⟩ := Fin.ext (by show t.val % 8 * 1024 + k.val = _; rw [h])
  exact congrArg₂ (fun a b : EReal => a * b) ((iblk0_at m c t k i).trans (by rw [e])) ((iblk2_at m c t k j).trans (by rw [e]))

end

/-- The entries that the call leaves: of the first result, -/
def res3 (i : Fin 2048) (j : Fin 3072) : EReal := ∑ k : Fin 8192, arrA m c k i * arrB m c k j
/-- and of the second. -/
def res4 (i : Fin 2048) (j : Fin 128) : EReal := ∑ k : Fin 8192, arrA m c k i * arrS m c k j

theorem o_first (t : Fin cfg0.N) (h : t.val % 8 = 0) : oAt m c t.val t.isLt = k0_pay2 k0_pay1 (iblk m c 0 t) (iblk m c 1 t) := by
  rw [← step3 m c t (k0_pay1 (F := Ideal))]; unfold newO; rw [if_pos ((conds t).1.mpr h)]
theorem o_next (t : Fin cfg0.N) (h : ¬t.val % 8 = 0) : oAt m c t.val t.isLt = k0_pay2 (oAt m c (t.val - 1) (by omega)) (iblk m c 0 t) (iblk m c 1 t) := by
  rw [← step3 m c t (k0_pay1 (F := Ideal)), before3 m c t h]; unfold newO; rw [if_neg fun e => h ((conds t).1.mp e)]
theorem s_first (t : Fin cfg0.N) (h : t.val = 0) : sAt m c t.val t.isLt = k0_pay4 k0_pay3 (iblk m c 0 t) (iblk m c 2 t) := by
  rw [← step4 m c t (k0_pay3 (F := Ideal))]; unfold newS; rw [if_pos ((conds t).2.2.mpr (by omega)), if_pos ((conds t).2.1.mpr h)]
theorem s_next (t : Fin cfg0.N) (h : t.val ≠ 0) (h8 : t.val < 8) : sAt m c t.val t.isLt = k0_pay4 (sAt m c (t.val - 1) (by omega)) (iblk m c 0 t) (iblk m c 2 t) := by
  rw [← step4 m c t (k0_pay3 (F := Ideal)), before4 m c t h]; unfold newS; rw [if_pos ((conds t).2.2.mpr h8), if_neg fun e => h ((conds t).2.1.mp e)]

theorem o_last (q : Fin 3) (i : Fin 2048) (j : Fin 1024) : oAt m c (8 * q.val + 7) (by have := pts; omega) (ix2 i j) = res3 m c i ⟨q.val * 1024 + j.val, by omega⟩ := by
  have hP := pts
  refine fold (fun s => oAt m c (8 * q.val + s.val) (by omega) (ix2 i j)) (fun k => arrA m c k i * arrB m c k ⟨q.val * 1024 + j.val, by omega⟩) ?_ fun s => ?_
  · refine (congrFun (o_first m c ⟨8 * q.val + 0, by omega⟩ (by show (8 * q.val + 0) % 8 = 0; omega)) _).trans ?_
    rw [add3 m c ⟨8 * q.val + 0, by omega⟩ 0 (by show (8 * q.val + 0) % 8 = 0; omega) i _ j ⟨q.val * 1024 + j.val, by omega⟩ (Fin.ext (by show (8 * q.val + 0) / 8 * 1024 + j.val = q.val * 1024 + j.val; omega)), pay1_at]
  · have e : (8 * q.val + (s.val + 1)) % 8 = s.val + 1 := by omega
    refine (congrFun (o_next m c ⟨8 * q.val + (s.val + 1), by omega⟩ (by show ¬(8 * q.val + (s.val + 1)) % 8 = 0; omega)) _).trans ?_
    exact add3 m c ⟨8 * q.val + (s.val + 1), by omega⟩ s.succ e i _ j _ (Fin.ext (by show (8 * q.val + (s.val + 1)) / 8 * 1024 + j.val = q.val * 1024 + j.val; omega))

theorem s_last (i : Fin 2048) (j : Fin 128) : sAt m c 7 (by have := pts; omega) (ix2 i j) = res4 m c i j := by
  have hP := pts
  refine fold (fun s => sAt m c s.val (by omega) (ix2 i j)) _ ?_ fun s => ?_
  · refine (congrFun (s_first m c ⟨0, by omega⟩ rfl) _).trans ?_
    rw [add4 m c ⟨0, by omega⟩ 0 rfl i _ j, pay3_at]
  · refine (congrFun (s_next m c ⟨s.val + 1, by omega⟩ (Nat.succ_ne_zero _) (by show s.val + 1 < 8; omega)) _).trans ?_
    exact add4 m c ⟨s.val + 1, by omega⟩ s.succ (Nat.mod_eq_of_lt (by show s.val + 1 < 8; omega)) i _ j

theorem s_end : ∀ n (h : n < cfg0.N), 7 ≤ n → sAt m c n h = sAt m c 7 (by have := pts; omega)
  | 0, _, h7 => absurd h7 (by omega)
  | n + 1, h, h7 => by
    by_cases e : n + 1 = 7
    · obtain rfl : n = 6 := by omega
      rfl
    · exact (sAt_keep m c ⟨n + 1, h⟩ (by show ¬n + 1 < 8; omega)).trans (s_end n (by omega) (by omega))

theorem at3 (t : Fin cfg0.N) (i : Fin 2048) (j : Fin 1024) : (win0_3.rect t).idx (ix2 i j) = (ix2 i (col t j) : S2048x3072.Idx) := by
  obtain ⟨-, -, -, ⟨e0, e1⟩, -⟩ := at_idx t
  funext a; apply Fin.ext
  match a with
  | ⟨0, _⟩ => show win0_3.index t (0 : Fin 2) * 2048 + 1 * i.val = i.val; rw [e0]; omega
  | ⟨1, _⟩ => show win0_3.index t (1 : Fin 2) * 1024 + 1 * j.val = t.val / 8 * 1024 + j.val; rw [e1]; omega

theorem at4 (t : Fin cfg0.N) (i : Fin 2048) (j : Fin 128) : (win0_4.rect t).idx (ix2 i j) = (ix2 i j : S2048x128.Idx) := by
  obtain ⟨-, -, -, -, e0, e1⟩ := at_idx t
  funext a; apply Fin.ext
  match a with
  | ⟨0, _⟩ => show win0_4.index t (0 : Fin 2) * 2048 + 1 * i.val = i.val; rw [e0]; omega
  | ⟨1, _⟩ => show win0_4.index t (1 : Fin 2) * 128 + 1 * j.val = j.val; rw [e1]; omega

theorem cover3 (i : S2048x3072.Idx) : ∃ t : Fin cfg0.N, t.val % 8 = 7 ∧ i ∈ (win0_3.rect t).set := by
  have h0 : (i 0).val < 2048 := (i 0).isLt
  have h1 : (i 1).val < 3072 := (i 1).isLt
  have hP := pts
  refine ⟨⟨(i 1).val / 1024 * 8 + 7, by omega⟩, by show ((i 1).val / 1024 * 8 + 7) % 8 = 7; omega, ?_⟩
  rw [Rect.mem_set_unit]
  obtain ⟨-, -, -, ⟨e0, e1⟩, -⟩ := at_idx ⟨(i 1).val / 1024 * 8 + 7, by omega⟩
  intro a
  match a with
  | ⟨0, _⟩ => show win0_3.index _ (0 : Fin 2) * 2048 ≤ (i 0).val ∧ (i 0).val < win0_3.index _ (0 : Fin 2) * 2048 + 2048; rw [e0]; show 0 * 2048 ≤ _ ∧ _ < 0 * 2048 + 2048; omega
  | ⟨1, _⟩ => show win0_3.index _ (1 : Fin 2) * 1024 ≤ (i 1).val ∧ (i 1).val < win0_3.index _ (1 : Fin 2) * 1024 + 1024; rw [e1]; show ((i 1).val / 1024 * 8 + 7) / 8 * 1024 ≤ _ ∧ _ < ((i 1).val / 1024 * 8 + 7) / 8 * 1024 + 1024; omega

theorem cover4 (t : Fin cfg0.N) (i : S2048x128.Idx) : i ∈ (win0_4.rect t).set := by
  have h0 : (i 0).val < 2048 := (i 0).isLt
  have h1 : (i 1).val < 128 := (i 1).isLt
  rw [Rect.mem_set_unit]
  obtain ⟨-, -, -, -, e0, e1⟩ := at_idx t
  intro a
  match a with
  | ⟨0, _⟩ => show win0_4.index t (0 : Fin 2) * 2048 ≤ (i 0).val ∧ (i 0).val < win0_4.index t (0 : Fin 2) * 2048 + 2048; rw [e0]; omega
  | ⟨1, _⟩ => show win0_4.index t (1 : Fin 2) * 128 ≤ (i 1).val ∧ (i 1).val < win0_4.index t (1 : Fin 2) * 128 + 128; rw [e1]; omega

theorem eta3 (y : S2048x1024.Idx) : y = (ix2 (y 0) (y 1) : S2048x1024.Idx) := by funext a; match a with | ⟨0, _⟩ => rfl | ⟨1, _⟩ => rfl
theorem eta4 (y : S2048x128.Idx) : y = (ix2 (y 0) (y 1) : S2048x128.Idx) := by funext a; match a with | ⟨0, _⟩ => rfl | ⟨1, _⟩ => rfl

/-- The arrays that the call leaves. -/
def G3 (i : S2048x3072.Idx) : EReal := res3 m c (i 0) (i 1)
def G4 (i : S2048x128.Idx) : EReal := res4 m c (i 0) (i 1)

theorem block3 (t : Fin cfg0.N) (h : t.val % 8 = 7) (y : S2048x1024.Idx) : oAt m c t.val t.isLt y = G3 m c ((win0_3.rect t).idx y) := by
  have hP := pts
  obtain ⟨n, hn⟩ := t
  obtain ⟨q, rfl⟩ : ∃ q, n = 8 * q + 7 := ⟨n / 8, by have : n % 8 = 7 := h; omega⟩
  refine (congrArg (oAt m c _ hn) (eta3 y)).trans ((o_last m c ⟨q, by omega⟩ (y 0) (y 1)).trans (Eq.trans ?_ (congrArg (G3 m c)
    ((congrArg (win0_3.rect ⟨_, hn⟩).idx (eta3 y)).trans (at3 ⟨_, hn⟩ (y 0) (y 1)))).symm))
  exact congrArg (res3 m c (y 0)) (Fin.ext (by show q * 1024 + (y 1).val = (8 * q + 7) / 8 * 1024 + (y 1).val; omega))

theorem block4 (t : Fin cfg0.N) (h : 7 ≤ t.val) (y : S2048x128.Idx) : sAt m c t.val t.isLt y = G4 m c ((win0_4.rect t).idx y) := by
  rw [s_end m c t.val t.isLt h]
  exact (congrArg _ (eta4 y)).trans ((s_last m c (y 0) (y 1)).trans (congrArg (G4 m c) ((congrArg (win0_4.rect t).idx (eta4 y)).trans (at4 t (y 0) (y 1)))).symm)

theorem flushed3 (t : Fin cfg0.N) (h : t.val % 8 = 7) : (dats m 0 c).flushed 3 t = ((cfg0.win 3).blk t).view.read (Elt Ideal) (G3 m c) := by
  show (cfg0.win 3).cut (grid0.coords t) ((dats m 0 c).after 3 t) = _
  rw [after3]
  exact funext fun y => block3 m c t h y

theorem flushed4 (t : Fin cfg0.N) (h : 7 ≤ t.val) : (dats m 0 c).flushed 4 t = ((cfg0.win 4).blk t).view.read (Elt Ideal) (G4 m c) := by
  show (cfg0.win 4).cut (grid0.coords t) ((dats m 0 c).after 4 t) = _
  rw [after4]
  exact funext fun y => block4 m c t h y

theorem final3 : (dats m 0 c).arrAt 3 cfg0.N = G3 m c :=
  (dats m 0 c).arrAt_eq_of_cover 3 (G3 m c) (fun t h => flushed3 m c t ((flush0_3 t).mp h)) fun i =>
    (cover3 i).imp fun t h => ⟨(flush0_3 t).mpr h.1, by
      show i ∈ ((View.whole main_v27_0).slice (win0_3.rect t)).set
      rw [View.set_slice_whole]
      exact h.2⟩

theorem final4 : (dats m 0 c).arrAt 4 cfg0.N = G4 m c :=
  have h : 23 < cfg0.N := by have := pts; omega
  (dats m 0 c).arrAt_eq_of_cover 4 (G4 m c) (fun t h => flushed4 m c t (by have := (flush0_4 t).mp h; omega)) fun (i : S2048x128.Idx) =>
    ⟨⟨23, h⟩, (flush0_4 _).mpr rfl, by
      show i ∈ ((View.whole main_v27_1).slice (win0_4.rect ⟨23, h⟩)).set
      rw [View.set_slice_whole]
      exact cover4 ⟨23, h⟩ i⟩

section
variable (x0 : (⟨S8192x2048, .f32⟩ : BufTy).Contents (Elt Ideal)) (x1 x2 x3 : (⟨S2048, .f32⟩ : BufTy).Contents (Elt Ideal)) (x4 : (⟨S8192x7184, .f32⟩ : BufTy).Contents (Elt Ideal)) (i : Fin 2048)

/-- An entry of the reference's gradient. -/
theorem ref_at (j : Fin 7184) : val_main_v24 (F := Ideal) x0 x1 x2 x3 x4 (ix2 i j) = ∑ k : Fin 8192, val_main_v21 (F := Ideal) x0 x1 x2 x3 (ix2 k i) * x4 (ix2 k j) := by
  rw [val_main_v24_apply, val_main_v23_apply]
  refine Finset.sum_congr rfl fun k _ => (mul_comm _ _).trans (congrArg₂ (fun a b : EReal => a * b) (congrArg (val_main_v21 (F := Ideal) x0 x1 x2 x3) ?_) (congrArg x4 ?_))
  · funext a; match a with | ⟨0, _⟩ => rfl | ⟨1, _⟩ => rfl
  · funext a; match a with | ⟨0, _⟩ => rfl | ⟨1, _⟩ => rfl

theorem ref3_at (j : Fin 3072) : val_main_v25 (F := Ideal) x0 x1 x2 x3 x4 (ix2 i j) = val_main_v24 (F := Ideal) x0 x1 x2 x3 x4 (ix2 i ⟨j.val, by omega⟩) := by
  rw [val_main_v25_apply]
  refine congrArg _ ?_
  funext a
  match a with | ⟨0, _⟩ => rfl | ⟨1, _⟩ => rfl

theorem ref4_at (j : Fin 128) : val_main_v27 (F := Ideal) x0 x1 x2 x3 x4 (ix2 i j)
    = (if h : j.val < 16 then val_main_v24 (F := Ideal) x0 x1 x2 x3 x4 (ix2 i ⟨4096 + j.val, by omega⟩) else (0 : EReal)) := by
  unfold val_main_v27 val_main_v26
  generalize val_main_v24 (F := Ideal) x0 x1 x2 x3 x4 = z
  pointwise [val_main_call0_v0, val_main_c]
  rw [show (FloatOps.sitofp FTy.f32 0#32 : Ideal .f32) = 0 from by
    show ((((0#32 : BitVec 32).toInt : ℤ) : ℝ) : EReal) = 0
    simp]

end

theorem V_v21 : V m c main_v21 = val_main_v21 (F := Ideal) (m ((c : Thread nD τ).loc main_arg0)) (m ((c : Thread nD τ).loc main_arg1)) (m ((c : Thread nD τ).loc main_arg2)) (m ((c : Thread nD τ).loc main_arg3)) := by
  unfold_abbrev_sides
  after_results
  try rfl

theorem V_v26 (k : Fin 8192) (j : Fin 3072) : V m c main_v26 (ix2 k j) = (m ((c : Thread nD τ).loc main_arg4)) (ix2 k ⟨j.val, by omega⟩) := by
  unfold_abbrev_sides
  after_results
  pointwise

/-- Sixteen columns with 112 more to their right, read at an index. -/
theorem cat_of (a : Vec Ideal S8192x16 .f32) (b : Vec Ideal S8192x112 .f32) (k : Fin 8192) (j : Fin 128) :
    @Eq EReal (concatenate (α := Elt Ideal .f32) S8192x128 1 [⟨S8192x16, a⟩, ⟨S8192x112, b⟩] concatenates_S8192x16_S8192x112_S8192x128_d1 (ix2 k j))
      (if h : j.val < 16 then a (ix2 k ⟨j.val, h⟩) else b (ix2 k ⟨j.val - 16, by omega⟩)) := by
  pointwise

theorem V_v24 (k : Fin 8192) (j : Fin 128) : V m c main_v24 (ix2 k j) = (if h : j.val < 16 then (m ((c : Thread nD τ).loc main_arg4)) (ix2 k ⟨4096 + j.val, by omega⟩) else (0 : EReal)) := by
  unfold_abbrev_sides
  after_results
  refine (cat_of _ _ k j).trans ?_
  split
  · pointwise
  · pointwise

/-- The two results are the reference's. -/
theorem value3 : G3 m c = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext z
  obtain ⟨i, j, rfl⟩ : ∃ (i : Fin 2048) (j : Fin 3072), z = ix2 i j := ⟨z 0, z 1, by funext a; match a with | ⟨0, _⟩ => rfl | ⟨1, _⟩ => rfl⟩
  rw [ref3_at, ref_at]
  show ∑ k : Fin 8192, arrA m c k i * arrB m c k j = _
  exact Finset.sum_congr rfl fun k _ => congrArg₂ (fun a b : EReal => a * b) (congrFun (V_v21 m c) (ix2 k i)) (V_v26 m c k j)

theorem value4 : G4 m c = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext z
  obtain ⟨i, j, rfl⟩ : ∃ (i : Fin 2048) (j : Fin 128), z = ix2 i j := ⟨z 0, z 1, by funext a; match a with | ⟨0, _⟩ => rfl | ⟨1, _⟩ => rfl⟩
  rw [ref4_at]
  show ∑ k : Fin 8192, arrA m c k i * arrS m c k j = _
  by_cases h : j.val < 16
  · rw [dif_pos h, ref_at]
    exact Finset.sum_congr rfl fun k _ => congrArg₂ (fun a b : EReal => a * b) (congrFun (V_v21 m c) (ix2 k i)) ((V_v24 m c k j).trans (dif_pos h))
  · rw [dif_neg h]
    exact Finset.sum_eq_zero fun k _ => (congrArg (fun b : EReal => arrA m c k i * b) ((V_v24 m c k j).trans (dif_neg h))).trans (mul_zero _)

/-- The run ends with the two arrays, the arguments unchanged. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v27_0) = G3 m c
      ∧ r.2.mem ((c : Thread nD τ).loc main_v27_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.2 c).1 3).trans (final3 m c), ((h.2 c).1 4).trans (final4 m c), h.1 c⟩)
    (θ_run_and (unchanged m ρ) (run_main m ρ))

end Cert.Kernel3Ideal.Tie

end
-- ==== Proof.InLoop.lean ====
/-
  The loop over eight groups of 128 rows that fills a block of the normalised, scaled and shifted input: what its
  trips write, as pieces, and the block they make together.
-/
module

public import proofs.«01_k».proof.Proof.Gen.Kernel4Ideal.Loops
public import Idealize.ShloMosaic.Lib.Pipeline.ValueKit
public import Idealize.ShloMosaic.Lib.Ring

@[expose] public section

set_option maxRecDepth 16384

noncomputable section

namespace Cert.Kernel4Ideal.Tie

open Cert.Kernel4Ideal Cert.Kernel4Ideal.Gen
open Idealize.ShloMosaic Idealize.ShloMosaic.TcCoe

variable {F : FTy → Type} [FloatOps F]

theorem hz : (![0, 0] : Fin 2 → Nat) = fun _ => 0 := funext fun a => by fin_cases a <;> rfl

theorem trips8 : k0_t1_loop.trips = 8 := by decide

theorem off_eq : ∀ k : Fin k0_t1_loop.trips, k0_off1 k = ![k.val * 128, 0] := by decide

theorem inbk (k : Fin k0_t1_loop.trips) (a : Fin 2) : k0_off1 k a + S128x2048.size a ≤ S1024x2048.size a := by
  have hk : k.val < 8 := by have h := k.isLt; have e := trips8; omega
  rw [off_eq]
  match a with
  | ⟨0, _⟩ => show k.val * 128 + 128 ≤ 1024; omega
  | ⟨1, _⟩ => show 0 + 2048 ≤ 2048; omega

/-- The rows of group `k` of a block. -/
def grp (inb : ∀ k a, k0_off1 k a + S128x2048.size a ≤ S1024x2048.size a) (x : Vec F S1024x2048 .f32) (k : Fin k0_t1_loop.trips) : Vec F S128x2048 .f32 :=
  View.ld x (Rect.unit (s := S1024x2048) (k0_off1 k) S128x2048.size (inb k))

variable (inb : ∀ k a, k0_off1 k a + S128x2048.size a ≤ S1024x2048.size a)

/-- The rows that trip `k` writes. -/
def hRow (x0 : Vec F S1024x2048 .f32) (x1 x2 x3 : Vec F S1x2048 .f32) (k : Fin k0_t1_loop.trips) : Vec F S128x2048 .bf16 :=
  k0_pay1 (grp inb x0 k) x1 x2 x3

theorem pay2_eq (a : Vec F S128x2048 .f32) (b c d : Vec F S1x2048 .f32) : k0_pay2 a b c d = k0_pay1 a b c d := by
  unfold k0_pay2
  exact shapeCast_self _ _

theorem tripL_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x2048 .bf16) (harg11 : arg11.IsWhole) (k0_h1 : k0_cond1 i = 1#1)
  (x0 : Vec F S1024x2048 .f32) (x1 x2 x3 : Vec F S1x2048 .f32) (k : Fin k0_t1_loop.trips) :
  tripL_k0_t1 (F := F) 𝒱 c bd i arg2 harg2 arg3 harg3 arg4 harg4 arg5 harg5 arg6 harg6 arg7 harg7 arg8 harg8 arg9 harg9 arg10 harg10 arg11 harg11 k0_h1 (harg2.unread x0) (harg3.unread x1) (harg4.unread x2) (harg5.unread x3) k
    = ([⟨Rect.unit (k0_off1 k) S128x2048.size (inb k), hRow inb x0 x1 x2 x3 k⟩],
       [⟨Rect.unit (k0_off1 k) S128x2048.size (inb k), hRow inb x0 x1 x2 x3 k⟩]) := by
  unfold tripL_k0_t1 trip_k0_t1 hRow grp
  dsimp only
  sl_unfold_words
  simp only [View.readAt_eq_ld, harg2.read_unread, harg3.read_unread, harg4.read_unread, harg5.read_unread, pay2_eq]
  rw [View.ld_unit_zero (S := S1x2048) hz, View.ld_unit_zero (S := S1x2048) hz, View.ld_unit_zero (S := S1x2048) hz]

theorem rowPc_congr (o o' : Fin 2 → ℕ) (e : o = o') (h h') (w : Vec F S128x2048 .bf16) :
    (⟨Rect.unit o S128x2048.size h, w⟩ : View.Piece (Elt F) S1024x2048 .bf16) = ⟨Rect.unit o' S128x2048.size h', w⟩ := by
  subst e; rfl

theorem inb128 (k : ℕ) (hk : k < 8) (a : Fin 2) : (![k * 128, 0] : Fin 2 → ℕ) a + S128x2048.size a ≤ S1024x2048.size a := by
  match a with
  | ⟨0, _⟩ => show k * 128 + 128 ≤ 1024; omega
  | ⟨1, _⟩ => show 0 + 2048 ≤ 2048; omega

/-- The eight row pieces of a block, the last first. -/
def rowPcs (x0 : Vec F S1024x2048 .f32) (x1 x2 x3 : Vec F S1x2048 .f32) : List (View.Piece (Elt F) S1024x2048 .bf16) :=
  [⟨Rect.unit ![7 * 128, 0] S128x2048.size (inb128 7 (by omega)), hRow inbk x0 x1 x2 x3 ⟨7, by rw [trips8]; omega⟩⟩,
   ⟨Rect.unit ![6 * 128, 0] S128x2048.size (inb128 6 (by omega)), hRow inbk x0 x1 x2 x3 ⟨6, by rw [trips8]; omega⟩⟩,
   ⟨Rect.unit ![5 * 128, 0] S128x2048.size (inb128 5 (by omega)), hRow inbk x0 x1 x2 x3 ⟨5, by rw [trips8]; omega⟩⟩,
   ⟨Rect.unit ![4 * 128, 0] S128x2048.size (inb128 4 (by omega)), hRow inbk x0 x1 x2 x3 ⟨4, by rw [trips8]; omega⟩⟩,
   ⟨Rect.unit ![3 * 128, 0] S128x2048.size (inb128 3 (by omega)), hRow inbk x0 x1 x2 x3 ⟨3, by rw [trips8]; omega⟩⟩,
   ⟨Rect.unit ![2 * 128, 0] S128x2048.size (inb128 2 (by omega)), hRow inbk x0 x1 x2 x3 ⟨2, by rw [trips8]; omega⟩⟩,
   ⟨Rect.unit ![1 * 128, 0] S128x2048.size (inb128 1 (by omega)), hRow inbk x0 x1 x2 x3 ⟨1, by rw [trips8]; omega⟩⟩,
   ⟨Rect.unit ![0 * 128, 0] S128x2048.size (inb128 0 (by omega)), hRow inbk x0 x1 x2 x3 ⟨0, by rw [trips8]; omega⟩⟩]

/-- The block the eight groups of rows make. -/
def hBlk (x0 : Vec F S1024x2048 .f32) (x1 x2 x3 : Vec F S1x2048 .f32) : Vec F S1024x2048 .bf16 :=
  View.canon (rowPcs x0 x1 x2 x3)

theorem rows_cover (x0 : Vec F S1024x2048 .f32) (x1 x2 x3 : Vec F S1x2048 .f32) : ∀ y, ∃ p ∈ rowPcs x0 x1 x2 x3, y ∈ p.1.set :=
  View.cover_of_tiledL (rowPcs x0 x1 x2 x3) S128x2048.size (by sl_kernel_rfl)

theorem read_rows {sp : Space} (v : View sig .tc sp S1024x2048 .bf16) (f : v.ty.Contents (Elt F)) (x0 : Vec F S1024x2048 .f32) (x1 x2 x3 : Vec F S1x2048 .f32) :
    v.read (Elt F) (v.writes (Elt F) f (rowPcs x0 x1 x2 x3)) = hBlk x0 x1 x2 x3 :=
  View.read_writes_eq_canon v f _ (rows_cover x0 x1 x2 x3)

theorem pb_step (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x2048 .bf16) (harg11 : arg11.IsWhole) (k0_h1 : k0_cond1 i = 1#1)
  (x0 : Vec F S1024x2048 .f32) (x1 x2 x3 : Vec F S1x2048 .f32) (k : Fin k0_t1_loop.trips) :
  pb_k0_t1 (F := F) 𝒱 c bd i arg2 harg2 arg3 harg3 arg4 harg4 arg5 harg5 arg6 harg6 arg7 harg7 arg8 harg8 arg9 harg9 arg10 harg10 arg11 harg11 k0_h1 (harg2.unread x0) (harg3.unread x1) (harg4.unread x2) (harg5.unread x3) (k.val + 1)
    = (⟨Rect.unit (k0_off1 k) S128x2048.size (inb k), hRow inb x0 x1 x2 x3 k⟩ :: (pb_k0_t1 (F := F) 𝒱 c bd i arg2 harg2 arg3 harg3 arg4 harg4 arg5 harg5 arg6 harg6 arg7 harg7 arg8 harg8 arg9 harg9 arg10 harg10 arg11 harg11 k0_h1 (harg2.unread x0) (harg3.unread x1) (harg4.unread x2) (harg5.unread x3) k.val).1,
       ⟨Rect.unit (k0_off1 k) S128x2048.size (inb k), hRow inb x0 x1 x2 x3 k⟩ :: (pb_k0_t1 (F := F) 𝒱 c bd i arg2 harg2 arg3 harg3 arg4 harg4 arg5 harg5 arg6 harg6 arg7 harg7 arg8 harg8 arg9 harg9 arg10 harg10 arg11 harg11 k0_h1 (harg2.unread x0) (harg3.unread x1) (harg4.unread x2) (harg5.unread x3) k.val).2) := by
  rw [pb_k0_t1_succ, tripL_eq (inb := inb)]
  rfl

theorem pb_rows (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x2048 .bf16) (harg11 : arg11.IsWhole) (k0_h1 : k0_cond1 i = 1#1)
  (x0 : Vec F S1024x2048 .f32) (x1 x2 x3 : Vec F S1x2048 .f32) :
  pb_k0_t1 (F := F) 𝒱 c bd i arg2 harg2 arg3 harg3 arg4 harg4 arg5 harg5 arg6 harg6 arg7 harg7 arg8 harg8 arg9 harg9 arg10 harg10 arg11 harg11 k0_h1 (harg2.unread x0) (harg3.unread x1) (harg4.unread x2) (harg5.unread x3) 8 = (rowPcs x0 x1 x2 x3, rowPcs x0 x1 x2 x3) := by
  have t : ∀ n, n < 8 → n < k0_t1_loop.trips := fun n h => by rw [trips8]; exact h
  have e := fun n h => pb_step inbk 𝒱 c bd i arg2 harg2 arg3 harg3 arg4 harg4 arg5 harg5 arg6 harg6 arg7 harg7 arg8 harg8 arg9 harg9 arg10 harg10 arg11 harg11 k0_h1 x0 x1 x2 x3 ⟨n, h⟩
  have e0 := e 0 (t 0 (by omega))
  have e1 := e 1 (t 1 (by omega))
  have e2 := e 2 (t 2 (by omega))
  have e3 := e 3 (t 3 (by omega))
  have e4 := e 4 (t 4 (by omega))
  have e5 := e 5 (t 5 (by omega))
  have e6 := e 6 (t 6 (by omega))
  have e7 := e 7 (t 7 (by omega))
  dsimp only at e7 e6 e5 e4 e3 e2 e1 e0
  refine Prod.ext ?_ ?_
  · refine (congrArg (fun q => q.1) e7).trans ?_
    unfold rowPcs
    refine congrArg₂ List.cons (rowPc_congr _ _ (off_eq _) _ _ _) ((congrArg (fun q => q.1) e6).trans ?_)
    refine congrArg₂ List.cons (rowPc_congr _ _ (off_eq _) _ _ _) ((congrArg (fun q => q.1) e5).trans ?_)
    refine congrArg₂ List.cons (rowPc_congr _ _ (off_eq _) _ _ _) ((congrArg (fun q => q.1) e4).trans ?_)
    refine congrArg₂ List.cons (rowPc_congr _ _ (off_eq _) _ _ _) ((congrArg (fun q => q.1) e3).trans ?_)
    refine congrArg₂ List.cons (rowPc_congr _ _ (off_eq _) _ _ _) ((congrArg (fun q => q.1) e2).trans ?_)
    refine congrArg₂ List.cons (rowPc_congr _ _ (off_eq _) _ _ _) ((congrArg (fun q => q.1) e1).trans ?_)
    refine congrArg₂ List.cons (rowPc_congr _ _ (off_eq _) _ _ _) ((congrArg (fun q => q.1) e0).trans ?_)
    exact congrArg₂ List.cons (rowPc_congr _ _ (off_eq _) _ _ _) rfl
  · refine (congrArg (fun q => q.2) e7).trans ?_
    unfold rowPcs
    refine congrArg₂ List.cons (rowPc_congr _ _ (off_eq _) _ _ _) ((congrArg (fun q => q.2) e6).trans ?_)
    refine congrArg₂ List.cons (rowPc_congr _ _ (off_eq _) _ _ _) ((congrArg (fun q => q.2) e5).trans ?_)
    refine congrArg₂ List.cons (rowPc_congr _ _ (off_eq _) _ _ _) ((congrArg (fun q => q.2) e4).trans ?_)
    refine congrArg₂ List.cons (rowPc_congr _ _ (off_eq _) _ _ _) ((congrArg (fun q => q.2) e3).trans ?_)
    refine congrArg₂ List.cons (rowPc_congr _ _ (off_eq _) _ _ _) ((congrArg (fun q => q.2) e2).trans ?_)
    refine congrArg₂ List.cons (rowPc_congr _ _ (off_eq _) _ _ _) ((congrArg (fun q => q.2) e1).trans ?_)
    refine congrArg₂ List.cons (rowPc_congr _ _ (off_eq _) _ _ _) ((congrArg (fun q => q.2) e0).trans ?_)
    exact congrArg₂ List.cons (rowPc_congr _ _ (off_eq _) _ _ _) rfl

end Cert.Kernel4Ideal.Tie

end
-- ==== Proof.InRun.lean ====
/-
  The run of the body: at a point that opens a row block it fills the block and multiplies by both weights, at any
  other point it multiplies the block it finds.
-/
module

public import proofs.«01_k».proof.Proof.Gen.Kernel4Ideal.Frame
public import proofs.«01_k».proof.Proof.InLoop

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel4Ideal.Tie
open Idealize.ShloMosaic.Pipeline (Dat Cfg Window BodyObligation cellOf)

variable {F : FTy → Type} [FloatOps F]

local notation "𝕄" => MT nD τ sig Unit (Elt F) ℕ (UR sig nD τ) ℕ

theorem read_p {sp : Space} (v : View sig .tc sp S1024x1024 .bf16) (f : v.ty.Contents (Elt F)) (w : Vec F S1024x1024 .bf16) :
    v.read (Elt F) (v.writes (Elt F) f [⟨Rect.unit ![0, 0] S1024x1024.size inb_S1024x1024_S1024x1024_0_0, w⟩]) = w := by
  rw [View.read_writes_eq_canon v f _ (fun y => ⟨_, List.mem_cons_self, by
    rw [Rect.mem_set_unit]; intro a; have := (y a).isLt; rw [hz]; simp only [Nat.zero_add]; exact ⟨Nat.zero_le _, this⟩⟩)]
  exact View.canon_cons_unit_zero (S := S1024x1024) hz _ _ _

theorem read_s {sp : Space} (v : View sig .tc sp S1024x128 .f32) (f : v.ty.Contents (Elt F)) (w : Vec F S1024x128 .f32) :
    v.read (Elt F) (v.writes (Elt F) f [⟨Rect.unit ![0, 0] S1024x128.size inb_S1024x128_S1024x128_0_0, w⟩]) = w := by
  rw [View.read_writes_eq_canon v f _ (fun y => ⟨_, List.mem_cons_self, by
    rw [Rect.mem_set_unit]; intro a; have := (y a).isLt; rw [hz]; simp only [Nat.zero_add]; exact ⟨Nat.zero_le _, this⟩⟩)]
  exact View.canon_cons_unit_zero (S := S1024x128) hz _ _ _

set_option maxHeartbeats 4000000 in
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x2048 .bf16) (harg11 : arg11.IsWhole) (hc0 : k0_cond1 i = 1#1) (x0 : Vec F S1024x2048 .f32) (x1 x2 x3 : Vec F S1x2048 .f32) (x4 : Vec F S2048x1024 .bf16) (x5 : Vec F S2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 (hBlk x0 x1 x2 x3) x4) ∗ owns (c : Thread nD τ) arg9 fullShare (k0_pay3 (hBlk x0 x1 x2 x3) x5) ∗ owns (c : Thread nD τ) arg10 fullShare (hBlk x0 x1 x2 x3) ∗ owns (c : Thread nD τ) arg11 fullShare (hBlk x0 x1 x2 x3)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  intro E K
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  sl_unfold_words
  have hN : Scf.trips k0_t1_loop.lb k0_t1_loop.ub k0_t1_loop.st = 8 := trips8
  rw [hN, pb_rows]
  simp only [View.readAt_eq_ld, harg6.read_unread, harg7.read_unread, read_rows, View.ld_unit_zero (S := S1024x2048) hz, View.ld_unit_zero (S := S2048x1024) hz, View.ld_unit_zero (S := S2048x128) hz]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; exact read_p arg8.view _ _
  isplitl [H7]
  · iexists _; isplitr
    swap; · iexact H7
    ipureintro; exact read_s arg9.view _ _
  isplitl [H8]
  · iexists _; isplitr
    swap; · iexact H8
    ipureintro; exact read_rows arg10.view _ _ _ _ _
  iexists _; isplitr
  swap; · iexact HS
  ipureintro; exact read_rows arg11.view _ _ _ _ _

set_option maxHeartbeats 4000000 in
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (arg11 : Memref sig .tc .vmem S1024x2048 .bf16) (harg11 : arg11.IsWhole) (hc0 : ¬k0_cond1 i = 1#1) (x4 : Vec F S2048x1024 .bf16) (h : Vec F S1024x2048 .bf16) :
      ∀ (E : Set ℕ) (K : PUnit → sProp 𝕄),
        iprop(owns (c : Thread nD τ) arg6 fullShare x4 ∗ (∃ d, owns (c : Thread nD τ) arg8 fullShare d) ∗ owns (c : Thread nD τ) arg11 fullShare h
            ∗ (iprop(owns (c : Thread nD τ) arg6 fullShare x4 ∗ owns (c : Thread nD τ) arg8 fullShare (k0_pay4 h x4) ∗ owns (c : Thread nD τ) arg11 fullShare h) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11) K := by
  intro E K
  simp only [cc0_inproj_eq_skeleton]; unfold cc0_inproj_skel
  unfold owns
  iintro ⟨⟨%f4, %hf4, H4⟩, ⟨%d6, %f6, -, H6⟩, ⟨%fs, %hfs, HS⟩, Hk⟩
  obtain rfl := harg6.eq_unread hf4; obtain rfl := harg11.eq_unread hfs
  sl_exec (disch := first | sl_exact hc0)
  sl_step
  sl_unfold_words
  simp only [View.readAt_eq_ld, harg6.read_unread, harg11.read_unread, View.ld_unit_zero (S := S1024x2048) hz, View.ld_unit_zero (S := S2048x1024) hz]
  iapply Hk
  isplitl [H4]
  · iexists _; isplitr; · ipureintro; exact harg6.read_unread _
    iexact H4
  isplitl [H6]
  · iexists _; isplitr
    swap; · iexact H6
    ipureintro; exact read_p arg8.view _ _
  iexists _; isplitr; · ipureintro; exact harg11.read_unread _
  iexact HS

end Cert.Kernel4Ideal.Gen

end
-- ==== Proof.InFrame.lean ====
/-
  What each window and the carried block hold at every point, the body's obligation, the run and the frame.
-/
module

public import proofs.«01_k».proof.Proof.InRun
public import Idealize.ShloMosaic.Lib.Pipeline.TableIdle
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel4Ideal.Tie
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .vmem S2048x1024 .bf16 := win0_4.stage (cfg0.slots t 4)
abbrev ms0_5 (t : Fin cfg0.N) : Memref sig .tc .vmem S2048x128 .bf16 := win0_5.stage (cfg0.slots t 5)
abbrev ms0_6 (t : Fin cfg0.N) : Memref sig .tc .vmem S1024x1024 .bf16 := win0_6.stage (cfg0.slots t 6)
abbrev ms0_7 (t : Fin cfg0.N) : Memref sig .tc .vmem S1024x128 .f32 := win0_7.stage (cfg0.slots t 7)
abbrev ms0_8 (t : Fin cfg0.N) : Memref sig .tc .vmem S1024x2048 .bf16 := win0_8.stage (cfg0.slots t 8)

/-- The carried block's buffer. -/
abbrev scM : Memref sig .tc .vmem S1024x2048 .bf16 := Memref.whole cc0_scratch0

theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- A row block is opened at the points 0, 7, …, 49. -/
theorem hcond0 : ∀ t : Fin cfg0.N, k0_cond1 (grid0.coords t) = 1#1 ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [k0_cond1, e0, e1]
    word_cmp
   : ∀ t : Fin grid0.N, k0_cond1 (grid0.coords t) = 1#1 ↔ t.val % 7 = 0)

/-- The point that opened the row block of point `t`. -/
def rowPt (t : Fin cfg0.N) : Fin cfg0.N := ⟨7 * (t.val / 7), Nat.lt_of_le_of_lt (Nat.mul_div_le _ _) t.isLt⟩

theorem rowPt_open (t : Fin cfg0.N) (h : t.val % 7 = 0) : rowPt t = t := Fin.ext (by show 7 * (t.val / 7) = t.val; omega)

theorem rowPt_pred (t : Fin cfg0.N) (h : ¬t.val % 7 = 0) : rowPt t = rowPt ⟨t.val - 1, by omega⟩ :=
  Fin.ext (by show 7 * (t.val / 7) = 7 * ((t.val - 1) / 7); omega)

/-- The carried block after point `t`: the block of the row block that `t` is in. -/
def hAt (c : Dev nD) (t : Fin cfg0.N) : Vec F S1024x2048 .bf16 :=
  hBlk (iblk m c 0 (rowPt t)) (iblk m c 1 (rowPt t)) (iblk m c 2 (rowPt t)) (iblk m c 3 (rowPt t))

theorem hAt_open (c : Dev nD) (t : Fin cfg0.N) (h : t.val % 7 = 0) : hAt m c t = hBlk (iblk m c 0 t) (iblk m c 1 t) (iblk m c 2 t) (iblk m c 3 t) := by
  unfold hAt; rw [rowPt_open t h]

theorem hAt_pred (c : Dev nD) (t : Fin cfg0.N) (h : ¬t.val % 7 = 0) : hAt m c t = hAt m c ⟨t.val - 1, by omega⟩ := by
  unfold hAt; rw [rowPt_pred t h]

def PhiS (c : Dev nD) : (n : ℕ) → n ≤ cfg0.N → sProp 𝕄
  | 0, _ => Pipeline.ΦA spec0 c
  | n + 1, hn => iprop(iprop(owns (c : Thread nD τ) scM fullShare (hAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (hAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (hAt m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (hAt m c t) (iblk m c 4 t)
    | ⟨7, _⟩ => k0_pay3 (hAt m c t) (iblk m c 5 (rowPt t))
    | ⟨8, _⟩ => hAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay4 (hAt m c t) (iblk m c 4 t) := by dsimp only [dats]
theorem after0_7 (c : Dev nD) (t : Fin cfg0.N) : (dats m 0 c).after 7 t = k0_pay3 (hAt m c t) (iblk m c 5 (rowPt t)) := by dsimp only [dats]
theorem after0_8 (c : Dev nD) (t : Fin cfg0.N) : (dats m 0 c).after 8 t = hAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) : (dats m 0 c).leavesExact 0 t = owns (c : Thread nD τ) (ms0_0 t) fullShare ((dats m 0 c).after 0 t) := by
  unfold Dat.leavesExact; rw [show cfg0.idle 0 (cfg0.grid.coords t) = false from rfl]
theorem leaves0_1 (c : Dev nD) (t : Fin cfg0.N) : (dats m 0 c).leavesExact 1 t = owns (c : Thread nD τ) (ms0_1 t) fullShare ((dats m 0 c).after 1 t) := by
  unfold Dat.leavesExact; rw [show cfg0.idle 1 (cfg0.grid.coords t) = false from rfl]
theorem leaves0_2 (c : Dev nD) (t : Fin cfg0.N) : (dats m 0 c).leavesExact 2 t = owns (c : Thread nD τ) (ms0_2 t) fullShare ((dats m 0 c).after 2 t) := by
  unfold Dat.leavesExact; rw [show cfg0.idle 2 (cfg0.grid.coords t) = false from rfl]
theorem leaves0_3 (c : Dev nD) (t : Fin cfg0.N) : (dats m 0 c).leavesExact 3 t = owns (c : Thread nD τ) (ms0_3 t) fullShare ((dats m 0 c).after 3 t) := by
  unfold Dat.leavesExact; rw [show cfg0.idle 3 (cfg0.grid.coords t) = false from rfl]
theorem leaves0_4 (c : Dev nD) (t : Fin cfg0.N) : (dats m 0 c).leavesExact 4 t = owns (c : Thread nD τ) (ms0_4 t) fullShare ((dats m 0 c).after 4 t) := by
  unfold Dat.leavesExact; rw [show cfg0.idle 4 (cfg0.grid.coords t) = false from rfl]
theorem leaves0_5 (c : Dev nD) (t : Fin cfg0.N) : (dats m 0 c).leavesExact 5 t = owns (c : Thread nD τ) (ms0_5 t) fullShare ((dats m 0 c).after 5 t) := by
  unfold Dat.leavesExact; rw [show cfg0.idle 5 (cfg0.grid.coords t) = false from rfl]
theorem leaves0_6 (c : Dev nD) (t : Fin cfg0.N) : (dats m 0 c).leavesExact 6 t = owns (c : Thread nD τ) (ms0_6 t) fullShare ((dats m 0 c).after 6 t) := by
  unfold Dat.leavesExact; rw [show cfg0.idle 6 (cfg0.grid.coords t) = false from rfl]
theorem idle0_7 : ∀ t : Fin cfg0.N, cfg0.idle 7 (grid0.coords t) = !decide (t.val % 7 = 0) := by decide +kernel
theorem leaves0_7_keep (c : Dev nD) (t : Fin cfg0.N) (h : t.val % 7 = 0 ∨ t.val % 7 = 6) : (dats m 0 c).leavesExact 7 t = owns (c : Thread nD τ) (ms0_7 t) fullShare ((dats m 0 c).after 7 t) := by
  unfold Dat.leavesExact
  rcases h with h | h
  · rw [show cfg0.idle 7 (cfg0.grid.coords t) = false from (idle0_7 t).trans (by rw [decide_eq_true h]; rfl)]
  · rw [(flush0_7 t).mpr h, show cfg0.idle 7 (cfg0.grid.coords t) = true from (idle0_7 t).trans (by rw [decide_eq_false (by omega)]; rfl)]
theorem noFlush0_7 (t : Fin cfg0.N) (h : ¬t.val % 7 = 6) : (cfg0.win 7).flush t = false :=
  Bool.eq_false_iff.mpr fun e => h ((flush0_7 t).mp e)
theorem freshStep0_7 : ∀ t : Fin cfg0.N,
    decide ((t.val + 1) % 7 = 0) = ((cfg0.win 7).flush t || (cfg0.idle 7 (cfg0.grid.coords t) && decide (t.val % 7 = 0))) := by decide +kernel
theorem notFresh0_7 (t : Fin cfg0.N) (h : ¬t.val % 7 = 0) : cfg0.fresh 7 t.val = false :=
  (Pipeline.Cfg.fresh_tab cfg0 7 (fun n => decide (n % 7 = 0)) rfl freshStep0_7 t.val (Nat.le_of_lt t.isLt)).trans (decide_eq_false h)
theorem carry0_7 (c : Dev nD) : ∀ (t : Fin cfg0.N) (_ : t.val ≠ 0), cfg0.idle 7 (cfg0.grid.coords t) = true → cfg0.fresh 7 t.val = false →
    (dats m 0 c).after 7 t = (dats m 0 c).after 7 ⟨t.val - 1, by omega⟩ := by
  intro t ht hi _
  have h7 : ¬t.val % 7 = 0 := fun h => by
    have e : cfg0.idle 7 (cfg0.grid.coords t) = false := (idle0_7 t).trans (by rw [decide_eq_true h]; rfl)
    rw [e] at hi; exact absurd hi Bool.false_ne_true
  rw [after0_7, after0_7, hAt_pred m c t h7, rowPt_pred t h7]
theorem before0_7 (c : Dev nD) (t : Fin cfg0.N) (h : ¬t.val % 7 = 0) (d) : (dats m 0 c).before 7 t d = (dats m 0 c).after 7 t := by
  rw [Dat.before_out_traj _ 7 rfl (fun _ _ => rfl) (carry0_7 m c) t.val t rfl d, if_neg (by rw [notFresh0_7 t h]; exact Bool.false_ne_true)]
  rw [after0_7, after0_7, hAt_pred m c t h, rowPt_pred t h]
theorem idle0_8 : ∀ t : Fin cfg0.N, cfg0.idle 8 (grid0.coords t) = !decide (t.val % 7 = 0) := by decide +kernel
theorem leaves0_8_keep (c : Dev nD) (t : Fin cfg0.N) (h : t.val % 7 = 0 ∨ t.val % 7 = 6) : (dats m 0 c).leavesExact 8 t = owns (c : Thread nD τ) (ms0_8 t) fullShare ((dats m 0 c).after 8 t) := by
  unfold Dat.leavesExact
  rcases h with h | h
  · rw [show cfg0.idle 8 (cfg0.grid.coords t) = false from (idle0_8 t).trans (by rw [decide_eq_true h]; rfl)]
  · rw [(flush0_8 t).mpr h, show cfg0.idle 8 (cfg0.grid.coords t) = true from (idle0_8 t).trans (by rw [decide_eq_false (by omega)]; rfl)]
theorem noFlush0_8 (t : Fin cfg0.N) (h : ¬t.val % 7 = 6) : (cfg0.win 8).flush t = false :=
  Bool.eq_false_iff.mpr fun e => h ((flush0_8 t).mp e)
theorem freshStep0_8 : ∀ t : Fin cfg0.N,
    decide ((t.val + 1) % 7 = 0) = ((cfg0.win 8).flush t || (cfg0.idle 8 (cfg0.grid.coords t) && decide (t.val % 7 = 0))) := by decide +kernel
theorem notFresh0_8 (t : Fin cfg0.N) (h : ¬t.val % 7 = 0) : cfg0.fresh 8 t.val = false :=
  (Pipeline.Cfg.fresh_tab cfg0 8 (fun n => decide (n % 7 = 0)) rfl freshStep0_8 t.val (Nat.le_of_lt t.isLt)).trans (decide_eq_false h)
theorem carry0_8 (c : Dev nD) : ∀ (t : Fin cfg0.N) (_ : t.val ≠ 0), cfg0.idle 8 (cfg0.grid.coords t) = true → cfg0.fresh 8 t.val = false →
    (dats m 0 c).after 8 t = (dats m 0 c).after 8 ⟨t.val - 1, by omega⟩ := by
  intro t ht hi _
  have h7 : ¬t.val % 7 = 0 := fun h => by
    have e : cfg0.idle 8 (cfg0.grid.coords t) = false := (idle0_8 t).trans (by rw [decide_eq_true h]; rfl)
    rw [e] at hi; exact absurd hi Bool.false_ne_true
  rw [after0_8, after0_8, hAt_pred m c t h7]
theorem before0_8 (c : Dev nD) (t : Fin cfg0.N) (h : ¬t.val % 7 = 0) (d) : (dats m 0 c).before 8 t d = (dats m 0 c).after 8 t := by
  rw [Dat.before_out_traj _ 8 rfl (fun _ _ => rfl) (carry0_8 m c) t.val t rfl d, if_neg (by rw [notFresh0_8 t h]; exact Bool.false_ne_true)]
  rw [after0_8, after0_8, hAt_pred m c t h]

/-- What the body takes at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [leaves0_0 m c t, leaves0_1 m c t, leaves0_2 m c t, leaves0_3 m c t, leaves0_4 m c t, leaves0_5 m c t, leaves0_6 m c t]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 56 := lt_of_lt_of_eq t.isLt (show cfg0.N = 56 from N_0)
  by_cases h0 : t.val % 7 = 0
  · have hpre : PhiS m c t.val (Nat.le_of_lt t.isLt) ⊢ iprop((∃ d, owns (c : Thread nD τ) scM fullShare d) ∗ (∃ r, prngReg c r)) := by
      by_cases hz : t.val = 0
      · rw [PhiS_zero m c _ _ hz, PhiA0_eq]
      · rw [PhiS_pos m c _ _ hz]
        iintro ⟨HS, Hg⟩
        isplitl [HS]
        · iexists _; iexact HS
        iexact Hg
    refine BIBase.Entails.trans (BIClass.sep_mono hpre BIBase.Entails.refl) ?_
    rw [leaves0_7_keep m c t (Or.inl h0), leaves0_8_keep m c t (Or.inl h0)]
    simp only [after0_0, after0_1, after0_2, after0_3, after0_4, after0_5, after0_6, after0_7, after0_8, hAt_open m c t h0, rowPt_open t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords t) _ _ _ _ _ _ _ _ _ _ _ _ _ _ _ _ _ _ _ _ ((hcond0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos m c _ _ (by omega), ← hAt_pred m c t h0]
    by_cases h6 : t.val % 7 = 6
    · rw [leaves0_7_keep m c t (Or.inr h6), leaves0_8_keep m c t (Or.inr h6)]
      simp only [before0_7 m c t h0, before0_8 m c t h0, after0_0, after0_1, after0_2, after0_3, after0_4, after0_5, after0_6, after0_7, after0_8]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_B c (grid0.coords t) _ _ _ _ _ _ _ _ _ _ _ _ _ _ _ _ _ _ _ _ (fun h => h0 ((hcond0 t).mp h)) (iblk m c 4 t) (hAt m c t) Set.univ _)
      isplitl [H4]; · iexact H4
      isplitl [H6]; · iexists _; iexact H6
      isplitl [HS]; · iexact HS
      iintro ⟨H4, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 7 t ((idle0_7 t).trans (by rw [decide_eq_false h0]; rfl)) (noFlush0_7 t h6),
        Dat.leavesExact_idle (dats m 0 c) 8 t ((idle0_8 t).trans (by rw [decide_eq_false h0]; rfl)) (noFlush0_8 t h6)]
      simp only [before0_7 m c t h0, before0_8 m c t h0, after0_0, after0_1, after0_2, after0_3, after0_4, after0_5, after0_6, after0_7, after0_8]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_B c (grid0.coords t) _ _ _ _ _ _ _ _ _ _ _ _ _ _ _ _ _ _ _ _ (fun h => h0 ((hcond0 t).mp h)) (iblk m c 4 t) (hAt m c t) Set.univ _)
      isplitl [H4]; · iexact H4
      isplitl [H6]; · iexists _; iexact H6
      isplitl [HS]; · iexact HS
      iintro ⟨H4, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists d7; iexact H7
      iexists d8; iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After any point but the first the invariant gives it back: the carried block's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 56 := N_0; omega)

set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4Ideal.Gen

end
-- ==== Proof.InVec.lean ====
/-
  The values the body computes, read at an index: the rows of the projection's input and the two block products.
-/
module

public import proofs.«01_k».proof.Proof.InLoop
public import proofs.«01_k».proof.Proof.IbSpec
public import Idealize.ShloMosaic.Lib.Pointwise.Tactic

@[expose] public section

set_option maxRecDepth 16384

noncomputable section

namespace Cert.Kernel4Ideal.Tie

open Cert.Kernel4Ideal Cert.Kernel4Ideal.Gen Cert.IbSpec
open Idealize.ShloMosaic Idealize.ShloMosaic.TcCoe

theorem pay1_at (x : Vec Ideal S128x2048 .f32) (n s b : Vec Ideal S1x2048 .f32) (r : Fin 128) (j : Fin 2048) :
    k0_pay1 (F := Ideal) x n s b (ix2 r j)
      = x (ix2 r j) * Ideal.rsqrt (Ideal.div (∑ k : Fin 2048, x (ix2 r k) * x (ix2 r k)) c2048 + eps) * n (ix2 0 j) * s (ix2 0 j) + b (ix2 0 j) := by
  pointwise [k0_pay1]

theorem pay4_at (h : Vec Ideal S1024x2048 .bf16) (w : Vec Ideal S2048x1024 .bf16) (i : Fin 1024) (j : Fin 1024) :
    k0_pay4 (F := Ideal) h w (ix2 i j) = ∑ k : Fin 2048, h (ix2 i k) * w (ix2 k j) := by
  pointwise [k0_pay4]

theorem pay3_at (h : Vec Ideal S1024x2048 .bf16) (w : Vec Ideal S2048x128 .bf16) (i : Fin 1024) (j : Fin 128) :
    k0_pay3 (F := Ideal) h w (ix2 i j) = ∑ k : Fin 2048, h (ix2 i k) * w (ix2 k j) := by
  pointwise [k0_pay3]

theorem grp_at (x : Vec Ideal S1024x2048 .f32) (k : Fin k0_t1_loop.trips) (r : Fin 128) (j : Fin 2048) (h : k.val * 128 + r.val < 1024) :
    grp inbk x k (ix2 r j) = x (ix2 ⟨k.val * 128 + r.val, h⟩ j) := by
  unfold grp
  show x _ = x _
  congr 1
  funext a
  apply Fin.ext
  show k0_off1 k a + 1 * ((ix2 r j : S128x2048.Idx) a).val = _
  rw [off_eq, Nat.one_mul]
  match a with
  | ⟨0, _⟩ => rfl
  | ⟨1, _⟩ => exact Nat.zero_add _

/-- An entry of the projection's input, of a block. -/
def hb (x : Vec Ideal S1024x2048 .f32) (n s b : Vec Ideal S1x2048 .f32) (i : Fin 1024) (j : Fin 2048) : EReal :=
  x (ix2 i j) * Ideal.rsqrt (Ideal.div (∑ k : Fin 2048, x (ix2 i k) * x (ix2 i k)) c2048 + eps) * n (ix2 0 j) * s (ix2 0 j) + b (ix2 0 j)

theorem hRow_at (x : Vec Ideal S1024x2048 .f32) (n s b : Vec Ideal S1x2048 .f32) (k : Fin k0_t1_loop.trips) (r : Fin 128) (j : Fin 2048) (h : k.val * 128 + r.val < 1024) :
    hRow inbk x n s b k (ix2 r j) = hb x n s b ⟨k.val * 128 + r.val, h⟩ j := by
  unfold hRow hb
  refine (pay1_at _ _ _ _ _ _).trans ?_
  rw [grp_at x k r j h]
  have e : ∀ q : Fin 2048, grp inbk x k (ix2 r q) = x (ix2 ⟨k.val * 128 + r.val, h⟩ q) := fun q => grp_at x k r q h
  simp only [e]

theorem hBlk_at (x : Vec Ideal S1024x2048 .f32) (n s b : Vec Ideal S1x2048 .f32) (i : Fin 1024) (j : Fin 2048) :
    @Eq EReal (hBlk x n s b (ix2 i j)) (hb x n s b i j) := by
  refine View.canon_eq_of_allAt _ _ _ (rows_cover x n s b _) ?_
  have h : ∀ (k : ℕ) (hk : k < 8) (hk' : k < k0_t1_loop.trips),
      View.TileAt (Val := Elt Ideal) (e := .bf16) (S := S1024x2048) (ix2 i j) ![k * 128, 0] S128x2048.size (hRow (F := Ideal) inbk x n s b ⟨k, hk'⟩) (hb x n s b i j) := by
    intro k hk hk' z hx
    have h0 : i.val = k * 128 + (z 0).val := hx 0
    have h1 : j.val = 0 + (z 1).val := hx 1
    have b0 : (z 0).val < 128 := (z 0).isLt
    have b1 : (z 1).val < 2048 := (z 1).isLt
    have ex : z = ix2 (⟨(z 0).val, b0⟩ : Fin 128) (⟨(z 1).val, b1⟩ : Fin 2048) := by
      funext a
      match a with
      | ⟨0, _⟩ => rfl
      | ⟨1, _⟩ => rfl
    rw [ex]
    refine (hRow_at x n s b ⟨k, hk'⟩ _ _ (by show k * 128 + (z 0).val < 1024; omega)).trans ?_
    rw [show (⟨k * 128 + (z 0).val, by omega⟩ : Fin 1024) = i from Fin.ext h0.symm,
      show (⟨(z 1).val, b1⟩ : Fin 2048) = j from Fin.ext (by show (z 1).val = j.val; omega)]
  unfold rowPcs
  exact View.allAt_cons_unit _ _ _ _ _ (h 7 (by omega) _) (View.allAt_cons_unit _ _ _ _ _ (h 6 (by omega) _)
    (View.allAt_cons_unit _ _ _ _ _ (h 5 (by omega) _) (View.allAt_cons_unit _ _ _ _ _ (h 4 (by omega) _)
    (View.allAt_cons_unit _ _ _ _ _ (h 3 (by omega) _) (View.allAt_cons_unit _ _ _ _ _ (h 2 (by omega) _)
    (View.allAt_cons_unit _ _ _ _ _ (h 1 (by omega) _) (View.allAt_cons_unit _ _ _ _ _ (h 0 (by omega) _) (View.allAt_nil _ _))))))))

end Cert.Kernel4Ideal.Tie

end
-- ==== Proof.InSpec.lean ====
/-
  The in-projection as a function of indices: its normalised, scaled and shifted input, and the product with the
  weights in the packed order of the columns.
-/
module

public import proofs.«01_k».proof.Proof.IbSpec

@[expose] public section

namespace Cert.InSpec

open Idealize.ShloMosaic Cert.IbSpec

noncomputable section

variable (x : Fin 8192 → Fin 2048 → EReal) (n s b : Fin 2048 → EReal) (w : Fin 2048 → Fin 7184 → EReal)

/-- An entry of the projection's input. -/
def hh (i : Fin 8192) (j : Fin 2048) : EReal :=
  x i j * Ideal.rsqrt (Ideal.div (∑ k : Fin 2048, x i k * x i k) c2048 + eps) * n j * (1 + s j) + b j

/-- The product with one column of the weights. -/
def pr (i : Fin 8192) (q : Fin 7184) : EReal := ∑ k : Fin 2048, hh x n s b i k * w k q

/-- The column of the unpacked array that a packed column holds. -/
def colN (p : ℕ) : ℕ := if p < 1024 then 3072 + p else if p < 4096 then 3088 + p else p - 4096

theorem colN_lt (p : ℕ) (h : p < 7168) : colN p < 7184 := by unfold colN; split <;> [omega; (split <;> omega)]

/-- The packed product and the small one. -/
def rmain (i : Fin 8192) (p : Fin 7168) : EReal := pr x n s b w i ⟨colN p.val, colN_lt _ p.isLt⟩
def rsmall (i : Fin 8192) (l : Fin 128) : EReal := if h : l.val < 16 then pr x n s b w i ⟨4096 + l.val, by omega⟩ else 0

end

end Cert.InSpec
-- ==== Proof.InVal.lean ====
/-
  The arrays that the host code hands the in-projection, the blocks of them that a point reads, and the three arrays
  that the call leaves, as entries of the arguments.
-/
module

public import proofs.«01_k».proof.Proof.InFrame
public import proofs.«01_k».proof.Proof.InVec
public import proofs.«01_k».proof.Proof.InSpec
public import Idealize.ShloMosaic.Lib.Pointwise
public import Idealize.ShloMosaic.Lib.Claim
public import Idealize.ShloMosaic.Lib.Pipeline.ValueKit.Acc
public import Idealize.ShloMosaic.Lib.StableHlo.Run
public import Idealize.ShloMosaic.Lib.StableHlo.RunRead

@[expose] public section

set_option maxRecDepth 16384

noncomputable section

namespace Cert.Kernel4Ideal.Tie

open Cert.Kernel4Ideal Cert.Kernel4Ideal.Gen Cert.IbSpec Cert.InSpec
open Idealize.ShloMosaic Idealize.ShloMosaic.TcCoe Idealize.ShloMosaic.StableHlo

variable (m : (ℓ : Loc nD τ sig) → Buf (Elt Ideal) ℓ) (c : Dev nD)

/-- The arguments as functions of indices. -/
abbrev aX (i : Fin 8192) (j : Fin 2048) : EReal := m ((c : Thread nD τ).loc main_arg0) (ix2 i j)
abbrev aN (j : Fin 2048) : EReal := m ((c : Thread nD τ).loc main_arg1) (ix1 j)
abbrev aS (j : Fin 2048) : EReal := m ((c : Thread nD τ).loc main_arg2) (ix1 j)
abbrev aB (j : Fin 2048) : EReal := m ((c : Thread nD τ).loc main_arg3) (ix1 j)
abbrev aW (j : Fin 2048) (k : Fin 7184) : EReal := m ((c : Thread nD τ).loc main_arg4) (ix2 j k)

theorem aW_congr (j : Fin 2048) (k k' : Fin 7184) (h : k.val = k'.val) : aW m c j k = aW m c j k' := by rw [Fin.ext h]

theorem V_v1 (j : Fin 2048) (p : Fin 1024) : @Eq EReal (V m c main_v1 (ix2 j p)) (aW m c j ⟨3072 + p.val, by omega⟩) := by
  unfold_abbrev_sides
  after_results
  pointwise
theorem V_v2 (j : Fin 2048) (p : Fin 3072) : @Eq EReal (V m c main_v2 (ix2 j p)) (aW m c j ⟨4112 + p.val, by omega⟩) := by
  unfold_abbrev_sides
  after_results
  pointwise
theorem V_v3 (j : Fin 2048) (p : Fin 3072) : @Eq EReal (V m c main_v3 (ix2 j p)) (aW m c j ⟨p.val, by omega⟩) := by
  unfold_abbrev_sides
  after_results
  pointwise

theorem V_v4 (j : Fin 2048) (p : Fin 7168) : @Eq EReal (V m c main_v4 (ix2 j p)) (aW m c j ⟨colN p.val, colN_lt _ p.isLt⟩) := by
  unfold_abbrev_sides
  after_results
  pointwise
  split
  · rename_i h
    exact (V_v1 m c j ⟨p.val, h⟩).trans (aW_congr m c j _ _ (by show 3072 + p.val = colN p.val; unfold colN; rw [if_pos h]))
  · rename_i h
    split
    · rename_i h2
      exact (V_v2 m c j ⟨p.val - 1024, h2⟩).trans (aW_congr m c j _ _
        (by show 4112 + (p.val - 1024) = colN p.val; unfold colN; rw [if_neg h, if_pos (by omega)]; omega))
    · rename_i h2
      exact (V_v3 m c j ⟨p.val - 1024 - 3072, by omega⟩).trans (aW_congr m c j _ _
        (by show p.val - 1024 - 3072 = colN p.val; unfold colN; rw [if_neg h, if_neg (by omega)]; omega))

theorem V_v7 (j : Fin 2048) (l : Fin 128) : @Eq EReal (V m c main_v7 (ix2 j l)) (if h : l.val < 16 then aW m c j ⟨4096 + l.val, by omega⟩ else 0) := by
  unfold_abbrev_sides
  after_results
  pointwise
  try rfl

theorem V_v8 (j : Fin 2048) : @Eq EReal (V m c main_v8 (ix2 0 j)) (aN m c j) := by
  unfold_abbrev_sides
  after_results
  pointwise

theorem V_v11 (j : Fin 2048) : @Eq EReal (V m c main_v11 (ix2 0 j)) (1 + aS m c j) := by
  unfold_abbrev_sides
  after_results
  pointwise
  rfl

theorem V_v12 (j : Fin 2048) : @Eq EReal (V m c main_v12 (ix2 0 j)) (aB m c j) := by
  unfold_abbrev_sides
  after_results
  pointwise

theorem pts : cfg0.N = 56 := N_0

theorem idx0 : ∀ t : Fin cfg0.N, win0_0.index t (0 : Fin 2) = t.val / 7 ∧ win0_0.index t (1 : Fin 2) = 0 :=
  (by decide +kernel : ∀ t : Fin grid0.N, win0_0.index t (0 : Fin 2) = t.val / 7 ∧ win0_0.index t (1 : Fin 2) = 0)

theorem iblk0_at (t : Fin cfg0.N) (i : Fin 1024) (j : Fin 2048) : @Eq EReal (iblk m c 0 t (ix2 i j)) (V m c main_arg0 (ix2 (⟨t.val / 7 * 1024 + i.val, by have := t.isLt; have := i.isLt; have := pts; omega⟩ : Fin 8192) j)) := by
  obtain ⟨e0, e1⟩ := idx0 t
  unfold iblk
  rw [View.read_apply]
  show V m c main_arg0 _ = V m c main_arg0 _
  congr 1
  funext a; apply Fin.ext
  match a with
  | ⟨0, _⟩ => show win0_0.index t (0 : Fin 2) * 1024 + 1 * i.val = t.val / 7 * 1024 + i.val; rw [e0]; omega
  | ⟨1, _⟩ => show win0_0.index t (1 : Fin 2) * 2048 + 1 * j.val = j.val; rw [e1]; omega

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem iblk1_at (t : Fin cfg0.N) (i : Fin 1) (j : Fin 2048) : @Eq EReal (iblk m c 1 t (ix2 i j)) (V m c main_v8 (ix2 (0 : Fin 1) j)) := by
  obtain ⟨e0, e1⟩ := idx1 t
  unfold iblk
  rw [View.read_apply]
  show V m c main_v8 _ = V m c main_v8 _
  congr 1
  funext a; apply Fin.ext
  match a with
  | ⟨0, _⟩ => show win0_1.index t (0 : Fin 2) * 1 + 1 * i.val = 0; rw [e0]; omega
  | ⟨1, _⟩ => show win0_1.index t (1 : Fin 2) * 2048 + 1 * j.val = j.val; rw [e1]; omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem iblk2_at (t : Fin cfg0.N) (i : Fin 1) (j : Fin 2048) : @Eq EReal (iblk m c 2 t (ix2 i j)) (V m c main_v11 (ix2 (0 : Fin 1) j)) := by
  obtain ⟨e0, e1⟩ := idx2 t
  unfold iblk
  rw [View.read_apply]
  show V m c main_v11 _ = V m c main_v11 _
  congr 1
  funext a; apply Fin.ext
  match a with
  | ⟨0, _⟩ => show win0_2.index t (0 : Fin 2) * 1 + 1 * i.val = 0; rw [e0]; omega
  | ⟨1, _⟩ => show win0_2.index t (1 : Fin 2) * 2048 + 1 * j.val = j.val; rw [e1]; omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem iblk3_at (t : Fin cfg0.N) (i : Fin 1) (j : Fin 2048) : @Eq EReal (iblk m c 3 t (ix2 i j)) (V m c main_v12 (ix2 (0 : Fin 1) j)) := by
  obtain ⟨e0, e1⟩ := idx3 t
  unfold iblk
  rw [View.read_apply]
  show V m c main_v12 _ = V m c main_v12 _
  congr 1
  funext a; apply Fin.ext
  match a with
  | ⟨0, _⟩ => show win0_3.index t (0 : Fin 2) * 1 + 1 * i.val = 0; rw [e0]; omega
  | ⟨1, _⟩ => show win0_3.index t (1 : Fin 2) * 2048 + 1 * j.val = j.val; rw [e1]; omega

theorem idx4 : ∀ t : Fin cfg0.N, win0_4.index t (0 : Fin 2) = 0 ∧ win0_4.index t (1 : Fin 2) = t.val % 7 :=
  (by decide +kernel : ∀ t : Fin grid0.N, win0_4.index t (0 : Fin 2) = 0 ∧ win0_4.index t (1 : Fin 2) = t.val % 7)

theorem iblk4_at (t : Fin cfg0.N) (i : Fin 2048) (j : Fin 1024) : @Eq EReal (iblk m c 4 t (ix2 i j)) (V m c main_v4 (ix2 i (⟨t.val % 7 * 1024 + j.val, by have := j.isLt; omega⟩ : Fin 7168))) := by
  obtain ⟨e0, e1⟩ := idx4 t
  unfold iblk
  rw [View.read_apply]
  show V m c main_v4 _ = V m c main_v4 _
  congr 1
  funext a; apply Fin.ext
  match a with
  | ⟨0, _⟩ => show win0_4.index t (0 : Fin 2) * 2048 + 1 * i.val = i.val; rw [e0]; omega
  | ⟨1, _⟩ => show win0_4.index t (1 : Fin 2) * 1024 + 1 * j.val = t.val % 7 * 1024 + j.val; rw [e1]; omega

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem iblk5_at (t : Fin cfg0.N) (i : Fin 2048) (j : Fin 128) : @Eq EReal (iblk m c 5 t (ix2 i j)) (V m c main_v7 (ix2 i j)) := by
  obtain ⟨e0, e1⟩ := idx5 t
  unfold iblk
  rw [View.read_apply]
  show V m c main_v7 _ = V m c main_v7 _
  congr 1
  funext a; apply Fin.ext
  match a with
  | ⟨0, _⟩ => show win0_5.index t (0 : Fin 2) * 2048 + 1 * i.val = i.val; rw [e0]; omega
  | ⟨1, _⟩ => show win0_5.index t (1 : Fin 2) * 128 + 1 * j.val = j.val; rw [e1]; omega

/-- The arguments' projection input, and the two products. -/
abbrev H (i : Fin 8192) (j : Fin 2048) : EReal := hh (aX m c) (aN m c) (aS m c) (aB m c) i j
abbrev R6 (i : Fin 8192) (p : Fin 7168) : EReal := rmain (aX m c) (aN m c) (aS m c) (aB m c) (aW m c) i p
abbrev R7 (i : Fin 8192) (l : Fin 128) : EReal := rsmall (aX m c) (aN m c) (aS m c) (aB m c) (aW m c) i l

theorem hb_eq (t : Fin cfg0.N) (i : Fin 1024) (j : Fin 2048) :
    hb (iblk m c 0 t) (iblk m c 1 t) (iblk m c 2 t) (iblk m c 3 t) i j = H m c ⟨t.val / 7 * 1024 + i.val, by have := t.isLt; have := i.isLt; have := pts; omega⟩ j := by
  have ex : ∀ q : Fin 2048, @Eq EReal (iblk m c 0 t (ix2 i q)) (aX m c ⟨t.val / 7 * 1024 + i.val, by have := t.isLt; have := i.isLt; have := pts; omega⟩ q) :=
    fun q => (iblk0_at m c t i q).trans (congrFun (V_main_arg0 m c) _)
  unfold hb
  refine congrArg₂ (fun a b : EReal => a + b) (congrArg₂ (fun a b : EReal => a * b) (congrArg₂ (fun a b : EReal => a * b)
    (congrArg₂ (fun a b : EReal => a * b) (ex j) (congrArg (fun a : EReal => Ideal.rsqrt (Ideal.div a c2048 + eps)) ?_))
    ((iblk1_at m c t 0 j).trans (V_v8 m c j))) ((iblk2_at m c t 0 j).trans (V_v11 m c j))) ((iblk3_at m c t 0 j).trans (V_v12 m c j))
  exact Finset.sum_congr rfl fun k _ => congrArg₂ (fun a b : EReal => a * b) (ex k) (ex k)

theorem hAt_at (t : Fin cfg0.N) (i : Fin 1024) (j : Fin 2048) :
    @Eq EReal (hAt m c t (ix2 i j)) (H m c ⟨t.val / 7 * 1024 + i.val, by have := t.isLt; have := i.isLt; have := pts; omega⟩ j) := by
  unfold hAt
  refine (hBlk_at _ _ _ _ i j).trans ((hb_eq m c (rowPt t) i j).trans ?_)
  congr 1
  apply Fin.ext
  show 7 * (t.val / 7) / 7 * 1024 + i.val = t.val / 7 * 1024 + i.val
  omega

theorem o6_at (t : Fin cfg0.N) (i j : Fin 1024) :
    @Eq EReal (k0_pay4 (F := Ideal) (hAt m c t) (iblk m c 4 t) (ix2 i j))
      (R6 m c ⟨t.val / 7 * 1024 + i.val, by have := t.isLt; have := i.isLt; have := pts; omega⟩ ⟨t.val % 7 * 1024 + j.val, by have := j.isLt; omega⟩) := by
  refine (pay4_at _ _ i j).trans ?_
  unfold R6 rmain pr
  exact Finset.sum_congr rfl fun k _ => congrArg₂ (fun a b : EReal => a * b) (hAt_at m c t i k) ((iblk4_at m c t k j).trans (V_v4 m c k _))

theorem o7_at (t : Fin cfg0.N) (i : Fin 1024) (j : Fin 128) :
    @Eq EReal (k0_pay3 (F := Ideal) (hAt m c t) (iblk m c 5 (rowPt t)) (ix2 i j))
      (R7 m c ⟨t.val / 7 * 1024 + i.val, by have := t.isLt; have := i.isLt; have := pts; omega⟩ j) := by
  refine (pay3_at _ _ i j).trans ?_
  refine (Finset.sum_congr rfl fun k _ => congrArg₂ (fun a b : EReal => a * b) (hAt_at m c t i k) ((iblk5_at m c (rowPt t) k j).trans (V_v7 m c k j))).trans ?_
  unfold R7 rsmall pr
  split
  · rfl
  · exact Finset.sum_eq_zero fun k _ => mul_zero _

def G6 : Buf (Elt Ideal) ((c : Thread nD τ).loc main_v13_0) := fun i => R6 m c (i 0) (i 1)

theorem idx6 : ∀ t : Fin cfg0.N, win0_6.index t (0 : Fin 2) = t.val / 7 ∧ win0_6.index t (1 : Fin 2) = t.val % 7 :=
  (by decide +kernel : ∀ t : Fin grid0.N, win0_6.index t (0 : Fin 2) = t.val / 7 ∧ win0_6.index t (1 : Fin 2) = t.val % 7)

theorem mem_blk6 (t : Fin cfg0.N) (i : S8192x7168.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v13_0).slice (win0_6.rect t)).set ↔ _
  rw [View.set_slice_whole, Rect.mem_set_unit]
  exact Iff.rfl

theorem flushW6 : ∀ t : Fin cfg0.N,  (cfg0.win 6).flush t = true :=
  (by decide +kernel : ∀ t : Fin grid0.N,  win0_6.flush t = true)

theorem flushed6_eq (t : Fin cfg0.N) : (dats m 0 c).flushed 6 t = ((cfg0.win 6).blk t).view.read (Elt Ideal) (G6 m c) := by
  have hfl : (dats m 0 c).flushed 6 t = (cfg0.win 6).cut (grid0.coords t) (k0_pay4 (F := Ideal) (hAt m c t) (iblk m c 4 t)) := by
    show (cfg0.win 6).cut (grid0.coords t) ((dats m 0 c).after 6 t) = _
    rw [after0_6]
  rw [hfl]
  obtain ⟨e0, e1⟩ := idx6 t
  funext y
  have hN := t.isLt
  have hP := pts
  have hy0 : (y 0).val < 1024 := (y 0).isLt
  have hy1 : (y 1).val < 1024 := (y 1).isLt
  have ey : y = (ix2 (y 0) (y 1) : S1024x1024.Idx) := by funext a; match a with | ⟨0, _⟩ => rfl | ⟨1, _⟩ => rfl
  show (k0_pay4 (F := Ideal) (hAt m c t) (iblk m c 4 t)) y = R6 m c (((cfg0.win 6).blk t).view.emb y 0) (((cfg0.win 6).blk t).view.emb y 1)
  have hb0 : ((cfg0.win 6).blk t).view.emb y 0 = (⟨t.val / 7 * 1024 + (y 0).val, by omega⟩ : Fin 8192) := by
    apply Fin.ext
    show win0_6.index t (0 : Fin 2) * 1024 + 1 * (y 0).val = t.val / 7 * 1024 + (y 0).val
    rw [e0]; omega
  have hb1 : ((cfg0.win 6).blk t).view.emb y 1 = (⟨t.val % 7 * 1024 + (y 1).val, by omega⟩ : Fin 7168) := by
    apply Fin.ext
    show win0_6.index t (1 : Fin 2) * 1024 + 1 * (y 1).val = t.val % 7 * 1024 + (y 1).val
    rw [e1]; omega
  rw [hb0, hb1]
  refine (congrArg (k0_pay4 (F := Ideal) (hAt m c t) (iblk m c 4 t)) ey).trans ?_
  exact o6_at m c t (y 0) (y 1)

theorem final6 : (dats m 0 c).arrAt 6 cfg0.N = G6 m c := by
  refine (dats m 0 c).arrAt_eq_of_cover 6 (G6 m c) (fun t _ => flushed6_eq m c t) fun i => ?_
  have h0 : (i 0).val < 8192 := (i 0).isLt
  have h1 : (i 1).val < 7168 := (i 1).isLt
  have hP := pts
  refine ⟨⟨(i 0).val / 1024 * 7 + (i 1).val / 1024, by omega⟩, flushW6 _, ?_⟩
  rw [mem_blk6]
  obtain ⟨e0, e1⟩ := idx6 ⟨(i 0).val / 1024 * 7 + (i 1).val / 1024, by omega⟩
  intro a
  match a with
  | ⟨0, _⟩ => show win0_6.index _ (0 : Fin 2) * 1024 ≤ (i 0).val ∧ (i 0).val < win0_6.index _ (0 : Fin 2) * 1024 + 1024; rw [e0]; show ((i 0).val / 1024 * 7 + (i 1).val / 1024) / 7 * 1024 ≤ _ ∧ _ < ((i 0).val / 1024 * 7 + (i 1).val / 1024) / 7 * 1024 + 1024; omega
  | ⟨1, _⟩ => show win0_6.index _ (1 : Fin 2) * 1024 ≤ (i 1).val ∧ (i 1).val < win0_6.index _ (1 : Fin 2) * 1024 + 1024; rw [e1]; show ((i 0).val / 1024 * 7 + (i 1).val / 1024) % 7 * 1024 ≤ _ ∧ _ < ((i 0).val / 1024 * 7 + (i 1).val / 1024) % 7 * 1024 + 1024; omega

def G7 : Buf (Elt Ideal) ((c : Thread nD τ).loc main_v13_1) := fun i => R7 m c (i 0) (i 1)

theorem idx7 : ∀ t : Fin cfg0.N, win0_7.index t (0 : Fin 2) = t.val / 7 ∧ win0_7.index t (1 : Fin 2) = 0 :=
  (by decide +kernel : ∀ t : Fin grid0.N, win0_7.index t (0 : Fin 2) = t.val / 7 ∧ win0_7.index t (1 : Fin 2) = 0)

theorem mem_blk7 (t : Fin cfg0.N) (i : S8192x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v13_1).slice (win0_7.rect t)).set ↔ _
  rw [View.set_slice_whole, Rect.mem_set_unit]
  exact Iff.rfl

theorem flushW7 : ∀ t : Fin cfg0.N, t.val % 7 = 6 → (cfg0.win 7).flush t = true :=
  (by decide +kernel : ∀ t : Fin grid0.N, t.val % 7 = 6 → win0_7.flush t = true)

theorem flushed7_eq (t : Fin cfg0.N) : (dats m 0 c).flushed 7 t = ((cfg0.win 7).blk t).view.read (Elt Ideal) (G7 m c) := by
  have hfl : (dats m 0 c).flushed 7 t = (cfg0.win 7).cut (grid0.coords t) (k0_pay3 (F := Ideal) (hAt m c t) (iblk m c 5 (rowPt t))) := by
    show (cfg0.win 7).cut (grid0.coords t) ((dats m 0 c).after 7 t) = _
    rw [after0_7]
  rw [hfl]
  obtain ⟨e0, e1⟩ := idx7 t
  funext y
  have hN := t.isLt
  have hP := pts
  have hy0 : (y 0).val < 1024 := (y 0).isLt
  have hy1 : (y 1).val < 128 := (y 1).isLt
  have ey : y = (ix2 (y 0) (y 1) : S1024x128.Idx) := by funext a; match a with | ⟨0, _⟩ => rfl | ⟨1, _⟩ => rfl
  show (k0_pay3 (F := Ideal) (hAt m c t) (iblk m c 5 (rowPt t))) y = R7 m c (((cfg0.win 7).blk t).view.emb y 0) (((cfg0.win 7).blk t).view.emb y 1)
  have hb0 : ((cfg0.win 7).blk t).view.emb y 0 = (⟨t.val / 7 * 1024 + (y 0).val, by omega⟩ : Fin 8192) := by
    apply Fin.ext
    show win0_7.index t (0 : Fin 2) * 1024 + 1 * (y 0).val = t.val / 7 * 1024 + (y 0).val
    rw [e0]; omega
  have hb1 : ((cfg0.win 7).blk t).view.emb y 1 = (⟨(y 1).val, by omega⟩ : Fin 128) := by
    apply Fin.ext
    show win0_7.index t (1 : Fin 2) * 128 + 1 * (y 1).val = (y 1).val
    rw [e1]; omega
  rw [hb0, hb1]
  refine (congrArg (k0_pay3 (F := Ideal) (hAt m c t) (iblk m c 5 (rowPt t))) ey).trans ?_
  exact o7_at m c t (y 0) (y 1)

theorem final7 : (dats m 0 c).arrAt 7 cfg0.N = G7 m c := by
  refine (dats m 0 c).arrAt_eq_of_cover 7 (G7 m c) (fun t _ => flushed7_eq m c t) fun i => ?_
  have h0 : (i 0).val < 8192 := (i 0).isLt
  have h1 : (i 1).val < 128 := (i 1).isLt
  have hP := pts
  refine ⟨⟨(i 0).val / 1024 * 7 + 6, by omega⟩, flushW7 _ (by show ((i 0).val / 1024 * 7 + 6) % 7 = 6; omega), ?_⟩
  rw [mem_blk7]
  obtain ⟨e0, e1⟩ := idx7 ⟨(i 0).val / 1024 * 7 + 6, by omega⟩
  intro a
  match a with
  | ⟨0, _⟩ => show win0_7.index _ (0 : Fin 2) * 1024 ≤ (i 0).val ∧ (i 0).val < win0_7.index _ (0 : Fin 2) * 1024 + 1024; rw [e0]; show ((i 0).val / 1024 * 7 + 6) / 7 * 1024 ≤ _ ∧ _ < ((i 0).val / 1024 * 7 + 6) / 7 * 1024 + 1024; omega
  | ⟨1, _⟩ => show win0_7.index _ (1 : Fin 2) * 128 ≤ (i 1).val ∧ (i 1).val < win0_7.index _ (1 : Fin 2) * 128 + 128; rw [e1]; omega

def G8 : Buf (Elt Ideal) ((c : Thread nD τ).loc main_v13_2) := fun i => H m c (i 0) (i 1)

theorem idx8 : ∀ t : Fin cfg0.N, win0_8.index t (0 : Fin 2) = t.val / 7 ∧ win0_8.index t (1 : Fin 2) = 0 :=
  (by decide +kernel : ∀ t : Fin grid0.N, win0_8.index t (0 : Fin 2) = t.val / 7 ∧ win0_8.index t (1 : Fin 2) = 0)

theorem mem_blk8 (t : Fin cfg0.N) (i : S8192x2048.Idx) :
    i ∈ ((cfg0.win 8).blk t).view.set ↔ ∀ a : Fin 2, win0_8.index t a * S1024x2048.size a ≤ (i a).val ∧ (i a).val < win0_8.index t a * S1024x2048.size a + S1024x2048.size a := by
  show i ∈ ((View.whole main_v13_2).slice (win0_8.rect t)).set ↔ _
  rw [View.set_slice_whole, Rect.mem_set_unit]
  exact Iff.rfl

theorem flushW8 : ∀ t : Fin cfg0.N, t.val % 7 = 6 → (cfg0.win 8).flush t = true :=
  (by decide +kernel : ∀ t : Fin grid0.N, t.val % 7 = 6 → win0_8.flush t = true)

theorem flushed8_eq (t : Fin cfg0.N) : (dats m 0 c).flushed 8 t = ((cfg0.win 8).blk t).view.read (Elt Ideal) (G8 m c) := by
  have hfl : (dats m 0 c).flushed 8 t = (cfg0.win 8).cut (grid0.coords t) (hAt (F := Ideal) m c t) := by
    show (cfg0.win 8).cut (grid0.coords t) ((dats m 0 c).after 8 t) = _
    rw [after0_8]
  rw [hfl]
  obtain ⟨e0, e1⟩ := idx8 t
  funext y
  have hN := t.isLt
  have hP := pts
  have hy0 : (y 0).val < 1024 := (y 0).isLt
  have hy1 : (y 1).val < 2048 := (y 1).isLt
  have ey : y = (ix2 (y 0) (y 1) : S1024x2048.Idx) := by funext a; match a with | ⟨0, _⟩ => rfl | ⟨1, _⟩ => rfl
  show (hAt (F := Ideal) m c t) y = H m c (((cfg0.win 8).blk t).view.emb y 0) (((cfg0.win 8).blk t).view.emb y 1)
  have hb0 : ((cfg0.win 8).blk t).view.emb y 0 = (⟨t.val / 7 * 1024 + (y 0).val, by omega⟩ : Fin 8192) := by
    apply Fin.ext
    show win0_8.index t (0 : Fin 2) * 1024 + 1 * (y 0).val = t.val / 7 * 1024 + (y 0).val
    rw [e0]; omega
  have hb1 : ((cfg0.win 8).blk t).view.emb y 1 = (⟨(y 1).val, by omega⟩ : Fin 2048) := by
    apply Fin.ext
    show win0_8.index t (1 : Fin 2) * 2048 + 1 * (y 1).val = (y 1).val
    rw [e1]; omega
  rw [hb0, hb1]
  refine (congrArg (hAt (F := Ideal) m c t) ey).trans ?_
  exact hAt_at m c t (y 0) (y 1)

theorem final8 : (dats m 0 c).arrAt 8 cfg0.N = G8 m c := by
  refine (dats m 0 c).arrAt_eq_of_cover 8 (G8 m c) (fun t _ => flushed8_eq m c t) fun i => ?_
  have h0 : (i 0).val < 8192 := (i 0).isLt
  have h1 : (i 1).val < 2048 := (i 1).isLt
  have hP := pts
  refine ⟨⟨(i 0).val / 1024 * 7 + 6, by omega⟩, flushW8 _ (by show ((i 0).val / 1024 * 7 + 6) % 7 = 6; omega), ?_⟩
  rw [mem_blk8]
  obtain ⟨e0, e1⟩ := idx8 ⟨(i 0).val / 1024 * 7 + 6, by omega⟩
  intro a
  match a with
  | ⟨0, _⟩ => show win0_8.index _ (0 : Fin 2) * 1024 ≤ (i 0).val ∧ (i 0).val < win0_8.index _ (0 : Fin 2) * 1024 + 1024; rw [e0]; show ((i 0).val / 1024 * 7 + 6) / 7 * 1024 ≤ _ ∧ _ < ((i 0).val / 1024 * 7 + 6) / 7 * 1024 + 1024; omega
  | ⟨1, _⟩ => show win0_8.index _ (1 : Fin 2) * 2048 ≤ (i 1).val ∧ (i 1).val < win0_8.index _ (1 : Fin 2) * 2048 + 2048; rw [e1]; omega

end Cert.Kernel4Ideal.Tie

end
-- ==== Proof.InRef.lean ====
/-
  The reference in-projection, read at an index.
-/
module

public import proofs.«01_k».proof.Proof.Gen.Reference4Ideal.Read
public import proofs.«01_k».proof.Proof.InSpec
public import Idealize.ShloMosaic.Lib.Pointwise
public import Idealize.ShloMosaic.Lib.Pointwise.Tactic

@[expose] public section

set_option maxRecDepth 16384

noncomputable section

namespace Cert.Reference4Ideal.Tie

open Cert.Reference4Ideal Cert.Reference4Ideal.Gen Cert.Reference4Ideal.Read Cert.IbSpec Cert.InSpec
open Idealize.ShloMosaic Idealize.ShloMosaic.TcCoe Idealize.ShloMosaic.StableHlo

variable (x0 : (⟨S8192x2048, .f32⟩ : BufTy).Contents (Elt Ideal)) (x1 x2 x3 : (⟨S2048, .f32⟩ : BufTy).Contents (Elt Ideal))
  (x4 : (⟨S2048x7184, .f32⟩ : BufTy).Contents (Elt Ideal))

abbrev fX (i : Fin 8192) (j : Fin 2048) : EReal := x0 (ix2 i j)
abbrev fV (j : Fin 2048) : EReal := x1 (ix1 j)
abbrev fW (j : Fin 2048) (k : Fin 7184) : EReal := x4 (ix2 j k)

theorem v7 (i : Fin 8192) : val_main_v7 (F := Ideal) x0 (ix2 i 0)
    = Ideal.rsqrt (Ideal.div (∑ k : Fin 2048, fX x0 i k * fX x0 i k) c2048 + eps) := by
  simp only [val_main_v7_apply, val_main_v6_apply, val_main_v5_apply, val_main_v4_apply, val_main_v3_apply, val_main_v2_apply, val_main_v1_apply,
    val_main_v0_apply, val_main_cst_apply, val_main_cst_0_apply, val_main_cst_1_apply,
    Ideal.ofBits_def, Ideal.addf_def, Ideal.mulf_def, Ideal.hostDivf_def, Ideal.ofBits_zero_f32, zero_add]
  refine congrArg (fun a : EReal => Ideal.rsqrt (Ideal.div a c2048 + eps)) ?_
  refine Finset.sum_congr rfl fun k _ => ?_
  have : idx_main_v1 (idx_main_v2 (ix2 i 0)) k = ix2 i k := by
    funext a; match a with | ⟨0, _⟩ => rfl | ⟨1, _⟩ => rfl
  rw [this]

theorem col (f : (⟨S8192x1, .f32⟩ : BufTy).Contents (Elt Ideal)) (q : S8192x1.Idx) (i : Fin 8192) (h : (q 0).val = i.val) :
    f q = f (ix2 i 0) := by
  congr 1; funext a
  match a with
  | ⟨0, _⟩ => exact Fin.ext h
  | ⟨1, _⟩ => exact Fin.ext (by have : (q 1).val < 1 := (q 1).isLt; show (q 1).val = 0; omega)

theorem one_eq : Ideal.ofBits .f32 0x3F800000#32 = 1 := by simp [Ideal.ofBits, Ideal.ieee, -EReal.coe_mul]; norm_num

theorem v20 (i : Fin 8192) (j : Fin 2048) : @Eq EReal (val_main_v20 (F := Ideal) x0 x1 x2 x3 (ix2 i j))
    (hh (fX x0) (fV x1) (fV x2) (fV x3) i j) := by
  rw [val_main_v20_apply, val_main_v17_apply, val_main_v12_apply, val_main_v9_apply, val_main_v8_apply, col (val_main_v7 (F := Ideal) x0) _ i rfl, v7,
    val_main_v11_apply, val_main_v10_apply, val_main_v16_apply, val_main_v15_apply, val_main_v14_apply, val_main_cst_2_apply, val_main_v13_apply,
    val_main_v19_apply, val_main_v18_apply]
  rw [show idx_main_v10 (idx_main_v11 (ix2 i j)) = ix1 j from by funext a; match a with | ⟨0, _⟩ => rfl,
    show idx_main_v13 (idx_main_v16 (ix2 i j)) = ix1 j from by funext a; match a with | ⟨0, _⟩ => rfl,
    show idx_main_v18 (idx_main_v19 (ix2 i j)) = ix1 j from by funext a; match a with | ⟨0, _⟩ => rfl]
  show _ * Ideal.rsqrt _ * _ * (Ideal.ofBits .f32 0x3F800000#32 + _) + _ = _
  rw [one_eq]; rfl

theorem v21 (i : Fin 8192) (q : Fin 7184) : @Eq EReal (val_main_v21 (F := Ideal) x0 x1 x2 x3 x4 (ix2 i q))
    (pr (fX x0) (fV x1) (fV x2) (fV x3) (fW x4) i q) := by
  rw [val_main_v21_apply]
  unfold pr
  refine Finset.sum_congr rfl fun k _ => congrArg₂ (fun a b : EReal => a * b) (Eq.trans (congrArg _ ?_) (v20 x0 x1 x2 x3 i k)) (congrArg x4 ?_)
  · funext a; match a with | ⟨0, _⟩ => rfl | ⟨1, _⟩ => rfl
  · funext a; match a with | ⟨0, _⟩ => rfl | ⟨1, _⟩ => rfl

theorem pr_congr (i : Fin 8192) (q q' : Fin 7184) (h : q.val = q'.val) :
    pr (fX x0) (fV x1) (fV x2) (fV x3) (fW x4) i q = pr (fX x0) (fV x1) (fV x2) (fV x3) (fW x4) i q' := by
  rw [Fin.ext h]

theorem v22 (i : Fin 8192) (p : Fin 1024) : @Eq EReal (val_main_v22 (F := Ideal) x0 x1 x2 x3 x4 (ix2 i p))
    (pr (fX x0) (fV x1) (fV x2) (fV x3) (fW x4) i ⟨3072 + p.val, by omega⟩) := by
  rw [val_main_v22_apply]
  refine Eq.trans (congrArg _ ?_) (v21 x0 x1 x2 x3 x4 i _)
  funext a; match a with | ⟨0, _⟩ => rfl | ⟨1, _⟩ => rfl

theorem v23 (i : Fin 8192) (p : Fin 3072) : @Eq EReal (val_main_v23 (F := Ideal) x0 x1 x2 x3 x4 (ix2 i p))
    (pr (fX x0) (fV x1) (fV x2) (fV x3) (fW x4) i ⟨4112 + p.val, by omega⟩) := by
  rw [val_main_v23_apply]
  refine Eq.trans (congrArg _ ?_) (v21 x0 x1 x2 x3 x4 i _)
  funext a; match a with | ⟨0, _⟩ => rfl | ⟨1, _⟩ => rfl

theorem v24 (i : Fin 8192) (p : Fin 3072) : @Eq EReal (val_main_v24 (F := Ideal) x0 x1 x2 x3 x4 (ix2 i p))
    (pr (fX x0) (fV x1) (fV x2) (fV x3) (fW x4) i ⟨p.val, by omega⟩) := by
  rw [val_main_v24_apply]
  refine Eq.trans (congrArg _ ?_) (v21 x0 x1 x2 x3 x4 i _)
  funext a; match a with | ⟨0, _⟩ => rfl | ⟨1, _⟩ => rfl

theorem v27 (i : Fin 8192) (p : Fin 16) : @Eq EReal (val_main_v27 (F := Ideal) x0 x1 x2 x3 x4 (ix2 i p))
    (pr (fX x0) (fV x1) (fV x2) (fV x3) (fW x4) i ⟨4096 + p.val, by omega⟩) := by
  rw [val_main_v27_apply]
  refine Eq.trans (congrArg _ ?_) (v21 x0 x1 x2 x3 x4 i _)
  funext a; match a with | ⟨0, _⟩ => rfl | ⟨1, _⟩ => rfl

/-- The three joined column ranges, read at an index. -/
theorem v26_of (a : Vec Ideal S8192x1024 .f32) (b c : Vec Ideal S8192x3072 .f32) (i : Fin 8192) (p : Fin 7168) :
    @Eq EReal ((truncf (F := Ideal) .bf16 (concatenate (α := Elt Ideal .f32) S8192x7168 1 [⟨S8192x1024, a⟩, ⟨S8192x3072, b⟩, ⟨S8192x3072, c⟩] concatenates_S8192x1024_S8192x3072_S8192x3072_S8192x7168_d1) bitsLt_bf16_f32 : Vec Ideal S8192x7168 .bf16) (ix2 i p))
      (if h : p.val < 1024 then a (ix2 i ⟨p.val, h⟩) else if h2 : p.val - 1024 < 3072 then b (ix2 i ⟨p.val - 1024, h2⟩) else c (ix2 i ⟨p.val - 1024 - 3072, by omega⟩)) := by
  pointwise

theorem v28_of (a : Vec Ideal S8192x16 .f32) (z : Vec Ideal S_ .f32) (i : Fin 8192) (l : Fin 128) :
    @Eq EReal ((pad S8192x128 ![0, 0] ![0, 112] ![0, 0] a z pads_S8192x16_S8192x128_000_01120 h_S_) (ix2 i l))
      (if h : l.val < 16 then a (ix2 i ⟨l.val, h⟩) else z (Shape.Idx.first h_S_)) := by
  pointwise

theorem rmain_at (i : Fin 8192) (p : Fin 7168) : @Eq EReal (val_main_v26 (F := Ideal) x0 x1 x2 x3 x4 (ix2 i p))
    (rmain (fX x0) (fV x1) (fV x2) (fV x3) (fW x4) i p) := by
  unfold val_main_v26 val_main_v25
  refine (v26_of _ _ _ i p).trans ?_
  unfold rmain
  split
  · rename_i h
    refine (v22 x0 x1 x2 x3 x4 i ⟨p.val, h⟩).trans (pr_congr x0 x1 x2 x3 x4 i _ _ ?_)
    show 3072 + p.val = colN p.val
    unfold colN; rw [if_pos h]
  · rename_i h
    split
    · rename_i h2
      refine (v23 x0 x1 x2 x3 x4 i ⟨p.val - 1024, h2⟩).trans (pr_congr x0 x1 x2 x3 x4 i _ _ ?_)
      show 4112 + (p.val - 1024) = colN p.val
      unfold colN; rw [if_neg h, if_pos (by omega)]; omega
    · rename_i h2
      refine (v24 x0 x1 x2 x3 x4 i ⟨p.val - 1024 - 3072, by omega⟩).trans (pr_congr x0 x1 x2 x3 x4 i _ _ ?_)
      show p.val - 1024 - 3072 = colN p.val
      unfold colN; rw [if_neg h, if_neg (by omega)]; omega

theorem rsmall_at (i : Fin 8192) (l : Fin 128) : @Eq EReal (val_main_v28 (F := Ideal) x0 x1 x2 x3 x4 (ix2 i l))
    (rsmall (fX x0) (fV x1) (fV x2) (fV x3) (fW x4) i l) := by
  unfold val_main_v28
  refine (v28_of _ _ i l).trans ?_
  unfold rsmall
  split
  · rename_i h
    exact v27 x0 x1 x2 x3 x4 i ⟨l.val, h⟩
  · rw [val_main_call0_v0_apply, val_main_c_apply]
    show (((0#32 : BitVec 32).toInt : ℝ) : EReal) = 0
    norm_num

theorem rh_at (i : Fin 8192) (j : Fin 2048) : @Eq EReal (val_main_v29 (F := Ideal) x0 x1 x2 x3 (ix2 i j))
    (hh (fX x0) (fV x1) (fV x2) (fV x3) i j) := by
  rw [val_main_v29_apply]
  exact v20 x0 x1 x2 x3 i j

end Cert.Reference4Ideal.Tie

end
-- ==== Proof.InTie.lean ====
/-
  The in-projection's three results are the reference's.
-/
module

public import proofs.«01_k».proof.Proof.InVal
public import proofs.«01_k».proof.Proof.InRef

@[expose] public section

set_option maxRecDepth 16384

noncomputable section

namespace Cert.Kernel4Ideal.Tie

open Cert.Kernel4Ideal Cert.Kernel4Ideal.Gen Cert.IbSpec Cert.InSpec Cert.Reference4Ideal.Read
open Idealize.ShloMosaic Idealize.ShloMosaic.TcCoe Idealize.ShloMosaic.StableHlo Idealize.SL.Sem

section
variable (m : (ℓ : Loc nD τ sig) → Buf (Elt Ideal) ℓ) (c : Dev nD)

theorem value6 : G6 m c = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  have e : y = (ix2 (y 0) (y 1) : S8192x7168.Idx) := by funext a; match a with | ⟨0, _⟩ => rfl | ⟨1, _⟩ => rfl
  refine Eq.trans ?_ ((Cert.Reference4Ideal.Tie.rmain_at _ _ _ _ _ (y 0) (y 1)).symm.trans (congrArg (val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e.symm))
  rfl

theorem value7 : G7 m c = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext y
  have e : y = (ix2 (y 0) (y 1) : S8192x128.Idx) := by funext a; match a with | ⟨0, _⟩ => rfl | ⟨1, _⟩ => rfl
  refine Eq.trans ?_ ((Cert.Reference4Ideal.Tie.rsmall_at _ _ _ _ _ (y 0) (y 1)).symm.trans (congrArg (val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))) e.symm))
  rfl

theorem value8 : G8 m c = val_main_v29 (F := Ideal) (m ((c : Thread nD τ).loc main_arg0)) (m ((c : Thread nD τ).loc main_arg1)) (m ((c : Thread nD τ).loc main_arg2)) (m ((c : Thread nD τ).loc main_arg3)) := by
  funext y
  have e : y = (ix2 (y 0) (y 1) : S8192x2048.Idx) := by funext a; match a with | ⟨0, _⟩ => rfl | ⟨1, _⟩ => rfl
  refine Eq.trans ?_ ((Cert.Reference4Ideal.Tie.rh_at _ _ _ _ (y 0) (y 1)).symm.trans (congrArg (val_main_v29 (F := Ideal) (m ((c : Thread nD τ).loc main_arg0)) (m ((c : Thread nD τ).loc main_arg1)) (m ((c : Thread nD τ).loc main_arg2)) (m ((c : Thread nD τ).loc main_arg3))) e.symm))
  rfl

end

/-- The run ends with the three arrays, the arguments unchanged. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c : Thread nD τ).loc main_v13_0) = G6 m c
      ∧ r.2.mem ((c : Thread nD τ).loc main_v13_1) = G7 m c
      ∧ r.2.mem ((c : Thread nD τ).loc main_v13_2) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.2 c).1 6).trans (final6 m c), ((h.2 c).1 7).trans (final7 m c), ((h.2 c).1 8).trans (final8 m c), h.1 c⟩)
    (θ_run_and (unchanged m ρ) (run_main m ρ))

end Cert.Kernel4Ideal.Tie

end
-- ==== Proof.Outproj.lean ====
/-
  What the call computes: a row block is the input rows plus the gate times the rows' product with the matrix.
-/
module

public import proofs.«01_k».proof.Proof.Gen.Kernel5Ideal.Value
public import Idealize.ShloMosaic.Lib.Pipeline.ValueKit.Acc
public import Idealize.ShloMosaic.Lib.Pointwise.Tactic
public import Idealize.ShloMosaic.Lib.Pointwise.Contract

@[expose] public section

set_option maxRecDepth 16384

noncomputable section

namespace Cert.Kernel5Ideal.Tie

open Cert.Kernel5Ideal Cert.Kernel5Ideal.Gen Cert.Kernel5Ideal.Value
open Idealize.ShloMosaic Idealize.ShloMosaic.TcCoe

theorem hz : (![0, 0] : Fin 2 → Nat) = fun _ => 0 := funext fun a => by fin_cases a <;> rfl

theorem pay1_at (x : Vec Ideal S512x2048 .f32) (g : Vec Ideal S1x2048 .f32) (y : Vec Ideal S512x2048 .bf16) (w : Vec Ideal S2048x2048 .bf16)
    (i : Fin 512) (j : Fin 2048) :
    k0_pay1 (F := Ideal) x g y w (ix2 i j) = x (ix2 i j) + g (ix2 0 j) * ∑ k : Fin 2048, y (ix2 i k) * w (ix2 k j) := by
  pointwise [k0_pay1]
  simp only [shapeCast_self]

theorem out_at (x0 : Vec Ideal S512x2048 .bf16) (x1 : Vec Ideal S2048x2048 .bf16) (x2 : Vec Ideal S512x2048 .f32) (x3 : Vec Ideal S1x2048 .f32)
    (i : Fin 512) (j : Fin 2048) :
    out0_4 (F := Ideal) x0 x1 x2 x3 (ix2 i j) = x2 (ix2 i j) + x3 (ix2 0 j) * ∑ k : Fin 2048, x0 (ix2 i k) * x1 (ix2 k j) := by
  unfold out0_4
  rw [View.canon_unit_zero hz]
  simp only [View.ld_unit_zero (S := S512x2048) hz, View.ld_unit_zero (S := S2048x2048) hz, View.ld_unit_zero (S := S1x2048) hz]
  exact pay1_at _ _ _ _ i j

variable (m : (ℓ : Loc nD τ sig) → Buf (Elt Ideal) ℓ) (c : Dev nD)

/-- The arrays that the call reads. -/
abbrev aY (i : Fin 8192) (k : Fin 2048) : EReal := V m c main_v0 (ix2 i k)
abbrev aW (k : Fin 2048) (j : Fin 2048) : EReal := V m c main_v1 (ix2 k j)
abbrev aX (i : Fin 8192) (j : Fin 2048) : EReal := V m c main_arg2 (ix2 i j)
abbrev aG (j : Fin 2048) : EReal := V m c main_v2 (ix2 0 j)

theorem pts : cfg0.N = 16 := N_0

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem iblk0_at (t : Fin cfg0.N) (i : Fin 512) (j : Fin 2048) : @Eq EReal (iblk m c 0 t (ix2 i j)) (aY m c ⟨t.val * 512 + i.val, by have := t.isLt; have := i.isLt; have := pts; omega⟩ j) := by
  obtain ⟨e0, e1⟩ := idx0 t
  unfold iblk
  rw [View.read_apply]
  show V m c main_v0 _ = V m c main_v0 _
  congr 1
  funext a; apply Fin.ext
  match a with
  | ⟨0, _⟩ => show win0_0.index t (0 : Fin 2) * 512 + 1 * i.val = t.val * 512 + i.val; rw [e0]; omega
  | ⟨1, _⟩ => show win0_0.index t (1 : Fin 2) * 2048 + 1 * j.val = j.val; rw [e1]; omega

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem iblk1_at (t : Fin cfg0.N) (i : Fin 2048) (j : Fin 2048) : @Eq EReal (iblk m c 1 t (ix2 i j)) (aW m c i j) := by
  obtain ⟨e0, e1⟩ := idx1 t
  unfold iblk
  rw [View.read_apply]
  show V m c main_v1 _ = V m c main_v1 _
  congr 1
  funext a; apply Fin.ext
  match a with
  | ⟨0, _⟩ => show win0_1.index t (0 : Fin 2) * 2048 + 1 * i.val = i.val; rw [e0]; omega
  | ⟨1, _⟩ => show win0_1.index t (1 : Fin 2) * 2048 + 1 * j.val = j.val; rw [e1]; omega

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem iblk2_at (t : Fin cfg0.N) (i : Fin 512) (j : Fin 2048) : @Eq EReal (iblk m c 2 t (ix2 i j)) (aX m c ⟨t.val * 512 + i.val, by have := t.isLt; have := i.isLt; have := pts; omega⟩ j) := by
  obtain ⟨e0, e1⟩ := idx2 t
  unfold iblk
  rw [View.read_apply]
  show V m c main_arg2 _ = V m c main_arg2 _
  congr 1
  funext a; apply Fin.ext
  match a with
  | ⟨0, _⟩ => show win0_2.index t (0 : Fin 2) * 512 + 1 * i.val = t.val * 512 + i.val; rw [e0]; omega
  | ⟨1, _⟩ => show win0_2.index t (1 : Fin 2) * 2048 + 1 * j.val = j.val; rw [e1]; omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem iblk3_at (t : Fin cfg0.N) (i : Fin 1) (j : Fin 2048) : @Eq EReal (iblk m c 3 t (ix2 i j)) (aG m c j) := by
  obtain ⟨e0, e1⟩ := idx3 t
  unfold iblk
  rw [View.read_apply]
  show V m c main_v2 _ = V m c main_v2 _
  congr 1
  funext a; apply Fin.ext
  match a with
  | ⟨0, _⟩ => show win0_3.index t (0 : Fin 2) * 1 + 1 * i.val = 0; rw [e0]; omega
  | ⟨1, _⟩ => show win0_3.index t (1 : Fin 2) * 2048 + 1 * j.val = j.val; rw [e1]; omega

/-- An entry of the result. -/
def res (i : Fin 8192) (j : Fin 2048) : EReal := aX m c i j + aG m c j * ∑ k : Fin 2048, aY m c i k * aW m c k j

def G : Buf (Elt Ideal) ((c : Thread nD τ).loc main_v3) := fun i => res m c (i 0) (i 1)

theorem mem_blkW (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v3).slice (win0_4.rect t)).set ↔ _
  rw [View.set_slice_whole, Rect.mem_set_unit]
  exact Iff.rfl

theorem idxW : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem flushAll : ∀ t : Fin cfg0.N, (cfg0.win 4).flush t = true :=
  (by decide +kernel : ∀ t : Fin grid0.N, win0_4.flush t = true)

theorem flushed_eq (t : Fin cfg0.N) : (dats m 0 c).flushed 4 t = ((cfg0.win 4).blk t).view.read (Elt Ideal) (G m c) := by
  rw [flushed4]
  obtain ⟨e0, e1⟩ := idxW t
  funext y
  have hN := t.isLt
  have hP := pts
  have hy0 : (y 0).val < 512 := (y 0).isLt
  have ey : y = (ix2 (y 0) (y 1) : S512x2048.Idx) := by funext a; match a with | ⟨0, _⟩ => rfl | ⟨1, _⟩ => rfl
  show out0_4 (iblk m c 0 t) (iblk m c 1 t) (iblk m c 2 t) (iblk m c 3 t) y = res m c (((cfg0.win 4).blk t).view.emb y 0) (((cfg0.win 4).blk t).view.emb y 1)
  have hb0 : ((cfg0.win 4).blk t).view.emb y 0 = (⟨t.val * 512 + (y 0).val, by omega⟩ : Fin 8192) := by
    apply Fin.ext
    show win0_4.index t (0 : Fin 2) * 512 + 1 * (y 0).val = t.val * 512 + (y 0).val
    rw [e0]; omega
  have hb1 : ((cfg0.win 4).blk t).view.emb y 1 = (⟨(y 1).val, (y 1).isLt⟩ : Fin 2048) := by
    apply Fin.ext
    show win0_4.index t (1 : Fin 2) * 2048 + 1 * (y 1).val = (y 1).val
    rw [e1]; omega
  rw [hb0, hb1]
  refine (congrArg (out0_4 (iblk m c 0 t) (iblk m c 1 t) (iblk m c 2 t) (iblk m c 3 t)) ey).trans ?_
  refine (out_at _ _ _ _ (y 0) (y 1)).trans ?_
  unfold res
  refine congrArg₂ (fun a b : EReal => a + b) (iblk2_at m c t _ _) (congrArg₂ (fun a b : EReal => a * b) (iblk3_at m c t _ _)
    (Finset.sum_congr rfl fun k _ => congrArg₂ (fun a b : EReal => a * b) (iblk0_at m c t _ _) (iblk1_at m c t _ _)))

theorem final : (dats m 0 c).arrAt 4 cfg0.N = G m c := by
  refine (dats m 0 c).arrAt_eq_of_cover 4 (G m c) (fun t _ => flushed_eq m c t) fun i => ?_
  have h0 : (i 0).val < 8192 := (i 0).isLt
  have h1 : (i 1).val < 2048 := (i 1).isLt
  have hP := pts
  refine ⟨⟨(i 0).val / 512, by omega⟩, flushAll _, ?_⟩
  rw [mem_blkW]
  obtain ⟨e0, e1⟩ := idxW ⟨(i 0).val / 512, by omega⟩
  intro a
  match a with
  | ⟨0, _⟩ => show win0_4.index _ (0 : Fin 2) * 512 ≤ (i 0).val ∧ (i 0).val < win0_4.index _ (0 : Fin 2) * 512 + 512; rw [e0]; show (i 0).val / 512 * 512 ≤ _ ∧ _ < (i 0).val / 512 * 512 + 512; omega
  | ⟨1, _⟩ => show win0_4.index _ (1 : Fin 2) * 2048 ≤ (i 1).val ∧ (i 1).val < win0_4.index _ (1 : Fin 2) * 2048 + 2048; rw [e1]; omega

end Cert.Kernel5Ideal.Tie

end
-- ==== Proof.OutprojTie.lean ====
/-
  The call's result is the reference's: the arrays that the host code prepares are the arguments, and the two sums agree.
-/
module

public import proofs.«01_k».proof.Proof.Outproj
public import proofs.«01_k».proof.Proof.Gen.Reference5Ideal.Read
public import proofs.«01_k».proof.Proof.Gen.Reference5Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel5Ideal.Tie

open Cert.Kernel5Ideal Cert.Kernel5Ideal.Gen Cert.Kernel5Ideal.Value Cert.Reference5Ideal.Read
open Idealize.ShloMosaic Idealize.ShloMosaic.TcCoe Idealize.ShloMosaic.StableHlo

theorem ref_at (x0 : (⟨S8192x2048, .f32⟩ : BufTy).Contents (Elt Ideal)) (x1 : (⟨S2048x2048, .f32⟩ : BufTy).Contents (Elt Ideal))
    (x2 : (⟨S8192x2048, .f32⟩ : BufTy).Contents (Elt Ideal)) (x3 : (⟨S2048, .f32⟩ : BufTy).Contents (Elt Ideal)) (i : Fin 8192) (j : Fin 2048) :
    val_main_v4 (F := Ideal) x0 x1 x2 x3 (ix2 i j) = x2 (ix2 i j) + x3 (ix1 j) * ∑ k : Fin 2048, x0 (ix2 i k) * x1 (ix2 k j) := by
  rw [val_main_v4_apply, val_main_v3_apply, val_main_v2_apply, val_main_v0_apply, val_main_v1_apply]
  refine congrArg₂ (fun a b : EReal => a + b) rfl (congrArg₂ (fun a b : EReal => a * b) (congrArg x3 ?_)
    (Finset.sum_congr rfl fun k _ => congrArg₂ (fun a b : EReal => a * b) (congrArg x0 ?_) (congrArg x1 ?_)))
  · funext a; match a with | ⟨0, _⟩ => rfl
  · funext a; match a with | ⟨0, _⟩ => rfl | ⟨1, _⟩ => rfl
  · funext a; match a with | ⟨0, _⟩ => rfl | ⟨1, _⟩ => rfl

variable (m : (ℓ : Loc nD τ sig) → Buf (Elt Ideal) ℓ) (c : Dev nD)

theorem V_v0 : V m c main_v0 = (m ((c : Thread nD τ).loc main_arg0)) := by
  unfold_abbrev_sides
  after_results
  try rfl

theorem V_v1 : V m c main_v1 = (m ((c : Thread nD τ).loc main_arg1)) := by
  unfold_abbrev_sides
  after_results
  try rfl

theorem V_v2 (j : Fin 2048) : V m c main_v2 (ix2 0 j) = (m ((c : Thread nD τ).loc main_arg3)) (ix1 j) := by
  unfold_abbrev_sides
  after_results
  pointwise

theorem value : (dats m 0 c).arrAt 4 cfg0.N = val_main_v4 (F := Ideal) (m ((c : Thread nD τ).loc main_arg0)) (m ((c : Thread nD τ).loc main_arg1)) (m ((c : Thread nD τ).loc main_arg2)) (m ((c : Thread nD τ).loc main_arg3)) := by
  rw [final]
  funext y
  have e : y = (ix2 (y 0) (y 1) : S8192x2048.Idx) := by funext a; match a with | ⟨0, _⟩ => rfl | ⟨1, _⟩ => rfl
  refine Eq.trans ?_ ((ref_at (m ((c : Thread nD τ).loc main_arg0)) (m ((c : Thread nD τ).loc main_arg1)) (m ((c : Thread nD τ).loc main_arg2)) (m ((c : Thread nD τ).loc main_arg3)) (y 0) (y 1)).symm.trans
    (congrArg (val_main_v4 (F := Ideal) (m ((c : Thread nD τ).loc main_arg0)) (m ((c : Thread nD τ).loc main_arg1)) (m ((c : Thread nD τ).loc main_arg2)) (m ((c : Thread nD τ).loc main_arg3))) e.symm))
  show res m c (y 0) (y 1) = _
  unfold res
  exact congrArg₂ (fun a b : EReal => a + b) (congrFun (V_main_arg2 m c) _) (congrArg₂ (fun a b : EReal => a * b) (V_v2 m c _)
    (Finset.sum_congr rfl fun k _ => congrArg₂ (fun a b : EReal => a * b) (congrFun (V_v0 m c) _) (congrFun (V_v1 m c) _)))

end Cert.Kernel5Ideal.Tie

end
-- ==== Proof.OutprojBwd.lean ====
/-
  What the call computes: a row block is the gated gradient rows' product with the transposed matrix.
-/
module

public import proofs.«01_k».proof.Proof.Gen.Kernel6Ideal.Value
public import Idealize.ShloMosaic.Lib.Pipeline.ValueKit.Acc
public import Idealize.ShloMosaic.Lib.Pointwise.Tactic
public import Idealize.ShloMosaic.Lib.Pointwise.Contract

@[expose] public section

set_option maxRecDepth 16384

noncomputable section

namespace Cert.Kernel6Ideal.Tie

open Cert.Kernel6Ideal Cert.Kernel6Ideal.Gen Cert.Kernel6Ideal.Value
open Idealize.ShloMosaic Idealize.ShloMosaic.TcCoe

theorem hz : (![0, 0] : Fin 2 → Nat) = fun _ => 0 := funext fun a => by fin_cases a <;> rfl

theorem pay1_at (x : Vec Ideal S512x2048 .f32) (g : Vec Ideal S1x2048 .f32) (w : Vec Ideal S2048x2048 .bf16) (i : Fin 512) (j : Fin 2048) :
    k0_pay1 (F := Ideal) x g w (ix2 i j) = ∑ k : Fin 2048, x (ix2 i k) * g (ix2 0 k) * w (ix2 j k) := by
  pointwise [k0_pay1]
  simp only [shapeCast_self]

theorem out_at (x0 : Vec Ideal S512x2048 .f32) (x1 : Vec Ideal S2048x2048 .bf16) (x2 : Vec Ideal S1x2048 .f32) (i : Fin 512) (j : Fin 2048) :
    out0_3 (F := Ideal) x0 x1 x2 (ix2 i j) = ∑ k : Fin 2048, x0 (ix2 i k) * x2 (ix2 0 k) * x1 (ix2 j k) := by
  unfold out0_3
  rw [View.canon_unit_zero hz]
  simp only [View.ld_unit_zero (S := S512x2048) hz, View.ld_unit_zero (S := S2048x2048) hz, View.ld_unit_zero (S := S1x2048) hz]
  exact pay1_at _ _ _ i j

variable (m : (ℓ : Loc nD τ sig) → Buf (Elt Ideal) ℓ) (c : Dev nD)

/-- The arrays that the call reads. -/
abbrev aX (i : Fin 8192) (j : Fin 2048) : EReal := V m c main_arg0 (ix2 i j)
abbrev aW (k : Fin 2048) (j : Fin 2048) : EReal := V m c main_v0 (ix2 k j)
abbrev aG (j : Fin 2048) : EReal := V m c main_v1 (ix2 0 j)

theorem pts : cfg0.N = 16 := N_0

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem iblk0_at (t : Fin cfg0.N) (i : Fin 512) (j : Fin 2048) : @Eq EReal (iblk m c 0 t (ix2 i j)) (aX m c ⟨t.val * 512 + i.val, by have := t.isLt; have := i.isLt; have := pts; omega⟩ j) := by
  obtain ⟨e0, e1⟩ := idx0 t
  unfold iblk
  rw [View.read_apply]
  show V m c main_arg0 _ = V m c main_arg0 _
  congr 1
  funext a; apply Fin.ext
  match a with
  | ⟨0, _⟩ => show win0_0.index t (0 : Fin 2) * 512 + 1 * i.val = t.val * 512 + i.val; rw [e0]; omega
  | ⟨1, _⟩ => show win0_0.index t (1 : Fin 2) * 2048 + 1 * j.val = j.val; rw [e1]; omega

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem iblk1_at (t : Fin cfg0.N) (i : Fin 2048) (j : Fin 2048) : @Eq EReal (iblk m c 1 t (ix2 i j)) (aW m c i j) := by
  obtain ⟨e0, e1⟩ := idx1 t
  unfold iblk
  rw [View.read_apply]
  show V m c main_v0 _ = V m c main_v0 _
  congr 1
  funext a; apply Fin.ext
  match a with
  | ⟨0, _⟩ => show win0_1.index t (0 : Fin 2) * 2048 + 1 * i.val = i.val; rw [e0]; omega
  | ⟨1, _⟩ => show win0_1.index t (1 : Fin 2) * 2048 + 1 * j.val = j.val; rw [e1]; omega

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem iblk2_at (t : Fin cfg0.N) (i : Fin 1) (j : Fin 2048) : @Eq EReal (iblk m c 2 t (ix2 i j)) (aG m c j) := by
  obtain ⟨e0, e1⟩ := idx2 t
  unfold iblk
  rw [View.read_apply]
  show V m c main_v1 _ = V m c main_v1 _
  congr 1
  funext a; apply Fin.ext
  match a with
  | ⟨0, _⟩ => show win0_2.index t (0 : Fin 2) * 1 + 1 * i.val = 0; rw [e0]; omega
  | ⟨1, _⟩ => show win0_2.index t (1 : Fin 2) * 2048 + 1 * j.val = j.val; rw [e1]; omega

/-- An entry of the result. -/
def res (i : Fin 8192) (j : Fin 2048) : EReal := ∑ k : Fin 2048, aX m c i k * aG m c k * aW m c j k

def G : Buf (Elt Ideal) ((c : Thread nD τ).loc main_v2) := fun i => res m c (i 0) (i 1)

theorem mem_blkW (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

theorem idxW : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem flushAll : ∀ t : Fin cfg0.N, (cfg0.win 3).flush t = true :=
  (by decide +kernel : ∀ t : Fin grid0.N, win0_3.flush t = true)

theorem flushed_eq (t : Fin cfg0.N) : (dats m 0 c).flushed 3 t = ((cfg0.win 3).blk t).view.read (Elt Ideal) (G m c) := by
  rw [flushed3]
  obtain ⟨e0, e1⟩ := idxW t
  funext y
  have hN := t.isLt
  have hP := pts
  have hy0 : (y 0).val < 512 := (y 0).isLt
  have ey : y = (ix2 (y 0) (y 1) : S512x2048.Idx) := by funext a; match a with | ⟨0, _⟩ => rfl | ⟨1, _⟩ => rfl
  show out0_3 (iblk m c 0 t) (iblk m c 1 t) (iblk m c 2 t) y = res m c (((cfg0.win 3).blk t).view.emb y 0) (((cfg0.win 3).blk t).view.emb y 1)
  have hb0 : ((cfg0.win 3).blk t).view.emb y 0 = (⟨t.val * 512 + (y 0).val, by omega⟩ : Fin 8192) := by
    apply Fin.ext
    show win0_3.index t (0 : Fin 2) * 512 + 1 * (y 0).val = t.val * 512 + (y 0).val
    rw [e0]; omega
  have hb1 : ((cfg0.win 3).blk t).view.emb y 1 = (⟨(y 1).val, (y 1).isLt⟩ : Fin 2048) := by
    apply Fin.ext
    show win0_3.index t (1 : Fin 2) * 2048 + 1 * (y 1).val = (y 1).val
    rw [e1]; omega
  rw [hb0, hb1]
  refine (congrArg (out0_3 (iblk m c 0 t) (iblk m c 1 t) (iblk m c 2 t)) ey).trans ?_
  refine (out_at _ _ _ (y 0) (y 1)).trans ?_
  unfold res
  refine Finset.sum_congr rfl fun k _ => congrArg₂ (fun a b : EReal => a * b)
    (congrArg₂ (fun a b : EReal => a * b) (iblk0_at m c t _ _) (iblk2_at m c t _ _)) (iblk1_at m c t _ _)

theorem final : (dats m 0 c).arrAt 3 cfg0.N = G m c := by
  refine (dats m 0 c).arrAt_eq_of_cover 3 (G m c) (fun t _ => flushed_eq m c t) fun i => ?_
  have h0 : (i 0).val < 8192 := (i 0).isLt
  have h1 : (i 1).val < 2048 := (i 1).isLt
  have hP := pts
  refine ⟨⟨(i 0).val / 512, by omega⟩, flushAll _, ?_⟩
  rw [mem_blkW]
  obtain ⟨e0, e1⟩ := idxW ⟨(i 0).val / 512, by omega⟩
  intro a
  match a with
  | ⟨0, _⟩ => show win0_3.index _ (0 : Fin 2) * 512 ≤ (i 0).val ∧ (i 0).val < win0_3.index _ (0 : Fin 2) * 512 + 512; rw [e0]; show (i 0).val / 512 * 512 ≤ _ ∧ _ < (i 0).val / 512 * 512 + 512; omega
  | ⟨1, _⟩ => show win0_3.index _ (1 : Fin 2) * 2048 ≤ (i 1).val ∧ (i 1).val < win0_3.index _ (1 : Fin 2) * 2048 + 2048; rw [e1]; omega

end Cert.Kernel6Ideal.Tie

end
-- ==== Proof.OutprojBwdTie.lean ====
/-
  The call's result is the reference's: the arrays that the host code prepares are the arguments, and the two sums agree.
-/
module

public import proofs.«01_k».proof.Proof.OutprojBwd
public import proofs.«01_k».proof.Proof.Gen.Reference6Ideal.Read
public import proofs.«01_k».proof.Proof.Gen.Reference6Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel6Ideal.Tie

open Cert.Kernel6Ideal Cert.Kernel6Ideal.Gen Cert.Kernel6Ideal.Value Cert.Reference6Ideal.Read
open Idealize.ShloMosaic Idealize.ShloMosaic.TcCoe Idealize.ShloMosaic.StableHlo

theorem ref_at (x0 : (⟨S8192x2048, .f32⟩ : BufTy).Contents (Elt Ideal)) (x1 : (⟨S2048x2048, .f32⟩ : BufTy).Contents (Elt Ideal))
    (x2 : (⟨S2048, .f32⟩ : BufTy).Contents (Elt Ideal)) (i : Fin 8192) (j : Fin 2048) :
    @Eq EReal (val_main_v8 (F := Ideal) x0 x1 x2 (ix2 i j)) (∑ k : Fin 2048, x2 (ix1 k) * x0 (ix2 i k) * x1 (ix2 j k)) := by
  rw [val_main_v8_apply]
  show val_main_v7 (F := Ideal) x0 x1 x2 (ix2 i j) = _
  rw [val_main_v7_apply]
  refine Finset.sum_congr rfl fun k _ => congrArg₂ (fun a b : EReal => a * b) ?_ (congrArg x1 ?_)
  · rw [val_main_v6_apply, val_main_v5_apply, val_main_v1_apply]
    refine congrArg₂ (fun a b : EReal => a * b) (congrArg x2 ?_) (congrArg x0 ?_)
    · funext a; match a with | ⟨0, _⟩ => rfl
    · funext a; match a with | ⟨0, _⟩ => rfl | ⟨1, _⟩ => rfl
  · funext a; match a with | ⟨0, _⟩ => rfl | ⟨1, _⟩ => rfl

variable (m : (ℓ : Loc nD τ sig) → Buf (Elt Ideal) ℓ) (c : Dev nD)

theorem V_v0 : V m c main_v0 = (m ((c : Thread nD τ).loc main_arg1)) := by
  unfold_abbrev_sides
  after_results
  try rfl

theorem V_v1 (j : Fin 2048) : V m c main_v1 (ix2 0 j) = (m ((c : Thread nD τ).loc main_arg2)) (ix1 j) := by
  unfold_abbrev_sides
  after_results
  pointwise

theorem value : (dats m 0 c).arrAt 3 cfg0.N = val_main_v8 (F := Ideal) (m ((c : Thread nD τ).loc main_arg0)) (m ((c : Thread nD τ).loc main_arg1)) (m ((c : Thread nD τ).loc main_arg2)) := by
  rw [final]
  funext y
  have e : y = (ix2 (y 0) (y 1) : S8192x2048.Idx) := by funext a; match a with | ⟨0, _⟩ => rfl | ⟨1, _⟩ => rfl
  refine Eq.trans ?_ ((ref_at (m ((c : Thread nD τ).loc main_arg0)) (m ((c : Thread nD τ).loc main_arg1)) (m ((c : Thread nD τ).loc main_arg2)) (y 0) (y 1)).symm.trans
    (congrArg (val_main_v8 (F := Ideal) (m ((c : Thread nD τ).loc main_arg0)) (m ((c : Thread nD τ).loc main_arg1)) (m ((c : Thread nD τ).loc main_arg2))) e.symm))
  show res m c (y 0) (y 1) = _
  unfold res
  refine Finset.sum_congr rfl fun k _ => congrArg₂ (fun a b : EReal => a * b) ?_ (congrFun (V_v0 m c) _)
  exact (congrArg₂ (fun a b : EReal => a * b) (congrFun (V_main_arg0 m c) _) (V_v1 m c _)).trans (mul_comm _ _)

end Cert.Kernel6Ideal.Tie

end
-- ==== Proof.WoutTn.lean ====
/-
  What the call computes: each column block of the result accumulates, over the eight row blocks, the product of the
  first array's columns with the second's; an entry of the result is the sum over all 8192 rows.
-/
module

public import proofs.«01_k».proof.Proof.Gen.Kernel7Ideal.Value
public import Idealize.ShloMosaic.Lib.Pipeline.ValueKit.Acc
public import Idealize.ShloMosaic.Lib.Pointwise.Tactic
public import Idealize.ShloMosaic.Lib.Pointwise.Contract

@[expose] public section

set_option maxRecDepth 16384

noncomputable section

namespace Cert.Kernel7Ideal.Tie

open Cert.Kernel7Ideal Cert.Kernel7Ideal.Gen Cert.Kernel7Ideal.Value
open Idealize.ShloMosaic Idealize.ShloMosaic.TcCoe

theorem pay1_at (i : S2048x1024.Idx) : k0_pay1 (F := Ideal) i = 0 := by pointwise [k0_pay1]

theorem pay2_at (s : Vec Ideal S2048x1024 .f32) (a : Vec Ideal S1024x2048 .bf16) (b : Vec Ideal S1024x1024 .f32) (i : Fin 2048) (j : Fin 1024) :
    k0_pay2 (F := Ideal) s a b (ix2 i j) = s (ix2 i j) + ∑ k : Fin 1024, a (ix2 k i) * b (ix2 k j) := by
  pointwise [k0_pay2]
  simp only [shapeCast_self]

theorem pay2_y (s : Vec Ideal S2048x1024 .f32) (a : Vec Ideal S1024x2048 .bf16) (b : Vec Ideal S1024x1024 .f32) (y : S2048x1024.Idx) :
    @Eq EReal (k0_pay2 (F := Ideal) s a b y) (s y + ∑ k : Fin 1024, a (ix2 k (y 0)) * b (ix2 k (y 1))) := by
  have e : y = (ix2 (y 0) (y 1) : S2048x1024.Idx) := by funext a; match a with | ⟨0, _⟩ => rfl | ⟨1, _⟩ => rfl
  exact (congrArg (k0_pay2 (F := Ideal) s a b) e).trans ((pay2_at s a b (y 0) (y 1)).trans
    (congrArg (fun z => s z + ∑ k : Fin 1024, a (ix2 k (y 0)) * b (ix2 k (y 1))) e.symm))

variable (m : (ℓ : Loc nD τ sig) → Buf (Elt Ideal) ℓ) (c : Dev nD)

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)

theorem idx1 : ∀ t : Fin cfg0.N, win0_1.index t (0 : Fin 2) = t.val % 8 ∧ win0_1.index t (1 : Fin 2) = t.val / 8 :=
  (by decide +kernel : ∀ t : Fin grid0.N, win0_1.index t (0 : Fin 2) = t.val % 8 ∧ win0_1.index t (1 : Fin 2) = t.val / 8)

theorem pts : cfg0.N = 16 := N_0

/-- The two arrays that the call multiplies. -/
abbrev arrA (k : Fin 8192) (i : Fin 2048) : EReal := V m c main_v0 (ix2 k i)
abbrev arrB (k : Fin 8192) (j : Fin 2048) : EReal := V m c main_arg1 (ix2 k j)

theorem iblk0_at (t : Fin cfg0.N) (k : Fin 1024) (i : Fin 2048) :
    iblk m c 0 t (ix2 k i) = arrA m c ⟨t.val % 8 * 1024 + k.val, by omega⟩ i := by
  obtain ⟨e0, e1⟩ := idx0 t
  unfold iblk
  rw [View.read_apply]
  show V m c main_v0 _ = V m c main_v0 _
  congr 1
  funext a; apply Fin.ext
  match a with
  | ⟨0, _⟩ => show win0_0.index t (0 : Fin 2) * 1024 + 1 * k.val = t.val % 8 * 1024 + k.val; rw [e0]; omega
  | ⟨1, _⟩ => show win0_0.index t (1 : Fin 2) * 2048 + 1 * i.val = i.val; rw [e1]; omega

theorem iblk1_at (t : Fin cfg0.N) (k : Fin 1024) (j : Fin 1024) :
    iblk m c 1 t (ix2 k j) = arrB m c ⟨t.val % 8 * 1024 + k.val, by omega⟩
      ⟨t.val / 8 * 1024 + j.val, by have := t.isLt; have := pts; omega⟩ := by
  obtain ⟨e0, e1⟩ := idx1 t
  unfold iblk
  rw [View.read_apply]
  show V m c main_arg1 _ = V m c main_arg1 _
  congr 1
  funext a; apply Fin.ext
  match a with
  | ⟨0, _⟩ => show win0_1.index t (0 : Fin 2) * 1024 + 1 * k.val = t.val % 8 * 1024 + k.val; rw [e0]; omega
  | ⟨1, _⟩ => show win0_1.index t (1 : Fin 2) * 1024 + 1 * j.val = t.val / 8 * 1024 + j.val; rw [e1]; omega

/-- The blocks that a point reads. -/
abbrev blkA (t : Fin cfg0.N) (k : Fin 1024) (i : Fin 2048) : EReal := iblk m c 0 t (ix2 k i)
abbrev blkB (t : Fin cfg0.N) (k : Fin 1024) (j : Fin 1024) : EReal := iblk m c 1 t (ix2 k j)

/-- What point `n` adds to an entry. -/
def adds (n : ℕ) (y : S2048x1024.Idx) : EReal :=
  if h : n < cfg0.N then ∑ k : Fin 1024, blkA m c ⟨n, h⟩ k (y 0) * blkB m c ⟨n, h⟩ k (y 1) else 0

theorem fold_at (b : ℕ) (h : b + 7 < cfg0.N) (y : S2048x1024.Idx) :
    Pipeline.accAt (reset2 m c) (step2 m c) b 7 h y = ∑ s : Fin 8, adds m c (b + s.val) y := by
  have key := Pipeline.accAt_add_apply (reset2 m c) (step2 m c) (fun _ => (0 : EReal)) (adds m c) b 7
    (by
      intro h y
      refine (pay2_y _ _ _ y).trans ?_
      rw [pay1_at]
      unfold adds
      rw [dif_pos h])
    (by
      intro n h acc y _ _
      refine (pay2_y _ _ _ y).trans ?_
      unfold adds
      rw [dif_pos h])
    7 (le_refl 7) h y
  rw [key]
  show (0 : EReal) + _ = _
  rw [zero_add, ← Fin.sum_univ_eq_sum_range (fun s => adds m c (b + s) y) 8]

/-- An entry of the result: the sum over all rows. -/
theorem G2_at (i : Fin 2048) (j : Fin 2048) : @Eq EReal (G2 m c (ix2 i j)) (∑ k : Fin 8192, arrA m c k i * arrB m c k j) := by
  have hi := i.isLt
  have hj := j.isLt
  have hr : run2Of (ix2 i j) = j.val / 1024 := by
    show 2 * (i.val / 2048 - 0) + 1 * (j.val / 1024 - 0) = _
    omega
  unfold G2
  rw [dif_pos (by rw [hr]; have := pts; omega), fold_at]
  refine (Finset.sum_congr rfl fun s _ => ?_).trans
    (Fin.sum_mul_add_fin 8 1024 (fun k : Fin 8192 => arrA m c k i * arrB m c k j))
  have hs := s.isLt
  have hn : 8 * run2Of (ix2 i j) + s.val < cfg0.N := by rw [hr]; have := pts; omega
  unfold adds
  rw [dif_pos hn]
  refine Finset.sum_congr rfl fun k _ => ?_
  have hk := k.isLt
  refine (congrArg₂ (fun a b : EReal => a * b) (iblk0_at m c ⟨_, hn⟩ k _) (iblk1_at m c ⟨_, hn⟩ k _)).trans ?_
  refine congrArg₂ (fun a b : EReal => a * b) (congrArg₂ (arrA m c) (Fin.ext ?_) (Fin.ext ?_)) (congrArg₂ (arrB m c) (Fin.ext ?_) (Fin.ext ?_))
  · show (8 * run2Of (ix2 i j) + s.val) % 8 * 1024 + k.val = s.val * 1024 + k.val; omega
  · show i.val % 2048 = i.val; omega
  · show (8 * run2Of (ix2 i j) + s.val) % 8 * 1024 + k.val = s.val * 1024 + k.val; omega
  · show (8 * run2Of (ix2 i j) + s.val) / 8 * 1024 + j.val % 1024 = j.val; rw [hr]; omega

end Cert.Kernel7Ideal.Tie

end
-- ==== Proof.WoutTnTie.lean ====
/-
  The call's result is the reference's: the arrays that the host code prepares are the arguments, and the two sums agree.
-/
module

public import proofs.«01_k».proof.Proof.WoutTn
public import proofs.«01_k».proof.Proof.Gen.Reference7Ideal.Read
public import proofs.«01_k».proof.Proof.Gen.Reference7Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel7Ideal.Tie

open Cert.Kernel7Ideal Cert.Kernel7Ideal.Gen Cert.Kernel7Ideal.Value Cert.Reference7Ideal.Read
open Idealize.ShloMosaic Idealize.ShloMosaic.TcCoe Idealize.ShloMosaic.StableHlo

theorem ref_at (x0 x1 : (⟨S8192x2048, .f32⟩ : BufTy).Contents (Elt Ideal)) (i j : Fin 2048) :
    val_main_v3 (F := Ideal) x0 x1 (ix2 i j) = ∑ k : Fin 8192, x1 (ix2 k j) * x0 (ix2 k i) := by
  rw [val_main_v3_apply, val_main_v2_apply]
  refine Finset.sum_congr rfl fun k _ => congrArg₂ (fun a b : EReal => a * b) (congrArg x1 ?_) (congrArg x0 ?_)
  · funext a; match a with | ⟨0, _⟩ => rfl | ⟨1, _⟩ => rfl
  · funext a; match a with | ⟨0, _⟩ => rfl | ⟨1, _⟩ => rfl

variable (m : (ℓ : Loc nD τ sig) → Buf (Elt Ideal) ℓ) (c : Dev nD)

theorem V_v0 : V m c main_v0 = (m ((c : Thread nD τ).loc main_arg0)) := by
  unfold_abbrev_sides
  after_results
  try rfl

theorem value : G2 m c = val_main_v3 (F := Ideal) (m ((c : Thread nD τ).loc main_arg0)) (m ((c : Thread nD τ).loc main_arg1)) := by
  funext y
  have e : y = (ix2 (y 0) (y 1) : S2048x2048.Idx) := by funext a; match a with | ⟨0, _⟩ => rfl | ⟨1, _⟩ => rfl
  rw [e]
  refine (G2_at m c (y 0) (y 1)).trans (Eq.trans ?_ (ref_at _ _ (y 0) (y 1)).symm)
  refine Finset.sum_congr rfl fun k _ => ?_
  refine (congrArg₂ (fun a b : EReal => a * b) (congrFun (V_v0 m c) _) (congrFun (V_main_arg1 m c) _)).trans ?_
  exact mul_comm _ _

end Cert.Kernel7Ideal.Tie

end
-- ==== Proof.AdamMath.lean ====
/-
  The update of one weight: the new moments and the step, from the gradient, the weight and the old moments.
-/
module

public import Idealize.ShloMosaic.Lib.Pointwise.Tactic

@[expose] public section

noncomputable section

namespace Cert.AdamMath

open Idealize.ShloMosaic

variable {F : FTy → Type} [FloatOps F]

/-- The new first moment. -/
def newM (g m : F .f32) : F .f32 :=
  FloatOps.addf (FloatOps.mulf (Scalar.ofBits .f32 0x3F666666#32) m) (FloatOps.mulf (Scalar.ofBits .f32 0x3DCCCCCD#32) g)

/-- The new second moment. -/
def newV (g v : F .f32) : F .f32 :=
  FloatOps.addf (FloatOps.mulf (Scalar.ofBits .f32 0x3F7FBE77#32) v) (FloatOps.mulf (Scalar.ofBits .f32 0x3A83126F#32) (FloatOps.mulf g g))

/-- The step added to the weight. -/
def delta (g w m v : F .f32) : F .f32 :=
  FloatOps.mulf (Scalar.ofBits .f32 0xBA83126F#32)
    (FloatOps.addf
      (FloatOps.divf (FloatOps.divf (newM g m) (Scalar.ofBits .f32 0x3F26BD02#32))
        (FloatOps.addf (FloatOps.sqrt (FloatOps.divf (newV g v) (Scalar.ofBits .f32 0x3C231ACC#32))) (Scalar.ofBits .f32 0x322BCC77#32)))
      (FloatOps.mulf (Scalar.ofBits .f32 0x3C23D70A#32) w))

theorem delta_congr {a a' b b' d d' e e' : F .f32} (h1 : a = a') (h2 : b = b') (h3 : d = d') (h4 : e = e') : delta a b d e = delta a' b' d' e' := by
  subst h1 h2 h3 h4; rfl

end Cert.AdamMath

end
-- ==== Proof.AwVec.lean ====
/-
  What the optimiser's call on the weights of the input projection leaves in a block: the devices' parts of the gradient added up, the step and the two new moments.
-/
module

public import proofs.«01_k».proof.Proof.Gen.Kernel8Ideal.Value
public import proofs.«01_k».proof.Proof.AdamMath
public import Idealize.ShloMosaic.Lib.Pipeline.ValueKit.Acc
public import Idealize.ShloMosaic.Lib.Pointwise.Tactic

@[expose] public section

set_option maxRecDepth 16384

noncomputable section

namespace Cert.Kernel8Ideal.Tie

open Cert.Kernel8Ideal Cert.Kernel8Ideal.Gen Cert.Kernel8Ideal.Value Cert.AdamMath
open Idealize.ShloMosaic Idealize.ShloMosaic.TcCoe

theorem hz3 : (![0, 0, 0] : Fin 3 → Nat) = fun _ => 0 := funext fun a => by fin_cases a <;> rfl

section
variable (x : Vec Ideal S8x128x898 .bf16) (w a v : Vec Ideal S1x128x898 .f32)

/-- The sum of the devices' parts in a block. -/
def sum8 : FVec Ideal S128x898 .f32 :=
  k0_pay9 (View.ld x (Rect.unit (s := S8x128x898) ![0, 0, 0] S1x128x898.size inb_S8x128x898_S1x128x898_0_0_0))
    (View.ld x (Rect.unit (s := S8x128x898) ![1, 0, 0] S1x128x898.size inb_S8x128x898_S1x128x898_1_0_0))
    (View.ld x (Rect.unit (s := S8x128x898) ![2, 0, 0] S1x128x898.size inb_S8x128x898_S1x128x898_2_0_0))
    (View.ld x (Rect.unit (s := S8x128x898) ![3, 0, 0] S1x128x898.size inb_S8x128x898_S1x128x898_3_0_0))
    (View.ld x (Rect.unit (s := S8x128x898) ![4, 0, 0] S1x128x898.size inb_S8x128x898_S1x128x898_4_0_0))
    (View.ld x (Rect.unit (s := S8x128x898) ![5, 0, 0] S1x128x898.size inb_S8x128x898_S1x128x898_5_0_0))
    (View.ld x (Rect.unit (s := S8x128x898) ![6, 0, 0] S1x128x898.size inb_S8x128x898_S1x128x898_6_0_0))
    (View.ld x (Rect.unit (s := S8x128x898) ![7, 0, 0] S1x128x898.size inb_S8x128x898_S1x128x898_7_0_0))

/-- What the body leaves in the four results' blocks. -/
def blkG : Vec Ideal S1x128x898 .f32 := k0_pay13 (sum8 x)
def blkD : Vec Ideal S1x128x898 .f32 := k0_pay14 (sum8 x) (k0_pay10 w) a v
def blkM : Vec Ideal S1x128x898 .f32 := k0_pay1 (k0_pay11 (sum8 x) a)
def blkV : Vec Ideal S1x128x898 .f32 := k0_pay2 (k0_pay12 (sum8 x) v)

variable (i : Fin 128) (j : Fin 898)

theorem drop_at {e : EltTy} (x : Vec Ideal S1x128x898 e) : shapeCast S128x898 x shapeCasts_S1x128x898_S128x898 (ix2 i j) = x (ix3 0 i j) :=
  shapeCast_apply _ _ _ (ix3 0 i j) (by
    rw [Shape.rowMajor_val_three, Shape.rowMajor_val_two]
    show (0 * 128 + i.val) * 898 + j.val = i.val * 898 + j.val
    omega)

theorem lift_at (x : FVec Ideal S128x898 .f32) : shapeCast S1x128x898 x shapeCasts_S128x898_S1x128x898 (ix3 0 i j) = x (ix2 i j) :=
  shapeCast_apply _ _ _ (ix2 i j) (by
    rw [Shape.rowMajor_val_three, Shape.rowMajor_val_two]
    show i.val * 898 + j.val = (0 * 128 + i.val) * 898 + j.val
    omega)

theorem ld_at (b : Fin 8) (h : ∀ a, (![b.val, 0, 0] : Fin 3 → Nat) a + S1x128x898.size a ≤ S8x128x898.size a) :
    shapeCast S128x898 (View.ld x (Rect.unit (s := S8x128x898) ![b.val, 0, 0] S1x128x898.size h)) shapeCasts_S1x128x898_S128x898 (ix2 i j) = x (ix3 b i j) :=
  (drop_at i j _).trans (congrArg x (funext fun a => Fin.ext (by
    match a with
    | ⟨0, _⟩ => show b.val + 1 * 0 = b.val; omega
    | ⟨1, _⟩ => show 0 + 1 * i.val = i.val; omega
    | ⟨2, _⟩ => show 0 + 1 * j.val = j.val; omega)))

/-- An entry of the gradient, from the block of the devices' parts. -/
def gb : EReal := ∑ b : Fin 8, x (ix3 b i j)

theorem sum8_at : sum8 x (ix2 i j) = gb x i j := by
  unfold gb
  rw [Fin.sum_univ_eight]
  refine @Eq.trans EReal _ _ _ (by unfold sum8 k0_pay9; rfl) ?_
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
      (ld_at x i j 0 inb_S8x128x898_S1x128x898_0_0_0) (ld_at x i j 1 inb_S8x128x898_S1x128x898_1_0_0)) (ld_at x i j 2 inb_S8x128x898_S1x128x898_2_0_0)) (ld_at x i j 3 inb_S8x128x898_S1x128x898_3_0_0)) (ld_at x i j 4 inb_S8x128x898_S1x128x898_4_0_0))
      (ld_at x i j 5 inb_S8x128x898_S1x128x898_5_0_0)) (ld_at x i j 6 inb_S8x128x898_S1x128x898_6_0_0)) (ld_at x i j 7 inb_S8x128x898_S1x128x898_7_0_0)

theorem blkG_at : blkG x (ix3 0 i j) = gb x i j := (lift_at i j _).trans (sum8_at x i j)

theorem pay10_at : k0_pay10 (F := Ideal) w (ix2 i j) = w (ix3 0 i j) := drop_at i j w

theorem pay11_at : k0_pay11 (F := Ideal) (sum8 x) a (ix2 i j) = newM (F := Ideal) (gb x i j) (a (ix3 0 i j)) := by
  rw [← sum8_at, ← drop_at i j a]
  rfl

theorem pay12_at : k0_pay12 (F := Ideal) (sum8 x) v (ix2 i j) = newV (F := Ideal) (gb x i j) (v (ix3 0 i j)) := by
  rw [← sum8_at, ← drop_at i j v]
  rfl

theorem blkM_at : blkM x a (ix3 0 i j) = newM (F := Ideal) (gb x i j) (a (ix3 0 i j)) := (lift_at i j _).trans (pay11_at x a i j)

theorem blkV_at : blkV x v (ix3 0 i j) = newV (F := Ideal) (gb x i j) (v (ix3 0 i j)) := (lift_at i j _).trans (pay12_at x v i j)

theorem blkD_at : blkD x w a v (ix3 0 i j) = delta (F := Ideal) (gb x i j) (w (ix3 0 i j)) (a (ix3 0 i j)) (v (ix3 0 i j)) := by
  unfold blkD k0_pay14 delta
  rw [← pay11_at, ← pay12_at, ← pay10_at w i j]
  exact lift_at i j _

end

/-! ## The four cases of the body, one for each layer, leave the same functions of the layer's parts -/

section
variable (c : Dev nD) (i : grid0.Coords) (arg2 : Memref sig .tc .vmem S8x128x898 .bf16) (harg2 : arg2.IsWhole) (arg3 : Memref sig .tc .vmem S8x128x898 .bf16) (harg3 : arg3.IsWhole) (arg4 : Memref sig .tc .vmem S8x128x898 .bf16) (harg4 : arg4.IsWhole) (arg5 : Memref sig .tc .vmem S8x128x898 .bf16) (harg5 : arg5.IsWhole) (arg6 : Memref sig .tc .vmem S1x128x898 .f32) (harg6 : arg6.IsWhole) (arg7 : Memref sig .tc .vmem S1x128x898 .f32) (harg7 : arg7.IsWhole) (arg8 : Memref sig .tc .vmem S1x128x898 .f32) (harg8 : arg8.IsWhole) (arg9 : Memref sig .tc .vmem S1x128x898 .f32) (harg9 : arg9.IsWhole) (arg10 : Memref sig .tc .vmem S1x128x898 .f32) (harg10 : arg10.IsWhole) (arg11 : Memref sig .tc .vmem S1x128x898 .f32) (harg11 : arg11.IsWhole) (arg12 : Memref sig .tc .vmem S1x128x898 .f32) (harg12 : arg12.IsWhole)  (x0 x1 x2 x3 : Vec Ideal S8x128x898 .bf16) (x4 x5 x6 : Vec Ideal S1x128x898 .f32)

theorem case_A (hc0 : cond0_0 i) (hc1 : ¬cond0_1 i) (hc2 : ¬cond0_2 i) (hc3 : ¬cond0_3 i) :
    out0_A_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkG x0
    ∧ out0_A_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkD x0 x4 x5 x6
    ∧ out0_A_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkM x0 x5
    ∧ out0_A_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkV x0 x6 := by
  unfold out0_A_7 out0_A_8 out0_A_9 out0_A_10
  refine ⟨(View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_A_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_⟩
  all_goals
    unfold kernelRun0_A
    dsimp only
    refine (View.canon_cons_unit_zero (S := S1x128x898) hz3 _ _ _).trans ?_
    try delta kernelRun0_A.sl.r_3
    try delta kernelRun0_A.sl.r_2
    try delta kernelRun0_A.sl.r_1
    try delta kernelRun0_A.sl.r
    simp only [View.readAt_eq_ld, harg2.read_unread, harg3.read_unread, harg4.read_unread, harg5.read_unread, harg6.read_unread, harg7.read_unread, harg8.read_unread,
      View.ld_unit_zero (S := S1x128x898) hz3]
    rfl

theorem case_B (hc0 : ¬cond0_0 i) (hc1 : cond0_1 i) (hc2 : ¬cond0_2 i) (hc3 : ¬cond0_3 i) :
    out0_B_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkG x1
    ∧ out0_B_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkD x1 x4 x5 x6
    ∧ out0_B_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkM x1 x5
    ∧ out0_B_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkV x1 x6 := by
  unfold out0_B_7 out0_B_8 out0_B_9 out0_B_10
  refine ⟨(View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_B_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_⟩
  all_goals
    unfold kernelRun0_B
    dsimp only
    refine (View.canon_cons_unit_zero (S := S1x128x898) hz3 _ _ _).trans ?_
    try delta kernelRun0_B.sl.r_3
    try delta kernelRun0_B.sl.r_2
    try delta kernelRun0_B.sl.r_1
    try delta kernelRun0_B.sl.r
    simp only [View.readAt_eq_ld, harg2.read_unread, harg3.read_unread, harg4.read_unread, harg5.read_unread, harg6.read_unread, harg7.read_unread, harg8.read_unread,
      View.ld_unit_zero (S := S1x128x898) hz3]
    rfl

theorem case_C (hc0 : ¬cond0_0 i) (hc1 : ¬cond0_1 i) (hc2 : cond0_2 i) (hc3 : ¬cond0_3 i) :
    out0_C_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkG x2
    ∧ out0_C_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkD x2 x4 x5 x6
    ∧ out0_C_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkM x2 x5
    ∧ out0_C_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkV x2 x6 := by
  unfold out0_C_7 out0_C_8 out0_C_9 out0_C_10
  refine ⟨(View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_C_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_⟩
  all_goals
    unfold kernelRun0_C
    dsimp only
    refine (View.canon_cons_unit_zero (S := S1x128x898) hz3 _ _ _).trans ?_
    try delta kernelRun0_C.sl.r_3
    try delta kernelRun0_C.sl.r_2
    try delta kernelRun0_C.sl.r_1
    try delta kernelRun0_C.sl.r
    simp only [View.readAt_eq_ld, harg2.read_unread, harg3.read_unread, harg4.read_unread, harg5.read_unread, harg6.read_unread, harg7.read_unread, harg8.read_unread,
      View.ld_unit_zero (S := S1x128x898) hz3]
    rfl

theorem case_D (hc0 : ¬cond0_0 i) (hc1 : ¬cond0_1 i) (hc2 : ¬cond0_2 i) (hc3 : cond0_3 i) :
    out0_D_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkG x3
    ∧ out0_D_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkD x3 x4 x5 x6
    ∧ out0_D_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkM x3 x5
    ∧ out0_D_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkV x3 x6 := by
  unfold out0_D_7 out0_D_8 out0_D_9 out0_D_10
  refine ⟨(View.read_writes_eq_canon _ _ _ (cover0_D_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_D_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_D_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_D_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_⟩
  all_goals
    unfold kernelRun0_D
    dsimp only
    refine (View.canon_cons_unit_zero (S := S1x128x898) hz3 _ _ _).trans ?_
    try delta kernelRun0_D.sl.r_3
    try delta kernelRun0_D.sl.r_2
    try delta kernelRun0_D.sl.r_1
    try delta kernelRun0_D.sl.r
    simp only [View.readAt_eq_ld, harg2.read_unread, harg3.read_unread, harg4.read_unread, harg5.read_unread, harg6.read_unread, harg7.read_unread, harg8.read_unread,
      View.ld_unit_zero (S := S1x128x898) hz3]
    rfl

end

end Cert.Kernel8Ideal.Tie

end
-- ==== Proof.AwVal.lean ====
/-
  The optimiser's call on the weights of the input projection, from its blocks to the whole arrays.
-/
module

public import proofs.«01_k».proof.Proof.AwVec

@[expose] public section

set_option maxRecDepth 16384

noncomputable section

namespace Cert.Kernel8Ideal.Tie

open Cert.Kernel8Ideal Cert.Kernel8Ideal.Gen Cert.Kernel8Ideal.Value Cert.AdamMath
open Idealize.ShloMosaic Idealize.ShloMosaic.TcCoe

variable (m : (ℓ : Loc nD τ sig) → Buf (Elt Ideal) ℓ) (c : Dev nD)

theorem pts : cfg0.N = 64 := N_0

theorem at3_idx : ∀ t : Fin cfg0.N, win0_7.index t (0 : Fin 3) = t.val / 16 ∧ win0_7.index t (1 : Fin 3) = (t.val % 16) ∧ win0_7.index t (2 : Fin 3) = 0 :=
  (by decide +kernel : ∀ t : Fin grid0.N, win0_7.index t (0 : Fin 3) = t.val / 16 ∧ win0_7.index t (1 : Fin 3) = (t.val % 16) ∧ win0_7.index t (2 : Fin 3) = 0)

/-- Where an entry of a block lies in its array. -/
theorem at3 (t : Fin cfg0.N) (i : Fin 1) (j : Fin 128) (k : Fin 898) : (win0_7.rect t).idx (ix3 i j k) = ((ix3 ⟨t.val / 16, by have := pts; have := t.isLt; have := i.isLt; omega⟩ ⟨(t.val % 16) * 128 + j.val, by have := pts; have := t.isLt; have := j.isLt; omega⟩ k) : S4x2048x898.Idx) := by
  obtain ⟨e0, e1, e2⟩ := at3_idx t
  funext a; apply Fin.ext
  match a with
  | ⟨0, _⟩ => show win0_7.index t (0 : Fin 3) * 1 + 1 * i.val = t.val / 16; rw [e0]; omega
  | ⟨1, _⟩ => show win0_7.index t (1 : Fin 3) * 128 + 1 * j.val = (t.val % 16) * 128 + j.val; rw [e1]; omega
  | ⟨2, _⟩ => show win0_7.index t (2 : Fin 3) * 898 + 1 * k.val = k.val; rw [e2]; omega

/-- Every entry of the array lies in the block of some point. -/
theorem cover (i : S4x2048x898.Idx) : ∃ t : Fin cfg0.N, i ∈ (win0_7.rect t).set := by
  have h0 : (i 0).val < 4 := (i 0).isLt
  have h1 : (i 1).val < 2048 := (i 1).isLt
  have h2 : (i 2).val < 898 := (i 2).isLt
  have hP := pts
  refine ⟨⟨(i 0).val * 16 + (i 1).val / 128, by omega⟩, ?_⟩
  rw [Rect.mem_set_unit]
  obtain ⟨e0, e1, e2⟩ := at3_idx ⟨(i 0).val * 16 + (i 1).val / 128, by omega⟩
  intro a
  match a with
  | ⟨0, _⟩ => show win0_7.index _ (0 : Fin 3) * 1 ≤ (i 0).val ∧ (i 0).val < win0_7.index _ (0 : Fin 3) * 1 + 1; rw [e0]; show ((i 0).val * 16 + (i 1).val / 128) / 16 * 1 ≤ _ ∧ _ < ((i 0).val * 16 + (i 1).val / 128) / 16 * 1 + 1; omega
  | ⟨1, _⟩ => show win0_7.index _ (1 : Fin 3) * 128 ≤ (i 1).val ∧ (i 1).val < win0_7.index _ (1 : Fin 3) * 128 + 128; rw [e1]; show (((i 0).val * 16 + (i 1).val / 128) % 16) * 128 ≤ _ ∧ _ < (((i 0).val * 16 + (i 1).val / 128) % 16) * 128 + 128; omega
  | ⟨2, _⟩ => show win0_7.index _ (2 : Fin 3) * 898 ≤ (i 2).val ∧ (i 2).val < win0_7.index _ (2 : Fin 3) * 898 + 898; rw [e2]; show 0 * 898 ≤ _ ∧ _ < 0 * 898 + 898; omega

/-- The layer of a point, and the row of a block's row. -/
abbrev ly (t : Fin cfg0.N) : Fin 4 := ⟨t.val / 16, by have := pts; have := t.isLt; omega⟩
abbrev rw_ (t : Fin cfg0.N) (i : Fin 128) : Fin 2048 := ⟨t.val % 16 * 128 + i.val, by have := i.isLt; omega⟩

/-- The devices' parts of a layer's gradient, and the weights and the moments. -/
abbrev part (l : Fin 4) : S8x2048x898.Idx → EReal := ![V m c main_v0, V m c main_v1, V m c main_v2, V m c main_v3] l
abbrev aW (l : Fin 4) (i : Fin 2048) (j : Fin 898) : EReal := V m c main_arg4 (ix3 l i j)
abbrev aM (l : Fin 4) (i : Fin 2048) (j : Fin 898) : EReal := V m c main_arg5 (ix3 l i j)
abbrev aV (l : Fin 4) (i : Fin 2048) (j : Fin 898) : EReal := V m c main_arg6 (ix3 l i j)

/-- The entries that the call leaves. -/
def res7 (l : Fin 4) (i : Fin 2048) (j : Fin 898) : EReal := ∑ b : Fin 8, part m c l (ix3 b i j)
def res8 (l : Fin 4) (i : Fin 2048) (j : Fin 898) : EReal := delta (F := Ideal) (res7 m c l i j) (aW m c l i j) (aM m c l i j) (aV m c l i j)
def res9 (l : Fin 4) (i : Fin 2048) (j : Fin 898) : EReal := newM (F := Ideal) (res7 m c l i j) (aM m c l i j)
def res10 (l : Fin 4) (i : Fin 2048) (j : Fin 898) : EReal := newV (F := Ideal) (res7 m c l i j) (aV m c l i j)

/-- A block of the parts of layer `q`, at a point of that layer. -/
theorem gb_of (q : Fin 4) (t : Fin cfg0.N) (h : t.val / 16 = q.val) (x : Vec Ideal S8x128x898 .bf16)
    (hx : ∀ b i j, x (ix3 b i j) = part m c q (ix3 b (rw_ t i) j)) (i : Fin 128) (j : Fin 898) : gb x i j = res7 m c (ly t) (rw_ t i) j := by
  have e : ly t = q := Fin.ext h
  rw [e]
  exact Finset.sum_congr rfl fun b _ => hx b i j

/-- An entry of such a block lies in the point's rows. -/
theorem part_idx (t : Fin cfg0.N) (f : Fin 3 → Nat) (h : f 0 = 0 ∧ f 1 = t.val % 16 ∧ f 2 = 0) (y : S8x2048x898.Idx) (b : Fin 8) (i : Fin 128) (j : Fin 898)
    (h0 : (y 0).val = f 0 * 8 + 1 * b.val) (h1 : (y 1).val = f 1 * 128 + 1 * i.val) (h2 : (y 2).val = f 2 * 898 + 1 * j.val) : y = ix3 b (rw_ t i) j := by
  obtain ⟨e0, e1, e2⟩ := h
  funext a; apply Fin.ext
  match a with
  | ⟨0, _⟩ => show (y 0).val = b.val; rw [h0, e0]; omega
  | ⟨1, _⟩ => show (y 1).val = t.val % 16 * 128 + i.val; rw [h1, e1]; omega
  | ⟨2, _⟩ => show (y 2).val = j.val; rw [h2, e2]; omega

theorem part0_idx : ∀ t : Fin cfg0.N, t.val / 16 = 0 → win0_0.index t (0 : Fin 3) = 0 ∧ win0_0.index t (1 : Fin 3) = t.val % 16 ∧ win0_0.index t (2 : Fin 3) = 0 :=
  (by decide +kernel : ∀ t : Fin grid0.N, t.val / 16 = 0 → win0_0.index t (0 : Fin 3) = 0 ∧ win0_0.index t (1 : Fin 3) = t.val % 16 ∧ win0_0.index t (2 : Fin 3) = 0)

theorem gb_0 (t : Fin cfg0.N) (h : t.val / 16 = 0) : ∀ i j, gb (iblk m c 0 t) i j = res7 m c (ly t) (rw_ t i) j :=
  gb_of m c 0 t h _ fun b i j => congrArg (V m c main_v0) (part_idx t (fun a => win0_0.index t a) (part0_idx t h) ((win0_0.rect t).idx (ix3 b i j)) b i j rfl rfl rfl)

theorem part1_idx : ∀ t : Fin cfg0.N, t.val / 16 = 1 → win0_1.index t (0 : Fin 3) = 0 ∧ win0_1.index t (1 : Fin 3) = t.val % 16 ∧ win0_1.index t (2 : Fin 3) = 0 :=
  (by decide +kernel : ∀ t : Fin grid0.N, t.val / 16 = 1 → win0_1.index t (0 : Fin 3) = 0 ∧ win0_1.index t (1 : Fin 3) = t.val % 16 ∧ win0_1.index t (2 : Fin 3) = 0)

theorem gb_1 (t : Fin cfg0.N) (h : t.val / 16 = 1) : ∀ i j, gb (iblk m c 1 t) i j = res7 m c (ly t) (rw_ t i) j :=
  gb_of m c 1 t h _ fun b i j => congrArg (V m c main_v1) (part_idx t (fun a => win0_1.index t a) (part1_idx t h) ((win0_1.rect t).idx (ix3 b i j)) b i j rfl rfl rfl)

theorem part2_idx : ∀ t : Fin cfg0.N, t.val / 16 = 2 → win0_2.index t (0 : Fin 3) = 0 ∧ win0_2.index t (1 : Fin 3) = t.val % 16 ∧ win0_2.index t (2 : Fin 3) = 0 :=
  (by decide +kernel : ∀ t : Fin grid0.N, t.val / 16 = 2 → win0_2.index t (0 : Fin 3) = 0 ∧ win0_2.index t (1 : Fin 3) = t.val % 16 ∧ win0_2.index t (2 : Fin 3) = 0)

theorem gb_2 (t : Fin cfg0.N) (h : t.val / 16 = 2) : ∀ i j, gb (iblk m c 2 t) i j = res7 m c (ly t) (rw_ t i) j :=
  gb_of m c 2 t h _ fun b i j => congrArg (V m c main_v2) (part_idx t (fun a => win0_2.index t a) (part2_idx t h) ((win0_2.rect t).idx (ix3 b i j)) b i j rfl rfl rfl)

theorem part3_idx : ∀ t : Fin cfg0.N, t.val / 16 = 3 → win0_3.index t (0 : Fin 3) = 0 ∧ win0_3.index t (1 : Fin 3) = t.val % 16 ∧ win0_3.index t (2 : Fin 3) = 0 :=
  (by decide +kernel : ∀ t : Fin grid0.N, t.val / 16 = 3 → win0_3.index t (0 : Fin 3) = 0 ∧ win0_3.index t (1 : Fin 3) = t.val % 16 ∧ win0_3.index t (2 : Fin 3) = 0)

theorem gb_3 (t : Fin cfg0.N) (h : t.val / 16 = 3) : ∀ i j, gb (iblk m c 3 t) i j = res7 m c (ly t) (rw_ t i) j :=
  gb_of m c 3 t h _ fun b i j => congrArg (V m c main_v3) (part_idx t (fun a => win0_3.index t a) (part3_idx t h) ((win0_3.rect t).idx (ix3 b i j)) b i j rfl rfl rfl)

/-- What a point writes back, in whichever layer it lies. -/
theorem flushed_all (t : Fin cfg0.N) : ∃ x : Vec Ideal S8x128x898 .bf16, (∀ i j, gb x i j = res7 m c (ly t) (rw_ t i) j)
    ∧ (dats m 0 c).flushed 7 t = (cfg0.win 7).cut (grid0.coords t) (blkG x)
    ∧ (dats m 0 c).flushed 8 t = (cfg0.win 8).cut (grid0.coords t) (blkD x (iblk m c 4 t) (iblk m c 5 t) (iblk m c 6 t))
    ∧ (dats m 0 c).flushed 9 t = (cfg0.win 9).cut (grid0.coords t) (blkM x (iblk m c 5 t))
    ∧ (dats m 0 c).flushed 10 t = (cfg0.win 10).cut (grid0.coords t) (blkV x (iblk m c 6 t)) := by
  have hP := pts
  have hT := t.isLt
  have h4 : t.val / 16 = 0 ∨ t.val / 16 = 1 ∨ t.val / 16 = 2 ∨ t.val / 16 = 3 := by omega
  rcases h4 with h | h | h | h
  · exact ⟨iblk m c 0 t, gb_0 m c t h,
      (flushed7_A m c t (by omega) (by omega) (by omega) (by omega)).trans (congrArg _ (case_A ..).1),
      (flushed8_A m c t (by omega) (by omega) (by omega) (by omega)).trans (congrArg _ (case_A ..).2.1),
      (flushed9_A m c t (by omega) (by omega) (by omega) (by omega)).trans (congrArg _ (case_A ..).2.2.1),
      (flushed10_A m c t (by omega) (by omega) (by omega) (by omega)).trans (congrArg _ (case_A ..).2.2.2)⟩
  · exact ⟨iblk m c 1 t, gb_1 m c t h,
      (flushed7_B m c t (by omega) (by omega) (by omega) (by omega)).trans (congrArg _ (case_B ..).1),
      (flushed8_B m c t (by omega) (by omega) (by omega) (by omega)).trans (congrArg _ (case_B ..).2.1),
      (flushed9_B m c t (by omega) (by omega) (by omega) (by omega)).trans (congrArg _ (case_B ..).2.2.1),
      (flushed10_B m c t (by omega) (by omega) (by omega) (by omega)).trans (congrArg _ (case_B ..).2.2.2)⟩
  · exact ⟨iblk m c 2 t, gb_2 m c t h,
      (flushed7_C m c t (by omega) (by omega) (by omega) (by omega)).trans (congrArg _ (case_C ..).1),
      (flushed8_C m c t (by omega) (by omega) (by omega) (by omega)).trans (congrArg _ (case_C ..).2.1),
      (flushed9_C m c t (by omega) (by omega) (by omega) (by omega)).trans (congrArg _ (case_C ..).2.2.1),
      (flushed10_C m c t (by omega) (by omega) (by omega) (by omega)).trans (congrArg _ (case_C ..).2.2.2)⟩
  · exact ⟨iblk m c 3 t, gb_3 m c t h,
      (flushed7_D m c t (by omega) (by omega) (by omega) (by omega)).trans (congrArg _ (case_D ..).1),
      (flushed8_D m c t (by omega) (by omega) (by omega) (by omega)).trans (congrArg _ (case_D ..).2.1),
      (flushed9_D m c t (by omega) (by omega) (by omega) (by omega)).trans (congrArg _ (case_D ..).2.2.1),
      (flushed10_D m c t (by omega) (by omega) (by omega) (by omega)).trans (congrArg _ (case_D ..).2.2.2)⟩

theorem eta (y : S1x128x898.Idx) : y = (ix3 0 (y 1) (y 2) : S1x128x898.Idx) := by
  funext a
  match a with
  | ⟨0, _⟩ => exact Fin.ext (by have h : (y 0).val < 1 := (y 0).isLt; show (y 0).val = 0; omega)
  | ⟨1, _⟩ => rfl
  | ⟨2, _⟩ => rfl

/-- A block that is written back is a block of an array when its entries are the array's at their places. -/
theorem block_eq (g : Fin 4 → Fin 2048 → Fin 898 → EReal) (t : Fin cfg0.N) (f : Vec Ideal S1x128x898 .f32)
    (h : ∀ i j, f (ix3 0 i j) = g (ly t) (rw_ t i) j) (y : S1x128x898.Idx) :
    f y = (fun i : S4x2048x898.Idx => g (i 0) (i 1) (i 2)) ((win0_7.rect t).idx y) :=
  (congrArg f (eta y)).trans ((h _ _).trans (congrArg (fun i : S4x2048x898.Idx => g (i 0) (i 1) (i 2))
    ((congrArg (win0_7.rect t).idx (eta y)).trans (at3 t 0 (y 1) (y 2)))).symm)

theorem flushed7_eq (t : Fin cfg0.N) : (dats m 0 c).flushed 7 t = ((cfg0.win 7).blk t).view.read (Elt Ideal) (fun i => res7 m c (i 0) (i 1) (i 2)) := by
  obtain ⟨x, hx, h, -, -, -⟩ := flushed_all m c t
  rw [h]
  exact funext fun y => block_eq (res7 m c) t _ (fun i j => (blkG_at x i j).trans (hx i j)) y

theorem final7 : (dats m 0 c).arrAt 7 cfg0.N = fun i => res7 m c (i 0) (i 1) (i 2) :=
  (dats m 0 c).arrAt_eq_of_cover 7 (fun i => res7 m c (i 0) (i 1) (i 2)) (fun t _ => flushed7_eq m c t) fun i =>
    (cover i).imp fun t h => ⟨flush0_7 t, by
      show i ∈ ((View.whole main_v4_0).slice (win0_7.rect t)).set
      rw [View.set_slice_whole]
      exact h⟩

theorem flushed8_eq (t : Fin cfg0.N) : (dats m 0 c).flushed 8 t = ((cfg0.win 8).blk t).view.read (Elt Ideal) (fun i => res8 m c (i 0) (i 1) (i 2)) := by
  obtain ⟨x, hx, -, h, -, -⟩ := flushed_all m c t
  rw [h]
  exact funext fun y => block_eq (res8 m c) t _ (fun i j => (blkD_at x _ _ _ i j).trans (delta_congr (hx i j) (congrArg (V m c main_arg4) (at3 t 0 i j)) (congrArg (V m c main_arg5) (at3 t 0 i j)) (congrArg (V m c main_arg6) (at3 t 0 i j)))) y

theorem final8 : (dats m 0 c).arrAt 8 cfg0.N = fun i => res8 m c (i 0) (i 1) (i 2) :=
  (dats m 0 c).arrAt_eq_of_cover 8 (fun i => res8 m c (i 0) (i 1) (i 2)) (fun t _ => flushed8_eq m c t) fun i =>
    (cover i).imp fun t h => ⟨flush0_8 t, by
      show i ∈ ((View.whole main_v4_1).slice (win0_8.rect t)).set
      rw [View.set_slice_whole]
      exact h⟩

theorem flushed9_eq (t : Fin cfg0.N) : (dats m 0 c).flushed 9 t = ((cfg0.win 9).blk t).view.read (Elt Ideal) (fun i => res9 m c (i 0) (i 1) (i 2)) := by
  obtain ⟨x, hx, -, -, h, -⟩ := flushed_all m c t
  rw [h]
  exact funext fun y => block_eq (res9 m c) t _ (fun i j => (blkM_at x _ i j).trans (congrArg₂ (newM (F := Ideal)) (hx i j) (congrArg (V m c main_arg5) (at3 t 0 i j)))) y

theorem final9 : (dats m 0 c).arrAt 9 cfg0.N = fun i => res9 m c (i 0) (i 1) (i 2) :=
  (dats m 0 c).arrAt_eq_of_cover 9 (fun i => res9 m c (i 0) (i 1) (i 2)) (fun t _ => flushed9_eq m c t) fun i =>
    (cover i).imp fun t h => ⟨flush0_9 t, by
      show i ∈ ((View.whole main_v4_2).slice (win0_9.rect t)).set
      rw [View.set_slice_whole]
      exact h⟩

theorem flushed10_eq (t : Fin cfg0.N) : (dats m 0 c).flushed 10 t = ((cfg0.win 10).blk t).view.read (Elt Ideal) (fun i => res10 m c (i 0) (i 1) (i 2)) := by
  obtain ⟨x, hx, -, -, -, h⟩ := flushed_all m c t
  rw [h]
  exact funext fun y => block_eq (res10 m c) t _ (fun i j => (blkV_at x _ i j).trans (congrArg₂ (newV (F := Ideal)) (hx i j) (congrArg (V m c main_arg6) (at3 t 0 i j)))) y

theorem final10 : (dats m 0 c).arrAt 10 cfg0.N = fun i => res10 m c (i 0) (i 1) (i 2) :=
  (dats m 0 c).arrAt_eq_of_cover 10 (fun i => res10 m c (i 0) (i 1) (i 2)) (fun t _ => flushed10_eq m c t) fun i =>
    (cover i).imp fun t h => ⟨flush0_10 t, by
      show i ∈ ((View.whole main_v4_3).slice (win0_10.rect t)).set
      rw [View.set_slice_whole]
      exact h⟩

end Cert.Kernel8Ideal.Tie

end
-- ==== Proof.AwTie.lean ====
/-
  The call's four results are the reference's: the same sum of the devices' parts, layer by layer, and the update entry by entry.
-/
module

public import proofs.«01_k».proof.Proof.AwVal
public import proofs.«01_k».proof.Proof.Gen.Reference8Ideal.Read
public import proofs.«01_k».proof.Proof.Gen.Reference8Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel8Ideal.Tie

open Cert.Kernel8Ideal Cert.Kernel8Ideal.Gen Cert.Kernel8Ideal.Value Cert.Reference8Ideal.Read Cert.AdamMath
open Idealize.ShloMosaic Idealize.ShloMosaic.TcCoe Idealize.ShloMosaic.StableHlo

section
variable (x0 x1 x2 x3 : (⟨S8x2048x898, .f32⟩ : BufTy).Contents (Elt Ideal)) (x4 x5 x6 : (⟨S4x2048x898, .f32⟩ : BufTy).Contents (Elt Ideal)) (y : S4x2048x898.Idx)

theorem ref_sum0 (z : Reference8Ideal.S1x2048x898.Idx) : val_main_v4 (F := Ideal) x0 z = ∑ b : Fin 8, x0 (ix3 b (z 1) (z 2)) := by
  rw [val_main_v4_apply, val_main_v0_apply, val_main_cst_apply]
  refine (congrArg (fun a : EReal => a + _) Ideal.ofBits_zero_f32).trans ((zero_add _).trans (Finset.sum_congr rfl fun b _ => congrArg x0 (funext fun a => ?_)))
  match a with | ⟨0, _⟩ => rfl | ⟨1, _⟩ => rfl | ⟨2, _⟩ => rfl

theorem ref_sum1 (z : Reference8Ideal.S1x2048x898.Idx) : val_main_v5 (F := Ideal) x1 z = ∑ b : Fin 8, x1 (ix3 b (z 1) (z 2)) := by
  rw [val_main_v5_apply, val_main_v1_apply, val_main_cst_0_apply]
  refine (congrArg (fun a : EReal => a + _) Ideal.ofBits_zero_f32).trans ((zero_add _).trans (Finset.sum_congr rfl fun b _ => congrArg x1 (funext fun a => ?_)))
  match a with | ⟨0, _⟩ => rfl | ⟨1, _⟩ => rfl | ⟨2, _⟩ => rfl

theorem ref_sum2 (z : Reference8Ideal.S1x2048x898.Idx) : val_main_v6 (F := Ideal) x2 z = ∑ b : Fin 8, x2 (ix3 b (z 1) (z 2)) := by
  rw [val_main_v6_apply, val_main_v2_apply, val_main_cst_1_apply]
  refine (congrArg (fun a : EReal => a + _) Ideal.ofBits_zero_f32).trans ((zero_add _).trans (Finset.sum_congr rfl fun b _ => congrArg x2 (funext fun a => ?_)))
  match a with | ⟨0, _⟩ => rfl | ⟨1, _⟩ => rfl | ⟨2, _⟩ => rfl

theorem ref_sum3 (z : Reference8Ideal.S1x2048x898.Idx) : val_main_v7 (F := Ideal) x3 z = ∑ b : Fin 8, x3 (ix3 b (z 1) (z 2)) := by
  rw [val_main_v7_apply, val_main_v3_apply, val_main_cst_2_apply]
  refine (congrArg (fun a : EReal => a + _) Ideal.ofBits_zero_f32).trans ((zero_add _).trans (Finset.sum_congr rfl fun b _ => congrArg x3 (funext fun a => ?_)))
  match a with | ⟨0, _⟩ => rfl | ⟨1, _⟩ => rfl | ⟨2, _⟩ => rfl

/-- Four arrays of one layer put on top of each other, read at an index. -/
theorem cat_of (a b c d : Vec Ideal Reference8Ideal.S1x2048x898 .f32) (l : Fin 4) (i : Fin 2048) (j : Fin 898) :
    @Eq EReal (concatenate (α := Elt Ideal .f32) S4x2048x898 0 [⟨Reference8Ideal.S1x2048x898, a⟩, ⟨Reference8Ideal.S1x2048x898, b⟩, ⟨Reference8Ideal.S1x2048x898, c⟩, ⟨Reference8Ideal.S1x2048x898, d⟩] Cert.Reference8Ideal.Gen.concatenates_S1x2048x898_S1x2048x898_S1x2048x898_S1x2048x898_S4x2048x898_d0 (ix3 l i j))
      (if h : l.val < 1 then a (ix3 ⟨l.val, h⟩ i j) else if h2 : l.val - 1 < 1 then b (ix3 ⟨l.val - 1, h2⟩ i j)
        else if h3 : l.val - 1 - 1 < 1 then c (ix3 ⟨l.val - 1 - 1, h3⟩ i j) else d (ix3 ⟨l.val - 1 - 1 - 1, by omega⟩ i j)) := by
  pointwise

/-- Layer `q` of the four sums put on top of each other. -/
theorem ref_g : val_main_v8 (F := Ideal) x0 x1 x2 x3 y = ∑ b : Fin 8, (![x0, x1, x2, x3] (y 0)) (ix3 b (y 1) (y 2)) := by
  obtain ⟨l, i, j, rfl⟩ : ∃ (l : Fin 4) (i : Fin 2048) (j : Fin 898), y = ix3 l i j := ⟨y 0, y 1, y 2, by
    funext a; match a with | ⟨0, _⟩ => rfl | ⟨1, _⟩ => rfl | ⟨2, _⟩ => rfl⟩
  unfold val_main_v8
  refine (cat_of _ _ _ _ l i j).trans ?_
  match l with
  | 0 => exact ref_sum0 x0 (ix3 0 i j)
  | 1 => exact ref_sum1 x1 (ix3 0 i j)
  | 2 => exact ref_sum2 x2 (ix3 0 i j)
  | 3 => exact ref_sum3 x3 (ix3 0 i j)

theorem ref_m : val_main_v13 (F := Ideal) x0 x1 x2 x3 x5 y = newM (F := Ideal) (val_main_v8 (F := Ideal) x0 x1 x2 x3 y) (x5 y) := by
  rw [val_main_v13_apply, val_main_v10_apply, val_main_v12_apply, val_main_v9_apply, val_main_v11_apply, val_main_cst_3_apply, val_main_cst_4_apply]
  rfl

theorem ref_v : val_main_v19 (F := Ideal) x0 x1 x2 x3 x6 y = newV (F := Ideal) (val_main_v8 (F := Ideal) x0 x1 x2 x3 y) (x6 y) := by
  rw [val_main_v19_apply, val_main_v15_apply, val_main_v18_apply, val_main_v14_apply, val_main_v17_apply, val_main_cst_5_apply, val_main_cst_6_apply,
    val_main_v16_apply]
  rfl

theorem ref_d : val_main_v32 (F := Ideal) x0 x1 x2 x3 x4 x5 x6 y = delta (F := Ideal) (val_main_v8 (F := Ideal) x0 x1 x2 x3 y) (x4 y) (x5 y) (x6 y) := by
  rw [val_main_v32_apply, val_main_v31_apply, val_main_cst_11_apply, val_main_v30_apply, val_main_v29_apply, val_main_v28_apply, val_main_cst_10_apply,
    val_main_v27_apply, val_main_v26_apply, val_main_v25_apply, val_main_cst_9_apply, val_main_v24_apply, val_main_v23_apply, val_main_v22_apply,
    val_main_cst_8_apply, val_main_v21_apply, val_main_v20_apply, val_main_cst_7_apply, ref_m, ref_v]
  rfl

end

variable (m : (ℓ : Loc nD τ sig) → Buf (Elt Ideal) ℓ) (c : Dev nD)

theorem idx_eta (y : S4x2048x898.Idx) : y = (ix3 (y 0) (y 1) (y 2) : S4x2048x898.Idx) := by
  funext a; match a with | ⟨0, _⟩ => rfl | ⟨1, _⟩ => rfl | ⟨2, _⟩ => rfl

theorem part_0 (z : S8x2048x898.Idx) : V m c main_v0 z = (m ((c : Thread nD τ).loc main_arg0)) z := by
  unfold_abbrev_sides
  after_results
  pointwise

theorem part_1 (z : S8x2048x898.Idx) : V m c main_v1 z = (m ((c : Thread nD τ).loc main_arg1)) z := by
  unfold_abbrev_sides
  after_results
  pointwise

theorem part_2 (z : S8x2048x898.Idx) : V m c main_v2 z = (m ((c : Thread nD τ).loc main_arg2)) z := by
  unfold_abbrev_sides
  after_results
  pointwise

theorem part_3 (z : S8x2048x898.Idx) : V m c main_v3 z = (m ((c : Thread nD τ).loc main_arg3)) z := by
  unfold_abbrev_sides
  after_results
  pointwise

theorem part_at (l : Fin 4) (z : S8x2048x898.Idx) : part m c l z = (![(m ((c : Thread nD τ).loc main_arg0)), (m ((c : Thread nD τ).loc main_arg1)), (m ((c : Thread nD τ).loc main_arg2)), (m ((c : Thread nD τ).loc main_arg3))] l) z := by
  match l with
  | 0 => exact part_0 m c z
  | 1 => exact part_1 m c z
  | 2 => exact part_2 m c z
  | 3 => exact part_3 m c z

theorem g_eq (y : S4x2048x898.Idx) : res7 m c (y 0) (y 1) (y 2) = val_main_v8 (F := Ideal) (m ((c : Thread nD τ).loc main_arg0)) (m ((c : Thread nD τ).loc main_arg1)) (m ((c : Thread nD τ).loc main_arg2)) (m ((c : Thread nD τ).loc main_arg3)) y := by
  refine Eq.trans ?_ (ref_g _ _ _ _ y).symm
  unfold res7
  refine Finset.sum_congr rfl fun b _ => part_at m c (y 0) _

theorem value7 : (dats m 0 c).arrAt 7 cfg0.N = val_main_v8 (F := Ideal) (m ((c : Thread nD τ).loc main_arg0)) (m ((c : Thread nD τ).loc main_arg1)) (m ((c : Thread nD τ).loc main_arg2)) (m ((c : Thread nD τ).loc main_arg3)) := by
  rw [final7]
  funext y
  exact g_eq m c y

theorem value8 : (dats m 0 c).arrAt 8 cfg0.N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [final8]
  funext y
  exact (delta_congr (g_eq m c y) ((congrFun (V_main_arg4 m c) _).trans (congrArg (m ((c : Thread nD τ).loc main_arg4)) (idx_eta y).symm)) ((congrFun (V_main_arg5 m c) _).trans (congrArg (m ((c : Thread nD τ).loc main_arg5)) (idx_eta y).symm)) ((congrFun (V_main_arg6 m c) _).trans (congrArg (m ((c : Thread nD τ).loc main_arg6)) (idx_eta y).symm))).trans (ref_d _ _ _ _ _ _ _ y).symm

theorem value9 : (dats m 0 c).arrAt 9 cfg0.N = val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  rw [final9]
  funext y
  exact (congrArg₂ (newM (F := Ideal)) (g_eq m c y) ((congrFun (V_main_arg5 m c) _).trans (congrArg (m ((c : Thread nD τ).loc main_arg5)) (idx_eta y).symm))).trans (ref_m _ _ _ _ _ y).symm

theorem value10 : (dats m 0 c).arrAt 10 cfg0.N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  rw [final10]
  funext y
  exact (congrArg₂ (newV (F := Ideal)) (g_eq m c y) ((congrFun (V_main_arg6 m c) _).trans (congrArg (m ((c : Thread nD τ).loc main_arg6)) (idx_eta y).symm))).trans (ref_v _ _ _ _ _ y).symm

end Cert.Kernel8Ideal.Tie

end
-- ==== Proof.AoVec.lean ====
/-
  What the optimiser's call on the weights of the output projection leaves in a block: the devices' parts of the gradient added up, the step and the two new moments.
-/
module

public import proofs.«01_k».proof.Proof.Gen.Kernel9Ideal.Value
public import proofs.«01_k».proof.Proof.AdamMath
public import Idealize.ShloMosaic.Lib.Pipeline.ValueKit.Acc
public import Idealize.ShloMosaic.Lib.Pointwise.Tactic

@[expose] public section

set_option maxRecDepth 16384

noncomputable section

namespace Cert.Kernel9Ideal.Tie

open Cert.Kernel9Ideal Cert.Kernel9Ideal.Gen Cert.Kernel9Ideal.Value Cert.AdamMath
open Idealize.ShloMosaic Idealize.ShloMosaic.TcCoe

theorem hz3 : (![0, 0, 0] : Fin 3 → Nat) = fun _ => 0 := funext fun a => by fin_cases a <;> rfl

section
variable (x : Vec Ideal S8x64x2048 .bf16) (w a v : Vec Ideal S1x64x2048 .f32)

/-- The sum of the devices' parts in a block. -/
def sum8 : FVec Ideal S64x2048 .f32 :=
  k0_pay9 (View.ld x (Rect.unit (s := S8x64x2048) ![0, 0, 0] S1x64x2048.size inb_S8x64x2048_S1x64x2048_0_0_0))
    (View.ld x (Rect.unit (s := S8x64x2048) ![1, 0, 0] S1x64x2048.size inb_S8x64x2048_S1x64x2048_1_0_0))
    (View.ld x (Rect.unit (s := S8x64x2048) ![2, 0, 0] S1x64x2048.size inb_S8x64x2048_S1x64x2048_2_0_0))
    (View.ld x (Rect.unit (s := S8x64x2048) ![3, 0, 0] S1x64x2048.size inb_S8x64x2048_S1x64x2048_3_0_0))
    (View.ld x (Rect.unit (s := S8x64x2048) ![4, 0, 0] S1x64x2048.size inb_S8x64x2048_S1x64x2048_4_0_0))
    (View.ld x (Rect.unit (s := S8x64x2048) ![5, 0, 0] S1x64x2048.size inb_S8x64x2048_S1x64x2048_5_0_0))
    (View.ld x (Rect.unit (s := S8x64x2048) ![6, 0, 0] S1x64x2048.size inb_S8x64x2048_S1x64x2048_6_0_0))
    (View.ld x (Rect.unit (s := S8x64x2048) ![7, 0, 0] S1x64x2048.size inb_S8x64x2048_S1x64x2048_7_0_0))

/-- What the body leaves in the four results' blocks. -/
def blkG : Vec Ideal S1x64x2048 .f32 := k0_pay13 (sum8 x)
def blkD : Vec Ideal S1x64x2048 .f32 := k0_pay14 (sum8 x) (k0_pay10 w) a v
def blkM : Vec Ideal S1x64x2048 .f32 := k0_pay1 (k0_pay11 (sum8 x) a)
def blkV : Vec Ideal S1x64x2048 .f32 := k0_pay2 (k0_pay12 (sum8 x) v)

variable (i : Fin 64) (j : Fin 2048)

theorem drop_at {e : EltTy} (x : Vec Ideal S1x64x2048 e) : shapeCast S64x2048 x shapeCasts_S1x64x2048_S64x2048 (ix2 i j) = x (ix3 0 i j) :=
  shapeCast_apply _ _ _ (ix3 0 i j) (by
    rw [Shape.rowMajor_val_three, Shape.rowMajor_val_two]
    show (0 * 64 + i.val) * 2048 + j.val = i.val * 2048 + j.val
    omega)

theorem lift_at (x : FVec Ideal S64x2048 .f32) : shapeCast S1x64x2048 x shapeCasts_S64x2048_S1x64x2048 (ix3 0 i j) = x (ix2 i j) :=
  shapeCast_apply _ _ _ (ix2 i j) (by
    rw [Shape.rowMajor_val_three, Shape.rowMajor_val_two]
    show i.val * 2048 + j.val = (0 * 64 + i.val) * 2048 + j.val
    omega)

theorem ld_at (b : Fin 8) (h : ∀ a, (![b.val, 0, 0] : Fin 3 → Nat) a + S1x64x2048.size a ≤ S8x64x2048.size a) :
    shapeCast S64x2048 (View.ld x (Rect.unit (s := S8x64x2048) ![b.val, 0, 0] S1x64x2048.size h)) shapeCasts_S1x64x2048_S64x2048 (ix2 i j) = x (ix3 b i j) :=
  (drop_at i j _).trans (congrArg x (funext fun a => Fin.ext (by
    match a with
    | ⟨0, _⟩ => show b.val + 1 * 0 = b.val; omega
    | ⟨1, _⟩ => show 0 + 1 * i.val = i.val; omega
    | ⟨2, _⟩ => show 0 + 1 * j.val = j.val; omega)))

/-- An entry of the gradient, from the block of the devices' parts. -/
def gb : EReal := ∑ b : Fin 8, x (ix3 b i j)

theorem sum8_at : sum8 x (ix2 i j) = gb x i j := by
  unfold gb
  rw [Fin.sum_univ_eight]
  refine @Eq.trans EReal _ _ _ (by unfold sum8 k0_pay9; rfl) ?_
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
      (ld_at x i j 0 inb_S8x64x2048_S1x64x2048_0_0_0) (ld_at x i j 1 inb_S8x64x2048_S1x64x2048_1_0_0)) (ld_at x i j 2 inb_S8x64x2048_S1x64x2048_2_0_0)) (ld_at x i j 3 inb_S8x64x2048_S1x64x2048_3_0_0)) (ld_at x i j 4 inb_S8x64x2048_S1x64x2048_4_0_0))
      (ld_at x i j 5 inb_S8x64x2048_S1x64x2048_5_0_0)) (ld_at x i j 6 inb_S8x64x2048_S1x64x2048_6_0_0)) (ld_at x i j 7 inb_S8x64x2048_S1x64x2048_7_0_0)

theorem blkG_at : blkG x (ix3 0 i j) = gb x i j := (lift_at i j _).trans (sum8_at x i j)

theorem pay10_at : k0_pay10 (F := Ideal) w (ix2 i j) = w (ix3 0 i j) := drop_at i j w

theorem pay11_at : k0_pay11 (F := Ideal) (sum8 x) a (ix2 i j) = newM (F := Ideal) (gb x i j) (a (ix3 0 i j)) := by
  rw [← sum8_at, ← drop_at i j a]
  rfl

theorem pay12_at : k0_pay12 (F := Ideal) (sum8 x) v (ix2 i j) = newV (F := Ideal) (gb x i j) (v (ix3 0 i j)) := by
  rw [← sum8_at, ← drop_at i j v]
  rfl

theorem blkM_at : blkM x a (ix3 0 i j) = newM (F := Ideal) (gb x i j) (a (ix3 0 i j)) := (lift_at i j _).trans (pay11_at x a i j)

theorem blkV_at : blkV x v (ix3 0 i j) = newV (F := Ideal) (gb x i j) (v (ix3 0 i j)) := (lift_at i j _).trans (pay12_at x v i j)

theorem blkD_at : blkD x w a v (ix3 0 i j) = delta (F := Ideal) (gb x i j) (w (ix3 0 i j)) (a (ix3 0 i j)) (v (ix3 0 i j)) := by
  unfold blkD k0_pay14 delta
  rw [← pay11_at, ← pay12_at, ← pay10_at w i j]
  exact lift_at i j _

end

/-! ## The four cases of the body, one for each layer, leave the same functions of the layer's parts -/

section
variable (c : Dev nD) (i : grid0.Coords) (arg2 : Memref sig .tc .vmem S8x64x2048 .bf16) (harg2 : arg2.IsWhole) (arg3 : Memref sig .tc .vmem S8x64x2048 .bf16) (harg3 : arg3.IsWhole) (arg4 : Memref sig .tc .vmem S8x64x2048 .bf16) (harg4 : arg4.IsWhole) (arg5 : Memref sig .tc .vmem S8x64x2048 .bf16) (harg5 : arg5.IsWhole) (arg6 : Memref sig .tc .vmem S1x64x2048 .f32) (harg6 : arg6.IsWhole) (arg7 : Memref sig .tc .vmem S1x64x2048 .f32) (harg7 : arg7.IsWhole) (arg8 : Memref sig .tc .vmem S1x64x2048 .f32) (harg8 : arg8.IsWhole) (arg9 : Memref sig .tc .vmem S1x64x2048 .f32) (harg9 : arg9.IsWhole) (arg10 : Memref sig .tc .vmem S1x64x2048 .f32) (harg10 : arg10.IsWhole) (arg11 : Memref sig .tc .vmem S1x64x2048 .f32) (harg11 : arg11.IsWhole) (arg12 : Memref sig .tc .vmem S1x64x2048 .f32) (harg12 : arg12.IsWhole)  (x0 x1 x2 x3 : Vec Ideal S8x64x2048 .bf16) (x4 x5 x6 : Vec Ideal S1x64x2048 .f32)

theorem case_A (hc0 : cond0_0 i) (hc1 : ¬cond0_1 i) (hc2 : ¬cond0_2 i) (hc3 : ¬cond0_3 i) :
    out0_A_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkG x0
    ∧ out0_A_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkD x0 x4 x5 x6
    ∧ out0_A_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkM x0 x5
    ∧ out0_A_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkV x0 x6 := by
  unfold out0_A_7 out0_A_8 out0_A_9 out0_A_10
  refine ⟨(View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_A_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_⟩
  all_goals
    unfold kernelRun0_A
    dsimp only
    refine (View.canon_cons_unit_zero (S := S1x64x2048) hz3 _ _ _).trans ?_
    try delta kernelRun0_A.sl.r_3
    try delta kernelRun0_A.sl.r_2
    try delta kernelRun0_A.sl.r_1
    try delta kernelRun0_A.sl.r
    simp only [View.readAt_eq_ld, harg2.read_unread, harg3.read_unread, harg4.read_unread, harg5.read_unread, harg6.read_unread, harg7.read_unread, harg8.read_unread,
      View.ld_unit_zero (S := S1x64x2048) hz3]
    rfl

theorem case_B (hc0 : ¬cond0_0 i) (hc1 : cond0_1 i) (hc2 : ¬cond0_2 i) (hc3 : ¬cond0_3 i) :
    out0_B_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkG x1
    ∧ out0_B_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkD x1 x4 x5 x6
    ∧ out0_B_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkM x1 x5
    ∧ out0_B_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkV x1 x6 := by
  unfold out0_B_7 out0_B_8 out0_B_9 out0_B_10
  refine ⟨(View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_B_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_⟩
  all_goals
    unfold kernelRun0_B
    dsimp only
    refine (View.canon_cons_unit_zero (S := S1x64x2048) hz3 _ _ _).trans ?_
    try delta kernelRun0_B.sl.r_3
    try delta kernelRun0_B.sl.r_2
    try delta kernelRun0_B.sl.r_1
    try delta kernelRun0_B.sl.r
    simp only [View.readAt_eq_ld, harg2.read_unread, harg3.read_unread, harg4.read_unread, harg5.read_unread, harg6.read_unread, harg7.read_unread, harg8.read_unread,
      View.ld_unit_zero (S := S1x64x2048) hz3]
    rfl

theorem case_C (hc0 : ¬cond0_0 i) (hc1 : ¬cond0_1 i) (hc2 : cond0_2 i) (hc3 : ¬cond0_3 i) :
    out0_C_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkG x2
    ∧ out0_C_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkD x2 x4 x5 x6
    ∧ out0_C_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkM x2 x5
    ∧ out0_C_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkV x2 x6 := by
  unfold out0_C_7 out0_C_8 out0_C_9 out0_C_10
  refine ⟨(View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_C_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_⟩
  all_goals
    unfold kernelRun0_C
    dsimp only
    refine (View.canon_cons_unit_zero (S := S1x64x2048) hz3 _ _ _).trans ?_
    try delta kernelRun0_C.sl.r_3
    try delta kernelRun0_C.sl.r_2
    try delta kernelRun0_C.sl.r_1
    try delta kernelRun0_C.sl.r
    simp only [View.readAt_eq_ld, harg2.read_unread, harg3.read_unread, harg4.read_unread, harg5.read_unread, harg6.read_unread, harg7.read_unread, harg8.read_unread,
      View.ld_unit_zero (S := S1x64x2048) hz3]
    rfl

theorem case_D (hc0 : ¬cond0_0 i) (hc1 : ¬cond0_1 i) (hc2 : ¬cond0_2 i) (hc3 : cond0_3 i) :
    out0_D_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkG x3
    ∧ out0_D_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkD x3 x4 x5 x6
    ∧ out0_D_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkM x3 x5
    ∧ out0_D_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 = blkV x3 x6 := by
  unfold out0_D_7 out0_D_8 out0_D_9 out0_D_10
  refine ⟨(View.read_writes_eq_canon _ _ _ (cover0_D_7 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_D_8 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_D_9 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_, (View.read_writes_eq_canon _ _ _ (cover0_D_10 c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6)).trans ?_⟩
  all_goals
    unfold kernelRun0_D
    dsimp only
    refine (View.canon_cons_unit_zero (S := S1x64x2048) hz3 _ _ _).trans ?_
    try delta kernelRun0_D.sl.r_3
    try delta kernelRun0_D.sl.r_2
    try delta kernelRun0_D.sl.r_1
    try delta kernelRun0_D.sl.r
    simp only [View.readAt_eq_ld, harg2.read_unread, harg3.read_unread, harg4.read_unread, harg5.read_unread, harg6.read_unread, harg7.read_unread, harg8.read_unread,
      View.ld_unit_zero (S := S1x64x2048) hz3]
    rfl

end

end Cert.Kernel9Ideal.Tie

end
-- ==== Proof.AoVal.lean ====
/-
  The optimiser's call on the weights of the output projection, from its blocks to the whole arrays.
-/
module

public import proofs.«01_k».proof.Proof.AoVec

@[expose] public section

set_option maxRecDepth 16384

noncomputable section

namespace Cert.Kernel9Ideal.Tie

open Cert.Kernel9Ideal Cert.Kernel9Ideal.Gen Cert.Kernel9Ideal.Value Cert.AdamMath
open Idealize.ShloMosaic Idealize.ShloMosaic.TcCoe

variable (m : (ℓ : Loc nD τ sig) → Buf (Elt Ideal) ℓ) (c : Dev nD)

theorem pts : cfg0.N = 16 := N_0

theorem at3_idx : ∀ t : Fin cfg0.N, win0_7.index t (0 : Fin 3) = t.val / 4 ∧ win0_7.index t (1 : Fin 3) = (t.val % 4) ∧ win0_7.index t (2 : Fin 3) = 0 :=
  (by decide +kernel : ∀ t : Fin grid0.N, win0_7.index t (0 : Fin 3) = t.val / 4 ∧ win0_7.index t (1 : Fin 3) = (t.val % 4) ∧ win0_7.index t (2 : Fin 3) = 0)

/-- Where an entry of a block lies in its array. -/
theorem at3 (t : Fin cfg0.N) (i : Fin 1) (j : Fin 64) (k : Fin 2048) : (win0_7.rect t).idx (ix3 i j k) = ((ix3 ⟨t.val / 4, by have := pts; have := t.isLt; have := i.isLt; omega⟩ ⟨(t.val % 4) * 64 + j.val, by have := pts; have := t.isLt; have := j.isLt; omega⟩ k) : S4x256x2048.Idx) := by
  obtain ⟨e0, e1, e2⟩ := at3_idx t
  funext a; apply Fin.ext
  match a with
  | ⟨0, _⟩ => show win0_7.index t (0 : Fin 3) * 1 + 1 * i.val = t.val / 4; rw [e0]; omega
  | ⟨1, _⟩ => show win0_7.index t (1 : Fin 3) * 64 + 1 * j.val = (t.val % 4) * 64 + j.val; rw [e1]; omega
  | ⟨2, _⟩ => show win0_7.index t (2 : Fin 3) * 2048 + 1 * k.val = k.val; rw [e2]; omega

/-- Every entry of the array lies in the block of some point. -/
theorem cover (i : S4x256x2048.Idx) : ∃ t : Fin cfg0.N, i ∈ (win0_7.rect t).set := by
  have h0 : (i 0).val < 4 := (i 0).isLt
  have h1 : (i 1).val < 256 := (i 1).isLt
  have h2 : (i 2).val < 2048 := (i 2).isLt
  have hP := pts
  refine ⟨⟨(i 0).val * 4 + (i 1).val / 64, by omega⟩, ?_⟩
  rw [Rect.mem_set_unit]
  obtain ⟨e0, e1, e2⟩ := at3_idx ⟨(i 0).val * 4 + (i 1).val / 64, by omega⟩
  intro a
  match a with
  | ⟨0, _⟩ => show win0_7.index _ (0 : Fin 3) * 1 ≤ (i 0).val ∧ (i 0).val < win0_7.index _ (0 : Fin 3) * 1 + 1; rw [e0]; show ((i 0).val * 4 + (i 1).val / 64) / 4 * 1 ≤ _ ∧ _ < ((i 0).val * 4 + (i 1).val / 64) / 4 * 1 + 1; omega
  | ⟨1, _⟩ => show win0_7.index _ (1 : Fin 3) * 64 ≤ (i 1).val ∧ (i 1).val < win0_7.index _ (1 : Fin 3) * 64 + 64; rw [e1]; show (((i 0).val * 4 + (i 1).val / 64) % 4) * 64 ≤ _ ∧ _ < (((i 0).val * 4 + (i 1).val / 64) % 4) * 64 + 64; omega
  | ⟨2, _⟩ => show win0_7.index _ (2 : Fin 3) * 2048 ≤ (i 2).val ∧ (i 2).val < win0_7.index _ (2 : Fin 3) * 2048 + 2048; rw [e2]; show 0 * 2048 ≤ _ ∧ _ < 0 * 2048 + 2048; omega

/-- The layer of a point, and the row of a block's row. -/
abbrev ly (t : Fin cfg0.N) : Fin 4 := ⟨t.val / 4, by have := pts; have := t.isLt; omega⟩
abbrev rw_ (t : Fin cfg0.N) (i : Fin 64) : Fin 256 := ⟨t.val % 4 * 64 + i.val, by have := i.isLt; omega⟩

/-- The devices' parts of a layer's gradient, and the weights and the moments. -/
abbrev part (l : Fin 4) : S8x256x2048.Idx → EReal := ![V m c main_v0, V m c main_v1, V m c main_v2, V m c main_v3] l
abbrev aW (l : Fin 4) (i : Fin 256) (j : Fin 2048) : EReal := V m c main_arg4 (ix3 l i j)
abbrev aM (l : Fin 4) (i : Fin 256) (j : Fin 2048) : EReal := V m c main_arg5 (ix3 l i j)
abbrev aV (l : Fin 4) (i : Fin 256) (j : Fin 2048) : EReal := V m c main_arg6 (ix3 l i j)

/-- The entries that the call leaves. -/
def res7 (l : Fin 4) (i : Fin 256) (j : Fin 2048) : EReal := ∑ b : Fin 8, part m c l (ix3 b i j)
def res8 (l : Fin 4) (i : Fin 256) (j : Fin 2048) : EReal := delta (F := Ideal) (res7 m c l i j) (aW m c l i j) (aM m c l i j) (aV m c l i j)
def res9 (l : Fin 4) (i : Fin 256) (j : Fin 2048) : EReal := newM (F := Ideal) (res7 m c l i j) (aM m c l i j)
def res10 (l : Fin 4) (i : Fin 256) (j : Fin 2048) : EReal := newV (F := Ideal) (res7 m c l i j) (aV m c l i j)

/-- A block of the parts of layer `q`, at a point of that layer. -/
theorem gb_of (q : Fin 4) (t : Fin cfg0.N) (h : t.val / 4 = q.val) (x : Vec Ideal S8x64x2048 .bf16)
    (hx : ∀ b i j, x (ix3 b i j) = part m c q (ix3 b (rw_ t i) j)) (i : Fin 64) (j : Fin 2048) : gb x i j = res7 m c (ly t) (rw_ t i) j := by
  have e : ly t = q := Fin.ext h
  rw [e]
  exact Finset.sum_congr rfl fun b _ => hx b i j

/-- An entry of such a block lies in the point's rows. -/
theorem part_idx (t : Fin cfg0.N) (f : Fin 3 → Nat) (h : f 0 = 0 ∧ f 1 = t.val % 4 ∧ f 2 = 0) (y : S8x256x2048.Idx) (b : Fin 8) (i : Fin 64) (j : Fin 2048)
    (h0 : (y 0).val = f 0 * 8 + 1 * b.val) (h1 : (y 1).val = f 1 * 64 + 1 * i.val) (h2 : (y 2).val = f 2 * 2048 + 1 * j.val) : y = ix3 b (rw_ t i) j := by
  obtain ⟨e0, e1, e2⟩ := h
  funext a; apply Fin.ext
  match a with
  | ⟨0, _⟩ => show (y 0).val = b.val; rw [h0, e0]; omega
  | ⟨1, _⟩ => show (y 1).val = t.val % 4 * 64 + i.val; rw [h1, e1]; omega
  | ⟨2, _⟩ => show (y 2).val = j.val; rw [h2, e2]; omega

theorem part0_idx : ∀ t : Fin cfg0.N, t.val / 4 = 0 → win0_0.index t (0 : Fin 3) = 0 ∧ win0_0.index t (1 : Fin 3) = t.val % 4 ∧ win0_0.index t (2 : Fin 3) = 0 :=
  (by decide +kernel : ∀ t : Fin grid0.N, t.val / 4 = 0 → win0_0.index t (0 : Fin 3) = 0 ∧ win0_0.index t (1 : Fin 3) = t.val % 4 ∧ win0_0.index t (2 : Fin 3) = 0)

theorem gb_0 (t : Fin cfg0.N) (h : t.val / 4 = 0) : ∀ i j, gb (iblk m c 0 t) i j = res7 m c (ly t) (rw_ t i) j :=
  gb_of m c 0 t h _ fun b i j => congrArg (V m c main_v0) (part_idx t (fun a => win0_0.index t a) (part0_idx t h) ((win0_0.rect t).idx (ix3 b i j)) b i j rfl rfl rfl)

theorem part1_idx : ∀ t : Fin cfg0.N, t.val / 4 = 1 → win0_1.index t (0 : Fin 3) = 0 ∧ win0_1.index t (1 : Fin 3) = t.val % 4 ∧ win0_1.index t (2 : Fin 3) = 0 :=
  (by decide +kernel : ∀ t : Fin grid0.N, t.val / 4 = 1 → win0_1.index t (0 : Fin 3) = 0 ∧ win0_1.index t (1 : Fin 3) = t.val % 4 ∧ win0_1.index t (2 : Fin 3) = 0)

theorem gb_1 (t : Fin cfg0.N) (h : t.val / 4 = 1) : ∀ i j, gb (iblk m c 1 t) i j = res7 m c (ly t) (rw_ t i) j :=
  gb_of m c 1 t h _ fun b i j => congrArg (V m c main_v1) (part_idx t (fun a => win0_1.index t a) (part1_idx t h) ((win0_1.rect t).idx (ix3 b i j)) b i j rfl rfl rfl)

theorem part2_idx : ∀ t : Fin cfg0.N, t.val / 4 = 2 → win0_2.index t (0 : Fin 3) = 0 ∧ win0_2.index t (1 : Fin 3) = t.val % 4 ∧ win0_2.index t (2 : Fin 3) = 0 :=
  (by decide +kernel : ∀ t : Fin grid0.N, t.val / 4 = 2 → win0_2.index t (0 : Fin 3) = 0 ∧ win0_2.index t (1 : Fin 3) = t.val % 4 ∧ win0_2.index t (2 : Fin 3) = 0)

theorem gb_2 (t : Fin cfg0.N) (h : t.val / 4 = 2) : ∀ i j, gb (iblk m c 2 t) i j = res7 m c (ly t) (rw_ t i) j :=
  gb_of m c 2 t h _ fun b i j => congrArg (V m c main_v2) (part_idx t (fun a => win0_2.index t a) (part2_idx t h) ((win0_2.rect t).idx (ix3 b i j)) b i j rfl rfl rfl)

theorem part3_idx : ∀ t : Fin cfg0.N, t.val / 4 = 3 → win0_3.index t (0 : Fin 3) = 0 ∧ win0_3.index t (1 : Fin 3) = t.val % 4 ∧ win0_3.index t (2 : Fin 3) = 0 :=
  (by decide +kernel : ∀ t : Fin grid0.N, t.val / 4 = 3 → win0_3.index t (0 : Fin 3) = 0 ∧ win0_3.index t (1 : Fin 3) = t.val % 4 ∧ win0_3.index t (2 : Fin 3) = 0)

theorem gb_3 (t : Fin cfg0.N) (h : t.val / 4 = 3) : ∀ i j, gb (iblk m c 3 t) i j = res7 m c (ly t) (rw_ t i) j :=
  gb_of m c 3 t h _ fun b i j => congrArg (V m c main_v3) (part_idx t (fun a => win0_3.index t a) (part3_idx t h) ((win0_3.rect t).idx (ix3 b i j)) b i j rfl rfl rfl)

/-- What a point writes back, in whichever layer it lies. -/
theorem flushed_all (t : Fin cfg0.N) : ∃ x : Vec Ideal S8x64x2048 .bf16, (∀ i j, gb x i j = res7 m c (ly t) (rw_ t i) j)
    ∧ (dats m 0 c).flushed 7 t = (cfg0.win 7).cut (grid0.coords t) (blkG x)
    ∧ (dats m 0 c).flushed 8 t = (cfg0.win 8).cut (grid0.coords t) (blkD x (iblk m c 4 t) (iblk m c 5 t) (iblk m c 6 t))
    ∧ (dats m 0 c).flushed 9 t = (cfg0.win 9).cut (grid0.coords t) (blkM x (iblk m c 5 t))
    ∧ (dats m 0 c).flushed 10 t = (cfg0.win 10).cut (grid0.coords t) (blkV x (iblk m c 6 t)) := by
  have hP := pts
  have hT := t.isLt
  have h4 : t.val / 4 = 0 ∨ t.val / 4 = 1 ∨ t.val / 4 = 2 ∨ t.val / 4 = 3 := by omega
  rcases h4 with h | h | h | h
  · exact ⟨iblk m c 0 t, gb_0 m c t h,
      (flushed7_A m c t (by omega) (by omega) (by omega) (by omega)).trans (congrArg _ (case_A ..).1),
      (flushed8_A m c t (by omega) (by omega) (by omega) (by omega)).trans (congrArg _ (case_A ..).2.1),
      (flushed9_A m c t (by omega) (by omega) (by omega) (by omega)).trans (congrArg _ (case_A ..).2.2.1),
      (flushed10_A m c t (by omega) (by omega) (by omega) (by omega)).trans (congrArg _ (case_A ..).2.2.2)⟩
  · exact ⟨iblk m c 1 t, gb_1 m c t h,
      (flushed7_B m c t (by omega) (by omega) (by omega) (by omega)).trans (congrArg _ (case_B ..).1),
      (flushed8_B m c t (by omega) (by omega) (by omega) (by omega)).trans (congrArg _ (case_B ..).2.1),
      (flushed9_B m c t (by omega) (by omega) (by omega) (by omega)).trans (congrArg _ (case_B ..).2.2.1),
      (flushed10_B m c t (by omega) (by omega) (by omega) (by omega)).trans (congrArg _ (case_B ..).2.2.2)⟩
  · exact ⟨iblk m c 2 t, gb_2 m c t h,
      (flushed7_C m c t (by omega) (by omega) (by omega) (by omega)).trans (congrArg _ (case_C ..).1),
      (flushed8_C m c t (by omega) (by omega) (by omega) (by omega)).trans (congrArg _ (case_C ..).2.1),
      (flushed9_C m c t (by omega) (by omega) (by omega) (by omega)).trans (congrArg _ (case_C ..).2.2.1),
      (flushed10_C m c t (by omega) (by omega) (by omega) (by omega)).trans (congrArg _ (case_C ..).2.2.2)⟩
  · exact ⟨iblk m c 3 t, gb_3 m c t h,
      (flushed7_D m c t (by omega) (by omega) (by omega) (by omega)).trans (congrArg _ (case_D ..).1),
      (flushed8_D m c t (by omega) (by omega) (by omega) (by omega)).trans (congrArg _ (case_D ..).2.1),
      (flushed9_D m c t (by omega) (by omega) (by omega) (by omega)).trans (congrArg _ (case_D ..).2.2.1),
      (flushed10_D m c t (by omega) (by omega) (by omega) (by omega)).trans (congrArg _ (case_D ..).2.2.2)⟩

theorem eta (y : S1x64x2048.Idx) : y = (ix3 0 (y 1) (y 2) : S1x64x2048.Idx) := by
  funext a
  match a with
  | ⟨0, _⟩ => exact Fin.ext (by have h : (y 0).val < 1 := (y 0).isLt; show (y 0).val = 0; omega)
  | ⟨1, _⟩ => rfl
  | ⟨2, _⟩ => rfl

/-- A block that is written back is a block of an array when its entries are the array's at their places. -/
theorem block_eq (g : Fin 4 → Fin 256 → Fin 2048 → EReal) (t : Fin cfg0.N) (f : Vec Ideal S1x64x2048 .f32)
    (h : ∀ i j, f (ix3 0 i j) = g (ly t) (rw_ t i) j) (y : S1x64x2048.Idx) :
    f y = (fun i : S4x256x2048.Idx => g (i 0) (i 1) (i 2)) ((win0_7.rect t).idx y) :=
  (congrArg f (eta y)).trans ((h _ _).trans (congrArg (fun i : S4x256x2048.Idx => g (i 0) (i 1) (i 2))
    ((congrArg (win0_7.rect t).idx (eta y)).trans (at3 t 0 (y 1) (y 2)))).symm)

theorem flushed7_eq (t : Fin cfg0.N) : (dats m 0 c).flushed 7 t = ((cfg0.win 7).blk t).view.read (Elt Ideal) (fun i => res7 m c (i 0) (i 1) (i 2)) := by
  obtain ⟨x, hx, h, -, -, -⟩ := flushed_all m c t
  rw [h]
  exact funext fun y => block_eq (res7 m c) t _ (fun i j => (blkG_at x i j).trans (hx i j)) y

theorem final7 : (dats m 0 c).arrAt 7 cfg0.N = fun i => res7 m c (i 0) (i 1) (i 2) :=
  (dats m 0 c).arrAt_eq_of_cover 7 (fun i => res7 m c (i 0) (i 1) (i 2)) (fun t _ => flushed7_eq m c t) fun i =>
    (cover i).imp fun t h => ⟨flush0_7 t, by
      show i ∈ ((View.whole main_v4_0).slice (win0_7.rect t)).set
      rw [View.set_slice_whole]
      exact h⟩

theorem flushed8_eq (t : Fin cfg0.N) : (dats m 0 c).flushed 8 t = ((cfg0.win 8).blk t).view.read (Elt Ideal) (fun i => res8 m c (i 0) (i 1) (i 2)) := by
  obtain ⟨x, hx, -, h, -, -⟩ := flushed_all m c t
  rw [h]
  exact funext fun y => block_eq (res8 m c) t _ (fun i j => (blkD_at x _ _ _ i j).trans (delta_congr (hx i j) (congrArg (V m c main_arg4) (at3 t 0 i j)) (congrArg (V m c main_arg5) (at3 t 0 i j)) (congrArg (V m c main_arg6) (at3 t 0 i j)))) y

theorem final8 : (dats m 0 c).arrAt 8 cfg0.N = fun i => res8 m c (i 0) (i 1) (i 2) :=
  (dats m 0 c).arrAt_eq_of_cover 8 (fun i => res8 m c (i 0) (i 1) (i 2)) (fun t _ => flushed8_eq m c t) fun i =>
    (cover i).imp fun t h => ⟨flush0_8 t, by
      show i ∈ ((View.whole main_v4_1).slice (win0_8.rect t)).set
      rw [View.set_slice_whole]
      exact h⟩

theorem flushed9_eq (t : Fin cfg0.N) : (dats m 0 c).flushed 9 t = ((cfg0.win 9).blk t).view.read (Elt Ideal) (fun i => res9 m c (i 0) (i 1) (i 2)) := by
  obtain ⟨x, hx, -, -, h, -⟩ := flushed_all m c t
  rw [h]
  exact funext fun y => block_eq (res9 m c) t _ (fun i j => (blkM_at x _ i j).trans (congrArg₂ (newM (F := Ideal)) (hx i j) (congrArg (V m c main_arg5) (at3 t 0 i j)))) y

theorem final9 : (dats m 0 c).arrAt 9 cfg0.N = fun i => res9 m c (i 0) (i 1) (i 2) :=
  (dats m 0 c).arrAt_eq_of_cover 9 (fun i => res9 m c (i 0) (i 1) (i 2)) (fun t _ => flushed9_eq m c t) fun i =>
    (cover i).imp fun t h => ⟨flush0_9 t, by
      show i ∈ ((View.whole main_v4_2).slice (win0_9.rect t)).set
      rw [View.set_slice_whole]
      exact h⟩

theorem flushed10_eq (t : Fin cfg0.N) : (dats m 0 c).flushed 10 t = ((cfg0.win 10).blk t).view.read (Elt Ideal) (fun i => res10 m c (i 0) (i 1) (i 2)) := by
  obtain ⟨x, hx, -, -, -, h⟩ := flushed_all m c t
  rw [h]
  exact funext fun y => block_eq (res10 m c) t _ (fun i j => (blkV_at x _ i j).trans (congrArg₂ (newV (F := Ideal)) (hx i j) (congrArg (V m c main_arg6) (at3 t 0 i j)))) y

theorem final10 : (dats m 0 c).arrAt 10 cfg0.N = fun i => res10 m c (i 0) (i 1) (i 2) :=
  (dats m 0 c).arrAt_eq_of_cover 10 (fun i => res10 m c (i 0) (i 1) (i 2)) (fun t _ => flushed10_eq m c t) fun i =>
    (cover i).imp fun t h => ⟨flush0_10 t, by
      show i ∈ ((View.whole main_v4_3).slice (win0_10.rect t)).set
      rw [View.set_slice_whole]
      exact h⟩

end Cert.Kernel9Ideal.Tie

end
-- ==== Proof.AoTie.lean ====
/-
  The call's four results are the reference's: the same sum of the devices' parts, layer by layer, and the update entry by entry.
-/
module

public import proofs.«01_k».proof.Proof.AoVal
public import proofs.«01_k».proof.Proof.Gen.Reference9Ideal.Read
public import proofs.«01_k».proof.Proof.Gen.Reference9Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel9Ideal.Tie

open Cert.Kernel9Ideal Cert.Kernel9Ideal.Gen Cert.Kernel9Ideal.Value Cert.Reference9Ideal.Read Cert.AdamMath
open Idealize.ShloMosaic Idealize.ShloMosaic.TcCoe Idealize.ShloMosaic.StableHlo

section
variable (x0 x1 x2 x3 : (⟨S8x256x2048, .f32⟩ : BufTy).Contents (Elt Ideal)) (x4 x5 x6 : (⟨S4x256x2048, .f32⟩ : BufTy).Contents (Elt Ideal)) (y : S4x256x2048.Idx)

theorem ref_sum0 (z : Reference9Ideal.S1x256x2048.Idx) : val_main_v4 (F := Ideal) x0 z = ∑ b : Fin 8, x0 (ix3 b (z 1) (z 2)) := by
  rw [val_main_v4_apply, val_main_v0_apply, val_main_cst_apply]
  refine (congrArg (fun a : EReal => a + _) Ideal.ofBits_zero_f32).trans ((zero_add _).trans (Finset.sum_congr rfl fun b _ => congrArg x0 (funext fun a => ?_)))
  match a with | ⟨0, _⟩ => rfl | ⟨1, _⟩ => rfl | ⟨2, _⟩ => rfl

theorem ref_sum1 (z : Reference9Ideal.S1x256x2048.Idx) : val_main_v5 (F := Ideal) x1 z = ∑ b : Fin 8, x1 (ix3 b (z 1) (z 2)) := by
  rw [val_main_v5_apply, val_main_v1_apply, val_main_cst_0_apply]
  refine (congrArg (fun a : EReal => a + _) Ideal.ofBits_zero_f32).trans ((zero_add _).trans (Finset.sum_congr rfl fun b _ => congrArg x1 (funext fun a => ?_)))
  match a with | ⟨0, _⟩ => rfl | ⟨1, _⟩ => rfl | ⟨2, _⟩ => rfl

theorem ref_sum2 (z : Reference9Ideal.S1x256x2048.Idx) : val_main_v6 (F := Ideal) x2 z = ∑ b : Fin 8, x2 (ix3 b (z 1) (z 2)) := by
  rw [val_main_v6_apply, val_main_v2_apply, val_main_cst_1_apply]
  refine (congrArg (fun a : EReal => a + _) Ideal.ofBits_zero_f32).trans ((zero_add _).trans (Finset.sum_congr rfl fun b _ => congrArg x2 (funext fun a => ?_)))
  match a with | ⟨0, _⟩ => rfl | ⟨1, _⟩ => rfl | ⟨2, _⟩ => rfl

theorem ref_sum3 (z : Reference9Ideal.S1x256x2048.Idx) : val_main_v7 (F := Ideal) x3 z = ∑ b : Fin 8, x3 (ix3 b (z 1) (z 2)) := by
  rw [val_main_v7_apply, val_main_v3_apply, val_main_cst_2_apply]
  refine (congrArg (fun a : EReal => a + _) Ideal.ofBits_zero_f32).trans ((zero_add _).trans (Finset.sum_congr rfl fun b _ => congrArg x3 (funext fun a => ?_)))
  match a with | ⟨0, _⟩ => rfl | ⟨1, _⟩ => rfl | ⟨2, _⟩ => rfl

/-- Four arrays of one layer put on top of each other, read at an index. -/
theorem cat_of (a b c d : Vec Ideal Reference9Ideal.S1x256x2048 .f32) (l : Fin 4) (i : Fin 256) (j : Fin 2048) :
    @Eq EReal (concatenate (α := Elt Ideal .f32) S4x256x2048 0 [⟨Reference9Ideal.S1x256x2048, a⟩, ⟨Reference9Ideal.S1x256x2048, b⟩, ⟨Reference9Ideal.S1x256x2048, c⟩, ⟨Reference9Ideal.S1x256x2048, d⟩] Cert.Reference9Ideal.Gen.concatenates_S1x256x2048_S1x256x2048_S1x256x2048_S1x256x2048_S4x256x2048_d0 (ix3 l i j))
      (if h : l.val < 1 then a (ix3 ⟨l.val, h⟩ i j) else if h2 : l.val - 1 < 1 then b (ix3 ⟨l.val - 1, h2⟩ i j)
        else if h3 : l.val - 1 - 1 < 1 then c (ix3 ⟨l.val - 1 - 1, h3⟩ i j) else d (ix3 ⟨l.val - 1 - 1 - 1, by omega⟩ i j)) := by
  pointwise

/-- Layer `q` of the four sums put on top of each other. -/
theorem ref_g : val_main_v8 (F := Ideal) x0 x1 x2 x3 y = ∑ b : Fin 8, (![x0, x1, x2, x3] (y 0)) (ix3 b (y 1) (y 2)) := by
  obtain ⟨l, i, j, rfl⟩ : ∃ (l : Fin 4) (i : Fin 256) (j : Fin 2048), y = ix3 l i j := ⟨y 0, y 1, y 2, by
    funext a; match a with | ⟨0, _⟩ => rfl | ⟨1, _⟩ => rfl | ⟨2, _⟩ => rfl⟩
  unfold val_main_v8
  refine (cat_of _ _ _ _ l i j).trans ?_
  match l with
  | 0 => exact ref_sum0 x0 (ix3 0 i j)
  | 1 => exact ref_sum1 x1 (ix3 0 i j)
  | 2 => exact ref_sum2 x2 (ix3 0 i j)
  | 3 => exact ref_sum3 x3 (ix3 0 i j)

theorem ref_m : val_main_v13 (F := Ideal) x0 x1 x2 x3 x5 y = newM (F := Ideal) (val_main_v8 (F := Ideal) x0 x1 x2 x3 y) (x5 y) := by
  rw [val_main_v13_apply, val_main_v10_apply, val_main_v12_apply, val_main_v9_apply, val_main_v11_apply, val_main_cst_3_apply, val_main_cst_4_apply]
  rfl

theorem ref_v : val_main_v19 (F := Ideal) x0 x1 x2 x3 x6 y = newV (F := Ideal) (val_main_v8 (F := Ideal) x0 x1 x2 x3 y) (x6 y) := by
  rw [val_main_v19_apply, val_main_v15_apply, val_main_v18_apply, val_main_v14_apply, val_main_v17_apply, val_main_cst_5_apply, val_main_cst_6_apply,
    val_main_v16_apply]
  rfl

theorem ref_d : val_main_v32 (F := Ideal) x0 x1 x2 x3 x4 x5 x6 y = delta (F := Ideal) (val_main_v8 (F := Ideal) x0 x1 x2 x3 y) (x4 y) (x5 y) (x6 y) := by
  rw [val_main_v32_apply, val_main_v31_apply, val_main_cst_11_apply, val_main_v30_apply, val_main_v29_apply, val_main_v28_apply, val_main_cst_10_apply,
    val_main_v27_apply, val_main_v26_apply, val_main_v25_apply, val_main_cst_9_apply, val_main_v24_apply, val_main_v23_apply, val_main_v22_apply,
    val_main_cst_8_apply, val_main_v21_apply, val_main_v20_apply, val_main_cst_7_apply, ref_m, ref_v]
  rfl

end

variable (m : (ℓ : Loc nD τ sig) → Buf (Elt Ideal) ℓ) (c : Dev nD)

theorem idx_eta (y : S4x256x2048.Idx) : y = (ix3 (y 0) (y 1) (y 2) : S4x256x2048.Idx) := by
  funext a; match a with | ⟨0, _⟩ => rfl | ⟨1, _⟩ => rfl | ⟨2, _⟩ => rfl

theorem part_0 (z : S8x256x2048.Idx) : V m c main_v0 z = (m ((c : Thread nD τ).loc main_arg0)) z := by
  unfold_abbrev_sides
  after_results
  pointwise

theorem part_1 (z : S8x256x2048.Idx) : V m c main_v1 z = (m ((c : Thread nD τ).loc main_arg1)) z := by
  unfold_abbrev_sides
  after_results
  pointwise

theorem part_2 (z : S8x256x2048.Idx) : V m c main_v2 z = (m ((c : Thread nD τ).loc main_arg2)) z := by
  unfold_abbrev_sides
  after_results
  pointwise

theorem part_3 (z : S8x256x2048.Idx) : V m c main_v3 z = (m ((c : Thread nD τ).loc main_arg3)) z := by
  unfold_abbrev_sides
  after_results
  pointwise

theorem part_at (l : Fin 4) (z : S8x256x2048.Idx) : part m c l z = (![(m ((c : Thread nD τ).loc main_arg0)), (m ((c : Thread nD τ).loc main_arg1)), (m ((c : Thread nD τ).loc main_arg2)), (m ((c : Thread nD τ).loc main_arg3))] l) z := by
  match l with
  | 0 => exact part_0 m c z
  | 1 => exact part_1 m c z
  | 2 => exact part_2 m c z
  | 3 => exact part_3 m c z

theorem g_eq (y : S4x256x2048.Idx) : res7 m c (y 0) (y 1) (y 2) = val_main_v8 (F := Ideal) (m ((c : Thread nD τ).loc main_arg0)) (m ((c : Thread nD τ).loc main_arg1)) (m ((c : Thread nD τ).loc main_arg2)) (m ((c : Thread nD τ).loc main_arg3)) y := by
  refine Eq.trans ?_ (ref_g _ _ _ _ y).symm
  unfold res7
  refine Finset.sum_congr rfl fun b _ => part_at m c (y 0) _

theorem value7 : (dats m 0 c).arrAt 7 cfg0.N = val_main_v8 (F := Ideal) (m ((c : Thread nD τ).loc main_arg0)) (m ((c : Thread nD τ).loc main_arg1)) (m ((c : Thread nD τ).loc main_arg2)) (m ((c : Thread nD τ).loc main_arg3)) := by
  rw [final7]
  funext y
  exact g_eq m c y

theorem value8 : (dats m 0 c).arrAt 8 cfg0.N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [final8]
  funext y
  exact (delta_congr (g_eq m c y) ((congrFun (V_main_arg4 m c) _).trans (congrArg (m ((c : Thread nD τ).loc main_arg4)) (idx_eta y).symm)) ((congrFun (V_main_arg5 m c) _).trans (congrArg (m ((c : Thread nD τ).loc main_arg5)) (idx_eta y).symm)) ((congrFun (V_main_arg6 m c) _).trans (congrArg (m ((c : Thread nD τ).loc main_arg6)) (idx_eta y).symm))).trans (ref_d _ _ _ _ _ _ _ y).symm

theorem value9 : (dats m 0 c).arrAt 9 cfg0.N = val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  rw [final9]
  funext y
  exact (congrArg₂ (newM (F := Ideal)) (g_eq m c y) ((congrFun (V_main_arg5 m c) _).trans (congrArg (m ((c : Thread nD τ).loc main_arg5)) (idx_eta y).symm))).trans (ref_m _ _ _ _ _ y).symm

theorem value10 : (dats m 0 c).arrAt 10 cfg0.N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  rw [final10]
  funext y
  exact (congrArg₂ (newV (F := Ideal)) (g_eq m c y) ((congrFun (V_main_arg6 m c) _).trans (congrArg (m ((c : Thread nD τ).loc main_arg6)) (idx_eta y).symm))).trans (ref_v _ _ _ _ _ y).symm

end Cert.Kernel9Ideal.Tie

end
-- ==== Proof.AmVal.lean ====
/-
  What the call that updates the modulation's weights leaves: the weights' gradient, the step and the two new moments.
-/
module

public import proofs.«01_k».proof.Proof.Gen.Kernel10Ideal.Value
public import proofs.«01_k».proof.Proof.AdamMath
public import Idealize.ShloMosaic.Lib.Pipeline.ValueKit.Acc
public import Idealize.ShloMosaic.Lib.Pointwise.Tactic
public import Idealize.ShloMosaic.Lib.Pointwise.Contract
public import Idealize.ShloMosaic.Lib.Pointwise

@[expose] public section

set_option maxRecDepth 16384

noncomputable section

namespace Cert.Kernel10Ideal.Tie

open Cert.Kernel10Ideal Cert.Kernel10Ideal.Gen Cert.Kernel10Ideal.Value Cert.AdamMath
open Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a number with its logistic. -/
def sil (x : EReal) : EReal := x * Ideal.div 1 (1 + Ideal.exp (-x))

theorem one_eq : Ideal.ofBits .f32 0x3F800000#32 = 1 := by
  simp [Ideal.ofBits, Ideal.ieee, -EReal.coe_mul]
  norm_num

section
variable (s : Vec Ideal S8x512 .f32) (d : Vec Ideal S1x8x768 .f32) (w a v : Vec Ideal S1x512x768 .f32) (g : FVec Ideal S512x768 .f32) (i : Fin 512) (j : Fin 768)

theorem drop_at (x : Vec Ideal S1x512x768 .f32) : shapeCast S512x768 x shapeCasts_S1x512x768_S512x768 (ix2 i j) = x (ix3 0 i j) :=
  shapeCast_apply _ _ _ (ix3 0 i j) (by
    rw [Shape.rowMajor_val_three, Shape.rowMajor_val_two]
    show (0 * 512 + i.val) * 768 + j.val = i.val * 768 + j.val
    omega)

theorem drop8_at (b : Fin 8) : shapeCast S8x768 d shapeCasts_S1x8x768_S8x768 (ix2 b j) = d (ix3 0 b j) :=
  shapeCast_apply _ _ _ (ix3 0 b j) (by
    rw [Shape.rowMajor_val_three, Shape.rowMajor_val_two]
    show (0 * 8 + b.val) * 768 + j.val = b.val * 768 + j.val
    omega)

theorem lift_at (x : FVec Ideal S512x768 .f32) : shapeCast S1x512x768 x shapeCasts_S512x768_S1x512x768 (ix3 0 i j) = x (ix2 i j) :=
  shapeCast_apply _ _ _ (ix2 i j) (by
    rw [Shape.rowMajor_val_three, Shape.rowMajor_val_two]
    show i.val * 768 + j.val = (0 * 512 + i.val) * 768 + j.val
    omega)

/-- An entry of the gradient, from the blocks read. -/
def gb : EReal := ∑ b : Fin 8, sil (s (ix2 b i)) * d (ix3 0 b j)

theorem pay5_at : k0_pay5 (F := Ideal) s d (ix2 i j) = gb s d i j := by
  unfold gb sil
  pointwise [k0_pay5]
  simp only [zero_sub]

theorem pay6_at : k0_pay6 (F := Ideal) w (ix2 i j) = w (ix3 0 i j) := by
  unfold k0_pay6
  exact drop_at _ _ _

theorem pay7_at : k0_pay7 (F := Ideal) s d a (ix2 i j) = newM (F := Ideal) (gb s d i j) (a (ix3 0 i j)) := by
  rw [← pay5_at, ← drop_at i j a]
  rfl

theorem pay8_at : k0_pay8 (F := Ideal) s d v (ix2 i j) = newV (F := Ideal) (gb s d i j) (v (ix3 0 i j)) := by
  rw [← pay5_at, ← drop_at i j v]
  rfl

theorem pay2_at : k0_pay2 (F := Ideal) (k0_pay6 w) (k0_pay8 s d v) (k0_pay9 s d a) (k0_pay10 (F := Ideal)) (ix3 0 i j)
    = delta (F := Ideal) (gb s d i j) (w (ix3 0 i j)) (a (ix3 0 i j)) (v (ix3 0 i j)) := by
  unfold k0_pay2 delta
  rw [← pay7_at, ← pay8_at, ← pay6_at w i j]
  exact lift_at _ _ _

theorem out5_at : out0_5 (F := Ideal) s d w a v (ix3 0 i j) = gb s d i j := by
  unfold out0_5
  rw [View.canon_unit_zero hz3]

  simp only [View.ld_unit_zero (S := S8x512) hz2, View.ld_unit_zero (S := S1x8x768) hz3, View.ld_unit_zero (S := S1x512x768) hz3]
  exact (lift_at _ _ _).trans (pay5_at _ _ _ _)

theorem out6_at : out0_6 (F := Ideal) s d w a v (ix3 0 i j) = delta (F := Ideal) (gb s d i j) (w (ix3 0 i j)) (a (ix3 0 i j)) (v (ix3 0 i j)) := by
  unfold out0_6
  rw [View.canon_unit_zero hz3]
  unfold k0_pay11
  simp only [View.ld_unit_zero (S := S8x512) hz2, View.ld_unit_zero (S := S1x8x768) hz3, View.ld_unit_zero (S := S1x512x768) hz3]
  exact pay2_at _ _ _ _ _ _ _

theorem out7_at : out0_7 (F := Ideal) s d w a v (ix3 0 i j) = newM (F := Ideal) (gb s d i j) (a (ix3 0 i j)) := by
  unfold out0_7
  rw [View.canon_unit_zero hz3]

  simp only [View.ld_unit_zero (S := S8x512) hz2, View.ld_unit_zero (S := S1x8x768) hz3, View.ld_unit_zero (S := S1x512x768) hz3]
  exact (lift_at _ _ _).trans (pay7_at _ _ _ _ _)

theorem out8_at : out0_8 (F := Ideal) s d w a v (ix3 0 i j) = newV (F := Ideal) (gb s d i j) (v (ix3 0 i j)) := by
  unfold out0_8
  rw [View.canon_unit_zero hz3]
  unfold k0_pay11
  simp only [View.ld_unit_zero (S := S8x512) hz2, View.ld_unit_zero (S := S1x8x768) hz3, View.ld_unit_zero (S := S1x512x768) hz3]
  exact (lift_at _ _ _).trans (pay8_at _ _ _ _ _)

end

variable (m : (ℓ : Loc nD τ sig) → Buf (Elt Ideal) ℓ) (c : Dev nD)

theorem pts : cfg0.N = 16 := N_0

theorem at3_idx : ∀ t : Fin cfg0.N, win0_5.index t (0 : Fin 3) = t.val / 4 ∧ win0_5.index t (1 : Fin 3) = (t.val % 4) ∧ win0_5.index t (2 : Fin 3) = 0 :=
  (by decide +kernel : ∀ t : Fin grid0.N, win0_5.index t (0 : Fin 3) = t.val / 4 ∧ win0_5.index t (1 : Fin 3) = (t.val % 4) ∧ win0_5.index t (2 : Fin 3) = 0)

/-- Where an entry of a block lies in its array: for the results, the weights and the moments, -/
theorem at3 (t : Fin cfg0.N) (i : Fin 1) (j : Fin 512) (k : Fin 768) : (win0_5.rect t).idx (ix3 i j k) = ((ix3 ⟨t.val / 4, by have := pts; have := t.isLt; have := i.isLt; omega⟩ ⟨(t.val % 4) * 512 + j.val, by have := pts; have := t.isLt; have := j.isLt; omega⟩ k) : S4x2048x768.Idx) := by
  obtain ⟨e0, e1, e2⟩ := at3_idx t
  funext a; apply Fin.ext
  match a with
  | ⟨0, _⟩ => show win0_5.index t (0 : Fin 3) * 1 + 1 * i.val = t.val / 4; rw [e0]; omega
  | ⟨1, _⟩ => show win0_5.index t (1 : Fin 3) * 512 + 1 * j.val = (t.val % 4) * 512 + j.val; rw [e1]; omega
  | ⟨2, _⟩ => show win0_5.index t (2 : Fin 3) * 768 + 1 * k.val = k.val; rw [e2]; omega

theorem at0_idx : ∀ t : Fin cfg0.N, win0_0.index t (0 : Fin 2) = 0 ∧ win0_0.index t (1 : Fin 2) = (t.val % 4) :=
  (by decide +kernel : ∀ t : Fin grid0.N, win0_0.index t (0 : Fin 2) = 0 ∧ win0_0.index t (1 : Fin 2) = (t.val % 4))

/-- for the condition, -/
theorem at0 (t : Fin cfg0.N) (i : Fin 8) (j : Fin 512) : (win0_0.rect t).idx (ix2 i j) = ((ix2 i ⟨(t.val % 4) * 512 + j.val, by have := pts; have := t.isLt; have := j.isLt; omega⟩) : S8x2048.Idx) := by
  obtain ⟨e0, e1⟩ := at0_idx t
  funext a; apply Fin.ext
  match a with
  | ⟨0, _⟩ => show win0_0.index t (0 : Fin 2) * 8 + 1 * i.val = i.val; rw [e0]; omega
  | ⟨1, _⟩ => show win0_0.index t (1 : Fin 2) * 512 + 1 * j.val = (t.val % 4) * 512 + j.val; rw [e1]; omega

theorem at1_idx : ∀ t : Fin cfg0.N, win0_1.index t (0 : Fin 3) = t.val / 4 ∧ win0_1.index t (1 : Fin 3) = 0 ∧ win0_1.index t (2 : Fin 3) = 0 :=
  (by decide +kernel : ∀ t : Fin grid0.N, win0_1.index t (0 : Fin 3) = t.val / 4 ∧ win0_1.index t (1 : Fin 3) = 0 ∧ win0_1.index t (2 : Fin 3) = 0)

/-- and for the gradients of the modulation. -/
theorem at1 (t : Fin cfg0.N) (i : Fin 1) (j : Fin 8) (k : Fin 768) : (win0_1.rect t).idx (ix3 i j k) = ((ix3 ⟨t.val / 4, by have := pts; have := t.isLt; have := i.isLt; omega⟩ j k) : S4x8x768.Idx) := by
  obtain ⟨e0, e1, e2⟩ := at1_idx t
  funext a; apply Fin.ext
  match a with
  | ⟨0, _⟩ => show win0_1.index t (0 : Fin 3) * 1 + 1 * i.val = t.val / 4; rw [e0]; omega
  | ⟨1, _⟩ => show win0_1.index t (1 : Fin 3) * 8 + 1 * j.val = j.val; rw [e1]; omega
  | ⟨2, _⟩ => show win0_1.index t (2 : Fin 3) * 768 + 1 * k.val = k.val; rw [e2]; omega

/-- Every entry of the array lies in the block of some point. -/
theorem cover (i : S4x2048x768.Idx) : ∃ t : Fin cfg0.N, i ∈ (win0_5.rect t).set := by
  have h0 : (i 0).val < 4 := (i 0).isLt
  have h1 : (i 1).val < 2048 := (i 1).isLt
  have h2 : (i 2).val < 768 := (i 2).isLt
  have hP := pts
  refine ⟨⟨(i 0).val * 4 + (i 1).val / 512, by omega⟩, ?_⟩
  rw [Rect.mem_set_unit]
  obtain ⟨e0, e1, e2⟩ := at3_idx ⟨(i 0).val * 4 + (i 1).val / 512, by omega⟩
  intro a
  match a with
  | ⟨0, _⟩ => show win0_5.index _ (0 : Fin 3) * 1 ≤ (i 0).val ∧ (i 0).val < win0_5.index _ (0 : Fin 3) * 1 + 1; rw [e0]; show ((i 0).val * 4 + (i 1).val / 512) / 4 * 1 ≤ _ ∧ _ < ((i 0).val * 4 + (i 1).val / 512) / 4 * 1 + 1; omega
  | ⟨1, _⟩ => show win0_5.index _ (1 : Fin 3) * 512 ≤ (i 1).val ∧ (i 1).val < win0_5.index _ (1 : Fin 3) * 512 + 512; rw [e1]; show (((i 0).val * 4 + (i 1).val / 512) % 4) * 512 ≤ _ ∧ _ < (((i 0).val * 4 + (i 1).val / 512) % 4) * 512 + 512; omega
  | ⟨2, _⟩ => show win0_5.index _ (2 : Fin 3) * 768 ≤ (i 2).val ∧ (i 2).val < win0_5.index _ (2 : Fin 3) * 768 + 768; rw [e2]; show 0 * 768 ≤ _ ∧ _ < 0 * 768 + 768; omega

/-- The arrays that the call reads. -/
abbrev aW (l : Fin 4) (i : Fin 2048) (j : Fin 768) : EReal := V m c main_arg2 (ix3 l i j)
abbrev aM (l : Fin 4) (i : Fin 2048) (j : Fin 768) : EReal := V m c main_arg3 (ix3 l i j)
abbrev aV (l : Fin 4) (i : Fin 2048) (j : Fin 768) : EReal := V m c main_arg4 (ix3 l i j)

/-- The entries that it leaves. -/
def res5 (l : Fin 4) (i : Fin 2048) (j : Fin 768) : EReal := ∑ b : Fin 8, sil (V m c main_arg0 (ix2 b i)) * V m c main_arg1 (ix3 l b j)
def res6 (l : Fin 4) (i : Fin 2048) (j : Fin 768) : EReal := delta (F := Ideal) (res5 m c l i j) (aW m c l i j) (aM m c l i j) (aV m c l i j)
def res7 (l : Fin 4) (i : Fin 2048) (j : Fin 768) : EReal := newM (F := Ideal) (res5 m c l i j) (aM m c l i j)
def res8 (l : Fin 4) (i : Fin 2048) (j : Fin 768) : EReal := newV (F := Ideal) (res5 m c l i j) (aV m c l i j)

theorem eta (y : S1x512x768.Idx) : y = (ix3 0 (y 1) (y 2) : S1x512x768.Idx) := by
  funext a
  match a with
  | ⟨0, _⟩ => exact Fin.ext (by have h : (y 0).val < 1 := (y 0).isLt; show (y 0).val = 0; omega)
  | ⟨1, _⟩ => rfl
  | ⟨2, _⟩ => rfl

/-- The layer of a point, and the row of a block's row. -/
abbrev ly (t : Fin cfg0.N) : Fin 4 := ⟨t.val / 4, by have := pts; have := t.isLt; omega⟩
abbrev rw_ (t : Fin cfg0.N) (i : Fin 512) : Fin 2048 := ⟨t.val % 4 * 512 + i.val, by have := i.isLt; omega⟩

/-- A block that is written back is a block of an array when its entries are the array's at their places. -/
theorem block_eq (g : Fin 4 → Fin 2048 → Fin 768 → EReal) (t : Fin cfg0.N) (f : Vec Ideal S1x512x768 .f32)
    (h : ∀ i j, f (ix3 0 i j) = g (ly t) (rw_ t i) j) (y : S1x512x768.Idx) :
    f y = (fun i : S4x2048x768.Idx => g (i 0) (i 1) (i 2)) ((win0_5.rect t).idx y) :=
  (congrArg f (eta y)).trans ((h _ _).trans (congrArg (fun i : S4x2048x768.Idx => g (i 0) (i 1) (i 2))
    ((congrArg (win0_5.rect t).idx (eta y)).trans (at3 t 0 (y 1) (y 2)))).symm)

theorem gb_blk (t : Fin cfg0.N) (i : Fin 512) (j : Fin 768) : gb (iblk m c 0 t) (iblk m c 1 t) i j = res5 m c (ly t) (rw_ t i) j :=
  Finset.sum_congr rfl fun b _ => congrArg₂ (fun a b : EReal => a * b) (congrArg (fun q => sil (V m c main_arg0 q)) (at0 t b i)) (congrArg (V m c main_arg1) (at1 t 0 b j))

theorem flushed5_eq (t : Fin cfg0.N) : (dats m 0 c).flushed 5 t = ((cfg0.win 5).blk t).view.read (Elt Ideal) (fun i => res5 m c (i 0) (i 1) (i 2)) := by
  rw [flushed5]
  exact funext fun y => block_eq (res5 m c) t _ (fun i j => (out5_at _ _ _ _ _ i j).trans ((gb_blk m c t i j))) y

theorem final5 : (dats m 0 c).arrAt 5 cfg0.N = fun i => res5 m c (i 0) (i 1) (i 2) :=
  (dats m 0 c).arrAt_eq_of_cover 5 (fun i => res5 m c (i 0) (i 1) (i 2)) (fun t _ => flushed5_eq m c t) fun i =>
    (cover i).imp fun t h => ⟨flush0_5 t, by
      show i ∈ ((View.whole main_v0_0).slice (win0_5.rect t)).set
      rw [View.set_slice_whole]
      exact h⟩

theorem flushed6_eq (t : Fin cfg0.N) : (dats m 0 c).flushed 6 t = ((cfg0.win 6).blk t).view.read (Elt Ideal) (fun i => res6 m c (i 0) (i 1) (i 2)) := by
  rw [flushed6]
  exact funext fun y => block_eq (res6 m c) t _ (fun i j => (out6_at _ _ _ _ _ i j).trans (delta_congr (gb_blk m c t i j) (congrArg (V m c main_arg2) (at3 t 0 i j)) (congrArg (V m c main_arg3) (at3 t 0 i j)) (congrArg (V m c main_arg4) (at3 t 0 i j)))) y

theorem final6 : (dats m 0 c).arrAt 6 cfg0.N = fun i => res6 m c (i 0) (i 1) (i 2) :=
  (dats m 0 c).arrAt_eq_of_cover 6 (fun i => res6 m c (i 0) (i 1) (i 2)) (fun t _ => flushed6_eq m c t) fun i =>
    (cover i).imp fun t h => ⟨flush0_6 t, by
      show i ∈ ((View.whole main_v0_1).slice (win0_6.rect t)).set
      rw [View.set_slice_whole]
      exact h⟩

theorem flushed7_eq (t : Fin cfg0.N) : (dats m 0 c).flushed 7 t = ((cfg0.win 7).blk t).view.read (Elt Ideal) (fun i => res7 m c (i 0) (i 1) (i 2)) := by
  rw [flushed7]
  exact funext fun y => block_eq (res7 m c) t _ (fun i j => (out7_at _ _ _ _ _ i j).trans (congrArg₂ (newM (F := Ideal)) (gb_blk m c t i j) (congrArg (V m c main_arg3) (at3 t 0 i j)))) y

theorem final7 : (dats m 0 c).arrAt 7 cfg0.N = fun i => res7 m c (i 0) (i 1) (i 2) :=
  (dats m 0 c).arrAt_eq_of_cover 7 (fun i => res7 m c (i 0) (i 1) (i 2)) (fun t _ => flushed7_eq m c t) fun i =>
    (cover i).imp fun t h => ⟨flush0_7 t, by
      show i ∈ ((View.whole main_v0_2).slice (win0_7.rect t)).set
      rw [View.set_slice_whole]
      exact h⟩

theorem flushed8_eq (t : Fin cfg0.N) : (dats m 0 c).flushed 8 t = ((cfg0.win 8).blk t).view.read (Elt Ideal) (fun i => res8 m c (i 0) (i 1) (i 2)) := by
  rw [flushed8]
  exact funext fun y => block_eq (res8 m c) t _ (fun i j => (out8_at _ _ _ _ _ i j).trans (congrArg₂ (newV (F := Ideal)) (gb_blk m c t i j) (congrArg (V m c main_arg4) (at3 t 0 i j)))) y

theorem final8 : (dats m 0 c).arrAt 8 cfg0.N = fun i => res8 m c (i 0) (i 1) (i 2) :=
  (dats m 0 c).arrAt_eq_of_cover 8 (fun i => res8 m c (i 0) (i 1) (i 2)) (fun t _ => flushed8_eq m c t) fun i =>
    (cover i).imp fun t h => ⟨flush0_8 t, by
      show i ∈ ((View.whole main_v0_3).slice (win0_8.rect t)).set
      rw [View.set_slice_whole]
      exact h⟩

end Cert.Kernel10Ideal.Tie

end
-- ==== Proof.AmTie.lean ====
/-
  The call's four results are the reference's: the gradient is the same sum over the examples, and the update is entry by entry.
-/
module

public import proofs.«01_k».proof.Proof.AmVal
public import proofs.«01_k».proof.Proof.Gen.Reference10Ideal.Read
public import proofs.«01_k».proof.Proof.Gen.Reference10Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel10Ideal.Tie

open Cert.Kernel10Ideal Cert.Kernel10Ideal.Gen Cert.Kernel10Ideal.Value Cert.Reference10Ideal.Read Cert.AdamMath
open Idealize.ShloMosaic Idealize.ShloMosaic.TcCoe Idealize.ShloMosaic.StableHlo

section
variable (x0 : (⟨S8x2048, .f32⟩ : BufTy).Contents (Elt Ideal)) (x1 : (⟨S4x8x768, .f32⟩ : BufTy).Contents (Elt Ideal)) (x2 x3 x4 : (⟨S4x2048x768, .f32⟩ : BufTy).Contents (Elt Ideal)) (y : S4x2048x768.Idx)

theorem ref_silu (i : S8x2048.Idx) : val_main_v0 (F := Ideal) x0 i = sil (x0 i) := by
  rw [val_main_v0_apply, val_main_call0_v5_apply, val_main_call0_v4_apply, val_main_call0_cst_0_apply, val_main_call0_v3_apply, val_main_call0_v2_apply,
    val_main_call0_cst_apply, val_main_call0_v1_apply, val_main_call0_v0_apply]
  show x0 i * Ideal.div (Ideal.ofBits .f32 0x3F800000#32) (Ideal.ofBits .f32 0x3F800000#32 + Ideal.exp (-(x0 i))) = _
  rw [one_eq]
  rfl

theorem ref_g : val_main_v5 (F := Ideal) x0 x1 y = ∑ b : Fin 8, sil (x0 (ix2 b (y 1))) * x1 (ix3 (y 0) b (y 2)) := by
  rw [val_main_v5_apply, val_main_v4_apply]
  refine Finset.sum_congr rfl fun b _ => ?_
  rw [val_main_v3_apply, ref_silu]
  refine (mul_comm _ _).trans (congrArg₂ (fun a b : EReal => a * b) (congrArg (fun q => sil (x0 q)) ?_) (congrArg x1 ?_))
  · funext a; match a with | ⟨0, _⟩ => rfl | ⟨1, _⟩ => rfl
  · funext a; match a with | ⟨0, _⟩ => rfl | ⟨1, _⟩ => rfl | ⟨2, _⟩ => rfl

theorem ref_m : val_main_v10 (F := Ideal) x0 x1 x3 y = newM (F := Ideal) (val_main_v5 (F := Ideal) x0 x1 y) (x3 y) := by
  rw [val_main_v10_apply, val_main_v7_apply, val_main_v9_apply, val_main_v6_apply, val_main_v8_apply, val_main_cst_apply, val_main_cst_0_apply]
  rfl

theorem ref_v : val_main_v16 (F := Ideal) x0 x1 x4 y = newV (F := Ideal) (val_main_v5 (F := Ideal) x0 x1 y) (x4 y) := by
  rw [val_main_v16_apply, val_main_v12_apply, val_main_v15_apply, val_main_v11_apply, val_main_v14_apply, val_main_cst_1_apply, val_main_cst_2_apply,
    val_main_v13_apply]
  rfl

theorem ref_d : val_main_v29 (F := Ideal) x0 x1 x2 x3 x4 y = delta (F := Ideal) (val_main_v5 (F := Ideal) x0 x1 y) (x2 y) (x3 y) (x4 y) := by
  rw [val_main_v29_apply, val_main_v28_apply, val_main_cst_7_apply, val_main_v27_apply, val_main_v26_apply, val_main_v25_apply, val_main_cst_6_apply,
    val_main_v24_apply, val_main_v23_apply, val_main_v22_apply, val_main_cst_5_apply, val_main_v21_apply, val_main_v20_apply, val_main_v19_apply,
    val_main_cst_4_apply, val_main_v18_apply, val_main_v17_apply, val_main_cst_3_apply, ref_m, ref_v]
  rfl

end

variable (m : (ℓ : Loc nD τ sig) → Buf (Elt Ideal) ℓ) (c : Dev nD)

theorem idx_eta (y : S4x2048x768.Idx) : y = (ix3 (y 0) (y 1) (y 2) : S4x2048x768.Idx) := by
  funext a; match a with | ⟨0, _⟩ => rfl | ⟨1, _⟩ => rfl | ⟨2, _⟩ => rfl

theorem g_eq (y : S4x2048x768.Idx) : res5 m c (y 0) (y 1) (y 2) = val_main_v5 (F := Ideal) (m ((c : Thread nD τ).loc main_arg0)) (m ((c : Thread nD τ).loc main_arg1)) y := by
  refine Eq.trans ?_ (ref_g _ _ y).symm
  unfold res5
  exact Finset.sum_congr rfl fun b _ => congrArg₂ (fun a b : EReal => a * b) (congrArg sil (congrFun (V_main_arg0 m c) _)) (congrFun (V_main_arg1 m c) _)

theorem value5 : (dats m 0 c).arrAt 5 cfg0.N = val_main_v5 (F := Ideal) (m ((c : Thread nD τ).loc main_arg0)) (m ((c : Thread nD τ).loc main_arg1)) := by
  rw [final5]
  funext y
  show res5 m c (y 0) (y 1) (y 2) = _

  exact (g_eq m c y)

theorem value6 : (dats m 0 c).arrAt 6 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [final6]
  funext y
  show res6 m c (y 0) (y 1) (y 2) = _
  unfold res6
  exact (delta_congr (g_eq m c y) ((congrFun (V_main_arg2 m c) _).trans (congrArg (m ((c : Thread nD τ).loc main_arg2)) (idx_eta y).symm)) ((congrFun (V_main_arg3 m c) _).trans (congrArg (m ((c : Thread nD τ).loc main_arg3)) (idx_eta y).symm)) ((congrFun (V_main_arg4 m c) _).trans (congrArg (m ((c : Thread nD τ).loc main_arg4)) (idx_eta y).symm))).trans (ref_d _ _ _ _ _ y).symm

theorem value7 : (dats m 0 c).arrAt 7 cfg0.N = val_main_v10 (F := Ideal) (m ((c : Thread nD τ).loc main_arg0)) (m ((c : Thread nD τ).loc main_arg1)) (m ((c : Thread nD τ).loc main_arg3)) := by
  rw [final7]
  funext y
  show res7 m c (y 0) (y 1) (y 2) = _
  unfold res7
  exact (congrArg₂ (newM (F := Ideal)) (g_eq m c y) ((congrFun (V_main_arg3 m c) _).trans (congrArg (m ((c : Thread nD τ).loc main_arg3)) (idx_eta y).symm))).trans (ref_m _ _ _ y).symm

theorem value8 : (dats m 0 c).arrAt 8 cfg0.N = val_main_v16 (F := Ideal) (m ((c : Thread nD τ).loc main_arg0)) (m ((c : Thread nD τ).loc main_arg1)) (m ((c : Thread nD τ).loc main_arg4)) := by
  rw [final8]
  funext y
  show res8 m c (y 0) (y 1) (y 2) = _
  unfold res8
  exact (congrArg₂ (newV (F := Ideal)) (g_eq m c y) ((congrFun (V_main_arg4 m c) _).trans (congrArg (m ((c : Thread nD τ).loc main_arg4)) (idx_eta y).symm))).trans (ref_v _ _ _ y).symm

end Cert.Kernel10Ideal.Tie

end
-- ==== Proof.LhMath.lean ====
/-
  The loss head, row by row, over the extended reals: the squared error of the RMSNorm of a row against the target's row,
  and the gradients of half its mean. `r` is a row of the last layer's output, `g` the norm's weight, `t` the target's row.
-/
module

public import proofs.«01_k».proof.Proof.IbSpec

@[expose] public section

namespace Cert.LhMath

open Idealize.ShloMosaic Cert.IbSpec

noncomputable section

abbrev half : EReal := Ideal.ofBits .f32 0x3F000000#32
abbrev inv : EReal := Ideal.ofBits .f32 0x3A000000#32

theorem half_r : half = ((1 / 2 : ℝ) : EReal) := by
  simp [half, Ideal.ofBits, Ideal.ieee, -EReal.coe_mul]; norm_num

theorem inv_r : inv = ((1 / 2048 : ℝ) : EReal) := by
  simp [inv, Ideal.ofBits, Ideal.ieee, -EReal.coe_mul]; norm_num

theorem one_r : Ideal.ofBits .f32 0x3F800000#32 = 1 := by simp [Ideal.ofBits, Ideal.ieee, -EReal.coe_mul]; norm_num

theorem two_r : Ideal.ofBits .f32 0x40000000#32 = ((2 : ℝ) : EReal) := by
  simp [Ideal.ofBits, Ideal.ieee, -EReal.coe_mul]; norm_num

/-- The derivative's factor of the error, and the kernel's. -/
theorem factor (e : EReal) :
    Ideal.div (half * Ideal.ofBits .f32 0x3F800000#32) c2048 * (Ideal.ofBits .f32 0x40000000#32 * e) = e * inv := by
  rw [half_r, one_r, mul_one, two_r, c2048_eq, Ideal.div_coe (by norm_num), inv_r, ← mul_assoc, ← EReal.coe_mul, ← EReal.coe_mul, mul_comm]
  congr 2; norm_num

variable (r g t : Fin 2048 → EReal)

/-- The mean square of the row plus the constant. -/
def u : EReal := Ideal.div (∑ k : Fin 2048, r k * r k) c2048 + eps
/-- The normalised row, the error, its share in the gradient, and the gradient at the normalised row. -/
def nr (j : Fin 2048) : EReal := r j * Ideal.rsqrt (u r)
def er (j : Fin 2048) : EReal := nr r j * g j - t j
def dy (j : Fin 2048) : EReal := er r g t j * inv
def dn (j : Fin 2048) : EReal := dy r g t j * g j
/-- The row's gradient, in the kernel's form. -/
def dx (j : Fin 2048) : EReal := Ideal.rsqrt (u r) * (dn r g t j - nr r j * Ideal.div (∑ k : Fin 2048, dn r g t k * nr r k) c2048)
/-- The row's mean squared error. -/
def ms : EReal := Ideal.div (∑ k : Fin 2048, er r g t k * er r g t k) c2048

theorem u_pos : 0 < u r := uu_pos (fun _ => r) 0

theorem ms_nonneg : 0 ≤ ms r g t := by
  unfold ms
  rw [c2048_eq, Ideal.div_coe (by norm_num)]
  exact mul_nonneg (Finset.sum_nonneg fun k _ => RowMath.mul_self_nonneg _) (by exact_mod_cast (by norm_num : (0:ℝ) ≤ 1 / 2048))

/-- The differentiated form of the row's gradient. -/
theorem dx_eq (j : Fin 2048) :
    let T := Ideal.div ((∑ k : Fin 2048, r k * dn r g t k)
      * (Ideal.ofBits .f32 0xBF000000#32 * Ideal.div (Ideal.rsqrt (u r)) (u r))) c2048
    dx r g t j = dn r g t j * Ideal.rsqrt (u r) + r j * T + T * r j := by
  intro T
  obtain ⟨ρ, h0, hr, -⟩ := RowMath.rsqrt_facts (u_pos r)
  have hS : ∑ k : Fin 2048, dn r g t k * nr r k = (∑ k : Fin 2048, r k * dn r g t k) * Ideal.rsqrt (u r) := by
    rw [hr, ← RowMath.mul_sum _ h0]
    refine Finset.sum_congr rfl fun k _ => ?_
    rw [nr, hr, ← mul_assoc, mul_comm (dn r g t k)]
  have := RowMath.row_grad (u_pos r) (∑ k : Fin 2048, r k * dn r g t k) (r j) (dn r g t j) 0 ((1 / 2048 : ℝ) : EReal)
  rw [add_zero, zero_add] at this
  unfold dx
  rw [hS, c2048_eq, Ideal.div_coe (by norm_num)]
  show Ideal.rsqrt (u r) * (dn r g t j - r j * Ideal.rsqrt (u r) * _) = _
  rw [this]
  show _ = _ + r j * Ideal.div _ c2048 + Ideal.div _ c2048 * r j
  rw [c2048_eq, Ideal.div_coe (by norm_num), half_eq]

/-- Half of a sum that is not negative is the sum of the halves. -/
theorem half_sum {ι : Type} (s : Finset ι) (f : ι → EReal) : half * ∑ i ∈ s, f i = ∑ i ∈ s, half * f i := by
  rw [half_r, mul_comm, ← RowMath.mul_sum s (by norm_num)]
  exact Finset.sum_congr rfl fun i _ => mul_comm _ _

end

end Cert.LhMath
-- ==== Proof.LhVal.lean ====
/-
  What the loss head's call leaves: the rows of the gradient of its input, the sum of the rows' losses, and the sum over
  the rows of the weight's gradient.
-/
module

public import proofs.«01_k».proof.Proof.Gen.Kernel11Ideal.Value
public import proofs.«01_k».proof.Proof.LhMath
public import Idealize.ShloMosaic.Lib.Pipeline.ValueKit.Acc
public import Idealize.ShloMosaic.Lib.Pipeline.ValueKit
public import Idealize.ShloMosaic.Lib.Pointwise.Tactic

@[expose] public section

set_option maxRecDepth 16384

noncomputable section

namespace Cert.Kernel11Ideal.Tie

open Cert.Kernel11Ideal Cert.Kernel11Ideal.Gen Cert.Kernel11Ideal.Value Cert.IbSpec Cert.LhMath
open Idealize.ShloMosaic Idealize.ShloMosaic.TcCoe

section
variable (x : Vec Ideal S512x2048 .f32) (w : Vec Ideal S1x2048 .f32) (y : Vec Ideal S512x2048 .f32) (i : Fin 512) (j : Fin 2048)

/-- A row of a block, and the one row of the weight. -/
abbrev rwx (k : Fin 2048) : EReal := x (ix2 i k)
abbrev one (k : Fin 2048) : EReal := w (ix2 0 k)

theorem pay5_at : k0_pay5 (F := Ideal) x (ix2 i 0) = Ideal.rsqrt (u (rwx x i)) := by
  unfold u
  pointwise [k0_pay5]

theorem pay6_at : k0_pay6 (F := Ideal) x (ix2 i j) = nr (rwx x i) j := by
  unfold nr u
  pointwise [k0_pay6, k0_pay5]

theorem pay7_at : k0_pay7 (F := Ideal) x w y (ix2 i j) = er (rwx x i) (one w) (rwx y i) j := by
  unfold er
  rw [← pay6_at]
  pointwise [k0_pay7]

theorem pay9_at : k0_pay9 (F := Ideal) x w y (ix2 i j) = dy (rwx x i) (one w) (rwx y i) j := by
  unfold dy
  rw [← pay7_at]
  pointwise [k0_pay9]

theorem pay8_at (a : Vec Ideal S1x1 .f32) :
    k0_pay8 (F := Ideal) x w y a (ix2 0 0) = a (ix2 0 0) + half * ∑ r : Fin 512, ms (rwx x r) (one w) (rwx y r) := by
  unfold ms
  simp only [← pay7_at]
  pointwise [k0_pay8]

theorem pay1_at (a : Vec Ideal S1x2048 .f32) :
    k0_pay1 (F := Ideal) (k0_pay6 x) (k0_pay9 x w y) a (ix2 0 j) = a (ix2 0 j) + ∑ r : Fin 512, dy (rwx x r) (one w) (rwx y r) j * nr (rwx x r) j := by
  simp only [← pay9_at, ← pay6_at]
  generalize k0_pay6 x = p
  generalize k0_pay9 x w y = q
  pointwise [k0_pay1]

theorem pay2_at : k0_pay2 (F := Ideal) (k0_pay5 x) (k0_pay6 x) (k0_pay9 x w y) w (ix2 i j) = dx (rwx x i) (one w) (rwx y i) j := by
  unfold dx dn
  simp only [← pay9_at, ← pay6_at, ← pay5_at]
  generalize k0_pay5 x = o
  generalize k0_pay6 x = p
  generalize k0_pay9 x w y = q
  pointwise [k0_pay2]

theorem pay3_at : k0_pay3 (F := Ideal) (ix2 0 0) = 0 := by pointwise [k0_pay3]
theorem pay4_at : k0_pay4 (F := Ideal) (ix2 0 j) = 0 := by pointwise [k0_pay4]

end

variable (m : (ℓ : Loc nD τ sig) → Buf (Elt Ideal) ℓ) (c : Dev nD)

theorem pts : cfg0.N = 16 := N_0

/-- The arrays that the call reads. -/
abbrev aX (i : Fin 8192) (j : Fin 2048) : EReal := V m c main_arg0 (ix2 i j)
abbrev aG (j : Fin 2048) : EReal := V m c main_v0 (ix2 0 j)
abbrev aT (i : Fin 8192) (j : Fin 2048) : EReal := V m c main_arg2 (ix2 i j)

/-- The array's row of a block's row. -/
abbrev row (t : Fin cfg0.N) (i : Fin 512) : Fin 8192 := ⟨t.val * 512 + i.val, by have := pts; have := t.isLt; have := i.isLt; omega⟩

theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem at3 (t : Fin cfg0.N) (i : Fin 512) (j : Fin 2048) : (win0_3.rect t).idx (ix2 i j) = (ix2 (row t i) j : S8192x2048.Idx) := by
  obtain ⟨e0, e1⟩ := idx3 t
  funext a; apply Fin.ext
  match a with
  | ⟨0, _⟩ => show win0_3.index t (0 : Fin 2) * 512 + 1 * i.val = t.val * 512 + i.val; rw [e0]; omega
  | ⟨1, _⟩ => show win0_3.index t (1 : Fin 2) * 2048 + 1 * j.val = j.val; rw [e1]; omega

theorem rx (t : Fin cfg0.N) (i : Fin 512) : rwx (iblk m c 0 t) i = aX m c (row t i) :=
  funext fun k => congrArg (V m c main_arg0) (at3 t i k)
theorem ry (t : Fin cfg0.N) (i : Fin 512) : rwx (iblk m c 2 t) i = aT m c (row t i) :=
  funext fun k => congrArg (V m c main_arg2) (at3 t i k)

theorem at1 (t : Fin cfg0.N) (j : Fin 2048) : (win0_1.rect t).idx (ix2 0 j) = (ix2 0 j : S1x2048.Idx) := by
  have h : ∀ t : Fin cfg0.N, win0_1.index t (0 : Fin 2) = 0 ∧ win0_1.index t (1 : Fin 2) = 0 :=
    (by decide +kernel : ∀ t : Fin grid0.N, win0_1.index t (0 : Fin 2) = 0 ∧ win0_1.index t (1 : Fin 2) = 0)
  obtain ⟨e0, e1⟩ := h t
  funext a; apply Fin.ext
  match a with
  | ⟨0, _⟩ => show win0_1.index t (0 : Fin 2) * 1 + 1 * 0 = 0; rw [e0]
  | ⟨1, _⟩ => show win0_1.index t (1 : Fin 2) * 2048 + 1 * j.val = j.val; rw [e1]; omega

theorem rg (t : Fin cfg0.N) : one (iblk m c 1 t) = aG m c := funext fun k => congrArg (V m c main_v0) (at1 t k)

/-- The entries that the call leaves. -/
def res3 (i : Fin 8192) (j : Fin 2048) : EReal := dx (aX m c i) (aG m c) (aT m c i) j
def res4 : EReal := ∑ t : Fin cfg0.N, half * ∑ r : Fin 512, ms (aX m c (row t r)) (aG m c) (aT m c (row t r))
def res5 (j : Fin 2048) : EReal := ∑ t : Fin cfg0.N, ∑ r : Fin 512, dy (aX m c (row t r)) (aG m c) (aT m c (row t r)) j * nr (aX m c (row t r)) j

/-- The three blocks after a point. -/
theorem o3 (t : Fin cfg0.N) (i : Fin 512) (j : Fin 2048) : @Eq EReal ((outsAt0 m c t.val t.isLt).1 (ix2 i j)) (res3 m c (row t i) j) := by
  have key := pay2_at (iblk m c 0 t) (iblk m c 1 t) (iblk m c 2 t) i j
  rw [rx, ry, rg] at key
  refine Eq.trans ?_ key
  by_cases h : t.val % 16 = 0
  · rw [outsAt0_A m c t h]; frame_out
  · rw [outsAt0_B m c t h]; frame_out

theorem o4_first (t : Fin cfg0.N) (h : t.val % 16 = 0) : @Eq EReal ((outsAt0 m c t.val t.isLt).2.1 (ix2 0 0))
    (0 + half * ∑ r : Fin 512, ms (aX m c (row t r)) (aG m c) (aT m c (row t r))) := by
  have key := pay8_at (iblk m c 0 t) (iblk m c 1 t) (iblk m c 2 t) (k0_pay3 (F := Ideal))
  simp only [rx, ry, rg] at key
  rw [pay3_at] at key
  refine Eq.trans ?_ key
  rw [outsAt0_A m c t h]; frame_out

theorem o4_next (t : Fin cfg0.N) (h : ¬t.val % 16 = 0) : @Eq EReal ((outsAt0 m c t.val t.isLt).2.1 (ix2 0 0))
    ((outsAt0 m c (t.val - 1) (Nat.lt_of_le_of_lt (Nat.sub_le _ _) t.isLt)).2.1 (ix2 0 0)
      + half * ∑ r : Fin 512, ms (aX m c (row t r)) (aG m c) (aT m c (row t r))) := by
  have key := pay8_at (iblk m c 0 t) (iblk m c 1 t) (iblk m c 2 t) ((outsAt0 m c (t.val - 1) (Nat.lt_of_le_of_lt (Nat.sub_le _ _) t.isLt)).2.1)
  simp only [rx, ry, rg] at key
  refine Eq.trans ?_ key
  rw [outsAt0_B m c t h]; frame_out

theorem o5_first (t : Fin cfg0.N) (h : t.val % 16 = 0) (j : Fin 2048) : @Eq EReal ((outsAt0 m c t.val t.isLt).2.2 (ix2 0 j))
    (0 + ∑ r : Fin 512, dy (aX m c (row t r)) (aG m c) (aT m c (row t r)) j * nr (aX m c (row t r)) j) := by
  have key := pay1_at (iblk m c 0 t) (iblk m c 1 t) (iblk m c 2 t) j (k0_pay4 (F := Ideal))
  simp only [rx, ry, rg] at key
  rw [pay4_at] at key
  refine Eq.trans ?_ key
  rw [outsAt0_A m c t h]; frame_out

theorem o5_next (t : Fin cfg0.N) (h : ¬t.val % 16 = 0) (j : Fin 2048) : @Eq EReal ((outsAt0 m c t.val t.isLt).2.2 (ix2 0 j))
    ((outsAt0 m c (t.val - 1) (Nat.lt_of_le_of_lt (Nat.sub_le _ _) t.isLt)).2.2 (ix2 0 j)
      + ∑ r : Fin 512, dy (aX m c (row t r)) (aG m c) (aT m c (row t r)) j * nr (aX m c (row t r)) j) := by
  have key := pay1_at (iblk m c 0 t) (iblk m c 1 t) (iblk m c 2 t) j ((outsAt0 m c (t.val - 1) (Nat.lt_of_le_of_lt (Nat.sub_le _ _) t.isLt)).2.2)
  simp only [rx, ry, rg] at key
  refine Eq.trans ?_ key
  rw [outsAt0_B m c t h]; frame_out

theorem last4 (t : Fin cfg0.N) (ht : t.val + 1 = cfg0.N) : @Eq EReal ((outsAt0 m c t.val t.isLt).2.1 (ix2 0 0)) (res4 m c) := by
  have := Pipeline.eq_sum_fin_of_reset_step_apply_last (M := EReal) (ι := Unit) (fun n h _ => (outsAt0 m c n h).2.1 (ix2 0 0)) 16 (fun _ => 0)
    (fun t _ => half * ∑ r : Fin 512, ms (aX m c (row t r)) (aG m c) (aT m c (row t r)))
    (fun t h _ => o4_first m c t h) (fun t h _ => o4_next m c t h) (le_of_eq pts) t ht ()
  exact this.trans (zero_add _)

theorem last5 (t : Fin cfg0.N) (ht : t.val + 1 = cfg0.N) (j : Fin 2048) : @Eq EReal ((outsAt0 m c t.val t.isLt).2.2 (ix2 0 j)) (res5 m c j) := by
  have := Pipeline.eq_sum_fin_of_reset_step_apply_last (M := EReal) (ι := Fin 2048) (fun n h j => (outsAt0 m c n h).2.2 (ix2 0 j)) 16 (fun _ => 0)
    (fun t j => ∑ r : Fin 512, dy (aX m c (row t r)) (aG m c) (aT m c (row t r)) j * nr (aX m c (row t r)) j)
    (fun t h j => o5_first m c t h j) (fun t h j => o5_next m c t h j) (le_of_eq pts) t ht j
  exact this.trans (zero_add _)

/-! ## The three arrays -/

theorem eta3 (y : S512x2048.Idx) : y = (ix2 (y 0) (y 1) : S512x2048.Idx) := by
  funext a; match a with | ⟨0, _⟩ => rfl | ⟨1, _⟩ => rfl
theorem eta4 (y : S1x1.Idx) : y = (ix2 0 0 : S1x1.Idx) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
theorem eta5 (y : S1x2048.Idx) : y = (ix2 0 (y 1) : S1x2048.Idx) := by
  funext a
  match a with
  | ⟨0, _⟩ => exact Fin.ext (by have h : (y 0).val < 1 := (y 0).isLt; show (y 0).val = 0; omega)
  | ⟨1, _⟩ => rfl

theorem block3 (t : Fin cfg0.N) (f : Vec Ideal S512x2048 .f32) (g : Fin 8192 → Fin 2048 → EReal)
    (h : ∀ i j, f (ix2 i j) = g (row t i) j) (y : S512x2048.Idx) :
    f y = (fun i : S8192x2048.Idx => g (i 0) (i 1)) ((win0_3.rect t).idx y) :=
  (congrArg f (eta3 y)).trans ((h _ _).trans (congrArg (fun i : S8192x2048.Idx => g (i 0) (i 1))
    ((congrArg (win0_3.rect t).idx (eta3 y)).trans (at3 t (y 0) (y 1)))).symm)

theorem flushed3_eq (t : Fin cfg0.N) : (dats m 0 c).flushed 3 t = ((cfg0.win 3).blk t).view.read (Elt Ideal) (fun i => res3 m c (i 0) (i 1)) := by
  rw [flushed3]
  exact funext fun y => block3 t _ (res3 m c) (o3 m c t) y

theorem cover3 (i : S8192x2048.Idx) : ∃ t : Fin cfg0.N, i ∈ (win0_3.rect t).set := by
  have h0 : (i 0).val < 8192 := (i 0).isLt
  have h1 : (i 1).val < 2048 := (i 1).isLt
  have hP := pts
  refine ⟨⟨(i 0).val / 512, by omega⟩, ?_⟩
  rw [Rect.mem_set_unit]
  obtain ⟨e0, e1⟩ := idx3 ⟨(i 0).val / 512, by omega⟩
  intro a
  match a with
  | ⟨0, _⟩ => show win0_3.index _ (0 : Fin 2) * 512 ≤ (i 0).val ∧ (i 0).val < win0_3.index _ (0 : Fin 2) * 512 + 512; rw [e0]; show (i 0).val / 512 * 512 ≤ _ ∧ _ < (i 0).val / 512 * 512 + 512; omega
  | ⟨1, _⟩ => show win0_3.index _ (1 : Fin 2) * 2048 ≤ (i 1).val ∧ (i 1).val < win0_3.index _ (1 : Fin 2) * 2048 + 2048; rw [e1]; show 0 * 2048 ≤ _ ∧ _ < 0 * 2048 + 2048; omega

theorem final3 : (dats m 0 c).arrAt 3 cfg0.N = fun i => res3 m c (i 0) (i 1) :=
  (dats m 0 c).arrAt_eq_of_cover 3 (fun i => res3 m c (i 0) (i 1)) (fun t _ => flushed3_eq m c t) fun i =>
    (cover3 i).imp fun t h => ⟨flush0_3 t, by
      show i ∈ ((View.whole main_v1_0).slice (win0_3.rect t)).set
      rw [View.set_slice_whole]
      exact h⟩

/-- The last point, whose blocks of the two sums are the arrays. -/
abbrev tl : Fin cfg0.N := ⟨15, by rw [pts]; omega⟩

theorem last_point (t : Fin cfg0.N) (h : t.val % 16 = 15) : t = tl :=
  Fin.ext (by have := pts; have := t.isLt; show t.val = 15; omega)

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem cover4 (i : S1x1.Idx) : i ∈ (win0_4.rect tl).set := by
  have h0 : (i 0).val < 1 := (i 0).isLt
  have h1 : (i 1).val < 1 := (i 1).isLt
  rw [Rect.mem_set_unit]
  obtain ⟨e0, e1⟩ := idx4 tl
  intro a
  match a with
  | ⟨0, _⟩ => show win0_4.index _ (0 : Fin 2) * 1 ≤ (i 0).val ∧ (i 0).val < win0_4.index _ (0 : Fin 2) * 1 + 1; rw [e0]; show 0 * 1 ≤ _ ∧ _ < 0 * 1 + 1; omega
  | ⟨1, _⟩ => show win0_4.index _ (1 : Fin 2) * 1 ≤ (i 1).val ∧ (i 1).val < win0_4.index _ (1 : Fin 2) * 1 + 1; rw [e1]; show 0 * 1 ≤ _ ∧ _ < 0 * 1 + 1; omega

theorem cover5 (i : S1x2048.Idx) : i ∈ (win0_5.rect tl).set := by
  have h0 : (i 0).val < 1 := (i 0).isLt
  have h1 : (i 1).val < 2048 := (i 1).isLt
  rw [Rect.mem_set_unit]
  obtain ⟨e0, e1⟩ := idx5 tl
  intro a
  match a with
  | ⟨0, _⟩ => show win0_5.index _ (0 : Fin 2) * 1 ≤ (i 0).val ∧ (i 0).val < win0_5.index _ (0 : Fin 2) * 1 + 1; rw [e0]; show 0 * 1 ≤ _ ∧ _ < 0 * 1 + 1; omega
  | ⟨1, _⟩ => show win0_5.index _ (1 : Fin 2) * 2048 ≤ (i 1).val ∧ (i 1).val < win0_5.index _ (1 : Fin 2) * 2048 + 2048; rw [e1]; show 0 * 2048 ≤ _ ∧ _ < 0 * 2048 + 2048; omega

theorem tl_last : tl.val + 1 = cfg0.N := pts.symm

theorem flushed4_eq : (dats m 0 c).flushed 4 tl = ((cfg0.win 4).blk tl).view.read (Elt Ideal) (fun _ => res4 m c) := by
  rw [flushed4]
  exact funext fun y : S1x1.Idx => (congrArg (outsAt0 m c tl.val tl.isLt).2.1 (eta4 y)).trans (last4 m c tl tl_last)

theorem final4 : (dats m 0 c).arrAt 4 cfg0.N = fun _ => res4 m c :=
  (dats m 0 c).arrAt_eq_of_cover 4 (fun _ => res4 m c) (fun t hf => by
      rw [last_point t ((flush0_4 t).mp hf)]; exact flushed4_eq m c) fun i => ⟨tl, (flush0_4 tl).mpr rfl, by
      show i ∈ ((View.whole main_v1_1).slice (win0_4.rect tl)).set
      rw [View.set_slice_whole]
      exact cover4 i⟩

theorem block5 (f : Vec Ideal S1x2048 .f32) (g : Fin 2048 → EReal) (h : ∀ j, f (ix2 0 j) = g j) (y : S1x2048.Idx) :
    f y = (fun i : S1x2048.Idx => g (i 1)) ((win0_5.rect tl).idx y) := by
  refine (congrArg f (eta5 y)).trans ((h _).trans (congrArg g (Fin.ext ?_)))
  show (y 1).val = win0_5.index tl (1 : Fin 2) * 2048 + 1 * (y 1).val
  rw [(idx5 tl).2]; omega

theorem flushed5_eq : (dats m 0 c).flushed 5 tl = ((cfg0.win 5).blk tl).view.read (Elt Ideal) (fun i => res5 m c (i 1)) := by
  rw [flushed5]
  exact funext fun y => block5 _ (res5 m c) (last5 m c tl tl_last) y

theorem final5 : (dats m 0 c).arrAt 5 cfg0.N = fun i => res5 m c (i 1) :=
  (dats m 0 c).arrAt_eq_of_cover 5 (fun i => res5 m c (i 1)) (fun t hf => by
      rw [last_point t ((flush0_5 t).mp hf)]; exact flushed5_eq m c) fun i => ⟨tl, (flush0_5 tl).mpr rfl, by
      show i ∈ ((View.whole main_v1_2).slice (win0_5.rect tl)).set
      rw [View.set_slice_whole]
      exact cover5 i⟩

end Cert.Kernel11Ideal.Tie

end
-- ==== Proof.LhTie.lean ====
/-
  The loss head's three results are the reference's: the loss, and its gradients by differentiation.
-/
module

public import proofs.«01_k».proof.Proof.LhVal
public import proofs.«01_k».proof.Proof.Gen.Reference11Ideal.Read
public import proofs.«01_k».proof.Proof.Gen.Reference11Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel11Ideal.Tie

open Cert.Kernel11Ideal Cert.Kernel11Ideal.Gen Cert.Kernel11Ideal.Value Cert.Reference11Ideal.Read Cert.IbSpec
open Idealize.ShloMosaic Idealize.ShloMosaic.TcCoe Idealize.ShloMosaic.StableHlo

section
variable (x0 : (⟨Cert.Reference11Ideal.S8192x2048, .f32⟩ : BufTy).Contents (Elt Ideal)) (x1 : (⟨Cert.Reference11Ideal.S2048, .f32⟩ : BufTy).Contents (Elt Ideal))
  (x2 : (⟨Cert.Reference11Ideal.S8192x2048, .f32⟩ : BufTy).Contents (Elt Ideal)) (i : Fin 8192) (j : Fin 2048)

/-- A row of a matrix, and a vector. -/
abbrev fR (x : (⟨Cert.Reference11Ideal.S8192x2048, .f32⟩ : BufTy).Contents (Elt Ideal)) (i : Fin 8192) (j : Fin 2048) : EReal := x (ix2 i j)
abbrev fV (j : Fin 2048) : EReal := x1 (ix1 j)

theorem r6 : val_main_v6 (F := Ideal) x0 (ix2 i 0) = LhMath.u (fR x0 i) := by
  simp only [val_main_v6_apply, val_main_v4_apply, val_main_v2_apply, val_main_v1_apply, val_main_v0_apply,
    val_main_v3_apply, val_main_v5_apply, val_main_cst_apply, val_main_cst_0_apply, val_main_cst_1_apply,
    Ideal.ofBits_def, Ideal.addf_def, Ideal.mulf_def, Ideal.hostDivf_def, Ideal.ofBits_zero_f32, zero_add]
  unfold LhMath.u
  congr 2
  refine Finset.sum_congr rfl fun k _ => ?_
  have : idx_main_v1 (idx_main_v2 (ix2 i 0)) k = ix2 i k := by
    funext a; match a with | ⟨0, _⟩ => rfl | ⟨1, _⟩ => rfl
  rw [this]

theorem r7 : val_main_v7 (F := Ideal) x0 (ix2 i 0) = Ideal.rsqrt (LhMath.u (fR x0 i)) := by
  rw [val_main_v7_apply, r6]; rfl

theorem col (f : (⟨Cert.Reference11Ideal.S8192x1, .f32⟩ : BufTy).Contents (Elt Ideal)) (q : Cert.Reference11Ideal.S8192x1.Idx) (h : (q 0).val = i.val) :
    f q = f (ix2 i 0) := by
  congr 1; funext a
  match a with
  | ⟨0, _⟩ => exact Fin.ext h
  | ⟨1, _⟩ => exact Fin.ext (by have : (q 1).val < 1 := (q 1).isLt; show (q 1).val = 0; omega)

theorem r12 : val_main_v12 (F := Ideal) x0 (ix2 i j) = LhMath.nr (fR x0 i) j := by
  rw [val_main_v12_apply, val_main_v11_apply, col i (val_main_v7 (F := Ideal) x0) _ rfl, r7]; rfl

theorem r13 (q : Cert.Reference11Ideal.S1x2048.Idx) (h : (q 1).val = j.val) : val_main_v13 (F := Ideal) x1 q = fV x1 j := by
  rw [val_main_v13_apply]
  exact congrArg x1 (by funext a; match a with | ⟨0, _⟩ => exact Fin.ext h)

theorem r16 : val_main_v16 (F := Ideal) x0 x1 x2 (ix2 i j) = LhMath.er (fR x0 i) (fV x1) (fR x2 i) j := by
  rw [val_main_v16_apply, val_main_v15_apply, r12, val_main_v14_apply, r13 x1 j _ rfl]; rfl

theorem r30 : val_main_v30 (F := Ideal) x0 x1 x2 (ix2 i j) = LhMath.dy (fR x0 i) (fV x1) (fR x2 i) j := by
  rw [val_main_v30_apply, val_main_v29_apply, val_main_v28_apply, val_main_v26_apply, val_main_v25_apply, val_main_v27_apply,
    val_main_cst_8_apply, val_main_cst_9_apply, val_main_cst_10_apply, val_main_v19_apply, val_main_v18_apply, val_main_cst_3_apply, r16]
  exact LhMath.factor _

theorem r35 : val_main_v35 (F := Ideal) x0 x1 x2 (ix2 i j) = LhMath.dn (fR x0 i) (fV x1) (fR x2 i) j := by
  rw [val_main_v35_apply, r30, val_main_v34_apply, r13 x1 j _ rfl]; rfl

theorem r38 : val_main_v38 (F := Ideal) x0 x1 x2 (ix1 i) = ∑ k : Fin 2048, fR x0 i k * LhMath.dn (fR x0 i) (fV x1) (fR x2 i) k := by
  rw [val_main_v38_apply]
  show Ideal.ofBits .f32 0x00000000#32 + _ = _
  rw [Ideal.ofBits_zero_f32, zero_add]
  refine Finset.sum_congr rfl fun k _ => ?_
  rw [val_main_v37_apply]
  have : idx_main_v38 (ix1 i) k = ix2 i k := by
    funext a; match a with | ⟨0, _⟩ => rfl | ⟨1, _⟩ => rfl
  rw [this, r35]; rfl

theorem r10 : val_main_v10 (F := Ideal) x0 (ix2 i 0)
      = Ideal.ofBits .f32 0xBF000000#32 * Ideal.div (Ideal.rsqrt (LhMath.u (fR x0 i))) (LhMath.u (fR x0 i)) := by
  rw [val_main_v10_apply, val_main_v8_apply, r7, r6, val_main_v9_apply, val_main_cst_2_apply]; rfl

theorem r46 : val_main_v46 (F := Ideal) x0 x1 x2 (ix2 i j)
      = Ideal.div ((∑ k : Fin 2048, fR x0 i k * LhMath.dn (fR x0 i) (fV x1) (fR x2 i) k)
          * (Ideal.ofBits .f32 0xBF000000#32 * Ideal.div (Ideal.rsqrt (LhMath.u (fR x0 i))) (LhMath.u (fR x0 i)))) c2048 := by
  rw [val_main_v46_apply, val_main_v45_apply]
  show Ideal.ofBits .f32 0x00000000#32 + _ = _
  rw [Ideal.ofBits_zero_f32, zero_add, Fin.sum_univ_one]
  rw [col i (val_main_v44 (F := Ideal) x0 x1 x2) _ (by rfl), val_main_v44_apply, val_main_v42_apply, val_main_v39_apply,
      r10, val_main_v43_apply, val_main_cst_14_apply]
  rw [show idx_main_v39 (ix2 i 0) = ix1 i from by
    funext a; match a with | ⟨0, _⟩ => exact Fin.ext (by show i.val * 1 + 0 = i.val; omega), r38]
  rfl

theorem r50 : val_main_v50 (F := Ideal) x0 x1 x2 (ix2 i j) = LhMath.dx (fR x0 i) (fV x1) (fR x2 i) j := by
  rw [LhMath.dx_eq]
  rw [val_main_v50_apply, val_main_v48_apply, val_main_v41_apply, val_main_v47_apply, val_main_v49_apply, r35, r46,
    val_main_v40_apply, col i (val_main_v7 (F := Ideal) x0) _ rfl, r7]
  rfl

theorem r52 : val_main_v52 (F := Ideal) x0 x1 x2 (ix2 0 j)
    = ∑ i : Fin 8192, LhMath.dy (fR x0 i) (fV x1) (fR x2 i) j * LhMath.nr (fR x0 i) j := by
  rw [val_main_v52_apply, val_main_v36_apply]
  show Ideal.ofBits .f32 0x00000000#32 + _ = _
  rw [Ideal.ofBits_zero_f32, zero_add, Fin.sum_univ_one, val_main_v33_apply, val_main_v32_apply]
  show Ideal.ofBits .f32 0x00000000#32 + _ = _
  rw [Ideal.ofBits_zero_f32, zero_add]
  refine Finset.sum_congr rfl fun k _ => ?_
  have e : (idx_main_v32 (idx_main_v33 (idx_main_v36 (idx_main_v52 (ix2 0 j)) 0)) k) = ix2 k j := by
    funext a; match a with
    | ⟨0, _⟩ => rfl
    | ⟨1, _⟩ => exact Fin.ext (by show 0 * 2048 + (0 * 2048 + j.val) = j.val; omega)
  rw [e, val_main_v31_apply, r12, r30]
  exact mul_comm (_ : EReal) _

theorem r22 : val_main_v22 (F := Ideal) x0 x1 x2 (ix1 i) = LhMath.ms (fR x0 i) (fV x1) (fR x2 i) := by
  rw [val_main_v22_apply, val_main_v20_apply, val_main_v21_apply, val_main_cst_5_apply]
  show Ideal.div (Ideal.ofBits .f32 0x00000000#32 + _) _ = _
  rw [Ideal.ofBits_zero_f32, zero_add]
  unfold LhMath.ms
  congr 1
  refine Finset.sum_congr rfl fun k _ => ?_
  have e : idx_main_v20 (ix1 i) k = ix2 i k := by
    funext a; match a with | ⟨0, _⟩ => rfl | ⟨1, _⟩ => rfl
  rw [e, val_main_v17_apply, r16]; rfl

theorem one_elem (k : Fin Cert.Reference11Ideal.S_.numel) : k.val = 0 := by
  have h : k.val < 1 := Nat.lt_of_lt_of_eq k.isLt (by decide)
  omega

theorem sum22 : ∑ q : Cert.Reference11Ideal.S8192.Idx, val_main_v22 (F := Ideal) x0 x1 x2 q
    = ∑ i : Fin 8192, LhMath.ms (fR x0 i) (fV x1) (fR x2 i) := by
  refine Eq.trans (Finset.sum_congr rfl fun q _ => ?_)
    (Fin.sum_idx1 Cert.Reference11Ideal.S8192.size fun i : Fin 8192 => LhMath.ms (fR x0 i) (fV x1) (fR x2 i))
  exact (congrArg (val_main_v22 (F := Ideal) x0 x1 x2) (show q = ix1 (q 0) from by
    funext a; match a with | ⟨0, _⟩ => rfl)).trans (r22 x0 x1 x2 (q 0))

theorem r51 (q : Cert.Reference11Ideal.S1x1.Idx) : val_main_v51 (F := Ideal) x0 x1 x2 q
    = LhMath.half * ∑ i : Fin 8192, LhMath.ms (fR x0 i) (fV x1) (fR x2 i) := by
  unfold val_main_v51
  rw [shapeCast_apply (val_main_v24 (F := Ideal) x0 x1 x2) Cert.Reference11Ideal.Gen.shapeCasts_S_S1x1 q (fun a => a.elim0) (by
    rw [Shape.rowMajor_val_two]
    have h0 : (q 0).val < 1 := (q 0).isLt
    have h1 : (q 1).val < 1 := (q 1).isLt
    refine (one_elem _).trans ?_
    show 0 = (q 0).val * 1 + (q 1).val
    omega)]
  rw [val_main_v24_apply, val_main_v23_apply, val_main_cst_7_apply]
  show LhMath.half * (Ideal.ofBits .f32 0x00000000#32 + _) = _
  rw [Ideal.ofBits_zero_f32, zero_add]
  exact congrArg (LhMath.half * ·) (sum22 x0 x1 x2)

end

variable (m : (ℓ : Loc nD τ sig) → Buf (Elt Ideal) ℓ) (c : Dev nD)

theorem V_g (j : Fin 2048) : V m c main_v0 (ix2 0 j) = (m ((c : Thread nD τ).loc main_arg1)) (ix1 j) := by
  unfold_abbrev_sides
  after_results
  pointwise

theorem gs : aG m c = fV (m ((c : Thread nD τ).loc main_arg1)) := funext fun j => V_g m c j
theorem xs (i : Fin 8192) : aX m c i = fR (m ((c : Thread nD τ).loc main_arg0)) i := rfl
theorem ts (i : Fin 8192) : aT m c i = fR (m ((c : Thread nD τ).loc main_arg2)) i := rfl

/-- A sum over the points and the rows of a block is the sum over the array's rows. -/
theorem rows (f : Fin 8192 → EReal) : ∑ t : Fin cfg0.N, ∑ r : Fin 512, f (row t r) = ∑ i : Fin 8192, f i :=
  Fin.sum_mul_add_fin cfg0.N 512 f (by rw [pts])

theorem at_3 (i : S8192x2048.Idx) : res3 m c (i 0) (i 1) = val_main_v50 (F := Ideal) (m ((c : Thread nD τ).loc main_arg0))
    (m ((c : Thread nD τ).loc main_arg1)) (m ((c : Thread nD τ).loc main_arg2)) i := by
  refine Eq.trans ?_ (congrArg (val_main_v50 (F := Ideal) _ _ _) (show i = ix2 (i 0) (i 1) from by
    funext a; match a with | ⟨0, _⟩ => rfl | ⟨1, _⟩ => rfl)).symm
  refine Eq.trans ?_ (r50 _ _ _ (i 0) (i 1)).symm
  unfold res3
  rw [gs]
  rfl

theorem value3 : (dats m 0 c).arrAt 3 cfg0.N = val_main_v50 (F := Ideal) (m ((c : Thread nD τ).loc main_arg0))
    (m ((c : Thread nD τ).loc main_arg1)) (m ((c : Thread nD τ).loc main_arg2)) :=
  (final3 m c).trans (funext fun i => at_3 m c i)

theorem at_4 (i : S1x1.Idx) : res4 m c = val_main_v51 (F := Ideal) (m ((c : Thread nD τ).loc main_arg0))
    (m ((c : Thread nD τ).loc main_arg1)) (m ((c : Thread nD τ).loc main_arg2)) i := by
  rw [r51]
  unfold res4
  rw [← LhMath.half_sum, gs, rows fun i => LhMath.ms (aX m c i) _ (aT m c i)]
  rfl

theorem value4 : (dats m 0 c).arrAt 4 cfg0.N = val_main_v51 (F := Ideal) (m ((c : Thread nD τ).loc main_arg0))
    (m ((c : Thread nD τ).loc main_arg1)) (m ((c : Thread nD τ).loc main_arg2)) :=
  (final4 m c).trans (funext fun i => at_4 m c i)

theorem at_5 (i : S1x2048.Idx) : res5 m c (i 1) = val_main_v52 (F := Ideal) (m ((c : Thread nD τ).loc main_arg0))
    (m ((c : Thread nD τ).loc main_arg1)) (m ((c : Thread nD τ).loc main_arg2)) i := by
  refine Eq.trans ?_ (congrArg (val_main_v52 (F := Ideal) _ _ _) (eta5 i)).symm
  refine Eq.trans ?_ (r52 _ _ _ (i 1)).symm
  unfold res5
  rw [gs, rows fun r => LhMath.dy (aX m c r) _ (aT m c r) (i 1) * LhMath.nr (aX m c r) (i 1)]
  rfl

theorem value5 : (dats m 0 c).arrAt 5 cfg0.N = val_main_v52 (F := Ideal) (m ((c : Thread nD τ).loc main_arg0))
    (m ((c : Thread nD τ).loc main_arg1)) (m ((c : Thread nD τ).loc main_arg2)) :=
  (final5 m c).trans (funext fun i => at_5 m c i)

end Cert.Kernel11Ideal.Tie

end
-- ==== Proof.AsVal.lean ====
/-
  What the optimiser's call on the packed small weights leaves: the gradient as given, the step and the two new moments.
-/
module

public import proofs.«01_k».proof.Proof.Gen.Kernel12Ideal.Value
public import proofs.«01_k».proof.Proof.AdamMath
public import Idealize.ShloMosaic.Lib.Pipeline.ValueKit.Acc
public import Idealize.ShloMosaic.Lib.Pointwise.Tactic

@[expose] public section

set_option maxRecDepth 16384

noncomputable section

namespace Cert.Kernel12Ideal.Tie

open Cert.Kernel12Ideal Cert.Kernel12Ideal.Gen Cert.Kernel12Ideal.Value Cert.AdamMath
open Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

section
variable (g : Vec Ideal S1x1024x128 .f32) (w a v : Vec Ideal S1024x128 .f32) (i : Fin 1024) (j : Fin 128)

theorem pay1_at : k0_pay1 (F := Ideal) g (ix2 i j) = g (ix3 0 i j) := by
  pointwise [k0_pay1]
  exact shapeCast_apply _ _ _ (ix3 0 i j) (by
    rw [Shape.rowMajor_val_three, Shape.rowMajor_val_two]
    show (0 * 1024 + i.val) * 128 + j.val = i.val * 128 + j.val
    omega)

theorem pay2_at : k0_pay2 (F := Ideal) g a (ix2 i j) = newM (F := Ideal) (g (ix3 0 i j)) (a (ix2 i j)) := by
  unfold newM
  pointwise [k0_pay2]
  rw [pay1_at]

theorem pay3_at : k0_pay3 (F := Ideal) g v (ix2 i j) = newV (F := Ideal) (g (ix3 0 i j)) (v (ix2 i j)) := by
  unfold newV
  pointwise [k0_pay3]
  rw [pay1_at]

theorem pay4_at : k0_pay4 (F := Ideal) g w a v (ix2 i j) = delta (F := Ideal) (g (ix3 0 i j)) (w (ix2 i j)) (a (ix2 i j)) (v (ix2 i j)) := by
  unfold delta
  pointwise [k0_pay4]
  rw [pay2_at, pay3_at]

theorem out4_at : out0_4 (F := Ideal) g w a v (ix2 i j) = g (ix3 0 i j) := by
  unfold out0_4
  rw [View.canon_unit_zero hz2]
  simp only [View.ld_unit_zero (S := S1x1024x128) hz3, View.ld_unit_zero (S := S1024x128) hz2]
  exact pay1_at _ i j

theorem out5_at : out0_5 (F := Ideal) g w a v (ix2 i j) = delta (F := Ideal) (g (ix3 0 i j)) (w (ix2 i j)) (a (ix2 i j)) (v (ix2 i j)) := by
  unfold out0_5
  rw [View.canon_unit_zero hz2]
  simp only [View.ld_unit_zero (S := S1x1024x128) hz3, View.ld_unit_zero (S := S1024x128) hz2]
  exact pay4_at _ _ _ _ i j

theorem out6_at : out0_6 (F := Ideal) g w a v (ix2 i j) = newM (F := Ideal) (g (ix3 0 i j)) (a (ix2 i j)) := by
  unfold out0_6
  rw [View.canon_unit_zero hz2]
  simp only [View.ld_unit_zero (S := S1x1024x128) hz3, View.ld_unit_zero (S := S1024x128) hz2]
  exact pay2_at _ _ i j

theorem out7_at : out0_7 (F := Ideal) g w a v (ix2 i j) = newV (F := Ideal) (g (ix3 0 i j)) (v (ix2 i j)) := by
  unfold out0_7
  rw [View.canon_unit_zero hz2]
  simp only [View.ld_unit_zero (S := S1x1024x128) hz3, View.ld_unit_zero (S := S1024x128) hz2]
  exact pay3_at _ _ i j

end

variable (m : (ℓ : Loc nD τ sig) → Buf (Elt Ideal) ℓ) (c : Dev nD)

theorem pts : cfg0.N = 3 := N_0

theorem at2_idx : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Where an entry of a block lies in its array: for the results, the weights and the moments. -/
theorem at2 (t : Fin cfg0.N) (i : Fin 1024) (j : Fin 128) : (win0_4.rect t).idx (ix2 i j) = ((ix2 ⟨t.val * 1024 + i.val, by have := pts; have := t.isLt; have := i.isLt; omega⟩ j) : S3072x128.Idx) := by
  obtain ⟨e0, e1⟩ := at2_idx t
  funext a; apply Fin.ext
  match a with
  | ⟨0, _⟩ => show win0_4.index t (0 : Fin 2) * 1024 + 1 * i.val = t.val * 1024 + i.val; rw [e0]; omega
  | ⟨1, _⟩ => show win0_4.index t (1 : Fin 2) * 128 + 1 * j.val = j.val; rw [e1]; omega

theorem at0_idx : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

/-- and for the gradient. -/
theorem at0 (t : Fin cfg0.N) (i : Fin 1) (j : Fin 1024) (k : Fin 128) : (win0_0.rect t).idx (ix3 i j k) = ((ix3 i ⟨t.val * 1024 + j.val, by have := pts; have := t.isLt; have := j.isLt; omega⟩ k) : S1x3072x128.Idx) := by
  obtain ⟨e0, e1, e2⟩ := at0_idx t
  funext a; apply Fin.ext
  match a with
  | ⟨0, _⟩ => show win0_0.index t (0 : Fin 3) * 1 + 1 * i.val = i.val; rw [e0]; omega
  | ⟨1, _⟩ => show win0_0.index t (1 : Fin 3) * 1024 + 1 * j.val = t.val * 1024 + j.val; rw [e1]; omega
  | ⟨2, _⟩ => show win0_0.index t (2 : Fin 3) * 128 + 1 * k.val = k.val; rw [e2]; omega

/-- Every entry of the array lies in the block of some point. -/
theorem cover (i : S3072x128.Idx) : ∃ t : Fin cfg0.N, i ∈ (win0_4.rect t).set := by
  have h0 : (i 0).val < 3072 := (i 0).isLt
  have h1 : (i 1).val < 128 := (i 1).isLt
  have hP := pts
  refine ⟨⟨(i 0).val / 1024, by omega⟩, ?_⟩
  rw [Rect.mem_set_unit]
  obtain ⟨e0, e1⟩ := at2_idx ⟨(i 0).val / 1024, by omega⟩
  intro a
  match a with
  | ⟨0, _⟩ => show win0_4.index _ (0 : Fin 2) * 1024 ≤ (i 0).val ∧ (i 0).val < win0_4.index _ (0 : Fin 2) * 1024 + 1024; rw [e0]; show ((i 0).val / 1024) * 1024 ≤ _ ∧ _ < ((i 0).val / 1024) * 1024 + 1024; omega
  | ⟨1, _⟩ => show win0_4.index _ (1 : Fin 2) * 128 ≤ (i 1).val ∧ (i 1).val < win0_4.index _ (1 : Fin 2) * 128 + 128; rw [e1]; show 0 * 128 ≤ _ ∧ _ < 0 * 128 + 128; omega

/-- The arrays that the call reads. -/
abbrev aG (i : Fin 3072) (j : Fin 128) : EReal := V m c main_v0 (ix3 0 i j)
abbrev aW (i : Fin 3072) (j : Fin 128) : EReal := V m c main_arg1 (ix2 i j)
abbrev aM (i : Fin 3072) (j : Fin 128) : EReal := V m c main_arg2 (ix2 i j)
abbrev aV (i : Fin 3072) (j : Fin 128) : EReal := V m c main_arg3 (ix2 i j)

/-- The entries that it leaves. -/
def res4 (i : Fin 3072) (j : Fin 128) : EReal := aG m c i j
def res5 (i : Fin 3072) (j : Fin 128) : EReal := delta (F := Ideal) (aG m c i j) (aW m c i j) (aM m c i j) (aV m c i j)
def res6 (i : Fin 3072) (j : Fin 128) : EReal := newM (F := Ideal) (aG m c i j) (aM m c i j)
def res7 (i : Fin 3072) (j : Fin 128) : EReal := newV (F := Ideal) (aG m c i j) (aV m c i j)

theorem eta (y : S1024x128.Idx) : y = (ix2 (y 0) (y 1) : S1024x128.Idx) := by funext a; match a with | ⟨0, _⟩ => rfl | ⟨1, _⟩ => rfl

/-- A block that is written back is a block of an array when its entries are the array's at their places. -/
theorem block_eq (g : Fin 3072 → Fin 128 → EReal) (t : Fin cfg0.N) (f : Vec Ideal S1024x128 .f32)
    (h : ∀ i j, f (ix2 i j) = g ⟨t.val * 1024 + i.val, by have := pts; have := t.isLt; have := i.isLt; omega⟩ j) (y : S1024x128.Idx) :
    f y = (fun i : S3072x128.Idx => g (i 0) (i 1)) ((win0_4.rect t).idx y) :=
  (congrArg f (eta y)).trans ((h _ _).trans (congrArg (fun i : S3072x128.Idx => g (i 0) (i 1))
    ((congrArg (win0_4.rect t).idx (eta y)).trans (at2 t (y 0) (y 1)))).symm)

theorem flushed4_eq (t : Fin cfg0.N) : (dats m 0 c).flushed 4 t = ((cfg0.win 4).blk t).view.read (Elt Ideal) (fun i => res4 m c (i 0) (i 1)) := by
  rw [flushed4]
  refine funext fun y => block_eq (res4 m c) t _ (fun i j => (out4_at _ _ _ _ i j).trans ?_) y
  unfold iblk res4
  simp only [View.read_apply]
  exact (congrArg (V m c main_v0) (at0 t 0 i j))

theorem final4 : (dats m 0 c).arrAt 4 cfg0.N = fun i => res4 m c (i 0) (i 1) :=
  (dats m 0 c).arrAt_eq_of_cover 4 (fun i => res4 m c (i 0) (i 1)) (fun t _ => flushed4_eq m c t) fun i =>
    (cover i).imp fun t h => ⟨flush0_4 t, by
      show i ∈ ((View.whole main_v1_0).slice (win0_4.rect t)).set
      rw [View.set_slice_whole]
      exact h⟩

theorem flushed5_eq (t : Fin cfg0.N) : (dats m 0 c).flushed 5 t = ((cfg0.win 5).blk t).view.read (Elt Ideal) (fun i => res5 m c (i 0) (i 1)) := by
  rw [flushed5]
  refine funext fun y => block_eq (res5 m c) t _ (fun i j => (out5_at _ _ _ _ i j).trans ?_) y
  unfold iblk res5
  simp only [View.read_apply]
  exact delta_congr (congrArg (V m c main_v0) (at0 t 0 i j)) (congrArg (V m c main_arg1) (at2 t i j)) (congrArg (V m c main_arg2) (at2 t i j)) (congrArg (V m c main_arg3) (at2 t i j))

theorem final5 : (dats m 0 c).arrAt 5 cfg0.N = fun i => res5 m c (i 0) (i 1) :=
  (dats m 0 c).arrAt_eq_of_cover 5 (fun i => res5 m c (i 0) (i 1)) (fun t _ => flushed5_eq m c t) fun i =>
    (cover i).imp fun t h => ⟨flush0_5 t, by
      show i ∈ ((View.whole main_v1_1).slice (win0_5.rect t)).set
      rw [View.set_slice_whole]
      exact h⟩

theorem flushed6_eq (t : Fin cfg0.N) : (dats m 0 c).flushed 6 t = ((cfg0.win 6).blk t).view.read (Elt Ideal) (fun i => res6 m c (i 0) (i 1)) := by
  rw [flushed6]
  refine funext fun y => block_eq (res6 m c) t _ (fun i j => (out6_at _ _ _ _ i j).trans ?_) y
  unfold iblk res6
  simp only [View.read_apply]
  exact congrArg₂ (newM (F := Ideal)) (congrArg (V m c main_v0) (at0 t 0 i j)) (congrArg (V m c main_arg2) (at2 t i j))

theorem final6 : (dats m 0 c).arrAt 6 cfg0.N = fun i => res6 m c (i 0) (i 1) :=
  (dats m 0 c).arrAt_eq_of_cover 6 (fun i => res6 m c (i 0) (i 1)) (fun t _ => flushed6_eq m c t) fun i =>
    (cover i).imp fun t h => ⟨flush0_6 t, by
      show i ∈ ((View.whole main_v1_2).slice (win0_6.rect t)).set
      rw [View.set_slice_whole]
      exact h⟩

theorem flushed7_eq (t : Fin cfg0.N) : (dats m 0 c).flushed 7 t = ((cfg0.win 7).blk t).view.read (Elt Ideal) (fun i => res7 m c (i 0) (i 1)) := by
  rw [flushed7]
  refine funext fun y => block_eq (res7 m c) t _ (fun i j => (out7_at _ _ _ _ i j).trans ?_) y
  unfold iblk res7
  simp only [View.read_apply]
  exact congrArg₂ (newV (F := Ideal)) (congrArg (V m c main_v0) (at0 t 0 i j)) (congrArg (V m c main_arg3) (at2 t i j))

theorem final7 : (dats m 0 c).arrAt 7 cfg0.N = fun i => res7 m c (i 0) (i 1) :=
  (dats m 0 c).arrAt_eq_of_cover 7 (fun i => res7 m c (i 0) (i 1)) (fun t _ => flushed7_eq m c t) fun i =>
    (cover i).imp fun t h => ⟨flush0_7 t, by
      show i ∈ ((View.whole main_v1_3).slice (win0_7.rect t)).set
      rw [View.set_slice_whole]
      exact h⟩

end Cert.Kernel12Ideal.Tie

end
-- ==== Proof.AsTie.lean ====
/-
  The call's four results are the reference's: the new moments and the step entry by entry, and the gradient as given.
-/
module

public import proofs.«01_k».proof.Proof.AsVal
public import proofs.«01_k».proof.Proof.Gen.Reference12Ideal.Read
public import proofs.«01_k».proof.Proof.Gen.Reference12Ideal.Run
public import Idealize.ShloMosaic.Lib.Pointwise
public import Idealize.ShloMosaic.Lib.StableHlo.Run
public import Idealize.ShloMosaic.Lib.StableHlo.RunRead

@[expose] public section

set_option maxRecDepth 16384

noncomputable section

namespace Cert.Kernel12Ideal.Tie

open Cert.Kernel12Ideal Cert.Kernel12Ideal.Gen Cert.Kernel12Ideal.Value Cert.Reference12Ideal.Read Cert.AdamMath
open Idealize.ShloMosaic Idealize.ShloMosaic.TcCoe Idealize.ShloMosaic.StableHlo

section
variable (x0 x1 x2 x3 : (⟨S3072x128, .f32⟩ : BufTy).Contents (Elt Ideal)) (i : S3072x128.Idx)

theorem ref_m : val_main_v4 (F := Ideal) x0 x2 i = newM (F := Ideal) (x0 i) (x2 i) := by
  rw [val_main_v4_apply, val_main_v1_apply, val_main_v3_apply, val_main_v0_apply, val_main_v2_apply, val_main_cst_apply, val_main_cst_0_apply]
  rfl

theorem ref_v : val_main_v10 (F := Ideal) x0 x3 i = newV (F := Ideal) (x0 i) (x3 i) := by
  rw [val_main_v10_apply, val_main_v6_apply, val_main_v9_apply, val_main_v5_apply, val_main_v8_apply, val_main_cst_1_apply, val_main_cst_2_apply,
    val_main_v7_apply]
  rfl

theorem ref_d : val_main_v23 (F := Ideal) x0 x1 x2 x3 i = delta (F := Ideal) (x0 i) (x1 i) (x2 i) (x3 i) := by
  rw [val_main_v23_apply, val_main_v22_apply, val_main_cst_7_apply, val_main_v21_apply, val_main_v20_apply, val_main_v19_apply, val_main_cst_6_apply,
    val_main_v18_apply, val_main_v17_apply, val_main_v16_apply, val_main_cst_5_apply, val_main_v15_apply, val_main_v14_apply, val_main_v13_apply,
    val_main_cst_4_apply, val_main_v12_apply, val_main_v11_apply, val_main_cst_3_apply, ref_m, ref_v]
  rfl

end

variable (m : (ℓ : Loc nD τ sig) → Buf (Elt Ideal) ℓ) (c : Dev nD)

theorem V_v0 (i : Fin 3072) (j : Fin 128) : @Eq EReal (V m c main_v0 (ix3 0 i j)) ((m ((c : Thread nD τ).loc main_arg0)) (ix2 i j)) := by
  unfold_abbrev_sides
  after_results
  pointwise

theorem idx_eta (y : S3072x128.Idx) : y = (ix2 (y 0) (y 1) : S3072x128.Idx) := by funext a; match a with | ⟨0, _⟩ => rfl | ⟨1, _⟩ => rfl

theorem value4 : (dats m 0 c).arrAt 4 cfg0.N = (m ((c : Thread nD τ).loc main_arg0)) := by
  rw [final4]
  funext y
  show res4 m c (y 0) (y 1) = _
  unfold res4
  exact ((V_v0 m c (y 0) (y 1)).trans (congrArg (m ((c : Thread nD τ).loc main_arg0)) (idx_eta y).symm))

theorem value5 : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  rw [final5]
  funext y
  show res5 m c (y 0) (y 1) = _
  unfold res5
  exact (delta_congr ((V_v0 m c (y 0) (y 1)).trans (congrArg (m ((c : Thread nD τ).loc main_arg0)) (idx_eta y).symm)) ((congrFun (V_main_arg1 m c) _).trans (congrArg (m ((c : Thread nD τ).loc main_arg1)) (idx_eta y).symm)) ((congrFun (V_main_arg2 m c) _).trans (congrArg (m ((c : Thread nD τ).loc main_arg2)) (idx_eta y).symm)) ((congrFun (V_main_arg3 m c) _).trans (congrArg (m ((c : Thread nD τ).loc main_arg3)) (idx_eta y).symm))).trans (ref_d _ _ _ _ y).symm

theorem value6 : (dats m 0 c).arrAt 6 cfg0.N = val_main_v4 (F := Ideal) (m ((c : Thread nD τ).loc main_arg0)) (m ((c : Thread nD τ).loc main_arg2)) := by
  rw [final6]
  funext y
  show res6 m c (y 0) (y 1) = _
  unfold res6
  exact (congrArg₂ (newM (F := Ideal)) ((V_v0 m c (y 0) (y 1)).trans (congrArg (m ((c : Thread nD τ).loc main_arg0)) (idx_eta y).symm)) ((congrFun (V_main_arg2 m c) _).trans (congrArg (m ((c : Thread nD τ).loc main_arg2)) (idx_eta y).symm))).trans (ref_m _ _ y).symm

theorem value7 : (dats m 0 c).arrAt 7 cfg0.N = val_main_v10 (F := Ideal) (m ((c : Thread nD τ).loc main_arg0)) (m ((c : Thread nD τ).loc main_arg3)) := by
  rw [final7]
  funext y
  show res7 m c (y 0) (y 1) = _
  unfold res7
  exact (congrArg₂ (newV (F := Ideal)) ((V_v0 m c (y 0) (y 1)).trans (congrArg (m ((c : Thread nD τ).loc main_arg0)) (idx_eta y).symm)) ((congrFun (V_main_arg3 m c) _).trans (congrArg (m ((c : Thread nD τ).loc main_arg3)) (idx_eta y).symm))).trans (ref_v _ _ y).symm

end Cert.Kernel12Ideal.Tie

end
-- ==== Proof.SumTie.lean ====
/-
  The sums of the eight devices' parts: the packed small gradients, block by block of rows, and the first layer's late rows, in one
  block. Each entry is the sum over the devices of the parts' entries at its place, as in the reference.
-/
module

public import proofs.«01_k».proof.Proof.Gen.Kernel13Ideal.Value
public import proofs.«01_k».proof.Proof.Gen.Kernel14Ideal.Value
public import proofs.«01_k».proof.Proof.Gen.Reference13Ideal.Read
public import proofs.«01_k».proof.Proof.Gen.Reference14Ideal.Read
public import Idealize.ShloMosaic.Lib.Pipeline.ValueKit.Acc
public import Idealize.ShloMosaic.Lib.Pointwise.Tactic

@[expose] public section

set_option maxRecDepth 16384

noncomputable section

open Idealize.ShloMosaic Idealize.ShloMosaic.TcCoe

namespace Cert.SumTie

/-- Eight numbers added one after another, when each is the value of a function at its place, are the function's sum. -/
theorem eight (f : Fin 8 → EReal) {a0 a1 a2 a3 a4 a5 a6 a7 : EReal} (h0 : a0 = f 0) (h1 : a1 = f 1) (h2 : a2 = f 2) (h3 : a3 = f 3)
    (h4 : a4 = f 4) (h5 : a5 = f 5) (h6 : a6 = f 6) (h7 : a7 = f 7) :
    a0 + a1 + a2 + a3 + a4 + a5 + a6 + a7 = ∑ k : Fin 8, f k := by
  rw [Fin.sum_univ_eight, h0, h1, h2, h3, h4, h5, h6, h7]

end Cert.SumTie

namespace Cert.Kernel13Ideal.Tie

open Cert.Kernel13Ideal Cert.Kernel13Ideal.Gen Cert.Kernel13Ideal.Value

section
variable (x : Vec Ideal S8x1024x128 .f32) (i : Fin 1024) (j : Fin 128)

/-- A device's part of a block, read at a place of the block. -/
theorem ld_at (k : Fin 8) (h) : View.ld x (Rect.unit (s := S8x1024x128) ![k.val, 0, 0] S1x1024x128.size h) (ix1_0 (ix2 i j)) = x (ix3 k i j) := by
  show x _ = _
  refine congrArg x (funext fun a => Fin.ext ?_)
  match a with
  | ⟨0, _⟩ => rfl
  | ⟨1, _⟩ => show 0 + 1 * i.val = i.val; omega
  | ⟨2, _⟩ => show 0 + 1 * j.val = j.val; omega

theorem out_at : out0_1 (F := Ideal) x (ix2 i j) = (∑ k : Fin 8, x (ix3 k i j) : EReal) := by
  unfold out0_1
  rw [canon1_eq]
  exact Cert.SumTie.eight (fun k => x (ix3 k i j)) (ld_at x i j 0 _) (ld_at x i j 1 _) (ld_at x i j 2 _) (ld_at x i j 3 _)
    (ld_at x i j 4 _) (ld_at x i j 5 _) (ld_at x i j 6 _) (ld_at x i j 7 _)

end

variable (m : (ℓ : Loc nD τ sig) → Buf (Elt Ideal) ℓ) (c : Dev nD)

theorem pts : grid0.N = 4 := by decide

theorem at0_idx : ∀ t : Fin cfg0.N, win0_0.index t 0 = 0 ∧ win0_0.index t 1 = t.val ∧ win0_0.index t 2 = 0 :=
  (by decide : ∀ t : Fin grid0.N, win0_0.index t 0 = 0 ∧ win0_0.index t 1 = t.val ∧ win0_0.index t 2 = 0)
theorem at1_idx : ∀ t : Fin cfg0.N, win0_1.index t 0 = t.val ∧ win0_1.index t 1 = 0 :=
  (by decide : ∀ t : Fin grid0.N, win0_1.index t 0 = t.val ∧ win0_1.index t 1 = 0)

/-- The row of the array at which a row of a point's block lies. -/
def row (t : Fin cfg0.N) (i : Fin 1024) : Fin 4096 := ⟨t.val * 1024 + i.val, by have := pts; have : t.val < grid0.N := t.isLt; have := i.isLt; omega⟩

theorem at0 (t : Fin cfg0.N) (k : Fin 8) (i : Fin 1024) (j : Fin 128) : (win0_0.rect t).idx (ix3 k i j : S8x1024x128.Idx) = (ix3 k (row t i) j : S8x4096x128.Idx) := by
  obtain ⟨e0, e1, e2⟩ := at0_idx t
  funext a
  apply Fin.ext
  match a with
  | ⟨0, _⟩ => show win0_0.index _ (0 : Fin 3) * 8 + 1 * k.val = k.val; rw [e0]; omega
  | ⟨1, _⟩ => show win0_0.index _ (1 : Fin 3) * 1024 + 1 * i.val = t.val * 1024 + i.val; rw [e1]; omega
  | ⟨2, _⟩ => show win0_0.index _ (2 : Fin 3) * 128 + 1 * j.val = j.val; rw [e2]; omega

theorem at1 (t : Fin cfg0.N) (i : Fin 1024) (j : Fin 128) : (win0_1.rect t).idx (ix2 i j : S1024x128.Idx) = (ix2 (row t i) j : S4096x128.Idx) := by
  obtain ⟨e0, e1⟩ := at1_idx t
  funext a
  apply Fin.ext
  match a with
  | ⟨0, _⟩ => show win0_1.index _ (0 : Fin 2) * 1024 + 1 * i.val = t.val * 1024 + i.val; rw [e0]; omega
  | ⟨1, _⟩ => show win0_1.index _ (1 : Fin 2) * 128 + 1 * j.val = j.val; rw [e1]; omega

theorem cover (i : S4096x128.Idx) : ∃ t : Fin cfg0.N, i ∈ (win0_1.rect t).set := by
  have h0 : (i 0).val < 4096 := (i 0).isLt
  have h1 : (i 1).val < 128 := (i 1).isLt
  have hP := pts
  have ht : (i 0).val / 1024 < cfg0.N := by show _ < grid0.N; omega
  refine ⟨⟨(i 0).val / 1024, ht⟩, ?_⟩
  rw [Rect.mem_set_unit]
  obtain ⟨e0, e1⟩ := at1_idx ⟨(i 0).val / 1024, ht⟩
  intro a
  match a with
  | ⟨0, _⟩ => show win0_1.index _ (0 : Fin 2) * 1024 ≤ (i 0).val ∧ (i 0).val < win0_1.index _ (0 : Fin 2) * 1024 + 1024; rw [e0]; show ((i 0).val / 1024) * 1024 ≤ _ ∧ _ < ((i 0).val / 1024) * 1024 + 1024; omega
  | ⟨1, _⟩ => show win0_1.index _ (1 : Fin 2) * 128 ≤ (i 1).val ∧ (i 1).val < win0_1.index _ (1 : Fin 2) * 128 + 128; rw [e1]; show 0 * 128 ≤ _ ∧ _ < 0 * 128 + 128; omega

/-- The sum over the devices of an entry of their parts. -/
def res (i : Fin 4096) (j : Fin 128) : EReal := ∑ k : Fin 8, (V m c main_arg0 (ix3 k i j) : EReal)

theorem eta (y : S1024x128.Idx) : y = (ix2 (y 0) (y 1) : S1024x128.Idx) := by funext a; match a with | ⟨0, _⟩ => rfl | ⟨1, _⟩ => rfl

/-- A block that is written back is a block of an array when its entries are the array's at their places. -/
theorem block_eq (g : Fin 4096 → Fin 128 → EReal) (t : Fin cfg0.N) (f : Vec Ideal S1024x128 .f32) (h : ∀ i j, f (ix2 i j) = g (row t i) j) (y : S1024x128.Idx) :
    f y = (fun i : S4096x128.Idx => g (i 0) (i 1)) ((win0_1.rect t).idx y) :=
  (congrArg f (eta y)).trans ((h _ _).trans (congrArg (fun i : S4096x128.Idx => g (i 0) (i 1))
    ((congrArg (win0_1.rect t).idx (eta y)).trans (at1 t (y 0) (y 1)))).symm)

theorem flushed1_eq (t : Fin cfg0.N) : (dats m 0 c).flushed 1 t = ((cfg0.win 1).blk t).view.read (Elt Ideal) (fun i => res m c (i 0) (i 1)) := by
  rw [flushed1]
  refine funext fun y => block_eq (res m c) t _ (fun i j => (out_at _ i j).trans ?_) y
  unfold iblk res
  simp only [View.read_apply]
  exact Finset.sum_congr rfl fun k _ => congrArg (V m c main_arg0) (at0 t k i j)

theorem final1 : (dats m 0 c).arrAt 1 cfg0.N = fun i => res m c (i 0) (i 1) :=
  (dats m 0 c).arrAt_eq_of_cover 1 (fun i => res m c (i 0) (i 1)) (fun t _ => flushed1_eq m c t) fun i =>
    (cover i).imp fun t h => ⟨flush0_1 t, by
      show i ∈ ((View.whole main_v0).slice (win0_1.rect t)).set
      rw [View.set_slice_whole]
      exact h⟩

theorem value : (dats m 0 c).arrAt 1 cfg0.N = Cert.Reference13Ideal.Read.val_main_v0 (F := Ideal) (m ((c : Thread nD τ).loc main_arg0)) := by
  rw [final1]
  funext y
  rw [Cert.Reference13Ideal.Read.val_main_v0_apply]
  show res m c (y 0) (y 1) = Ideal.ofBits .f32 0x00000000#32 + _
  rw [Ideal.ofBits_zero_f32, zero_add]
  refine Finset.sum_congr rfl fun k _ => (congrFun (V_main_arg0 m c) _).trans (congrArg (m ((c : Thread nD τ).loc main_arg0)) ?_)
  funext a; match a with | ⟨0, _⟩ => rfl | ⟨1, _⟩ => rfl | ⟨2, _⟩ => rfl

end Cert.Kernel13Ideal.Tie

namespace Cert.Kernel14Ideal.Tie

open Cert.Kernel14Ideal Cert.Kernel14Ideal.Gen Cert.Kernel14Ideal.Value

variable (x : Vec Ideal S8x48x128 .f32) (i : Fin 48) (j : Fin 128)

/-- A device's part, with the axis of the devices dropped. -/
theorem ld_at (k : Fin 8) (h) : shapeCast S48x128 (View.ld x (Rect.unit (s := S8x48x128) ![k.val, 0, 0] S1x48x128.size h)) shapeCasts_S1x48x128_S48x128 (ix2 i j) = x (ix3 k i j) := by
  refine (shapeCast_apply _ _ _ (ix3 0 i j) (by
    rw [Shape.rowMajor_val_three, Shape.rowMajor_val_two]
    show (0 * 48 + i.val) * 128 + j.val = i.val * 128 + j.val
    omega)).trans ?_
  show x _ = _
  refine congrArg x (funext fun a => Fin.ext ?_)
  match a with
  | ⟨0, _⟩ => rfl
  | ⟨1, _⟩ => show 0 + 1 * i.val = i.val; omega
  | ⟨2, _⟩ => show 0 + 1 * j.val = j.val; omega

theorem out_at : G1 (F := Ideal) x (ix2 i j) = (∑ k : Fin 8, x (ix3 k i j) : EReal) :=
  Cert.SumTie.eight (fun k => x (ix3 k i j)) (ld_at x i j 0 _) (ld_at x i j 1 _) (ld_at x i j 2 _) (ld_at x i j 3 _)
    (ld_at x i j 4 _) (ld_at x i j 5 _) (ld_at x i j 6 _) (ld_at x i j 7 _)

theorem value : G1 (F := Ideal) x = Cert.Reference14Ideal.Read.val_main_v0 (F := Ideal) x := by
  funext y
  have e : y = (ix2 (y 0) (y 1) : S48x128.Idx) := by funext a; match a with | ⟨0, _⟩ => rfl | ⟨1, _⟩ => rfl
  rw [Cert.Reference14Ideal.Read.val_main_v0_apply]
  refine ((congrArg (G1 (F := Ideal) x) e).trans (out_at x (y 0) (y 1))).trans ?_
  show _ = Ideal.ofBits .f32 0x00000000#32 + _
  rw [Ideal.ofBits_zero_f32, zero_add]
  refine Finset.sum_congr rfl fun k _ => congrArg x ?_
  funext a; match a with | ⟨0, _⟩ => rfl | ⟨1, _⟩ => rfl | ⟨2, _⟩ => rfl

end Cert.Kernel14Ideal.Tie

end
-- ==== Proof.AdaTie.lean ====
/-
  The forward pass of the adaptive modulation: a layer at each point, the condition's logistic form times the layer's weights plus its
  bias. Each entry is the reference's.
-/
module

public import proofs.«01_k».proof.Proof.Gen.Kernel15Ideal.Value
public import proofs.«01_k».proof.Proof.Gen.Reference15Ideal.Read
public import Idealize.ShloMosaic.Lib.Pipeline.ValueKit.Acc
public import Idealize.ShloMosaic.Lib.Pointwise.Tactic
public import Idealize.ShloMosaic.Lib.Pointwise.Contract
public import Idealize.ShloMosaic.Lib.StableHlo.RunRead

@[expose] public section

set_option maxRecDepth 16384

noncomputable section

namespace Cert.Kernel15Ideal.Tie

open Cert.Kernel15Ideal Cert.Kernel15Ideal.Gen Cert.Kernel15Ideal.Value Cert.Reference15Ideal.Read
open Idealize.ShloMosaic Idealize.ShloMosaic.TcCoe Idealize.ShloMosaic.StableHlo

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a number with its logistic. -/
def sil (x : EReal) : EReal := x * Ideal.div 1 (1 + Ideal.exp (-x))

theorem one_eq : Ideal.ofBits .f32 0x3F800000#32 = 1 := by
  simp [Ideal.ofBits, Ideal.ieee, -EReal.coe_mul]
  norm_num

section
variable (s : Vec Ideal S8x2048 .f32) (w : Vec Ideal S1x2048x768 .f32) (b : Vec Ideal S1x1x768 .f32) (i : Fin 8) (j : Fin 768)

theorem drop_w (k : Fin 2048) : shapeCast S2048x768 w shapeCasts_S1x2048x768_S2048x768 (ix2 k j) = w (ix3 0 k j) :=
  shapeCast_apply _ _ _ (ix3 0 k j) (by
    rw [Shape.rowMajor_val_three, Shape.rowMajor_val_two]
    show (0 * 2048 + k.val) * 768 + j.val = k.val * 768 + j.val
    omega)

theorem drop_b : shapeCast S1x768 b shapeCasts_S1x1x768_S1x768 (ix2 0 j) = b (ix3 0 0 j) :=
  shapeCast_apply _ _ _ (ix3 0 0 j) (by
    rw [Shape.rowMajor_val_three, Shape.rowMajor_val_two]
    rfl)

theorem lift_at (x : FVec Ideal S8x768 .f32) : shapeCast S1x8x768 x shapeCasts_S8x768_S1x8x768 (ix3 0 i j) = x (ix2 i j) :=
  shapeCast_apply _ _ _ (ix2 i j) (by
    rw [Shape.rowMajor_val_three, Shape.rowMajor_val_two]
    show i.val * 768 + j.val = (0 * 8 + i.val) * 768 + j.val
    omega)

theorem pay1_at : k0_pay1 (F := Ideal) s w b (ix3 0 i j) = ((∑ k : Fin 2048, sil (s (ix2 i k)) * w (ix3 0 k j)) + b (ix3 0 0 j) : EReal) := by
  unfold k0_pay1
  refine (lift_at i j _).trans ?_
  refine Eq.trans (b := ((∑ k : Fin 2048, sil (s (ix2 i k)) * shapeCast S2048x768 w shapeCasts_S1x2048x768_S2048x768 (ix2 k j))
    + shapeCast S1x768 b shapeCasts_S1x1x768_S1x768 (ix2 0 j) : EReal)) ?_ ?_
  · unfold sil
    pointwise
    simp only [zero_sub]
  · exact congrArg₂ (fun a b : EReal => a + b) (Finset.sum_congr rfl fun k _ => congrArg (fun a : EReal => sil (s (ix2 i k)) * a) (drop_w w j k)) (drop_b b j)

theorem out_at : out0_3 (F := Ideal) s w b (ix3 0 i j) = ((∑ k : Fin 2048, sil (s (ix2 i k)) * w (ix3 0 k j)) + b (ix3 0 0 j) : EReal) := by
  unfold out0_3
  rw [View.canon_unit_zero hz3]
  simp only [View.ld_unit_zero (S := S8x2048) hz2, View.ld_unit_zero (S := S1x2048x768) hz3, View.ld_unit_zero (S := S1x1x768) hz3]
  exact pay1_at s w b i j

end

section
variable (x0 : (⟨S8x2048, .f32⟩ : BufTy).Contents (Elt Ideal)) (x1 : (⟨S4x2048x768, .f32⟩ : BufTy).Contents (Elt Ideal)) (x2 : (⟨S4x768, .f32⟩ : BufTy).Contents (Elt Ideal)) (y : S4x8x768.Idx)

theorem ref_silu (i : S8x2048.Idx) : val_main_v0 (F := Ideal) x0 i = sil (x0 i) := by
  rw [val_main_v0_apply, val_main_call0_v5_apply, val_main_call0_v4_apply, val_main_call0_cst_0_apply, val_main_call0_v3_apply, val_main_call0_v2_apply,
    val_main_call0_cst_apply, val_main_call0_v1_apply, val_main_call0_v0_apply]
  show x0 i * Ideal.div (Ideal.ofBits .f32 0x3F800000#32) (Ideal.ofBits .f32 0x3F800000#32 + Ideal.exp (-(x0 i))) = _
  rw [one_eq]
  rfl

theorem ref_at : val_main_v5 (F := Ideal) x0 x1 x2 y
    = ((∑ k : Fin 2048, sil (x0 (ix2 (y 1) k)) * x1 (ix3 (y 0) k (y 2))) + x2 (ix2 (y 0) (y 2)) : EReal) := by
  rw [val_main_v5_apply, val_main_v2_apply, val_main_v1_apply, val_main_v4_apply, val_main_v3_apply]
  refine congrArg₂ (fun a b : EReal => a + b) (Finset.sum_congr rfl fun k _ => ?_) (congrArg x2 ?_)
  · rw [ref_silu]
    refine (mul_comm _ _).trans (congrArg₂ (fun a b : EReal => a * b) (congrArg (fun q => sil (x0 q)) ?_) (congrArg x1 ?_))
    · funext a; match a with | ⟨0, _⟩ => rfl | ⟨1, _⟩ => rfl
    · funext a; match a with | ⟨0, _⟩ => rfl | ⟨1, _⟩ => rfl | ⟨2, _⟩ => rfl
  · funext a; match a with | ⟨0, _⟩ => rfl | ⟨1, _⟩ => rfl

end

variable (m : (ℓ : Loc nD τ sig) → Buf (Elt Ideal) ℓ) (c : Dev nD)

theorem pts : cfg0.N = 4 := N_0

/-- The layer of a point. -/
abbrev ly (t : Fin cfg0.N) : Fin 4 := ⟨t.val, by have := pts; have := t.isLt; omega⟩

theorem at_idx : ∀ t : Fin cfg0.N, (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0))

/-- Where an entry of a block lies in its array: for the condition, -/
theorem at0 (t : Fin cfg0.N) (i : Fin 8) (k : Fin 2048) : (win0_0.rect t).idx (ix2 i k) = (ix2 i k : S8x2048.Idx) := by
  obtain ⟨⟨e0, e1⟩, -, -, -⟩ := at_idx t
  funext a; apply Fin.ext
  match a with
  | ⟨0, _⟩ => show win0_0.index t (0 : Fin 2) * 8 + 1 * i.val = i.val; rw [e0]; omega
  | ⟨1, _⟩ => show win0_0.index t (1 : Fin 2) * 2048 + 1 * k.val = k.val; rw [e1]; omega

/-- for the weights, -/
theorem at1 (t : Fin cfg0.N) (k : Fin 2048) (j : Fin 768) : (win0_1.rect t).idx (ix3 0 k j) = (ix3 (ly t) k j : S4x2048x768.Idx) := by
  obtain ⟨-, ⟨e0, e1, e2⟩, -, -⟩ := at_idx t
  funext a; apply Fin.ext
  match a with
  | ⟨0, _⟩ => show win0_1.index t (0 : Fin 3) * 1 + 1 * 0 = t.val; rw [e0]; omega
  | ⟨1, _⟩ => show win0_1.index t (1 : Fin 3) * 2048 + 1 * k.val = k.val; rw [e1]; omega
  | ⟨2, _⟩ => show win0_1.index t (2 : Fin 3) * 768 + 1 * j.val = j.val; rw [e2]; omega

/-- for the bias, -/
theorem at2 (t : Fin cfg0.N) (j : Fin 768) : (win0_2.rect t).idx (ix3 0 0 j) = (ix3 (ly t) 0 j : S4x1x768.Idx) := by
  obtain ⟨-, -, ⟨e0, e1, e2⟩, -⟩ := at_idx t
  funext a; apply Fin.ext
  match a with
  | ⟨0, _⟩ => show win0_2.index t (0 : Fin 3) * 1 + 1 * 0 = t.val; rw [e0]; omega
  | ⟨1, _⟩ => show win0_2.index t (1 : Fin 3) * 1 + 1 * 0 = 0; rw [e1]
  | ⟨2, _⟩ => show win0_2.index t (2 : Fin 3) * 768 + 1 * j.val = j.val; rw [e2]; omega

/-- and for the result. -/
theorem at3 (t : Fin cfg0.N) (i : Fin 8) (j : Fin 768) : (win0_3.rect t).idx (ix3 0 i j) = (ix3 (ly t) i j : S4x8x768.Idx) := by
  obtain ⟨-, -, -, e0, e1, e2⟩ := at_idx t
  funext a; apply Fin.ext
  match a with
  | ⟨0, _⟩ => show win0_3.index t (0 : Fin 3) * 1 + 1 * 0 = t.val; rw [e0]; omega
  | ⟨1, _⟩ => show win0_3.index t (1 : Fin 3) * 8 + 1 * i.val = i.val; rw [e1]; omega
  | ⟨2, _⟩ => show win0_3.index t (2 : Fin 3) * 768 + 1 * j.val = j.val; rw [e2]; omega

theorem cover (i : S4x8x768.Idx) : ∃ t : Fin cfg0.N, i ∈ (win0_3.rect t).set := by
  have h0 : (i 0).val < 4 := (i 0).isLt
  have h1 : (i 1).val < 8 := (i 1).isLt
  have h2 : (i 2).val < 768 := (i 2).isLt
  have hP := pts
  refine ⟨⟨(i 0).val, by omega⟩, ?_⟩
  rw [Rect.mem_set_unit]
  obtain ⟨-, -, -, e0, e1, e2⟩ := at_idx ⟨(i 0).val, by omega⟩
  intro a
  match a with
  | ⟨0, _⟩ => show win0_3.index _ (0 : Fin 3) * 1 ≤ (i 0).val ∧ (i 0).val < win0_3.index _ (0 : Fin 3) * 1 + 1; rw [e0]; show (i 0).val * 1 ≤ _ ∧ _ < (i 0).val * 1 + 1; omega
  | ⟨1, _⟩ => show win0_3.index _ (1 : Fin 3) * 8 ≤ (i 1).val ∧ (i 1).val < win0_3.index _ (1 : Fin 3) * 8 + 8; rw [e1]; show 0 * 8 ≤ _ ∧ _ < 0 * 8 + 8; omega
  | ⟨2, _⟩ => show win0_3.index _ (2 : Fin 3) * 768 ≤ (i 2).val ∧ (i 2).val < win0_3.index _ (2 : Fin 3) * 768 + 768; rw [e2]; show 0 * 768 ≤ _ ∧ _ < 0 * 768 + 768; omega

/-- The entries that the call leaves. -/
def res (l : Fin 4) (i : Fin 8) (j : Fin 768) : EReal :=
  (∑ k : Fin 2048, sil (V m c main_arg0 (ix2 i k)) * V m c main_arg1 (ix3 l k j)) + V m c main_v0 (ix3 l 0 j)

theorem eta (y : S1x8x768.Idx) : y = (ix3 0 (y 1) (y 2) : S1x8x768.Idx) := by
  funext a
  match a with
  | ⟨0, _⟩ => exact Fin.ext (by have h : (y 0).val < 1 := (y 0).isLt; show (y 0).val = 0; omega)
  | ⟨1, _⟩ => rfl
  | ⟨2, _⟩ => rfl

/-- A block that is written back is a block of an array when its entries are the array's at their places. -/
theorem block_eq (g : Fin 4 → Fin 8 → Fin 768 → EReal) (t : Fin cfg0.N) (f : Vec Ideal S1x8x768 .f32)
    (h : ∀ i j, f (ix3 0 i j) = g (ly t) i j) (y : S1x8x768.Idx) :
    f y = (fun i : S4x8x768.Idx => g (i 0) (i 1) (i 2)) ((win0_3.rect t).idx y) :=
  (congrArg f (eta y)).trans ((h _ _).trans (congrArg (fun i : S4x8x768.Idx => g (i 0) (i 1) (i 2))
    ((congrArg (win0_3.rect t).idx (eta y)).trans (at3 t (y 1) (y 2)))).symm)

theorem flushed3_eq (t : Fin cfg0.N) : (dats m 0 c).flushed 3 t = ((cfg0.win 3).blk t).view.read (Elt Ideal) (fun i => res m c (i 0) (i 1) (i 2)) := by
  rw [flushed3]
  refine funext fun y => block_eq (res m c) t _ (fun i j => (out_at _ _ _ i j).trans ?_) y
  unfold iblk res
  simp only [View.read_apply]
  exact congrArg₂ (fun a b : EReal => a + b) (Finset.sum_congr rfl fun k _ => congrArg₂ (fun a b : EReal => a * b)
    (congrArg (fun q => sil (V m c main_arg0 q)) (at0 t i k)) (congrArg (V m c main_arg1) (at1 t k j))) (congrArg (V m c main_v0) (at2 t j))

theorem final3 : (dats m 0 c).arrAt 3 cfg0.N = fun i => res m c (i 0) (i 1) (i 2) :=
  (dats m 0 c).arrAt_eq_of_cover 3 (fun i => res m c (i 0) (i 1) (i 2)) (fun t _ => flushed3_eq m c t) fun i =>
    (cover i).imp fun t h => ⟨flush0_3 t, by
      show i ∈ ((View.whole main_v1).slice (win0_3.rect t)).set
      rw [View.set_slice_whole]
      exact h⟩

theorem V_v0 (l : Fin 4) (j : Fin 768) : V m c main_v0 (ix3 l 0 j) = (m ((c : Thread nD τ).loc main_arg2)) (ix2 l j) := by
  unfold_abbrev_sides
  after_results
  pointwise
  exact shapeCast_apply (t := S4x1x768) _ _ _ (ix2 l j) (by
    rw [Shape.rowMajor_val_three, Shape.rowMajor_val_two]
    show l.val * 768 + j.val = (l.val * 1 + 0) * 768 + j.val
    omega)

theorem value : (dats m 0 c).arrAt 3 cfg0.N = val_main_v5 (F := Ideal) (m ((c : Thread nD τ).loc main_arg0)) (m ((c : Thread nD τ).loc main_arg1)) (m ((c : Thread nD τ).loc main_arg2)) := by
  rw [final3]
  funext y
  refine Eq.trans ?_ (ref_at _ _ _ y).symm
  unfold res
  exact congrArg₂ (fun a b : EReal => a + b) (Finset.sum_congr rfl fun k _ => congrArg₂ (fun a b : EReal => a * b)
    (congrArg sil (congrFun (V_main_arg0 m c) _)) (congrFun (V_main_arg1 m c) _)) (V_v0 m c _ _)

end Cert.Kernel15Ideal.Tie

end
-- ==== Proof.lean ====
/-
  The proof of the claims: each program's frame, and each kernel's result equal to its reference's.
-/
module

public import proofs.«01_k».proof.Defs
public import proofs.«01_k».proof.Proof.Gen.Kernel.Skeleton
public import proofs.«01_k».proof.Proof.IbTie
public import proofs.«01_k».proof.Proof.Gen.Kernel2.Frame
public import proofs.«01_k».proof.Proof.WinTnATie
public import proofs.«01_k».proof.Proof.Gen.Kernel3.Skeleton
public import proofs.«01_k».proof.Proof.WbTie
public import proofs.«01_k».proof.Proof.Gen.Reference3Ideal.Run
public import proofs.«01_k».proof.Proof.Gen.Kernel4.Skeleton
public import proofs.«01_k».proof.Proof.InTie
public import proofs.«01_k».proof.Proof.Gen.Kernel5.Frame
public import proofs.«01_k».proof.Proof.OutprojTie
public import proofs.«01_k».proof.Proof.Gen.Kernel6.Frame
public import proofs.«01_k».proof.Proof.OutprojBwdTie
public import proofs.«01_k».proof.Proof.Gen.Kernel7.Frame
public import proofs.«01_k».proof.Proof.WoutTnTie
public import proofs.«01_k».proof.Proof.Gen.Kernel8.Frame
public import proofs.«01_k».proof.Proof.AwTie
public import proofs.«01_k».proof.Proof.Gen.Kernel9.Frame
public import proofs.«01_k».proof.Proof.AoTie
public import proofs.«01_k».proof.Proof.Gen.Kernel10.Frame
public import proofs.«01_k».proof.Proof.AmTie
public import proofs.«01_k».proof.Proof.Gen.Kernel11.Frame
public import proofs.«01_k».proof.Proof.LhTie
public import proofs.«01_k».proof.Proof.Gen.Kernel12.Frame
public import proofs.«01_k».proof.Proof.AsTie
public import proofs.«01_k».proof.Proof.Gen.Kernel13.Frame
public import proofs.«01_k».proof.Proof.SumTie
public import proofs.«01_k».proof.Proof.Gen.Kernel14.Frame
public import proofs.«01_k».proof.Proof.Gen.Kernel15.Frame
public import proofs.«01_k».proof.Proof.AdaTie
public import Idealize.ShloMosaic.Adequacy
public import Idealize.ShloMosaic.Init

@[expose] public section

noncomputable section

namespace Cert.Proof

open Idealize.ShloMosaic Idealize.SL.Sem Idealize.ShloMosaic.TcCoe

/-- The program's frame on the bits, written of the same text under its other name: the two programs of the
    first kernel differ in nothing but the number format they are read in. -/
def frameBits : Prop :=
  ∀ (m : (ℓ : Loc KernelIdeal.nD KernelIdeal.τ KernelIdeal.sig) → Buf (Elt Bits) ℓ) (g : Dev KernelIdeal.nD → PrngReg), True →
    θ_run (KernelIdeal.defs (F := Bits)) (onTc (τ := KernelIdeal.τ) (KernelIdeal.main (F := Bits))) ⟨m, fun _ => 0, g⟩
      (fun r => (∀ c : Dev KernelIdeal.nD,
      r.2.mem ((c.tc : Thread KernelIdeal.nD KernelIdeal.τ).loc KernelIdeal.main_arg0)
        = m ((c.tc : Thread KernelIdeal.nD KernelIdeal.τ).loc KernelIdeal.main_arg0)
      ∧ r.2.mem ((c.tc : Thread KernelIdeal.nD KernelIdeal.τ).loc KernelIdeal.main_arg1)
        = m ((c.tc : Thread KernelIdeal.nD KernelIdeal.τ).loc KernelIdeal.main_arg1)
      ∧ r.2.mem ((c.tc : Thread KernelIdeal.nD KernelIdeal.τ).loc KernelIdeal.main_arg2)
        = m ((c.tc : Thread KernelIdeal.nD KernelIdeal.τ).loc KernelIdeal.main_arg2)
      ∧ r.2.mem ((c.tc : Thread KernelIdeal.nD KernelIdeal.τ).loc KernelIdeal.main_arg3)
        = m ((c.tc : Thread KernelIdeal.nD KernelIdeal.τ).loc KernelIdeal.main_arg3)
      ∧ r.2.mem ((c.tc : Thread KernelIdeal.nD KernelIdeal.τ).loc KernelIdeal.main_arg4)
        = m ((c.tc : Thread KernelIdeal.nD KernelIdeal.τ).loc KernelIdeal.main_arg4)
      ∧ r.2.mem ((c.tc : Thread KernelIdeal.nD KernelIdeal.τ).loc KernelIdeal.main_arg5)
        = m ((c.tc : Thread KernelIdeal.nD KernelIdeal.τ).loc KernelIdeal.main_arg5))
      ∧ r.2.sem = fun _ => 0)

theorem frameBits_eq : Cert.quiescent_Kernel = frameBits := by sl_kernel_rfl

theorem frame_1 : Cert.quiescent_Kernel :=
  frameBits_eq.mpr fun m ρ _ => Cert.KernelIdeal.Gen.frame m ρ

theorem frame_1i : Cert.quiescent_KernelIdeal := fun m ρ _ => Cert.KernelIdeal.Gen.frame m ρ

/-- The reference runs to its result terms and leaves its arguments; it declares no semaphore. -/
theorem frame_1r : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- All four results are the reference's terms of the arguments. -/
theorem value_1 : Cert.algebraic_KernelIdeal_ReferenceIdeal := fun m g m' g' _ hag =>
  ⟨fun c => Cert.KernelIdeal.Value.G9 m c, fun c => Cert.KernelIdeal.Value.G10 m c, fun c => Cert.KernelIdeal.Value.G11 m c, fun c => Cert.KernelIdeal.Value.G12 m c,
    Cert.KernelIdeal.Value.run (F := Ideal) m g,
    (θ_run Cert.ReferenceIdeal.defs _ _).mono (fun r h c => by
        refine ⟨?_, ?_, ?_, ?_, (h c).2.2.2.2⟩
        · rw [(h c).1, Cert.ReferenceIdeal.Read.val_main_v56_eq (F := Ideal) m' c, (hag c).1, (hag c).2.1, (hag c).2.2.1, (hag c).2.2.2.1, (hag c).2.2.2.2.1, (hag c).2.2.2.2.2]
          exact (Cert.KernelIdeal.Tie.value9 m c).symm
        · rw [(h c).2.1, (hag c).2.2.2.1, (hag c).2.2.2.2.1]
          exact (Cert.ReferenceIdeal.Read.val_main_v57_eq (F := Ideal) _ _).trans (Cert.KernelIdeal.Tie.value10 m c).symm
        · rw [(h c).2.2.1, (hag c).1, (hag c).2.1, (hag c).2.2.2.1, (hag c).2.2.2.2.1]
          exact (Cert.ReferenceIdeal.Read.val_main_v58_eq (F := Ideal) _ _ _ _).trans (Cert.KernelIdeal.Tie.value11 m c).symm
        · rw [(h c).2.2.2.1, (hag c).1, (hag c).2.2.1, (hag c).2.2.2.1, (hag c).2.2.2.2.1]
          exact (Cert.ReferenceIdeal.Read.val_main_v59_eq (F := Ideal) _ _ _ _).trans (Cert.KernelIdeal.Tie.value12 m c).symm)
      (Cert.ReferenceIdeal.Value.run (F := Ideal) m' g')⟩

theorem frame_2 : Cert.quiescent_Kernel2 := fun m ρ _ => Cert.Kernel2.Gen.frame m ρ

theorem frame_2i : Cert.quiescent_Kernel2Ideal := fun m ρ _ => Cert.Kernel2Ideal.Gen.frame m ρ

/-- The reference runs to its result term and leaves its arguments; it declares no semaphore. -/
theorem frame_2r : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Both results are the reference's term of the arguments. -/
theorem value_2 : Cert.algebraic_Kernel2Ideal_Reference2Ideal := fun m g m' g' _ hag =>
  ⟨fun c => Cert.Kernel2Ideal.Value.G2 m c,
    Cert.Kernel2Ideal.Value.run (F := Ideal) m g,
    (θ_run Cert.Reference2Ideal.defs _ _).mono (fun r h c => by
        refine ⟨?_, (h c).2⟩
        rw [(h c).1, (hag c).1, (hag c).2.1, (hag c).2.2.1, (hag c).2.2.2.1, (hag c).2.2.2.2]
        exact (Cert.Reference2Ideal.Read.val_main_v27_eq (F := Ideal) _ _ _ _ _).trans (Cert.Kernel2Ideal.Tie.value m c).symm)
      (Cert.Reference2Ideal.Value.run (F := Ideal) m' g')⟩

/-- The program's frame on the bits, written of the same text under its other name: the two programs of the
    rest of the gradient of `w_in` differ in nothing but the number format they are read in. -/
def frameBits3 : Prop :=
  ∀ (m : (ℓ : Loc Kernel3Ideal.nD Kernel3Ideal.τ Kernel3Ideal.sig) → Buf (Elt Bits) ℓ) (g : Dev Kernel3Ideal.nD → PrngReg), True →
    θ_run (Kernel3Ideal.defs (F := Bits)) (onTc (τ := Kernel3Ideal.τ) (Kernel3Ideal.main (F := Bits))) ⟨m, fun _ => 0, g⟩
      (fun r => (∀ c : Dev Kernel3Ideal.nD,
      r.2.mem ((c.tc : Thread Kernel3Ideal.nD Kernel3Ideal.τ).loc Kernel3Ideal.main_arg0)
        = m ((c.tc : Thread Kernel3Ideal.nD Kernel3Ideal.τ).loc Kernel3Ideal.main_arg0)
      ∧ r.2.mem ((c.tc : Thread Kernel3Ideal.nD Kernel3Ideal.τ).loc Kernel3Ideal.main_arg1)
        = m ((c.tc : Thread Kernel3Ideal.nD Kernel3Ideal.τ).loc Kernel3Ideal.main_arg1)
      ∧ r.2.mem ((c.tc : Thread Kernel3Ideal.nD Kernel3Ideal.τ).loc Kernel3Ideal.main_arg2)
        = m ((c.tc : Thread Kernel3Ideal.nD Kernel3Ideal.τ).loc Kernel3Ideal.main_arg2)
      ∧ r.2.mem ((c.tc : Thread Kernel3Ideal.nD Kernel3Ideal.τ).loc Kernel3Ideal.main_arg3)
        = m ((c.tc : Thread Kernel3Ideal.nD Kernel3Ideal.τ).loc Kernel3Ideal.main_arg3)
      ∧ r.2.mem ((c.tc : Thread Kernel3Ideal.nD Kernel3Ideal.τ).loc Kernel3Ideal.main_arg4)
        = m ((c.tc : Thread Kernel3Ideal.nD Kernel3Ideal.τ).loc Kernel3Ideal.main_arg4))
      ∧ r.2.sem = fun _ => 0)

theorem frameBits3_eq : Cert.quiescent_Kernel3 = frameBits3 := by sl_kernel_rfl

theorem frame_3 : Cert.quiescent_Kernel3 :=
  frameBits3_eq.mpr fun m ρ _ => Cert.Kernel3Ideal.Gen.frame m ρ

theorem frame_3i : Cert.quiescent_Kernel3Ideal := fun m ρ _ => Cert.Kernel3Ideal.Gen.frame m ρ

/-- The reference runs to its result terms and leaves its arguments; it declares no semaphore. -/
theorem frame_3r : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- Both results are the reference's terms of the arguments. -/
theorem value_3 : Cert.algebraic_Kernel3Ideal_Reference3Ideal := fun m g m' g' _ hag =>
  ⟨fun c => Cert.Kernel3Ideal.Tie.G3 m c, fun c => Cert.Kernel3Ideal.Tie.G4 m c, Cert.Kernel3Ideal.Tie.run m g,
    (θ_run Cert.Reference3Ideal.defs _ _).mono (fun r h c => by
        refine ⟨?_, ?_, (h c).2.2⟩
        · rw [(h c).1, (hag c).1, (hag c).2.1, (hag c).2.2.1, (hag c).2.2.2.1, (hag c).2.2.2.2]
          exact (Cert.Reference3Ideal.Read.val_main_v25_eq (F := Ideal) _ _ _ _ _).trans (Cert.Kernel3Ideal.Tie.value3 m c).symm
        · rw [(h c).2.1, (hag c).1, (hag c).2.1, (hag c).2.2.1, (hag c).2.2.2.1, (hag c).2.2.2.2]
          exact (Cert.Reference3Ideal.Read.val_main_v27_eq (F := Ideal) _ _ _ _ _).trans (Cert.Kernel3Ideal.Tie.value4 m c).symm)
      (Cert.Reference3Ideal.Value.run (F := Ideal) m' g')⟩

/-- The program's frame on the bits, written of the same text under its other name: the two programs of the
    in-projection differ in nothing but the number format they are read in. -/
def frameBits4 : Prop :=
  ∀ (m : (ℓ : Loc Kernel4Ideal.nD Kernel4Ideal.τ Kernel4Ideal.sig) → Buf (Elt Bits) ℓ) (g : Dev Kernel4Ideal.nD → PrngReg), True →
    θ_run (Kernel4Ideal.defs (F := Bits)) (onTc (τ := Kernel4Ideal.τ) (Kernel4Ideal.main (F := Bits))) ⟨m, fun _ => 0, g⟩
      (fun r => (∀ c : Dev Kernel4Ideal.nD,
      r.2.mem ((c.tc : Thread Kernel4Ideal.nD Kernel4Ideal.τ).loc Kernel4Ideal.main_arg0)
        = m ((c.tc : Thread Kernel4Ideal.nD Kernel4Ideal.τ).loc Kernel4Ideal.main_arg0)
      ∧ r.2.mem ((c.tc : Thread Kernel4Ideal.nD Kernel4Ideal.τ).loc Kernel4Ideal.main_arg1)
        = m ((c.tc : Thread Kernel4Ideal.nD Kernel4Ideal.τ).loc Kernel4Ideal.main_arg1)
      ∧ r.2.mem ((c.tc : Thread Kernel4Ideal.nD Kernel4Ideal.τ).loc Kernel4Ideal.main_arg2)
        = m ((c.tc : Thread Kernel4Ideal.nD Kernel4Ideal.τ).loc Kernel4Ideal.main_arg2)
      ∧ r.2.mem ((c.tc : Thread Kernel4Ideal.nD Kernel4Ideal.τ).loc Kernel4Ideal.main_arg3)
        = m ((c.tc : Thread Kernel4Ideal.nD Kernel4Ideal.τ).loc Kernel4Ideal.main_arg3)
      ∧ r.2.mem ((c.tc : Thread Kernel4Ideal.nD Kernel4Ideal.τ).loc Kernel4Ideal.main_arg4)
        = m ((c.tc : Thread Kernel4Ideal.nD Kernel4Ideal.τ).loc Kernel4Ideal.main_arg4))
      ∧ r.2.sem = fun _ => 0)

theorem frameBits4_eq : Cert.quiescent_Kernel4 = frameBits4 := by sl_kernel_rfl

theorem frame_4 : Cert.quiescent_Kernel4 :=
  frameBits4_eq.mpr fun m ρ _ => Cert.Kernel4Ideal.Gen.frame m ρ

theorem frame_4i : Cert.quiescent_Kernel4Ideal := fun m ρ _ => Cert.Kernel4Ideal.Gen.frame m ρ

/-- The reference runs to its result terms and leaves its arguments; it declares no semaphore. -/
theorem frame_4r : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- All three results are the reference's terms of the arguments. -/
theorem value_4 : Cert.algebraic_Kernel4Ideal_Reference4Ideal := fun m g m' g' _ hag =>
  ⟨fun c => Cert.Kernel4Ideal.Tie.G6 m c, fun c => Cert.Kernel4Ideal.Tie.G7 m c, fun c => Cert.Kernel4Ideal.Tie.G8 m c,
    Cert.Kernel4Ideal.Tie.run m g,
    (θ_run Cert.Reference4Ideal.defs _ _).mono (fun r h c => by
        refine ⟨?_, ?_, ?_, (h c).2.2.2⟩
        · rw [(h c).1, Cert.Reference4Ideal.Read.val_main_v26_eq (F := Ideal) m' c, (hag c).1, (hag c).2.1, (hag c).2.2.1, (hag c).2.2.2.1, (hag c).2.2.2.2]
          exact (Cert.Kernel4Ideal.Tie.value6 m c).symm
        · rw [(h c).2.1, (hag c).1, (hag c).2.1, (hag c).2.2.1, (hag c).2.2.2.1, (hag c).2.2.2.2]
          exact (Cert.Reference4Ideal.Read.val_main_v28_eq (F := Ideal) _ _ _ _ _).trans (Cert.Kernel4Ideal.Tie.value7 m c).symm
        · rw [(h c).2.2.1, (hag c).1, (hag c).2.1, (hag c).2.2.1, (hag c).2.2.2.1]
          exact (Cert.Reference4Ideal.Read.val_main_v29_eq (F := Ideal) _ _ _ _).trans (Cert.Kernel4Ideal.Tie.value8 m c).symm)
      (Cert.Reference4Ideal.Value.run (F := Ideal) m' g')⟩

theorem frame_5 : Cert.quiescent_Kernel5 := fun m ρ _ => Cert.Kernel5.Gen.frame m ρ

theorem frame_5i : Cert.quiescent_Kernel5Ideal := fun m ρ _ => Cert.Kernel5Ideal.Gen.frame m ρ

/-- The reference runs to its result term and leaves its arguments; it declares no semaphore. -/
theorem frame_5r : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- Both results are the reference's term of the arguments. -/
theorem value_5 : Cert.algebraic_Kernel5Ideal_Reference5Ideal := fun m g m' g' _ hag =>
  ⟨fun c => (Cert.Kernel5Ideal.Gen.dats m 0 c).arrAt 4 Cert.Kernel5Ideal.cfg0.N,
    Cert.Kernel5Ideal.Value.run_blocks (F := Ideal) m g,
    (θ_run Cert.Reference5Ideal.defs _ _).mono (fun r h c => by
        refine ⟨?_, (h c).2⟩
        rw [(h c).1, (hag c).1, (hag c).2.1, (hag c).2.2.1, (hag c).2.2.2]
        exact (Cert.Reference5Ideal.Read.val_main_v4_eq (F := Ideal) _ _ _ _).trans (Cert.Kernel5Ideal.Tie.value m c).symm)
      (Cert.Reference5Ideal.Value.run (F := Ideal) m' g')⟩

theorem frame_6 : Cert.quiescent_Kernel6 := fun m ρ _ => Cert.Kernel6.Gen.frame m ρ

theorem frame_6i : Cert.quiescent_Kernel6Ideal := fun m ρ _ => Cert.Kernel6Ideal.Gen.frame m ρ

/-- The reference runs to its result term and leaves its arguments; it declares no semaphore. -/
theorem frame_6r : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- Both results are the reference's term of the arguments. -/
theorem value_6 : Cert.algebraic_Kernel6Ideal_Reference6Ideal := fun m g m' g' _ hag =>
  ⟨fun c => (Cert.Kernel6Ideal.Gen.dats m 0 c).arrAt 3 Cert.Kernel6Ideal.cfg0.N,
    Cert.Kernel6Ideal.Value.run_blocks (F := Ideal) m g,
    (θ_run Cert.Reference6Ideal.defs _ _).mono (fun r h c => by
        refine ⟨?_, (h c).2⟩
        rw [(h c).1, (hag c).1, (hag c).2.1, (hag c).2.2]
        exact (Cert.Reference6Ideal.Read.val_main_v8_eq (F := Ideal) _ _ _).trans (Cert.Kernel6Ideal.Tie.value m c).symm)
      (Cert.Reference6Ideal.Value.run (F := Ideal) m' g')⟩

theorem frame_7 : Cert.quiescent_Kernel7 := fun m ρ _ => Cert.Kernel7.Gen.frame m ρ

theorem frame_7i : Cert.quiescent_Kernel7Ideal := fun m ρ _ => Cert.Kernel7Ideal.Gen.frame m ρ

/-- The reference runs to its result term and leaves its arguments; it declares no semaphore. -/
theorem frame_7r : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- Both results are the reference's term of the arguments. -/
theorem value_7 : Cert.algebraic_Kernel7Ideal_Reference7Ideal := fun m g m' g' _ hag =>
  ⟨fun c => Cert.Kernel7Ideal.Value.G2 m c,
    Cert.Kernel7Ideal.Value.run (F := Ideal) m g,
    (θ_run Cert.Reference7Ideal.defs _ _).mono (fun r h c => by
        refine ⟨?_, (h c).2⟩
        rw [(h c).1, (hag c).1, (hag c).2]
        exact (Cert.Reference7Ideal.Read.val_main_v3_eq (F := Ideal) _ _).trans (Cert.Kernel7Ideal.Tie.value m c).symm)
      (Cert.Reference7Ideal.Value.run (F := Ideal) m' g')⟩

theorem frame_8 : Cert.quiescent_Kernel8 := fun m ρ _ => Cert.Kernel8.Gen.frame m ρ

theorem frame_8i : Cert.quiescent_Kernel8Ideal := fun m ρ _ => Cert.Kernel8Ideal.Gen.frame m ρ

/-- The reference runs to its result terms and leaves its arguments; it declares no semaphore. -/
theorem frame_8r : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)

/-- All four results are the reference's terms of the arguments. -/
theorem value_8 : Cert.algebraic_Kernel8Ideal_Reference8Ideal := fun m g m' g' _ hag =>
  ⟨fun c => (Cert.Kernel8Ideal.Gen.dats m 0 c).arrAt 7 Cert.Kernel8Ideal.cfg0.N, fun c => (Cert.Kernel8Ideal.Gen.dats m 0 c).arrAt 8 Cert.Kernel8Ideal.cfg0.N, fun c => (Cert.Kernel8Ideal.Gen.dats m 0 c).arrAt 9 Cert.Kernel8Ideal.cfg0.N, fun c => (Cert.Kernel8Ideal.Gen.dats m 0 c).arrAt 10 Cert.Kernel8Ideal.cfg0.N,
    Cert.Kernel8Ideal.Value.run_blocks (F := Ideal) m g,
    (θ_run Cert.Reference8Ideal.defs _ _).mono (fun r h c => by
        refine ⟨?_, ?_, ?_, ?_, (h c).2.2.2.2⟩
        · rw [(h c).1, (hag c).1, (hag c).2.1, (hag c).2.2.1, (hag c).2.2.2.1]
          exact (Cert.Reference8Ideal.Read.val_main_v8_eq (F := Ideal) _ _ _ _).trans (Cert.Kernel8Ideal.Tie.value7 m c).symm
        · rw [(h c).2.1, Cert.Reference8Ideal.Read.val_main_v32_eq (F := Ideal) m' c, (hag c).1, (hag c).2.1, (hag c).2.2.1, (hag c).2.2.2.1, (hag c).2.2.2.2.1, (hag c).2.2.2.2.2.1, (hag c).2.2.2.2.2.2]
          exact (Cert.Kernel8Ideal.Tie.value8 m c).symm
        · rw [(h c).2.2.1, (hag c).1, (hag c).2.1, (hag c).2.2.1, (hag c).2.2.2.1, (hag c).2.2.2.2.2.1]
          exact (Cert.Reference8Ideal.Read.val_main_v13_eq (F := Ideal) _ _ _ _ _).trans (Cert.Kernel8Ideal.Tie.value9 m c).symm
        · rw [(h c).2.2.2.1, (hag c).1, (hag c).2.1, (hag c).2.2.1, (hag c).2.2.2.1, (hag c).2.2.2.2.2.2]
          exact (Cert.Reference8Ideal.Read.val_main_v19_eq (F := Ideal) _ _ _ _ _).trans (Cert.Kernel8Ideal.Tie.value10 m c).symm)
      (Cert.Reference8Ideal.Value.run (F := Ideal) m' g')⟩

theorem frame_9 : Cert.quiescent_Kernel9 := fun m ρ _ => Cert.Kernel9.Gen.frame m ρ

theorem frame_9i : Cert.quiescent_Kernel9Ideal := fun m ρ _ => Cert.Kernel9Ideal.Gen.frame m ρ

/-- The reference runs to its result terms and leaves its arguments; it declares no semaphore. -/
theorem frame_9r : Cert.quiescent_Reference9Ideal := fun m ρ _ =>
  (θ_run Cert.Reference9Ideal.defs _ _).mono (fun r h => ⟨fun c => (h c).2.2.2.2,
      Idealize.ShloMosaic.sem_eq_zero_of_no_sems (by decide) r.2⟩)
    (Cert.Reference9Ideal.Value.run (F := Ideal) m ρ)

/-- All four results are the reference's terms of the arguments. -/
theorem value_9 : Cert.algebraic_Kernel9Ideal_Reference9Ideal := fun m g m' g' _ hag =>
  ⟨fun c => (Cert.Kernel9Ideal.Gen.dats m 0 c).arrAt 7 Cert.Kernel9Ideal.cfg0.N, fun c => (Cert.Kernel9Ideal.Gen.dats m 0 c).arrAt 8 Cert.Kernel9Ideal.cfg0.N, fun c => (Cert.Kernel9Ideal.Gen.dats m 0 c).arrAt 9 Cert.Kernel9Ideal.cfg0.N, fun c => (Cert.Kernel9Ideal.Gen.dats m 0 c).arrAt 10 Cert.Kernel9Ideal.cfg0.N,
    Cert.Kernel9Ideal.Value.run_blocks (F := Ideal) m g,
    (θ_run Cert.Reference9Ideal.defs _ _).mono (fun r h c => by
        refine ⟨?_, ?_, ?_, ?_, (h c).2.2.2.2⟩
        · rw [(h c).1, (hag c).1, (hag c).2.1, (hag c).2.2.1, (hag c).2.2.2.1]
          exact (Cert.Reference9Ideal.Read.val_main_v8_eq (F := Ideal) _ _ _ _).trans (Cert.Kernel9Ideal.Tie.value7 m c).symm
        · rw [(h c).2.1, Cert.Reference9Ideal.Read.val_main_v32_eq (F := Ideal) m' c, (hag c).1, (hag c).2.1, (hag c).2.2.1, (hag c).2.2.2.1, (hag c).2.2.2.2.1, (hag c).2.2.2.2.2.1, (hag c).2.2.2.2.2.2]
          exact (Cert.Kernel9Ideal.Tie.value8 m c).symm
        · rw [(h c).2.2.1, (hag c).1, (hag c).2.1, (hag c).2.2.1, (hag c).2.2.2.1, (hag c).2.2.2.2.2.1]
          exact (Cert.Reference9Ideal.Read.val_main_v13_eq (F := Ideal) _ _ _ _ _).trans (Cert.Kernel9Ideal.Tie.value9 m c).symm
        · rw [(h c).2.2.2.1, (hag c).1, (hag c).2.1, (hag c).2.2.1, (hag c).2.2.2.1, (hag c).2.2.2.2.2.2]
          exact (Cert.Reference9Ideal.Read.val_main_v19_eq (F := Ideal) _ _ _ _ _).trans (Cert.Kernel9Ideal.Tie.value10 m c).symm)
      (Cert.Reference9Ideal.Value.run (F := Ideal) m' g')⟩

theorem frame_10 : Cert.quiescent_Kernel10 := fun m ρ _ => Cert.Kernel10.Gen.frame m ρ

theorem frame_10i : Cert.quiescent_Kernel10Ideal := fun m ρ _ => Cert.Kernel10Ideal.Gen.frame m ρ

/-- The reference runs to its result terms and leaves its arguments; it declares no semaphore. -/
theorem frame_10r : Cert.quiescent_Reference10Ideal := fun m ρ _ =>
  (θ_run Cert.Reference10Ideal.defs _ _).mono (fun r h => ⟨fun c => (h c).2.2.2.2,
      Idealize.ShloMosaic.sem_eq_zero_of_no_sems (by decide) r.2⟩)
    (Cert.Reference10Ideal.Value.run (F := Ideal) m ρ)

/-- All four results are the reference's terms of the arguments. -/
theorem value_10 : Cert.algebraic_Kernel10Ideal_Reference10Ideal := fun m g m' g' _ hag =>
  ⟨fun c => (Cert.Kernel10Ideal.Gen.dats m 0 c).arrAt 5 Cert.Kernel10Ideal.cfg0.N, fun c => (Cert.Kernel10Ideal.Gen.dats m 0 c).arrAt 6 Cert.Kernel10Ideal.cfg0.N, fun c => (Cert.Kernel10Ideal.Gen.dats m 0 c).arrAt 7 Cert.Kernel10Ideal.cfg0.N, fun c => (Cert.Kernel10Ideal.Gen.dats m 0 c).arrAt 8 Cert.Kernel10Ideal.cfg0.N,
    Cert.Kernel10Ideal.Value.run_blocks (F := Ideal) m g,
    (θ_run Cert.Reference10Ideal.defs _ _).mono (fun r h c => by
        refine ⟨?_, ?_, ?_, ?_, (h c).2.2.2.2⟩
        · rw [(h c).1, (hag c).1, (hag c).2.1]
          exact (Cert.Reference10Ideal.Read.val_main_v5_eq (F := Ideal) _ _).trans (Cert.Kernel10Ideal.Tie.value5 m c).symm
        · rw [(h c).2.1, (hag c).1, (hag c).2.1, (hag c).2.2.1, (hag c).2.2.2.1, (hag c).2.2.2.2]
          exact (Cert.Reference10Ideal.Read.val_main_v29_eq (F := Ideal) _ _ _ _ _).trans (Cert.Kernel10Ideal.Tie.value6 m c).symm
        · rw [(h c).2.2.1, (hag c).1, (hag c).2.1, (hag c).2.2.2.1]
          exact (Cert.Reference10Ideal.Read.val_main_v10_eq (F := Ideal) _ _ _).trans (Cert.Kernel10Ideal.Tie.value7 m c).symm
        · rw [(h c).2.2.2.1, (hag c).1, (hag c).2.1, (hag c).2.2.2.2]
          exact (Cert.Reference10Ideal.Read.val_main_v16_eq (F := Ideal) _ _ _).trans (Cert.Kernel10Ideal.Tie.value8 m c).symm)
      (Cert.Reference10Ideal.Value.run (F := Ideal) m' g')⟩

theorem frame_11 : Cert.quiescent_Kernel11 := fun m ρ _ => Cert.Kernel11.Gen.frame m ρ

theorem frame_11i : Cert.quiescent_Kernel11Ideal := fun m ρ _ => Cert.Kernel11Ideal.Gen.frame m ρ

/-- The reference runs to its result terms and leaves its arguments; it declares no semaphore. -/
theorem frame_11r : Cert.quiescent_Reference11Ideal := fun m ρ _ =>
  (θ_run Cert.Reference11Ideal.defs _ _).mono (fun r h => ⟨fun c => (h c).2.2.2,
      Idealize.ShloMosaic.sem_eq_zero_of_no_sems (by decide) r.2⟩)
    (Cert.Reference11Ideal.Value.run (F := Ideal) m ρ)

/-- All three results are the reference's terms of the arguments. -/
theorem value_11 : Cert.algebraic_Kernel11Ideal_Reference11Ideal := fun m g m' g' _ hag =>
  ⟨fun c => (Cert.Kernel11Ideal.Gen.dats m 0 c).arrAt 3 Cert.Kernel11Ideal.cfg0.N, fun c => (Cert.Kernel11Ideal.Gen.dats m 0 c).arrAt 4 Cert.Kernel11Ideal.cfg0.N, fun c => (Cert.Kernel11Ideal.Gen.dats m 0 c).arrAt 5 Cert.Kernel11Ideal.cfg0.N,
    Cert.Kernel11Ideal.Value.run_blocks (F := Ideal) m g,
    (θ_run Cert.Reference11Ideal.defs _ _).mono (fun r h c => by
        refine ⟨?_, ?_, ?_, (h c).2.2.2⟩
        · rw [(h c).1, Cert.Reference11Ideal.Read.val_main_v50_eq (F := Ideal) m' c, (hag c).1, (hag c).2.1, (hag c).2.2]
          exact (Cert.Kernel11Ideal.Tie.value3 m c).symm
        · rw [(h c).2.1, (hag c).1, (hag c).2.1, (hag c).2.2]
          exact (Cert.Reference11Ideal.Read.val_main_v51_eq (F := Ideal) _ _ _).trans (Cert.Kernel11Ideal.Tie.value4 m c).symm
        · rw [(h c).2.2.1, (hag c).1, (hag c).2.1, (hag c).2.2]
          exact (Cert.Reference11Ideal.Read.val_main_v52_eq (F := Ideal) _ _ _).trans (Cert.Kernel11Ideal.Tie.value5 m c).symm)
      (Cert.Reference11Ideal.Value.run (F := Ideal) m' g')⟩

theorem frame_12 : Cert.quiescent_Kernel12 := fun m ρ _ => Cert.Kernel12.Gen.frame m ρ

theorem frame_12i : Cert.quiescent_Kernel12Ideal := fun m ρ _ => Cert.Kernel12Ideal.Gen.frame m ρ

/-- The reference runs to its result terms and leaves its arguments; it declares no semaphore. -/
theorem frame_12r : Cert.quiescent_Reference12Ideal := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

/-- All four results are the reference's terms of the arguments. -/
theorem value_12 : Cert.algebraic_Kernel12Ideal_Reference12Ideal := fun m g m' g' _ hag =>
  ⟨fun c => (Cert.Kernel12Ideal.Gen.dats m 0 c).arrAt 4 Cert.Kernel12Ideal.cfg0.N, fun c => (Cert.Kernel12Ideal.Gen.dats m 0 c).arrAt 5 Cert.Kernel12Ideal.cfg0.N, fun c => (Cert.Kernel12Ideal.Gen.dats m 0 c).arrAt 6 Cert.Kernel12Ideal.cfg0.N, fun c => (Cert.Kernel12Ideal.Gen.dats m 0 c).arrAt 7 Cert.Kernel12Ideal.cfg0.N,
    Cert.Kernel12Ideal.Value.run_blocks (F := Ideal) m g,
    (θ_run Cert.Reference12Ideal.defs _ _).mono (fun r h c => by
        refine ⟨?_, ?_, ?_, ?_, (h c).2.2.2.2⟩
        · rw [(h c).1, (hag c).1]
          exact (Cert.Kernel12Ideal.Tie.value4 m c).symm
        · rw [(h c).2.1, (hag c).1, (hag c).2.1, (hag c).2.2.1, (hag c).2.2.2]
          exact (Cert.Reference12Ideal.Read.val_main_v23_eq (F := Ideal) _ _ _ _).trans (Cert.Kernel12Ideal.Tie.value5 m c).symm
        · rw [(h c).2.2.1, (hag c).1, (hag c).2.2.1]
          exact (Cert.Reference12Ideal.Read.val_main_v4_eq (F := Ideal) _ _).trans (Cert.Kernel12Ideal.Tie.value6 m c).symm
        · rw [(h c).2.2.2.1, (hag c).1, (hag c).2.2.2]
          exact (Cert.Reference12Ideal.Read.val_main_v10_eq (F := Ideal) _ _).trans (Cert.Kernel12Ideal.Tie.value7 m c).symm)
      (Cert.Reference12Ideal.Value.run (F := Ideal) m' g')⟩

theorem frame_13 : Cert.quiescent_Kernel13 := fun m ρ _ => Cert.Kernel13.Gen.frame m ρ

theorem frame_13i : Cert.quiescent_Kernel13Ideal := fun m ρ _ => Cert.Kernel13Ideal.Gen.frame m ρ

/-- The reference runs to its result term and leaves its arguments; it declares no semaphore. -/
theorem frame_13r : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

/-- The result is the reference's term of the arguments. -/
theorem value_13 : Cert.algebraic_Kernel13Ideal_Reference13Ideal := fun m g m' g' _ hag =>
  ⟨fun c => (Cert.Kernel13Ideal.Gen.dats m 0 c).arrAt 1 Cert.Kernel13Ideal.cfg0.N,
    Cert.Kernel13Ideal.Value.run_blocks (F := Ideal) m g,
    (θ_run Cert.Reference13Ideal.defs _ _).mono (fun r h c => by
        refine ⟨?_, (h c).2⟩
        rw [(h c).1, hag c]
        exact (Cert.Reference13Ideal.Read.val_main_v0_eq (F := Ideal) _).trans (Cert.Kernel13Ideal.Tie.value m c).symm)
      (Cert.Reference13Ideal.Value.run (F := Ideal) m' g')⟩

theorem frame_14 : Cert.quiescent_Kernel14 := fun m ρ _ => Cert.Kernel14.Gen.frame m ρ

theorem frame_14i : Cert.quiescent_Kernel14Ideal := fun m ρ _ => Cert.Kernel14Ideal.Gen.frame m ρ

/-- The reference runs to its result term and leaves its arguments; it declares no semaphore. -/
theorem frame_14r : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- The result is the reference's term of the arguments. -/
theorem value_14 : Cert.algebraic_Kernel14Ideal_Reference14Ideal := fun m g m' g' _ hag =>
  ⟨fun c => Cert.Kernel14Ideal.Value.G1 (m ((c.tc : Thread _ _).loc Cert.Kernel14Ideal.main_arg0)),
    Cert.Kernel14Ideal.Value.run (F := Ideal) m g,
    (θ_run Cert.Reference14Ideal.defs _ _).mono (fun r h c => by
        refine ⟨?_, (h c).2⟩
        rw [(h c).1, hag c]
        exact (Cert.Reference14Ideal.Read.val_main_v0_eq (F := Ideal) _).trans (Cert.Kernel14Ideal.Tie.value _).symm)
      (Cert.Reference14Ideal.Value.run (F := Ideal) m' g')⟩

theorem frame_15 : Cert.quiescent_Kernel15 := fun m ρ _ => Cert.Kernel15.Gen.frame m ρ

theorem frame_15i : Cert.quiescent_Kernel15Ideal := fun m ρ _ => Cert.Kernel15Ideal.Gen.frame m ρ

/-- The reference runs to its result term and leaves its arguments; it declares no semaphore. -/
theorem frame_15r : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

/-- The result is the reference's term of the arguments. -/
theorem value_15 : Cert.algebraic_Kernel15Ideal_Reference15Ideal := fun m g m' g' _ hag =>
  ⟨fun c => (Cert.Kernel15Ideal.Gen.dats m 0 c).arrAt 3 Cert.Kernel15Ideal.cfg0.N,
    Cert.Kernel15Ideal.Value.run_blocks (F := Ideal) m g,
    (θ_run Cert.Reference15Ideal.defs _ _).mono (fun r h c => by
        refine ⟨?_, (h c).2⟩
        rw [(h c).1, (hag c).1, (hag c).2.1, (hag c).2.2]
        exact (Cert.Reference15Ideal.Read.val_main_v5_eq (F := Ideal) _ _ _).trans (Cert.Kernel15Ideal.Tie.value m c).symm)
      (Cert.Reference15Ideal.Value.run (F := Ideal) m' g')⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts,
    frame_1, frame_1i, frame_1r, frame_2, frame_2i, frame_2r, frame_3, frame_3i, frame_3r, frame_4, frame_4i, frame_4r, frame_5, frame_5i, frame_5r, frame_6, frame_6i, frame_6r, frame_7, frame_7i, frame_7r, frame_8, frame_8i, frame_8r, frame_9, frame_9i, frame_9r, frame_10, frame_10i, frame_10r, frame_11, frame_11i, frame_11r, frame_12, frame_12i, frame_12r, frame_13, frame_13i, frame_13r, frame_14, frame_14i, frame_14r, frame_15, frame_15i, frame_15r,
    trivial, value_1, trivial, value_2, trivial, value_3, trivial, value_4, trivial, value_5, trivial, value_6, trivial, value_7, trivial, value_8, trivial, value_9, trivial, value_10, trivial, value_11, trivial, value_12, trivial, value_13, trivial, value_14, trivial, value_15⟩

end Cert.Proof

end
